-- ==== Defs.lean ====
def Pre_Output (m : (ℓ : Loc Cert.Output.nD Cert.Output.τ Cert.Output.sig) → Buf (Elt Bits) ℓ) : Prop :=
  True

def Pre_OutputIdeal (m : (ℓ : Loc Cert.OutputIdeal.nD Cert.OutputIdeal.τ Cert.OutputIdeal.sig) → Buf (Elt Ideal) ℓ) : Prop :=
  True

def Pre_FinishIdeal (m : (ℓ : Loc Cert.FinishIdeal.nD Cert.FinishIdeal.τ Cert.FinishIdeal.sig) → Buf (Elt Ideal) ℓ) : Prop :=
  True

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_HeadsIdeal (m : (ℓ : Loc Cert.HeadsIdeal.nD Cert.HeadsIdeal.τ Cert.HeadsIdeal.sig) → Buf (Elt Ideal) ℓ) : Prop :=
  True

def quiescent_Output [hOutput : Cert.Output.Facts] : Prop :=
  ∀ (m : (ℓ : Loc Cert.Output.nD Cert.Output.τ Cert.Output.sig) → Buf (Elt Bits) ℓ) (g : Dev Cert.Output.nD → PrngReg), Pre_Output m →
    θ_run (Cert.Output.defs (F := Bits)) (onTc (τ := Cert.Output.τ) (Cert.Output.main (F := Bits))) ⟨m, fun _ => 0, g⟩ (fun r => (∀ c : Dev Cert.Output.nD,
      r.2.mem ((c.tc : Thread Cert.Output.nD Cert.Output.τ).loc Cert.Output.main_arg0) = m ((c.tc : Thread Cert.Output.nD Cert.Output.τ).loc Cert.Output.main_arg0)
      ∧ r.2.mem ((c.tc : Thread Cert.Output.nD Cert.Output.τ).loc Cert.Output.main_arg1) = m ((c.tc : Thread Cert.Output.nD Cert.Output.τ).loc Cert.Output.main_arg1)
      ∧ r.2.mem ((c.tc : Thread Cert.Output.nD Cert.Output.τ).loc Cert.Output.main_arg2) = m ((c.tc : Thread Cert.Output.nD Cert.Output.τ).loc Cert.Output.main_arg2)
      ∧ r.2.mem ((c.tc : Thread Cert.Output.nD Cert.Output.τ).loc Cert.Output.main_arg3) = m ((c.tc : Thread Cert.Output.nD Cert.Output.τ).loc Cert.Output.main_arg3)
      ∧ r.2.mem ((c.tc : Thread Cert.Output.nD Cert.Output.τ).loc Cert.Output.main_arg4) = m ((c.tc : Thread Cert.Output.nD Cert.Output.τ).loc Cert.Output.main_arg4)
      ∧ r.2.mem ((c.tc : Thread Cert.Output.nD Cert.Output.τ).loc Cert.Output.main_arg5) = m ((c.tc : Thread Cert.Output.nD Cert.Output.τ).loc Cert.Output.main_arg5))
      ∧ r.2.sem = fun _ => 0)

def quiescent_OutputIdeal [hOutputIdeal : Cert.OutputIdeal.Facts] : Prop :=
  ∀ (m : (ℓ : Loc Cert.OutputIdeal.nD Cert.OutputIdeal.τ Cert.OutputIdeal.sig) → Buf (Elt Ideal) ℓ) (g : Dev Cert.OutputIdeal.nD → PrngReg), Pre_OutputIdeal m →
    θ_run (Cert.OutputIdeal.defs (F := Ideal)) (onTc (τ := Cert.OutputIdeal.τ) (Cert.OutputIdeal.main (F := Ideal))) ⟨m, fun _ => 0, g⟩ (fun r => (∀ c : Dev Cert.OutputIdeal.nD,
      r.2.mem ((c.tc : Thread Cert.OutputIdeal.nD Cert.OutputIdeal.τ).loc Cert.OutputIdeal.main_arg0) = m ((c.tc : Thread Cert.OutputIdeal.nD Cert.OutputIdeal.τ).loc Cert.OutputIdeal.main_arg0)
      ∧ r.2.mem ((c.tc : Thread Cert.OutputIdeal.nD Cert.OutputIdeal.τ).loc Cert.OutputIdeal.main_arg1) = m ((c.tc : Thread Cert.OutputIdeal.nD Cert.OutputIdeal.τ).loc Cert.OutputIdeal.main_arg1)
      ∧ r.2.mem ((c.tc : Thread Cert.OutputIdeal.nD Cert.OutputIdeal.τ).loc Cert.OutputIdeal.main_arg2) = m ((c.tc : Thread Cert.OutputIdeal.nD Cert.OutputIdeal.τ).loc Cert.OutputIdeal.main_arg2)
      ∧ r.2.mem ((c.tc : Thread Cert.OutputIdeal.nD Cert.OutputIdeal.τ).loc Cert.OutputIdeal.main_arg3) = m ((c.tc : Thread Cert.OutputIdeal.nD Cert.OutputIdeal.τ).loc Cert.OutputIdeal.main_arg3)
      ∧ r.2.mem ((c.tc : Thread Cert.OutputIdeal.nD Cert.OutputIdeal.τ).loc Cert.OutputIdeal.main_arg4) = m ((c.tc : Thread Cert.OutputIdeal.nD Cert.OutputIdeal.τ).loc Cert.OutputIdeal.main_arg4)
      ∧ r.2.mem ((c.tc : Thread Cert.OutputIdeal.nD Cert.OutputIdeal.τ).loc Cert.OutputIdeal.main_arg5) = m ((c.tc : Thread Cert.OutputIdeal.nD Cert.OutputIdeal.τ).loc Cert.OutputIdeal.main_arg5))
      ∧ r.2.sem = fun _ => 0)

def quiescent_FinishIdeal [hFinishIdeal : Cert.FinishIdeal.Facts] : Prop :=
  ∀ (m : (ℓ : Loc Cert.FinishIdeal.nD Cert.FinishIdeal.τ Cert.FinishIdeal.sig) → Buf (Elt Ideal) ℓ) (g : Dev Cert.FinishIdeal.nD → PrngReg), Pre_FinishIdeal m →
    θ_run (Cert.FinishIdeal.defs (F := Ideal)) (onTc (τ := Cert.FinishIdeal.τ) (Cert.FinishIdeal.main (F := Ideal))) ⟨m, fun _ => 0, g⟩ (fun r => (∀ c : Dev Cert.FinishIdeal.nD,
      r.2.mem ((c.tc : Thread Cert.FinishIdeal.nD Cert.FinishIdeal.τ).loc Cert.FinishIdeal.main_arg0) = m ((c.tc : Thread Cert.FinishIdeal.nD Cert.FinishIdeal.τ).loc Cert.FinishIdeal.main_arg0)
      ∧ r.2.mem ((c.tc : Thread Cert.FinishIdeal.nD Cert.FinishIdeal.τ).loc Cert.FinishIdeal.main_arg1) = m ((c.tc : Thread Cert.FinishIdeal.nD Cert.FinishIdeal.τ).loc Cert.FinishIdeal.main_arg1)
      ∧ r.2.mem ((c.tc : Thread Cert.FinishIdeal.nD Cert.FinishIdeal.τ).loc Cert.FinishIdeal.main_arg2) = m ((c.tc : Thread Cert.FinishIdeal.nD Cert.FinishIdeal.τ).loc Cert.FinishIdeal.main_arg2)
      ∧ r.2.mem ((c.tc : Thread Cert.FinishIdeal.nD Cert.FinishIdeal.τ).loc Cert.FinishIdeal.main_arg3) = m ((c.tc : Thread Cert.FinishIdeal.nD Cert.FinishIdeal.τ).loc Cert.FinishIdeal.main_arg3)
      ∧ r.2.mem ((c.tc : Thread Cert.FinishIdeal.nD Cert.FinishIdeal.τ).loc Cert.FinishIdeal.main_arg4) = m ((c.tc : Thread Cert.FinishIdeal.nD Cert.FinishIdeal.τ).loc Cert.FinishIdeal.main_arg4)
      ∧ r.2.mem ((c.tc : Thread Cert.FinishIdeal.nD Cert.FinishIdeal.τ).loc Cert.FinishIdeal.main_arg5) = m ((c.tc : Thread Cert.FinishIdeal.nD Cert.FinishIdeal.τ).loc Cert.FinishIdeal.main_arg5))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2)
      ∧ r.2.mem ((c.tc : Thread Cert.Project.nD Cert.Project.τ).loc Cert.Project.main_arg3) = m ((c.tc : Thread Cert.Project.nD Cert.Project.τ).loc Cert.Project.main_arg3)
      ∧ r.2.mem ((c.tc : Thread Cert.Project.nD Cert.Project.τ).loc Cert.Project.main_arg4) = m ((c.tc : Thread Cert.Project.nD Cert.Project.τ).loc Cert.Project.main_arg4)
      ∧ r.2.mem ((c.tc : Thread Cert.Project.nD Cert.Project.τ).loc Cert.Project.main_arg5) = m ((c.tc : Thread Cert.Project.nD Cert.Project.τ).loc Cert.Project.main_arg5)
      ∧ r.2.mem ((c.tc : Thread Cert.Project.nD Cert.Project.τ).loc Cert.Project.main_arg6) = m ((c.tc : Thread Cert.Project.nD Cert.Project.τ).loc Cert.Project.main_arg6)
      ∧ r.2.mem ((c.tc : Thread Cert.Project.nD Cert.Project.τ).loc Cert.Project.main_arg7) = m ((c.tc : Thread Cert.Project.nD Cert.Project.τ).loc Cert.Project.main_arg7))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
      ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
      ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5)
      ∧ r.2.mem ((c.tc : Thread Cert.ProjectIdeal.nD Cert.ProjectIdeal.τ).loc Cert.ProjectIdeal.main_arg6) = m ((c.tc : Thread Cert.ProjectIdeal.nD Cert.ProjectIdeal.τ).loc Cert.ProjectIdeal.main_arg6)
      ∧ r.2.mem ((c.tc : Thread Cert.ProjectIdeal.nD Cert.ProjectIdeal.τ).loc Cert.ProjectIdeal.main_arg7) = m ((c.tc : Thread Cert.ProjectIdeal.nD Cert.ProjectIdeal.τ).loc Cert.ProjectIdeal.main_arg7))
      ∧ r.2.sem = fun _ => 0)

def quiescent_HeadsIdeal [hHeadsIdeal : Cert.HeadsIdeal.Facts] : Prop :=
  ∀ (m : (ℓ : Loc Cert.HeadsIdeal.nD Cert.HeadsIdeal.τ Cert.HeadsIdeal.sig) → Buf (Elt Ideal) ℓ) (g : Dev Cert.HeadsIdeal.nD → PrngReg), Pre_HeadsIdeal m →
    θ_run (Cert.HeadsIdeal.defs (F := Ideal)) (onTc (τ := Cert.HeadsIdeal.τ) (Cert.HeadsIdeal.main (F := Ideal))) ⟨m, fun _ => 0, g⟩ (fun r => (∀ c : Dev Cert.HeadsIdeal.nD,
      r.2.mem ((c.tc : Thread Cert.HeadsIdeal.nD Cert.HeadsIdeal.τ).loc Cert.HeadsIdeal.main_arg0) = m ((c.tc : Thread Cert.HeadsIdeal.nD Cert.HeadsIdeal.τ).loc Cert.HeadsIdeal.main_arg0)
      ∧ r.2.mem ((c.tc : Thread Cert.HeadsIdeal.nD Cert.HeadsIdeal.τ).loc Cert.HeadsIdeal.main_arg1) = m ((c.tc : Thread Cert.HeadsIdeal.nD Cert.HeadsIdeal.τ).loc Cert.HeadsIdeal.main_arg1)
      ∧ r.2.mem ((c.tc : Thread Cert.HeadsIdeal.nD Cert.HeadsIdeal.τ).loc Cert.HeadsIdeal.main_arg2) = m ((c.tc : Thread Cert.HeadsIdeal.nD Cert.HeadsIdeal.τ).loc Cert.HeadsIdeal.main_arg2)
      ∧ r.2.mem ((c.tc : Thread Cert.HeadsIdeal.nD Cert.HeadsIdeal.τ).loc Cert.HeadsIdeal.main_arg3) = m ((c.tc : Thread Cert.HeadsIdeal.nD Cert.HeadsIdeal.τ).loc Cert.HeadsIdeal.main_arg3)
      ∧ r.2.mem ((c.tc : Thread Cert.HeadsIdeal.nD Cert.HeadsIdeal.τ).loc Cert.HeadsIdeal.main_arg4) = m ((c.tc : Thread Cert.HeadsIdeal.nD Cert.HeadsIdeal.τ).loc Cert.HeadsIdeal.main_arg4)
      ∧ r.2.mem ((c.tc : Thread Cert.HeadsIdeal.nD Cert.HeadsIdeal.τ).loc Cert.HeadsIdeal.main_arg5) = m ((c.tc : Thread Cert.HeadsIdeal.nD Cert.HeadsIdeal.τ).loc Cert.HeadsIdeal.main_arg5)
      ∧ r.2.mem ((c.tc : Thread Cert.HeadsIdeal.nD Cert.HeadsIdeal.τ).loc Cert.HeadsIdeal.main_arg6) = m ((c.tc : Thread Cert.HeadsIdeal.nD Cert.HeadsIdeal.τ).loc Cert.HeadsIdeal.main_arg6)
      ∧ r.2.mem ((c.tc : Thread Cert.HeadsIdeal.nD Cert.HeadsIdeal.τ).loc Cert.HeadsIdeal.main_arg7) = m ((c.tc : Thread Cert.HeadsIdeal.nD Cert.HeadsIdeal.τ).loc Cert.HeadsIdeal.main_arg7))
      ∧ r.2.sem = fun _ => 0)

def preserves_Output_OutputIdeal : Prop :=
  IdealRules.named_const.Statement Cert.OutputIdeal.κ "inv_width" .f32 0x39430C31#32 ((5376⁻¹ : ℝ) : EReal)

def algebraic_OutputIdeal_FinishIdeal [hOutputIdeal : Cert.OutputIdeal.Facts] [hFinishIdeal : Cert.FinishIdeal.Facts] : Prop :=
  ∀ (m : (ℓ : Loc Cert.OutputIdeal.nD Cert.OutputIdeal.τ Cert.OutputIdeal.sig) → Buf (Elt Ideal) ℓ) (g : Dev Cert.OutputIdeal.nD → PrngReg)
    (m' : (ℓ : Loc Cert.FinishIdeal.nD Cert.FinishIdeal.τ Cert.FinishIdeal.sig) → Buf (Elt Ideal) ℓ) (g' : Dev Cert.FinishIdeal.nD → PrngReg), Pre_OutputIdeal m →
    (∀ c : Dev Cert.OutputIdeal.nD,
      m' ((c.tc : Thread Cert.FinishIdeal.nD Cert.FinishIdeal.τ).loc Cert.FinishIdeal.main_arg0) = m ((c.tc : Thread Cert.OutputIdeal.nD Cert.OutputIdeal.τ).loc Cert.OutputIdeal.main_arg0)
      ∧ m' ((c.tc : Thread Cert.FinishIdeal.nD Cert.FinishIdeal.τ).loc Cert.FinishIdeal.main_arg1) = m ((c.tc : Thread Cert.OutputIdeal.nD Cert.OutputIdeal.τ).loc Cert.OutputIdeal.main_arg1)
      ∧ m' ((c.tc : Thread Cert.FinishIdeal.nD Cert.FinishIdeal.τ).loc Cert.FinishIdeal.main_arg2) = m ((c.tc : Thread Cert.OutputIdeal.nD Cert.OutputIdeal.τ).loc Cert.OutputIdeal.main_arg2)
      ∧ m' ((c.tc : Thread Cert.FinishIdeal.nD Cert.FinishIdeal.τ).loc Cert.FinishIdeal.main_arg3) = m ((c.tc : Thread Cert.OutputIdeal.nD Cert.OutputIdeal.τ).loc Cert.OutputIdeal.main_arg3)
      ∧ m' ((c.tc : Thread Cert.FinishIdeal.nD Cert.FinishIdeal.τ).loc Cert.FinishIdeal.main_arg4) = m ((c.tc : Thread Cert.OutputIdeal.nD Cert.OutputIdeal.τ).loc Cert.OutputIdeal.main_arg4)
      ∧ m' ((c.tc : Thread Cert.FinishIdeal.nD Cert.FinishIdeal.τ).loc Cert.FinishIdeal.main_arg5) = m ((c.tc : Thread Cert.OutputIdeal.nD Cert.OutputIdeal.τ).loc Cert.OutputIdeal.main_arg5)) →
    ∃ (v0 : (c : Dev Cert.OutputIdeal.nD) → Buf (Elt Ideal) ((c.tc : Thread Cert.OutputIdeal.nD Cert.OutputIdeal.τ).loc Cert.OutputIdeal.main_v0)),
      θ_run (Cert.OutputIdeal.defs (F := Ideal)) (onTc (τ := Cert.OutputIdeal.τ) (Cert.OutputIdeal.main (F := Ideal))) ⟨m, fun _ => 0, g⟩ (fun r => ∀ c : Dev Cert.OutputIdeal.nD,
          r.2.mem ((c.tc : Thread Cert.OutputIdeal.nD Cert.OutputIdeal.τ).loc Cert.OutputIdeal.main_v0) = v0 c
          ∧ r.2.mem ((c.tc : Thread Cert.OutputIdeal.nD Cert.OutputIdeal.τ).loc Cert.OutputIdeal.main_arg0) = m ((c.tc : Thread Cert.OutputIdeal.nD Cert.OutputIdeal.τ).loc Cert.OutputIdeal.main_arg0)
          ∧ r.2.mem ((c.tc : Thread Cert.OutputIdeal.nD Cert.OutputIdeal.τ).loc Cert.OutputIdeal.main_arg1) = m ((c.tc : Thread Cert.OutputIdeal.nD Cert.OutputIdeal.τ).loc Cert.OutputIdeal.main_arg1)
          ∧ r.2.mem ((c.tc : Thread Cert.OutputIdeal.nD Cert.OutputIdeal.τ).loc Cert.OutputIdeal.main_arg2) = m ((c.tc : Thread Cert.OutputIdeal.nD Cert.OutputIdeal.τ).loc Cert.OutputIdeal.main_arg2)
          ∧ r.2.mem ((c.tc : Thread Cert.OutputIdeal.nD Cert.OutputIdeal.τ).loc Cert.OutputIdeal.main_arg3) = m ((c.tc : Thread Cert.OutputIdeal.nD Cert.OutputIdeal.τ).loc Cert.OutputIdeal.main_arg3)
          ∧ r.2.mem ((c.tc : Thread Cert.OutputIdeal.nD Cert.OutputIdeal.τ).loc Cert.OutputIdeal.main_arg4) = m ((c.tc : Thread Cert.OutputIdeal.nD Cert.OutputIdeal.τ).loc Cert.OutputIdeal.main_arg4)
          ∧ r.2.mem ((c.tc : Thread Cert.OutputIdeal.nD Cert.OutputIdeal.τ).loc Cert.OutputIdeal.main_arg5) = m ((c.tc : Thread Cert.OutputIdeal.nD Cert.OutputIdeal.τ).loc Cert.OutputIdeal.main_arg5))
      ∧ θ_run (Cert.FinishIdeal.defs (F := Ideal)) (onTc (τ := Cert.FinishIdeal.τ) (Cert.FinishIdeal.main (F := Ideal))) ⟨m', fun _ => 0, g'⟩ (fun r => ∀ c : Dev Cert.FinishIdeal.nD,
          r.2.mem ((c.tc : Thread Cert.FinishIdeal.nD Cert.FinishIdeal.τ).loc Cert.FinishIdeal.main_v0) = v0 c
          ∧ r.2.mem ((c.tc : Thread Cert.FinishIdeal.nD Cert.FinishIdeal.τ).loc Cert.FinishIdeal.main_arg0) = m' ((c.tc : Thread Cert.FinishIdeal.nD Cert.FinishIdeal.τ).loc Cert.FinishIdeal.main_arg0)
          ∧ r.2.mem ((c.tc : Thread Cert.FinishIdeal.nD Cert.FinishIdeal.τ).loc Cert.FinishIdeal.main_arg1) = m' ((c.tc : Thread Cert.FinishIdeal.nD Cert.FinishIdeal.τ).loc Cert.FinishIdeal.main_arg1)
          ∧ r.2.mem ((c.tc : Thread Cert.FinishIdeal.nD Cert.FinishIdeal.τ).loc Cert.FinishIdeal.main_arg2) = m' ((c.tc : Thread Cert.FinishIdeal.nD Cert.FinishIdeal.τ).loc Cert.FinishIdeal.main_arg2)
          ∧ r.2.mem ((c.tc : Thread Cert.FinishIdeal.nD Cert.FinishIdeal.τ).loc Cert.FinishIdeal.main_arg3) = m' ((c.tc : Thread Cert.FinishIdeal.nD Cert.FinishIdeal.τ).loc Cert.FinishIdeal.main_arg3)
          ∧ r.2.mem ((c.tc : Thread Cert.FinishIdeal.nD Cert.FinishIdeal.τ).loc Cert.FinishIdeal.main_arg4) = m' ((c.tc : Thread Cert.FinishIdeal.nD Cert.FinishIdeal.τ).loc Cert.FinishIdeal.main_arg4)
          ∧ r.2.mem ((c.tc : Thread Cert.FinishIdeal.nD Cert.FinishIdeal.τ).loc Cert.FinishIdeal.main_arg5) = m' ((c.tc : Thread Cert.FinishIdeal.nD Cert.FinishIdeal.τ).loc Cert.FinishIdeal.main_arg5))

def preserves_Project_ProjectIdeal : Prop :=
  IdealRules.named_const.Statement Cert.ProjectIdeal.κ "inv_width" .f32 0x39430C31#32 ((5376⁻¹ : ℝ) : EReal)
  ∧ IdealRules.named_const.Statement Cert.ProjectIdeal.κ "inv_448" .f32 0x3B124925#32 ((448⁻¹ : ℝ) : EReal)

def algebraic_ProjectIdeal_HeadsIdeal [hProjectIdeal : Cert.ProjectIdeal.Facts] [hHeadsIdeal : Cert.HeadsIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.HeadsIdeal.nD Cert.HeadsIdeal.τ Cert.HeadsIdeal.sig) → Buf (Elt Ideal) ℓ) (g' : Dev Cert.HeadsIdeal.nD → PrngReg), Pre_ProjectIdeal m →
    (∀ c : Dev Cert.ProjectIdeal.nD,
      m' ((c.tc : Thread Cert.HeadsIdeal.nD Cert.HeadsIdeal.τ).loc Cert.HeadsIdeal.main_arg0) = m ((c.tc : Thread Cert.ProjectIdeal.nD Cert.ProjectIdeal.τ).loc Cert.ProjectIdeal.main_arg0)
      ∧ m' ((c.tc : Thread Cert.HeadsIdeal.nD Cert.HeadsIdeal.τ).loc Cert.HeadsIdeal.main_arg1) = m ((c.tc : Thread Cert.ProjectIdeal.nD Cert.ProjectIdeal.τ).loc Cert.ProjectIdeal.main_arg1)
      ∧ m' ((c.tc : Thread Cert.HeadsIdeal.nD Cert.HeadsIdeal.τ).loc Cert.HeadsIdeal.main_arg2) = m ((c.tc : Thread Cert.ProjectIdeal.nD Cert.ProjectIdeal.τ).loc Cert.ProjectIdeal.main_arg2)
      ∧ m' ((c.tc : Thread Cert.HeadsIdeal.nD Cert.HeadsIdeal.τ).loc Cert.HeadsIdeal.main_arg3) = m ((c.tc : Thread Cert.ProjectIdeal.nD Cert.ProjectIdeal.τ).loc Cert.ProjectIdeal.main_arg3)
      ∧ m' ((c.tc : Thread Cert.HeadsIdeal.nD Cert.HeadsIdeal.τ).loc Cert.HeadsIdeal.main_arg4) = m ((c.tc : Thread Cert.ProjectIdeal.nD Cert.ProjectIdeal.τ).loc Cert.ProjectIdeal.main_arg4)
      ∧ m' ((c.tc : Thread Cert.HeadsIdeal.nD Cert.HeadsIdeal.τ).loc Cert.HeadsIdeal.main_arg5) = m ((c.tc : Thread Cert.ProjectIdeal.nD Cert.ProjectIdeal.τ).loc Cert.ProjectIdeal.main_arg5)
      ∧ m' ((c.tc : Thread Cert.HeadsIdeal.nD Cert.HeadsIdeal.τ).loc Cert.HeadsIdeal.main_arg6) = m ((c.tc : Thread Cert.ProjectIdeal.nD Cert.ProjectIdeal.τ).loc Cert.ProjectIdeal.main_arg6)
      ∧ m' ((c.tc : Thread Cert.HeadsIdeal.nD Cert.HeadsIdeal.τ).loc Cert.HeadsIdeal.main_arg7) = m ((c.tc : Thread Cert.ProjectIdeal.nD Cert.ProjectIdeal.τ).loc Cert.ProjectIdeal.main_arg7)) →
    ∃ (v0 : (c : Dev Cert.ProjectIdeal.nD) → Buf (Elt Ideal) ((c.tc : Thread Cert.ProjectIdeal.nD Cert.ProjectIdeal.τ).loc Cert.ProjectIdeal.main_v6_2)) (v1 : (c : Dev Cert.ProjectIdeal.nD) → Buf (Elt Ideal) ((c.tc : Thread Cert.ProjectIdeal.nD Cert.ProjectIdeal.τ).loc Cert.ProjectIdeal.main_v6_3)) (v2 : (c : Dev Cert.ProjectIdeal.nD) → Buf (Elt Ideal) ((c.tc : Thread Cert.ProjectIdeal.nD Cert.ProjectIdeal.τ).loc Cert.ProjectIdeal.main_v6_4)) (v3 : (c : Dev Cert.ProjectIdeal.nD) → Buf (Elt Ideal) ((c.tc : Thread Cert.ProjectIdeal.nD Cert.ProjectIdeal.τ).loc Cert.ProjectIdeal.main_v6_5)) (v4 : (c : Dev Cert.ProjectIdeal.nD) → Buf (Elt Ideal) ((c.tc : Thread Cert.ProjectIdeal.nD Cert.ProjectIdeal.τ).loc Cert.ProjectIdeal.main_v6_6)) (v5 : (c : Dev Cert.ProjectIdeal.nD) → Buf (Elt Ideal) ((c.tc : Thread Cert.ProjectIdeal.nD Cert.ProjectIdeal.τ).loc Cert.ProjectIdeal.main_v6_7)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v6_2) = v0 c
          ∧ r.2.mem ((c.tc : Thread Cert.ProjectIdeal.nD Cert.ProjectIdeal.τ).loc Cert.ProjectIdeal.main_v6_3) = v1 c
          ∧ r.2.mem ((c.tc : Thread Cert.ProjectIdeal.nD Cert.ProjectIdeal.τ).loc Cert.ProjectIdeal.main_v6_4) = v2 c
          ∧ r.2.mem ((c.tc : Thread Cert.ProjectIdeal.nD Cert.ProjectIdeal.τ).loc Cert.ProjectIdeal.main_v6_5) = v3 c
          ∧ r.2.mem ((c.tc : Thread Cert.ProjectIdeal.nD Cert.ProjectIdeal.τ).loc Cert.ProjectIdeal.main_v6_6) = v4 c
          ∧ r.2.mem ((c.tc : Thread Cert.ProjectIdeal.nD Cert.ProjectIdeal.τ).loc Cert.ProjectIdeal.main_v6_7) = v5 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
          ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
          ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
          ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5)
          ∧ r.2.mem ((c.tc : Thread Cert.ProjectIdeal.nD Cert.ProjectIdeal.τ).loc Cert.ProjectIdeal.main_arg6) = m ((c.tc : Thread Cert.ProjectIdeal.nD Cert.ProjectIdeal.τ).loc Cert.ProjectIdeal.main_arg6)
          ∧ r.2.mem ((c.tc : Thread Cert.ProjectIdeal.nD Cert.ProjectIdeal.τ).loc Cert.ProjectIdeal.main_arg7) = m ((c.tc : Thread Cert.ProjectIdeal.nD Cert.ProjectIdeal.τ).loc Cert.ProjectIdeal.main_arg7))
      ∧ θ_run (Cert.HeadsIdeal.defs (F := Ideal)) (onTc (τ := Cert.HeadsIdeal.τ) (Cert.HeadsIdeal.main (F := Ideal))) ⟨m', fun _ => 0, g'⟩ (fun r => ∀ c : Dev Cert.HeadsIdeal.nD,
          r.2.mem ((c.tc : Thread Cert.HeadsIdeal.nD Cert.HeadsIdeal.τ).loc Cert.HeadsIdeal.main_v0_0) = v0 c
          ∧ r.2.mem ((c.tc : Thread Cert.HeadsIdeal.nD Cert.HeadsIdeal.τ).loc Cert.HeadsIdeal.main_v0_1) = v1 c
          ∧ r.2.mem ((c.tc : Thread Cert.HeadsIdeal.nD Cert.HeadsIdeal.τ).loc Cert.HeadsIdeal.main_v0_2) = v2 c
          ∧ r.2.mem ((c.tc : Thread Cert.HeadsIdeal.nD Cert.HeadsIdeal.τ).loc Cert.HeadsIdeal.main_v0_3) = v3 c
          ∧ r.2.mem ((c.tc : Thread Cert.HeadsIdeal.nD Cert.HeadsIdeal.τ).loc Cert.HeadsIdeal.main_v0_4) = v4 c
          ∧ r.2.mem ((c.tc : Thread Cert.HeadsIdeal.nD Cert.HeadsIdeal.τ).loc Cert.HeadsIdeal.main_v0_5) = v5 c
          ∧ r.2.mem ((c.tc : Thread Cert.HeadsIdeal.nD Cert.HeadsIdeal.τ).loc Cert.HeadsIdeal.main_arg0) = m' ((c.tc : Thread Cert.HeadsIdeal.nD Cert.HeadsIdeal.τ).loc Cert.HeadsIdeal.main_arg0)
          ∧ r.2.mem ((c.tc : Thread Cert.HeadsIdeal.nD Cert.HeadsIdeal.τ).loc Cert.HeadsIdeal.main_arg1) = m' ((c.tc : Thread Cert.HeadsIdeal.nD Cert.HeadsIdeal.τ).loc Cert.HeadsIdeal.main_arg1)
          ∧ r.2.mem ((c.tc : Thread Cert.HeadsIdeal.nD Cert.HeadsIdeal.τ).loc Cert.HeadsIdeal.main_arg2) = m' ((c.tc : Thread Cert.HeadsIdeal.nD Cert.HeadsIdeal.τ).loc Cert.HeadsIdeal.main_arg2)
          ∧ r.2.mem ((c.tc : Thread Cert.HeadsIdeal.nD Cert.HeadsIdeal.τ).loc Cert.HeadsIdeal.main_arg3) = m' ((c.tc : Thread Cert.HeadsIdeal.nD Cert.HeadsIdeal.τ).loc Cert.HeadsIdeal.main_arg3)
          ∧ r.2.mem ((c.tc : Thread Cert.HeadsIdeal.nD Cert.HeadsIdeal.τ).loc Cert.HeadsIdeal.main_arg4) = m' ((c.tc : Thread Cert.HeadsIdeal.nD Cert.HeadsIdeal.τ).loc Cert.HeadsIdeal.main_arg4)
          ∧ r.2.mem ((c.tc : Thread Cert.HeadsIdeal.nD Cert.HeadsIdeal.τ).loc Cert.HeadsIdeal.main_arg5) = m' ((c.tc : Thread Cert.HeadsIdeal.nD Cert.HeadsIdeal.τ).loc Cert.HeadsIdeal.main_arg5)
          ∧ r.2.mem ((c.tc : Thread Cert.HeadsIdeal.nD Cert.HeadsIdeal.τ).loc Cert.HeadsIdeal.main_arg6) = m' ((c.tc : Thread Cert.HeadsIdeal.nD Cert.HeadsIdeal.τ).loc Cert.HeadsIdeal.main_arg6)
          ∧ r.2.mem ((c.tc : Thread Cert.HeadsIdeal.nD Cert.HeadsIdeal.τ).loc Cert.HeadsIdeal.main_arg7) = m' ((c.tc : Thread Cert.HeadsIdeal.nD Cert.HeadsIdeal.τ).loc Cert.HeadsIdeal.main_arg7))

def Claim : Prop :=
  ∃ (hOutput : Cert.Output.Facts) (hOutputIdeal : Cert.OutputIdeal.Facts) (hFinishIdeal : Cert.FinishIdeal.Facts) (hProject : Cert.Project.Facts) (hProjectIdeal : Cert.ProjectIdeal.Facts) (hHeadsIdeal : Cert.HeadsIdeal.Facts),
    quiescent_Output (hOutput := hOutput)
    ∧ quiescent_OutputIdeal (hOutputIdeal := hOutputIdeal)
    ∧ quiescent_FinishIdeal (hFinishIdeal := hFinishIdeal)
    ∧ quiescent_Project (hProject := hProject)
    ∧ quiescent_ProjectIdeal (hProjectIdeal := hProjectIdeal)
    ∧ quiescent_HeadsIdeal (hHeadsIdeal := hHeadsIdeal)
    ∧ preserves_Output_OutputIdeal
    ∧ algebraic_OutputIdeal_FinishIdeal (hOutputIdeal := hOutputIdeal) (hFinishIdeal := hFinishIdeal)
    ∧ preserves_Project_ProjectIdeal
    ∧ algebraic_ProjectIdeal_HeadsIdeal (hProjectIdeal := hProjectIdeal) (hHeadsIdeal := hHeadsIdeal)
-- ==== Output.lean ====
abbrev S13824x512 : Shape := ⟨2, ![13824, 512]⟩
abbrev S13824x4 : Shape := ⟨2, ![13824, 4]⟩
abbrev S13824x5376 : Shape := ⟨2, ![13824, 5376]⟩
abbrev S1x5376 : Shape := ⟨2, ![1, 5376]⟩
abbrev S512x5376 : Shape := ⟨2, ![512, 5376]⟩
abbrev S4x42 : Shape := ⟨2, ![4, 42]⟩
abbrev S256x512 : Shape := ⟨2, ![256, 512]⟩
abbrev S256x4 : Shape := ⟨2, ![256, 4]⟩
abbrev S256x5376 : Shape := ⟨2, ![256, 5376]⟩
abbrev S128x128 : Shape := ⟨2, ![128, 128]⟩
abbrev S1x1 : Shape := ⟨2, ![1, 1]⟩
abbrev S256x128 : Shape := ⟨2, ![256, 128]⟩
abbrev S256x1 : Shape := ⟨2, ![256, 1]⟩
abbrev S512x256 : Shape := ⟨2, ![512, 256]⟩
abbrev S256x256 : Shape := ⟨2, ![256, 256]⟩
abbrev S256 : Shape := ⟨1, ![256]⟩
abbrev S1x256 : Shape := ⟨2, ![1, 256]⟩

abbrev nBuf : Space → Nat
  | .hbm => 7
  | .vmem => 12
  | .smem => 1
  | _ => 0

abbrev bufTy : (tb : Table) → Fin (tcTables nBuf tb) → BufTy
  | .hbm, ⟨0, _⟩ => ⟨S13824x512, .fp8e4m3⟩
  | .hbm, ⟨1, _⟩ => ⟨S13824x4, .f32⟩
  | .hbm, ⟨2, _⟩ => ⟨S13824x5376, .bf16⟩
  | .hbm, ⟨3, _⟩ => ⟨S1x5376, .f32⟩
  | .hbm, ⟨4, _⟩ => ⟨S512x5376, .fp8e4m3⟩
  | .hbm, ⟨5, _⟩ => ⟨S4x42, .f32⟩
  | .hbm, ⟨6, _⟩ => ⟨S13824x5376, .bf16⟩
  | .local _ .vmem, ⟨0, _⟩ => ⟨S256x512, .fp8e4m3⟩
  | .local _ .vmem, ⟨1, _⟩ => ⟨S256x512, .fp8e4m3⟩
  | .local _ .vmem, ⟨2, _⟩ => ⟨S256x4, .f32⟩
  | .local _ .vmem, ⟨3, _⟩ => ⟨S256x4, .f32⟩
  | .local _ .vmem, ⟨4, _⟩ => ⟨S256x5376, .bf16⟩
  | .local _ .vmem, ⟨5, _⟩ => ⟨S256x5376, .bf16⟩
  | .local _ .vmem, ⟨6, _⟩ => ⟨S1x5376, .f32⟩
  | .local _ .vmem, ⟨7, _⟩ => ⟨S512x5376, .fp8e4m3⟩
  | .local _ .vmem, ⟨8, _⟩ => ⟨S256x5376, .bf16⟩
  | .local _ .vmem, ⟨9, _⟩ => ⟨S256x5376, .bf16⟩
  | .local _ .vmem, ⟨10, _⟩ => ⟨S512x5376, .bf16⟩
  | .local _ .vmem, ⟨11, _⟩ => ⟨S256x5376, .f32⟩
  | .local _ .smem, ⟨0, _⟩ => ⟨S4x42, .f32⟩
  | _, _ => ⟨S13824x512, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![54], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_268 : BitVec 32 := 0#32
  let c4_i32 : BitVec 32 := 4#32
  let v542 : BitVec 32 := Scalar.addi c0_i32_268 c4_i32
  let c1_i32 : BitVec 32 := 1#32
  ⟨c0_i32_268, v542, c1_i32⟩
def k0_mult1 (k0_t1 : Fin k0_t1_loop.trips) : BitVec 32 :=
  let c0_i32_268 : BitVec 32 := 0#32
  let c1_i32 : BitVec 32 := 1#32
  let arg10 : BitVec 32 := Scf.iv c0_i32_268 c1_i32 k0_t1
  let c128_i32 : BitVec 32 := 128#32
  let v543 : BitVec 32 := Scalar.muli arg10 c128_i32
  v543
def k0_off1 (k0_t1 : Fin k0_t1_loop.trips) : Fin 2 → Nat :=
  let c0_i32_268 : BitVec 32 := 0#32
  let c1_i32 : BitVec 32 := 1#32
  let arg10 : BitVec 32 := Scf.iv c0_i32_268 c1_i32 k0_t1
  let c128_i32 : BitVec 32 := 128#32
  let v543 : BitVec 32 := Scalar.muli arg10 c128_i32
  let v544 : BitVec 32 := v543
  let v545 : Index := Scalar.indexCast v544
  let c0_270 : Index := 0#32
  ![v545.toNat, 0]
def k0_off2 (k0_t1 : Fin k0_t1_loop.trips) : Fin 2 → Nat :=
  let c0_i32_268 : BitVec 32 := 0#32
  let c1_i32 : BitVec 32 := 1#32
  let arg10 : BitVec 32 := Scf.iv c0_i32_268 c1_i32 k0_t1
  let v548 : Index := Scalar.indexCast arg10
  let c0_271 : Index := 0#32
  ![v548.toNat, 0]
def k0_off3 (k0_t1 : Fin k0_t1_loop.trips) : Fin 2 → Nat :=
  let c0_i32_268 : BitVec 32 := 0#32
  let c1_i32 : BitVec 32 := 1#32
  let arg10 : BitVec 32 := Scf.iv c0_i32_268 c1_i32 k0_t1
  let c128_i32 : BitVec 32 := 128#32
  let v543 : BitVec 32 := Scalar.muli arg10 c128_i32
  let v544 : BitVec 32 := v543
  let v557 : Index := Scalar.indexCast v544
  let c128_273 : Index := 128#32
  ![v557.toNat, 128]
def k0_off4 (k0_t1 : Fin k0_t1_loop.trips) : Fin 2 → Nat :=
  let c0_i32_268 : BitVec 32 := 0#32
  let c1_i32 : BitVec 32 := 1#32
  let arg10 : BitVec 32 := Scf.iv c0_i32_268 c1_i32 k0_t1
  let v560 : Index := Scalar.indexCast arg10
  let c1_274 : Index := 1#32
  ![v560.toNat, 1]
def k0_off5 (k0_t1 : Fin k0_t1_loop.trips) : Fin 2 → Nat :=
  let c0_i32_268 : BitVec 32 := 0#32
  let c1_i32 : BitVec 32 := 1#32
  let arg10 : BitVec 32 := Scf.iv c0_i32_268 c1_i32 k0_t1
  let c128_i32 : BitVec 32 := 128#32
  let v543 : BitVec 32 := Scalar.muli arg10 c128_i32
  let v544 : BitVec 32 := v543
  let v569 : Index := Scalar.indexCast v544
  let c256_276 : Index := 256#32
  ![v569.toNat, 256]
def k0_off6 (k0_t1 : Fin k0_t1_loop.trips) : Fin 2 → Nat :=
  let c0_i32_268 : BitVec 32 := 0#32
  let c1_i32 : BitVec 32 := 1#32
  let arg10 : BitVec 32 := Scf.iv c0_i32_268 c1_i32 k0_t1
  let v572 : Index := Scalar.indexCast arg10
  let c2_277 : Index := 2#32
  ![v572.toNat, 2]
def k0_off7 (k0_t1 : Fin k0_t1_loop.trips) : Fin 2 → Nat :=
  let c0_i32_268 : BitVec 32 := 0#32
  let c1_i32 : BitVec 32 := 1#32
  let arg10 : BitVec 32 := Scf.iv c0_i32_268 c1_i32 k0_t1
  let c128_i32 : BitVec 32 := 128#32
  let v543 : BitVec 32 := Scalar.muli arg10 c128_i32
  let v544 : BitVec 32 := v543
  let v581 : Index := Scalar.indexCast v544
  let c384_279 : Index := 384#32
  ![v581.toNat, 384]
def k0_off8 (k0_t1 : Fin k0_t1_loop.trips) : Fin 2 → Nat :=
  let c0_i32_268 : BitVec 32 := 0#32
  let c1_i32 : BitVec 32 := 1#32
  let arg10 : BitVec 32 := Scf.iv c0_i32_268 c1_i32 k0_t1
  let v584 : Index := Scalar.indexCast arg10
  let c3_280 : Index := 3#32
  ![v584.toNat, 3]
def k0_off9 (k0_t1 : Fin k0_t1_loop.trips) : Fin 2 → Nat :=
  let c0_i32_268 : BitVec 32 := 0#32
  let c1_i32 : BitVec 32 := 1#32
  let arg10 : BitVec 32 := Scf.iv c0_i32_268 c1_i32 k0_t1
  let c128_i32 : BitVec 32 := 128#32
  let v543 : BitVec 32 := Scalar.muli arg10 c128_i32
  let v544 : BitVec 32 := v543
  let v593 : Index := Scalar.indexCast v544
  let c512_282 : Index := 512#32
  ![v593.toNat, 512]
def k0_off10 (k0_t1 : Fin k0_t1_loop.trips) : Fin 2 → Nat :=
  let c0_i32_268 : BitVec 32 := 0#32
  let c1_i32 : BitVec 32 := 1#32
  let arg10 : BitVec 32 := Scf.iv c0_i32_268 c1_i32 k0_t1
  let v596 : Index := Scalar.indexCast arg10
  let c4 : Index := 4#32
  ![v596.toNat, 4]
def k0_off11 (k0_t1 : Fin k0_t1_loop.trips) : Fin 2 → Nat :=
  let c0_i32_268 : BitVec 32 := 0#32
  let c1_i32 : BitVec 32 := 1#32
  let arg10 : BitVec 32 := Scf.iv c0_i32_268 c1_i32 k0_t1
  let c128_i32 : BitVec 32 := 128#32
  let v543 : BitVec 32 := Scalar.muli arg10 c128_i32
  let v544 : BitVec 32 := v543
  let v605 : Index := Scalar.indexCast v544
  let c640 : Index := 640#32
  ![v605.toNat, 640]
def k0_off12 (k0_t1 : Fin k0_t1_loop.trips) : Fin 2 → Nat :=
  let c0_i32_268 : BitVec 32 := 0#32
  let c1_i32 : BitVec 32 := 1#32
  let arg10 : BitVec 32 := Scf.iv c0_i32_268 c1_i32 k0_t1
  let v608 : Index := Scalar.indexCast arg10
  let c5 : Index := 5#32
  ![v608.toNat, 5]
def k0_off13 (k0_t1 : Fin k0_t1_loop.trips) : Fin 2 → Nat :=
  let c0_i32_268 : BitVec 32 := 0#32
  let c1_i32 : BitVec 32 := 1#32
  let arg10 : BitVec 32 := Scf.iv c0_i32_268 c1_i32 k0_t1
  let c128_i32 : BitVec 32 := 128#32
  let v543 : BitVec 32 := Scalar.muli arg10 c128_i32
  let v544 : BitVec 32 := v543
  let v617 : Index := Scalar.indexCast v544
  let c768_285 : Index := 768#32
  ![v617.toNat, 768]
def k0_off14 (k0_t1 : Fin k0_t1_loop.trips) : Fin 2 → Nat :=
  let c0_i32_268 : BitVec 32 := 0#32
  let c1_i32 : BitVec 32 := 1#32
  let arg10 : BitVec 32 := Scf.iv c0_i32_268 c1_i32 k0_t1
  let v620 : Index := Scalar.indexCast arg10
  let c6 : Index := 6#32
  ![v620.toNat, 6]
def k0_off15 (k0_t1 : Fin k0_t1_loop.trips) : Fin 2 → Nat :=
  let c0_i32_268 : BitVec 32 := 0#32
  let c1_i32 : BitVec 32 := 1#32
  let arg10 : BitVec 32 := Scf.iv c0_i32_268 c1_i32 k0_t1
  let c128_i32 : BitVec 32 := 128#32
  let v543 : BitVec 32 := Scalar.muli arg10 c128_i32
  let v544 : BitVec 32 := v543
  let v629 : Index := Scalar.indexCast v544
  let c896 : Index := 896#32
  ![v629.toNat, 896]
def k0_off16 (k0_t1 : Fin k0_t1_loop.trips) : Fin 2 → Nat :=
  let c0_i32_268 : BitVec 32 := 0#32
  let c1_i32 : BitVec 32 := 1#32
  let arg10 : BitVec 32 := Scf.iv c0_i32_268 c1_i32 k0_t1
  let v632 : Index := Scalar.indexCast arg10
  let c7 : Index := 7#32
  ![v632.toNat, 7]
def k0_off17 (k0_t1 : Fin k0_t1_loop.trips) : Fin 2 → Nat :=
  let c0_i32_268 : BitVec 32 := 0#32
  let c1_i32 : BitVec 32 := 1#32
  let arg10 : BitVec 32 := Scf.iv c0_i32_268 c1_i32 k0_t1
  let c128_i32 : BitVec 32 := 128#32
  let v543 : BitVec 32 := Scalar.muli arg10 c128_i32
  let v544 : BitVec 32 := v543
  let v641 : Index := Scalar.indexCast v544
  let c1024_288 : Index := 1024#32
  ![v641.toNat, 1024]
def k0_off18 (k0_t1 : Fin k0_t1_loop.trips) : Fin 2 → Nat :=
  let c0_i32_268 : BitVec 32 := 0#32
  let c1_i32 : BitVec 32 := 1#32
  let arg10 : BitVec 32 := Scf.iv c0_i32_268 c1_i32 k0_t1
  let v644 : Index := Scalar.indexCast arg10
  let c8 : Index := 8#32
  ![v644.toNat, 8]
def k0_off19 (k0_t1 : Fin k0_t1_loop.trips) : Fin 2 → Nat :=
  let c0_i32_268 : BitVec 32 := 0#32
  let c1_i32 : BitVec 32 := 1#32
  let arg10 : BitVec 32 := Scf.iv c0_i32_268 c1_i32 k0_t1
  let c128_i32 : BitVec 32 := 128#32
  let v543 : BitVec 32 := Scalar.muli arg10 c128_i32
  let v544 : BitVec 32 := v543
  let v653 : Index := Scalar.indexCast v544
  let c1152 : Index := 1152#32
  ![v653.toNat, 1152]
def k0_off20 (k0_t1 : Fin k0_t1_loop.trips) : Fin 2 → Nat :=
  let c0_i32_268 : BitVec 32 := 0#32
  let c1_i32 : BitVec 32 := 1#32
  let arg10 : BitVec 32 := Scf.iv c0_i32_268 c1_i32 k0_t1
  let v656 : Index := Scalar.indexCast arg10
  let c9 : Index := 9#32
  ![v656.toNat, 9]
def k0_off21 (k0_t1 : Fin k0_t1_loop.trips) : Fin 2 → Nat :=
  let c0_i32_268 : BitVec 32 := 0#32
  let c1_i32 : BitVec 32 := 1#32
  let arg10 : BitVec 32 := Scf.iv c0_i32_268 c1_i32 k0_t1
  let c128_i32 : BitVec 32 := 128#32
  let v543 : BitVec 32 := Scalar.muli arg10 c128_i32
  let v544 : BitVec 32 := v543
  let v665 : Index := Scalar.indexCast v544
  let c1280_291 : Index := 1280#32
  ![v665.toNat, 1280]
def k0_off22 (k0_t1 : Fin k0_t1_loop.trips) : Fin 2 → Nat :=
  let c0_i32_268 : BitVec 32 := 0#32
  let c1_i32 : BitVec 32 := 1#32
  let arg10 : BitVec 32 := Scf.iv c0_i32_268 c1_i32 k0_t1
  let v668 : Index := Scalar.indexCast arg10
  let c10 : Index := 10#32
  ![v668.toNat, 10]
def k0_off23 (k0_t1 : Fin k0_t1_loop.trips) : Fin 2 → Nat :=
  let c0_i32_268 : BitVec 32 := 0#32
  let c1_i32 : BitVec 32 := 1#32
  let arg10 : BitVec 32 := Scf.iv c0_i32_268 c1_i32 k0_t1
  let c128_i32 : BitVec 32 := 128#32
  let v543 : BitVec 32 := Scalar.muli arg10 c128_i32
  let v544 : BitVec 32 := v543
  let v677 : Index := Scalar.indexCast v544
  let c1408 : Index := 1408#32
  ![v677.toNat, 1408]
def k0_off24 (k0_t1 : Fin k0_t1_loop.trips) : Fin 2 → Nat :=
  let c0_i32_268 : BitVec 32 := 0#32
  let c1_i32 : BitVec 32 := 1#32
  let arg10 : BitVec 32 := Scf.iv c0_i32_268 c1_i32 k0_t1
  let v680 : Index := Scalar.indexCast arg10
  let c11 : Index := 11#32
  ![v680.toNat, 11]
def k0_off25 (k0_t1 : Fin k0_t1_loop.trips) : Fin 2 → Nat :=
  let c0_i32_268 : BitVec 32 := 0#32
  let c1_i32 : BitVec 32 := 1#32
  let arg10 : BitVec 32 := Scf.iv c0_i32_268 c1_i32 k0_t1
  let c128_i32 : BitVec 32 := 128#32
  let v543 : BitVec 32 := Scalar.muli arg10 c128_i32
  let v544 : BitVec 32 := v543
  let v689 : Index := Scalar.indexCast v544
  let c1536_294 : Index := 1536#32
  ![v689.toNat, 1536]
def k0_off26 (k0_t1 : Fin k0_t1_loop.trips) : Fin 2 → Nat :=
  let c0_i32_268 : BitVec 32 := 0#32
  let c1_i32 : BitVec 32 := 1#32
  let arg10 : BitVec 32 := Scf.iv c0_i32_268 c1_i32 k0_t1
  let v692 : Index := Scalar.indexCast arg10
  let c12 : Index := 12#32
  ![v692.toNat, 12]
def k0_off27 (k0_t1 : Fin k0_t1_loop.trips) : Fin 2 → Nat :=
  let c0_i32_268 : BitVec 32 := 0#32
  let c1_i32 : BitVec 32 := 1#32
  let arg10 : BitVec 32 := Scf.iv c0_i32_268 c1_i32 k0_t1
  let c128_i32 : BitVec 32 := 128#32
  let v543 : BitVec 32 := Scalar.muli arg10 c128_i32
  let v544 : BitVec 32 := v543
  let v701 : Index := Scalar.indexCast v544
  let c1664 : Index := 1664#32
  ![v701.toNat, 1664]
def k0_off28 (k0_t1 : Fin k0_t1_loop.trips) : Fin 2 → Nat :=
  let c0_i32_268 : BitVec 32 := 0#32
  let c1_i32 : BitVec 32 := 1#32
  let arg10 : BitVec 32 := Scf.iv c0_i32_268 c1_i32 k0_t1
  let v704 : Index := Scalar.indexCast arg10
  let c13 : Index := 13#32
  ![v704.toNat, 13]
def k0_off29 (k0_t1 : Fin k0_t1_loop.trips) : Fin 2 → Nat :=
  let c0_i32_268 : BitVec 32 := 0#32
  let c1_i32 : BitVec 32 := 1#32
  let arg10 : BitVec 32 := Scf.iv c0_i32_268 c1_i32 k0_t1
  let c128_i32 : BitVec 32 := 128#32
  let v543 : BitVec 32 := Scalar.muli arg10 c128_i32
  let v544 : BitVec 32 := v543
  let v713 : Index := Scalar.indexCast v544
  let c1792_297 : Index := 1792#32
  ![v713.toNat, 1792]
def k0_off30 (k0_t1 : Fin k0_t1_loop.trips) : Fin 2 → Nat :=
  let c0_i32_268 : BitVec 32 := 0#32
  let c1_i32 : BitVec 32 := 1#32
  let arg10 : BitVec 32 := Scf.iv c0_i32_268 c1_i32 k0_t1
  let v716 : Index := Scalar.indexCast arg10
  let c14 : Index := 14#32
  ![v716.toNat, 14]
def k0_off31 (k0_t1 : Fin k0_t1_loop.trips) : Fin 2 → Nat :=
  let c0_i32_268 : BitVec 32 := 0#32
  let c1_i32 : BitVec 32 := 1#32
  let arg10 : BitVec 32 := Scf.iv c0_i32_268 c1_i32 k0_t1
  let c128_i32 : BitVec 32 := 128#32
  let v543 : BitVec 32 := Scalar.muli arg10 c128_i32
  let v544 : BitVec 32 := v543
  let v725 : Index := Scalar.indexCast v544
  let c1920 : Index := 1920#32
  ![v725.toNat, 1920]
def k0_off32 (k0_t1 : Fin k0_t1_loop.trips) : Fin 2 → Nat :=
  let c0_i32_268 : BitVec 32 := 0#32
  let c1_i32 : BitVec 32 := 1#32
  let arg10 : BitVec 32 := Scf.iv c0_i32_268 c1_i32 k0_t1
  let v728 : Index := Scalar.indexCast arg10
  let c15 : Index := 15#32
  ![v728.toNat, 15]
def k0_off33 (k0_t1 : Fin k0_t1_loop.trips) : Fin 2 → Nat :=
  let c0_i32_268 : BitVec 32 := 0#32
  let c1_i32 : BitVec 32 := 1#32
  let arg10 : BitVec 32 := Scf.iv c0_i32_268 c1_i32 k0_t1
  let c128_i32 : BitVec 32 := 128#32
  let v543 : BitVec 32 := Scalar.muli arg10 c128_i32
  let v544 : BitVec 32 := v543
  let v737 : Index := Scalar.indexCast v544
  let c2048_300 : Index := 2048#32
  ![v737.toNat, 2048]
def k0_off34 (k0_t1 : Fin k0_t1_loop.trips) : Fin 2 → Nat :=
  let c0_i32_268 : BitVec 32 := 0#32
  let c1_i32 : BitVec 32 := 1#32
  let arg10 : BitVec 32 := Scf.iv c0_i32_268 c1_i32 k0_t1
  let v740 : Index := Scalar.indexCast arg10
  let c16 : Index := 16#32
  ![v740.toNat, 16]
def k0_off35 (k0_t1 : Fin k0_t1_loop.trips) : Fin 2 → Nat :=
  let c0_i32_268 : BitVec 32 := 0#32
  let c1_i32 : BitVec 32 := 1#32
  let arg10 : BitVec 32 := Scf.iv c0_i32_268 c1_i32 k0_t1
  let c128_i32 : BitVec 32 := 128#32
  let v543 : BitVec 32 := Scalar.muli arg10 c128_i32
  let v544 : BitVec 32 := v543
  let v749 : Index := Scalar.indexCast v544
  let c2176 : Index := 2176#32
  ![v749.toNat, 2176]
def k0_off36 (k0_t1 : Fin k0_t1_loop.trips) : Fin 2 → Nat :=
  let c0_i32_268 : BitVec 32 := 0#32
  let c1_i32 : BitVec 32 := 1#32
  let arg10 : BitVec 32 := Scf.iv c0_i32_268 c1_i32 k0_t1
  let v752 : Index := Scalar.indexCast arg10
  let c17 : Index := 17#32
  ![v752.toNat, 17]
def k0_off37 (k0_t1 : Fin k0_t1_loop.trips) : Fin 2 → Nat :=
  let c0_i32_268 : BitVec 32 := 0#32
  let c1_i32 : BitVec 32 := 1#32
  let arg10 : BitVec 32 := Scf.iv c0_i32_268 c1_i32 k0_t1
  let c128_i32 : BitVec 32 := 128#32
  let v543 : BitVec 32 := Scalar.muli arg10 c128_i32
  let v544 : BitVec 32 := v543
  let v761 : Index := Scalar.indexCast v544
  let c2304_303 : Index := 2304#32
  ![v761.toNat, 2304]
def k0_off38 (k0_t1 : Fin k0_t1_loop.trips) : Fin 2 → Nat :=
  let c0_i32_268 : BitVec 32 := 0#32
  let c1_i32 : BitVec 32 := 1#32
  let arg10 : BitVec 32 := Scf.iv c0_i32_268 c1_i32 k0_t1
  let v764 : Index := Scalar.indexCast arg10
  let c18 : Index := 18#32
  ![v764.toNat, 18]
def k0_off39 (k0_t1 : Fin k0_t1_loop.trips) : Fin 2 → Nat :=
  let c0_i32_268 : BitVec 32 := 0#32
  let c1_i32 : BitVec 32 := 1#32
  let arg10 : BitVec 32 := Scf.iv c0_i32_268 c1_i32 k0_t1
  let c128_i32 : BitVec 32 := 128#32
  let v543 : BitVec 32 := Scalar.muli arg10 c128_i32
  let v544 : BitVec 32 := v543
  let v773 : Index := Scalar.indexCast v544
  let c2432 : Index := 2432#32
  ![v773.toNat, 2432]
def k0_off40 (k0_t1 : Fin k0_t1_loop.trips) : Fin 2 → Nat :=
  let c0_i32_268 : BitVec 32 := 0#32
  let c1_i32 : BitVec 32 := 1#32
  let arg10 : BitVec 32 := Scf.iv c0_i32_268 c1_i32 k0_t1
  let v776 : Index := Scalar.indexCast arg10
  let c19 : Index := 19#32
  ![v776.toNat, 19]
def k0_off41 (k0_t1 : Fin k0_t1_loop.trips) : Fin 2 → Nat :=
  let c0_i32_268 : BitVec 32 := 0#32
  let c1_i32 : BitVec 32 := 1#32
  let arg10 : BitVec 32 := Scf.iv c0_i32_268 c1_i32 k0_t1
  let c128_i32 : BitVec 32 := 128#32
  let v543 : BitVec 32 := Scalar.muli arg10 c128_i32
  let v544 : BitVec 32 := v543
  let v785 : Index := Scalar.indexCast v544
  let c2560_306 : Index := 2560#32
  ![v785.toNat, 2560]
def k0_off42 (k0_t1 : Fin k0_t1_loop.trips) : Fin 2 → Nat :=
  let c0_i32_268 : BitVec 32 := 0#32
  let c1_i32 : BitVec 32 := 1#32
  let arg10 : BitVec 32 := Scf.iv c0_i32_268 c1_i32 k0_t1
  let v788 : Index := Scalar.indexCast arg10
  let c20 : Index := 20#32
  ![v788.toNat, 20]
def k0_off43 (k0_t1 : Fin k0_t1_loop.trips) : Fin 2 → Nat :=
  let c0_i32_268 : BitVec 32 := 0#32
  let c1_i32 : BitVec 32 := 1#32
  let arg10 : BitVec 32 := Scf.iv c0_i32_268 c1_i32 k0_t1
  let c128_i32 : BitVec 32 := 128#32
  let v543 : BitVec 32 := Scalar.muli arg10 c128_i32
  let v544 : BitVec 32 := v543
  let v797 : Index := Scalar.indexCast v544
  let c2688 : Index := 2688#32
  ![v797.toNat, 2688]
def k0_off44 (k0_t1 : Fin k0_t1_loop.trips) : Fin 2 → Nat :=
  let c0_i32_268 : BitVec 32 := 0#32
  let c1_i32 : BitVec 32 := 1#32
  let arg10 : BitVec 32 := Scf.iv c0_i32_268 c1_i32 k0_t1
  let v800 : Index := Scalar.indexCast arg10
  let c21 : Index := 21#32
  ![v800.toNat, 21]
def k0_off45 (k0_t1 : Fin k0_t1_loop.trips) : Fin 2 → Nat :=
  let c0_i32_268 : BitVec 32 := 0#32
  let c1_i32 : BitVec 32 := 1#32
  let arg10 : BitVec 32 := Scf.iv c0_i32_268 c1_i32 k0_t1
  let c128_i32 : BitVec 32 := 128#32
  let v543 : BitVec 32 := Scalar.muli arg10 c128_i32
  let v544 : BitVec 32 := v543
  let v809 : Index := Scalar.indexCast v544
  let c2816_309 : Index := 2816#32
  ![v809.toNat, 2816]
def k0_off46 (k0_t1 : Fin k0_t1_loop.trips) : Fin 2 → Nat :=
  let c0_i32_268 : BitVec 32 := 0#32
  let c1_i32 : BitVec 32 := 1#32
  let arg10 : BitVec 32 := Scf.iv c0_i32_268 c1_i32 k0_t1
  let v812 : Index := Scalar.indexCast arg10
  let c22 : Index := 22#32
  ![v812.toNat, 22]
def k0_off47 (k0_t1 : Fin k0_t1_loop.trips) : Fin 2 → Nat :=
  let c0_i32_268 : BitVec 32 := 0#32
  let c1_i32 : BitVec 32 := 1#32
  let arg10 : BitVec 32 := Scf.iv c0_i32_268 c1_i32 k0_t1
  let c128_i32 : BitVec 32 := 128#32
  let v543 : BitVec 32 := Scalar.muli arg10 c128_i32
  let v544 : BitVec 32 := v543
  let v821 : Index := Scalar.indexCast v544
  let c2944 : Index := 2944#32
  ![v821.toNat, 2944]
def k0_off48 (k0_t1 : Fin k0_t1_loop.trips) : Fin 2 → Nat :=
  let c0_i32_268 : BitVec 32 := 0#32
  let c1_i32 : BitVec 32 := 1#32
  let arg10 : BitVec 32 := Scf.iv c0_i32_268 c1_i32 k0_t1
  let v824 : Index := Scalar.indexCast arg10
  let c23 : Index := 23#32
  ![v824.toNat, 23]
def k0_off49 (k0_t1 : Fin k0_t1_loop.trips) : Fin 2 → Nat :=
  let c0_i32_268 : BitVec 32 := 0#32
  let c1_i32 : BitVec 32 := 1#32
  let arg10 : BitVec 32 := Scf.iv c0_i32_268 c1_i32 k0_t1
  let c128_i32 : BitVec 32 := 128#32
  let v543 : BitVec 32 := Scalar.muli arg10 c128_i32
  let v544 : BitVec 32 := v543
  let v833 : Index := Scalar.indexCast v544
  let c3072_312 : Index := 3072#32
  ![v833.toNat, 3072]
def k0_off50 (k0_t1 : Fin k0_t1_loop.trips) : Fin 2 → Nat :=
  let c0_i32_268 : BitVec 32 := 0#32
  let c1_i32 : BitVec 32 := 1#32
  let arg10 : BitVec 32 := Scf.iv c0_i32_268 c1_i32 k0_t1
  let v836 : Index := Scalar.indexCast arg10
  let c24 : Index := 24#32
  ![v836.toNat, 24]
def k0_off51 (k0_t1 : Fin k0_t1_loop.trips) : Fin 2 → Nat :=
  let c0_i32_268 : BitVec 32 := 0#32
  let c1_i32 : BitVec 32 := 1#32
  let arg10 : BitVec 32 := Scf.iv c0_i32_268 c1_i32 k0_t1
  let c128_i32 : BitVec 32 := 128#32
  let v543 : BitVec 32 := Scalar.muli arg10 c128_i32
  let v544 : BitVec 32 := v543
  let v845 : Index := Scalar.indexCast v544
  let c3200 : Index := 3200#32
  ![v845.toNat, 3200]
def k0_off52 (k0_t1 : Fin k0_t1_loop.trips) : Fin 2 → Nat :=
  let c0_i32_268 : BitVec 32 := 0#32
  let c1_i32 : BitVec 32 := 1#32
  let arg10 : BitVec 32 := Scf.iv c0_i32_268 c1_i32 k0_t1
  let v848 : Index := Scalar.indexCast arg10
  let c25 : Index := 25#32
  ![v848.toNat, 25]
def k0_off53 (k0_t1 : Fin k0_t1_loop.trips) : Fin 2 → Nat :=
  let c0_i32_268 : BitVec 32 := 0#32
  let c1_i32 : BitVec 32 := 1#32
  let arg10 : BitVec 32 := Scf.iv c0_i32_268 c1_i32 k0_t1
  let c128_i32 : BitVec 32 := 128#32
  let v543 : BitVec 32 := Scalar.muli arg10 c128_i32
  let v544 : BitVec 32 := v543
  let v857 : Index := Scalar.indexCast v544
  let c3328_315 : Index := 3328#32
  ![v857.toNat, 3328]
def k0_off54 (k0_t1 : Fin k0_t1_loop.trips) : Fin 2 → Nat :=
  let c0_i32_268 : BitVec 32 := 0#32
  let c1_i32 : BitVec 32 := 1#32
  let arg10 : BitVec 32 := Scf.iv c0_i32_268 c1_i32 k0_t1
  let v860 : Index := Scalar.indexCast arg10
  let c26 : Index := 26#32
  ![v860.toNat, 26]
def k0_off55 (k0_t1 : Fin k0_t1_loop.trips) : Fin 2 → Nat :=
  let c0_i32_268 : BitVec 32 := 0#32
  let c1_i32 : BitVec 32 := 1#32
  let arg10 : BitVec 32 := Scf.iv c0_i32_268 c1_i32 k0_t1
  let c128_i32 : BitVec 32 := 128#32
  let v543 : BitVec 32 := Scalar.muli arg10 c128_i32
  let v544 : BitVec 32 := v543
  let v869 : Index := Scalar.indexCast v544
  let c3456 : Index := 3456#32
  ![v869.toNat, 3456]
def k0_off56 (k0_t1 : Fin k0_t1_loop.trips) : Fin 2 → Nat :=
  let c0_i32_268 : BitVec 32 := 0#32
  let c1_i32 : BitVec 32 := 1#32
  let arg10 : BitVec 32 := Scf.iv c0_i32_268 c1_i32 k0_t1
  let v872 : Index := Scalar.indexCast arg10
  let c27 : Index := 27#32
  ![v872.toNat, 27]
def k0_off57 (k0_t1 : Fin k0_t1_loop.trips) : Fin 2 → Nat :=
  let c0_i32_268 : BitVec 32 := 0#32
  let c1_i32 : BitVec 32 := 1#32
  let arg10 : BitVec 32 := Scf.iv c0_i32_268 c1_i32 k0_t1
  let c128_i32 : BitVec 32 := 128#32
  let v543 : BitVec 32 := Scalar.muli arg10 c128_i32
  let v544 : BitVec 32 := v543
  let v881 : Index := Scalar.indexCast v544
  let c3584_318 : Index := 3584#32
  ![v881.toNat, 3584]
def k0_off58 (k0_t1 : Fin k0_t1_loop.trips) : Fin 2 → Nat :=
  let c0_i32_268 : BitVec 32 := 0#32
  let c1_i32 : BitVec 32 := 1#32
  let arg10 : BitVec 32 := Scf.iv c0_i32_268 c1_i32 k0_t1
  let v884 : Index := Scalar.indexCast arg10
  let c28 : Index := 28#32
  ![v884.toNat, 28]
def k0_off59 (k0_t1 : Fin k0_t1_loop.trips) : Fin 2 → Nat :=
  let c0_i32_268 : BitVec 32 := 0#32
  let c1_i32 : BitVec 32 := 1#32
  let arg10 : BitVec 32 := Scf.iv c0_i32_268 c1_i32 k0_t1
  let c128_i32 : BitVec 32 := 128#32
  let v543 : BitVec 32 := Scalar.muli arg10 c128_i32
  let v544 : BitVec 32 := v543
  let v893 : Index := Scalar.indexCast v544
  let c3712 : Index := 3712#32
  ![v893.toNat, 3712]
def k0_off60 (k0_t1 : Fin k0_t1_loop.trips) : Fin 2 → Nat :=
  let c0_i32_268 : BitVec 32 := 0#32
  let c1_i32 : BitVec 32 := 1#32
  let arg10 : BitVec 32 := Scf.iv c0_i32_268 c1_i32 k0_t1
  let v896 : Index := Scalar.indexCast arg10
  let c29 : Index := 29#32
  ![v896.toNat, 29]
def k0_off61 (k0_t1 : Fin k0_t1_loop.trips) : Fin 2 → Nat :=
  let c0_i32_268 : BitVec 32 := 0#32
  let c1_i32 : BitVec 32 := 1#32
  let arg10 : BitVec 32 := Scf.iv c0_i32_268 c1_i32 k0_t1
  let c128_i32 : BitVec 32 := 128#32
  let v543 : BitVec 32 := Scalar.muli arg10 c128_i32
  let v544 : BitVec 32 := v543
  let v905 : Index := Scalar.indexCast v544
  let c3840_321 : Index := 3840#32
  ![v905.toNat, 3840]
def k0_off62 (k0_t1 : Fin k0_t1_loop.trips) : Fin 2 → Nat :=
  let c0_i32_268 : BitVec 32 := 0#32
  let c1_i32 : BitVec 32 := 1#32
  let arg10 : BitVec 32 := Scf.iv c0_i32_268 c1_i32 k0_t1
  let v908 : Index := Scalar.indexCast arg10
  let c30 : Index := 30#32
  ![v908.toNat, 30]
def k0_off63 (k0_t1 : Fin k0_t1_loop.trips) : Fin 2 → Nat :=
  let c0_i32_268 : BitVec 32 := 0#32
  let c1_i32 : BitVec 32 := 1#32
  let arg10 : BitVec 32 := Scf.iv c0_i32_268 c1_i32 k0_t1
  let c128_i32 : BitVec 32 := 128#32
  let v543 : BitVec 32 := Scalar.muli arg10 c128_i32
  let v544 : BitVec 32 := v543
  let v917 : Index := Scalar.indexCast v544
  let c3968 : Index := 3968#32
  ![v917.toNat, 3968]
def k0_off64 (k0_t1 : Fin k0_t1_loop.trips) : Fin 2 → Nat :=
  let c0_i32_268 : BitVec 32 := 0#32
  let c1_i32 : BitVec 32 := 1#32
  let arg10 : BitVec 32 := Scf.iv c0_i32_268 c1_i32 k0_t1
  let v920 : Index := Scalar.indexCast arg10
  let c31 : Index := 31#32
  ![v920.toNat, 31]
def k0_off65 (k0_t1 : Fin k0_t1_loop.trips) : Fin 2 → Nat :=
  let c0_i32_268 : BitVec 32 := 0#32
  let c1_i32 : BitVec 32 := 1#32
  let arg10 : BitVec 32 := Scf.iv c0_i32_268 c1_i32 k0_t1
  let c128_i32 : BitVec 32 := 128#32
  let v543 : BitVec 32 := Scalar.muli arg10 c128_i32
  let v544 : BitVec 32 := v543
  let v929 : Index := Scalar.indexCast v544
  let c4096_324 : Index := 4096#32
  ![v929.toNat, 4096]
def k0_off66 (k0_t1 : Fin k0_t1_loop.trips) : Fin 2 → Nat :=
  let c0_i32_268 : BitVec 32 := 0#32
  let c1_i32 : BitVec 32 := 1#32
  let arg10 : BitVec 32 := Scf.iv c0_i32_268 c1_i32 k0_t1
  let v932 : Index := Scalar.indexCast arg10
  let c32 : Index := 32#32
  ![v932.toNat, 32]
def k0_off67 (k0_t1 : Fin k0_t1_loop.trips) : Fin 2 → Nat :=
  let c0_i32_268 : BitVec 32 := 0#32
  let c1_i32 : BitVec 32 := 1#32
  let arg10 : BitVec 32 := Scf.iv c0_i32_268 c1_i32 k0_t1
  let c128_i32 : BitVec 32 := 128#32
  let v543 : BitVec 32 := Scalar.muli arg10 c128_i32
  let v544 : BitVec 32 := v543
  let v941 : Index := Scalar.indexCast v544
  let c4224 : Index := 4224#32
  ![v941.toNat, 4224]
def k0_off68 (k0_t1 : Fin k0_t1_loop.trips) : Fin 2 → Nat :=
  let c0_i32_268 : BitVec 32 := 0#32
  let c1_i32 : BitVec 32 := 1#32
  let arg10 : BitVec 32 := Scf.iv c0_i32_268 c1_i32 k0_t1
  let v944 : Index := Scalar.indexCast arg10
  let c33 : Index := 33#32
  ![v944.toNat, 33]
def k0_off69 (k0_t1 : Fin k0_t1_loop.trips) : Fin 2 → Nat :=
  let c0_i32_268 : BitVec 32 := 0#32
  let c1_i32 : BitVec 32 := 1#32
  let arg10 : BitVec 32 := Scf.iv c0_i32_268 c1_i32 k0_t1
  let c128_i32 : BitVec 32 := 128#32
  let v543 : BitVec 32 := Scalar.muli arg10 c128_i32
  let v544 : BitVec 32 := v543
  let v953 : Index := Scalar.indexCast v544
  let c4352_327 : Index := 4352#32
  ![v953.toNat, 4352]
def k0_off70 (k0_t1 : Fin k0_t1_loop.trips) : Fin 2 → Nat :=
  let c0_i32_268 : BitVec 32 := 0#32
  let c1_i32 : BitVec 32 := 1#32
  let arg10 : BitVec 32 := Scf.iv c0_i32_268 c1_i32 k0_t1
  let v956 : Index := Scalar.indexCast arg10
  let c34 : Index := 34#32
  ![v956.toNat, 34]
def k0_off71 (k0_t1 : Fin k0_t1_loop.trips) : Fin 2 → Nat :=
  let c0_i32_268 : BitVec 32 := 0#32
  let c1_i32 : BitVec 32 := 1#32
  let arg10 : BitVec 32 := Scf.iv c0_i32_268 c1_i32 k0_t1
  let c128_i32 : BitVec 32 := 128#32
  let v543 : BitVec 32 := Scalar.muli arg10 c128_i32
  let v544 : BitVec 32 := v543
  let v965 : Index := Scalar.indexCast v544
  let c4480 : Index := 4480#32
  ![v965.toNat, 4480]
def k0_off72 (k0_t1 : Fin k0_t1_loop.trips) : Fin 2 → Nat :=
  let c0_i32_268 : BitVec 32 := 0#32
  let c1_i32 : BitVec 32 := 1#32
  let arg10 : BitVec 32 := Scf.iv c0_i32_268 c1_i32 k0_t1
  let v968 : Index := Scalar.indexCast arg10
  let c35 : Index := 35#32
  ![v968.toNat, 35]
def k0_off73 (k0_t1 : Fin k0_t1_loop.trips) : Fin 2 → Nat :=
  let c0_i32_268 : BitVec 32 := 0#32
  let c1_i32 : BitVec 32 := 1#32
  let arg10 : BitVec 32 := Scf.iv c0_i32_268 c1_i32 k0_t1
  let c128_i32 : BitVec 32 := 128#32
  let v543 : BitVec 32 := Scalar.muli arg10 c128_i32
  let v544 : BitVec 32 := v543
  let v977 : Index := Scalar.indexCast v544
  let c4608_330 : Index := 4608#32
  ![v977.toNat, 4608]
def k0_off74 (k0_t1 : Fin k0_t1_loop.trips) : Fin 2 → Nat :=
  let c0_i32_268 : BitVec 32 := 0#32
  let c1_i32 : BitVec 32 := 1#32
  let arg10 : BitVec 32 := Scf.iv c0_i32_268 c1_i32 k0_t1
  let v980 : Index := Scalar.indexCast arg10
  let c36 : Index := 36#32
  ![v980.toNat, 36]
def k0_off75 (k0_t1 : Fin k0_t1_loop.trips) : Fin 2 → Nat :=
  let c0_i32_268 : BitVec 32 := 0#32
  let c1_i32 : BitVec 32 := 1#32
  let arg10 : BitVec 32 := Scf.iv c0_i32_268 c1_i32 k0_t1
  let c128_i32 : BitVec 32 := 128#32
  let v543 : BitVec 32 := Scalar.muli arg10 c128_i32
  let v544 : BitVec 32 := v543
  let v989 : Index := Scalar.indexCast v544
  let c4736 : Index := 4736#32
  ![v989.toNat, 4736]
def k0_off76 (k0_t1 : Fin k0_t1_loop.trips) : Fin 2 → Nat :=
  let c0_i32_268 : BitVec 32 := 0#32
  let c1_i32 : BitVec 32 := 1#32
  let arg10 : BitVec 32 := Scf.iv c0_i32_268 c1_i32 k0_t1
  let v992 : Index := Scalar.indexCast arg10
  let c37 : Index := 37#32
  ![v992.toNat, 37]
def k0_off77 (k0_t1 : Fin k0_t1_loop.trips) : Fin 2 → Nat :=
  let c0_i32_268 : BitVec 32 := 0#32
  let c1_i32 : BitVec 32 := 1#32
  let arg10 : BitVec 32 := Scf.iv c0_i32_268 c1_i32 k0_t1
  let c128_i32 : BitVec 32 := 128#32
  let v543 : BitVec 32 := Scalar.muli arg10 c128_i32
  let v544 : BitVec 32 := v543
  let v1001 : Index := Scalar.indexCast v544
  let c4864_333 : Index := 4864#32
  ![v1001.toNat, 4864]
def k0_off78 (k0_t1 : Fin k0_t1_loop.trips) : Fin 2 → Nat :=
  let c0_i32_268 : BitVec 32 := 0#32
  let c1_i32 : BitVec 32 := 1#32
  let arg10 : BitVec 32 := Scf.iv c0_i32_268 c1_i32 k0_t1
  let v1004 : Index := Scalar.indexCast arg10
  let c38 : Index := 38#32
  ![v1004.toNat, 38]
def k0_off79 (k0_t1 : Fin k0_t1_loop.trips) : Fin 2 → Nat :=
  let c0_i32_268 : BitVec 32 := 0#32
  let c1_i32 : BitVec 32 := 1#32
  let arg10 : BitVec 32 := Scf.iv c0_i32_268 c1_i32 k0_t1
  let c128_i32 : BitVec 32 := 128#32
  let v543 : BitVec 32 := Scalar.muli arg10 c128_i32
  let v544 : BitVec 32 := v543
  let v1013 : Index := Scalar.indexCast v544
  let c4992 : Index := 4992#32
  ![v1013.toNat, 4992]
def k0_off80 (k0_t1 : Fin k0_t1_loop.trips) : Fin 2 → Nat :=
  let c0_i32_268 : BitVec 32 := 0#32
  let c1_i32 : BitVec 32 := 1#32
  let arg10 : BitVec 32 := Scf.iv c0_i32_268 c1_i32 k0_t1
  let v1016 : Index := Scalar.indexCast arg10
  let c39 : Index := 39#32
  ![v1016.toNat, 39]
def k0_off81 (k0_t1 : Fin k0_t1_loop.trips) : Fin 2 → Nat :=
  let c0_i32_268 : BitVec 32 := 0#32
  let c1_i32 : BitVec 32 := 1#32
  let arg10 : BitVec 32 := Scf.iv c0_i32_268 c1_i32 k0_t1
  let c128_i32 : BitVec 32 := 128#32
  let v543 : BitVec 32 := Scalar.muli arg10 c128_i32
  let v544 : BitVec 32 := v543
  let v1025 : Index := Scalar.indexCast v544
  let c5120_336 : Index := 5120#32
  ![v1025.toNat, 5120]
def k0_off82 (k0_t1 : Fin k0_t1_loop.trips) : Fin 2 → Nat :=
  let c0_i32_268 : BitVec 32 := 0#32
  let c1_i32 : BitVec 32 := 1#32
  let arg10 : BitVec 32 := Scf.iv c0_i32_268 c1_i32 k0_t1
  let v1028 : Index := Scalar.indexCast arg10
  let c40 : Index := 40#32
  ![v1028.toNat, 40]
def k0_off83 (k0_t1 : Fin k0_t1_loop.trips) : Fin 2 → Nat :=
  let c0_i32_268 : BitVec 32 := 0#32
  let c1_i32 : BitVec 32 := 1#32
  let arg10 : BitVec 32 := Scf.iv c0_i32_268 c1_i32 k0_t1
  let c128_i32 : BitVec 32 := 128#32
  let v543 : BitVec 32 := Scalar.muli arg10 c128_i32
  let v544 : BitVec 32 := v543
  let v1037 : Index := Scalar.indexCast v544
  let c5248 : Index := 5248#32
  ![v1037.toNat, 5248]
def k0_off84 (k0_t1 : Fin k0_t1_loop.trips) : Fin 2 → Nat :=
  let c0_i32_268 : BitVec 32 := 0#32
  let c1_i32 : BitVec 32 := 1#32
  let arg10 : BitVec 32 := Scf.iv c0_i32_268 c1_i32 k0_t1
  let v1040 : Index := Scalar.indexCast arg10
  let c41 : Index := 41#32
  ![v1040.toNat, 41]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S4x42 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x5376 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x5376 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x5376 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x5376 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutputIdeal.lean ====
variable {F : FTy → Type} [FloatOps F] [Named F]
def κ : String → Option EReal := fun
  | "inv_width" => some ((5376⁻¹ : ℝ) : EReal)
  | _ => none
-- ==== FinishIdeal.lean ====
abbrev S13824x512 : Shape := ⟨2, ![13824, 512]⟩
abbrev S13824x4 : Shape := ⟨2, ![13824, 4]⟩
abbrev S13824x5376 : Shape := ⟨2, ![13824, 5376]⟩
abbrev S1x5376 : Shape := ⟨2, ![1, 5376]⟩
abbrev S512x5376 : Shape := ⟨2, ![512, 5376]⟩
abbrev S4x42 : Shape := ⟨2, ![4, 42]⟩
abbrev S13824x4x128 : Shape := ⟨3, ![13824, 4, 128]⟩
abbrev S13824x4x1 : Shape := ⟨3, ![13824, 4, 1]⟩
abbrev S4x128x42x128 : Shape := ⟨4, ![4, 128, 42, 128]⟩
abbrev S4x1x42x1 : Shape := ⟨4, ![4, 1, 42, 1]⟩
abbrev S13824 : Shape := ⟨1, ![13824]⟩
abbrev S13824x1 : Shape := ⟨2, ![13824, 1]⟩

abbrev nBuf : Space → Nat
  | .hbm => 7
  | .vmem => 7
  | .smem => 0
  | _ => 0

abbrev bufTy : (tb : Table) → Fin (tcTables nBuf tb) → BufTy
  | .hbm, ⟨0, _⟩ => ⟨S13824x512, .fp8e4m3⟩
  | .hbm, ⟨1, _⟩ => ⟨S13824x4, .f32⟩
  | .hbm, ⟨2, _⟩ => ⟨S13824x5376, .bf16⟩
  | .hbm, ⟨3, _⟩ => ⟨S1x5376, .f32⟩
  | .hbm, ⟨4, _⟩ => ⟨S512x5376, .fp8e4m3⟩
  | .hbm, ⟨5, _⟩ => ⟨S4x42, .f32⟩
  | .hbm, ⟨6, _⟩ => ⟨S13824x5376, .bf16⟩
  | .local _ .vmem, ⟨0, _⟩ => ⟨S13824x512, .fp8e4m3⟩
  | .local _ .vmem, ⟨1, _⟩ => ⟨S13824x4, .f32⟩
  | .local _ .vmem, ⟨2, _⟩ => ⟨S13824x5376, .bf16⟩
  | .local _ .vmem, ⟨3, _⟩ => ⟨S1x5376, .f32⟩
  | .local _ .vmem, ⟨4, _⟩ => ⟨S512x5376, .fp8e4m3⟩
  | .local _ .vmem, ⟨5, _⟩ => ⟨S4x42, .f32⟩
  | .local _ .vmem, ⟨6, _⟩ => ⟨S13824x5376, .bf16⟩
  | _, _ => ⟨S13824x512, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S13824x512 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S13824x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S13824x5376 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x5376 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x5376 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x42 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S13824x5376 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Project.lean ====
abbrev S13824x5376 : Shape := ⟨2, ![13824, 5376]⟩
abbrev S5376 : Shape := ⟨1, ![5376]⟩
abbrev S5376x1024 : Shape := ⟨2, ![5376, 1024]⟩
abbrev S42x8 : Shape := ⟨2, ![42, 8]⟩
abbrev S128 : Shape := ⟨1, ![128]⟩
abbrev S13824x64 : Shape := ⟨2, ![13824, 64]⟩
abbrev S5376x1 : Shape := ⟨2, ![5376, 1]⟩
abbrev S5376x128 : Shape := ⟨2, ![5376, 128]⟩
abbrev S128x1 : Shape := ⟨2, ![128, 1]⟩
abbrev S128x128 : Shape := ⟨2, ![128, 128]⟩
abbrev S13824x42 : Shape := ⟨2, ![13824, 42]⟩
abbrev S512x13824 : Shape := ⟨2, ![512, 13824]⟩
abbrev S13824x256 : Shape := ⟨2, ![13824, 256]⟩
abbrev S13824x2 : Shape := ⟨2, ![13824, 2]⟩
abbrev S256x13824 : Shape := ⟨2, ![256, 13824]⟩
abbrev S256x5376 : Shape := ⟨2, ![256, 5376]⟩
abbrev S256x64 : Shape := ⟨2, ![256, 64]⟩
abbrev S256x42 : Shape := ⟨2, ![256, 42]⟩
abbrev S512x256 : Shape := ⟨2, ![512, 256]⟩
abbrev S256x256 : Shape := ⟨2, ![256, 256]⟩
abbrev S256x2 : Shape := ⟨2, ![256, 2]⟩
abbrev S1024x5376 : Shape := ⟨2, ![1024, 5376]⟩
abbrev S5376x256 : Shape := ⟨2, ![5376, 256]⟩
abbrev S1024x256 : Shape := ⟨2, ![1024, 256]⟩
abbrev S1x256 : Shape := ⟨2, ![1, 256]⟩
abbrev S48x256 : Shape := ⟨2, ![48, 256]⟩
abbrev S1x1 : Shape := ⟨2, ![1, 1]⟩
abbrev S8x256 : Shape := ⟨2, ![8, 256]⟩
abbrev S128x256 : Shape := ⟨2, ![128, 256]⟩
abbrev S256 : Shape := ⟨1, ![256]⟩
abbrev S256x128 : Shape := ⟨2, ![256, 128]⟩
abbrev S64x256 : Shape := ⟨2, ![64, 256]⟩
abbrev S256x8 : Shape := ⟨2, ![256, 8]⟩
abbrev S256x1 : Shape := ⟨2, ![256, 1]⟩
abbrev S256x48 : Shape := ⟨2, ![256, 48]⟩

abbrev nBuf : Space → Nat
  | .hbm => 22
  | .vmem => 31
  | .smem => 1
  | _ => 0

abbrev bufTy : (tb : Table) → Fin (tcTables nBuf tb) → BufTy
  | .hbm, ⟨0, _⟩ => ⟨S13824x5376, .bf16⟩
  | .hbm, ⟨1, _⟩ => ⟨S5376, .f32⟩
  | .hbm, ⟨2, _⟩ => ⟨S5376x1024, .fp8e4m3⟩
  | .hbm, ⟨3, _⟩ => ⟨S42x8, .f32⟩
  | .hbm, ⟨4, _⟩ => ⟨S128, .f32⟩
  | .hbm, ⟨5, _⟩ => ⟨S128, .f32⟩
  | .hbm, ⟨6, _⟩ => ⟨S13824x64, .f32⟩
  | .hbm, ⟨7, _⟩ => ⟨S13824x64, .f32⟩
  | .hbm, ⟨8, _⟩ => ⟨S5376x1, .f32⟩
  | .hbm, ⟨9, _⟩ => ⟨S5376x128, .f32⟩
  | .hbm, ⟨10, _⟩ => ⟨S128x1, .f32⟩
  | .hbm, ⟨11, _⟩ => ⟨S128x128, .f32⟩
  | .hbm, ⟨12, _⟩ => ⟨S128x1, .f32⟩
  | .hbm, ⟨13, _⟩ => ⟨S128x128, .f32⟩
  | .hbm, ⟨14, _⟩ => ⟨S13824x5376, .fp8e4m3⟩
  | .hbm, ⟨15, _⟩ => ⟨S13824x42, .f32⟩
  | .hbm, ⟨16, _⟩ => ⟨S512x13824, .bf16⟩
  | .hbm, ⟨17, _⟩ => ⟨S13824x256, .fp8e4m3⟩
  | .hbm, ⟨18, _⟩ => ⟨S13824x2, .f32⟩
  | .hbm, ⟨19, _⟩ => ⟨S13824x256, .fp8e4m3⟩
  | .hbm, ⟨20, _⟩ => ⟨S256x13824, .fp8e4m3⟩
  | .hbm, ⟨21, _⟩ => ⟨S13824x2, .f32⟩
  | .local _ .vmem, ⟨0, _⟩ => ⟨S256x5376, .bf16⟩
  | .local _ .vmem, ⟨1, _⟩ => ⟨S256x5376, .bf16⟩
  | .local _ .vmem, ⟨2, _⟩ => ⟨S5376x128, .f32⟩
  | .local _ .vmem, ⟨3, _⟩ => ⟨S5376x1024, .fp8e4m3⟩
  | .local _ .vmem, ⟨4, _⟩ => ⟨S128x128, .f32⟩
  | .local _ .vmem, ⟨5, _⟩ => ⟨S128x128, .f32⟩
  | .local _ .vmem, ⟨6, _⟩ => ⟨S256x64, .f32⟩
  | .local _ .vmem, ⟨7, _⟩ => ⟨S256x64, .f32⟩
  | .local _ .vmem, ⟨8, _⟩ => ⟨S256x64, .f32⟩
  | .local _ .vmem, ⟨9, _⟩ => ⟨S256x64, .f32⟩
  | .local _ .vmem, ⟨10, _⟩ => ⟨S256x5376, .fp8e4m3⟩
  | .local _ .vmem, ⟨11, _⟩ => ⟨S256x5376, .fp8e4m3⟩
  | .local _ .vmem, ⟨12, _⟩ => ⟨S256x42, .f32⟩
  | .local _ .vmem, ⟨13, _⟩ => ⟨S256x42, .f32⟩
  | .local _ .vmem, ⟨14, _⟩ => ⟨S512x256, .bf16⟩
  | .local _ .vmem, ⟨15, _⟩ => ⟨S512x256, .bf16⟩
  | .local _ .vmem, ⟨16, _⟩ => ⟨S256x256, .fp8e4m3⟩
  | .local _ .vmem, ⟨17, _⟩ => ⟨S256x256, .fp8e4m3⟩
  | .local _ .vmem, ⟨18, _⟩ => ⟨S256x2, .f32⟩
  | .local _ .vmem, ⟨19, _⟩ => ⟨S256x2, .f32⟩
  | .local _ .vmem, ⟨20, _⟩ => ⟨S256x256, .fp8e4m3⟩
  | .local _ .vmem, ⟨21, _⟩ => ⟨S256x256, .fp8e4m3⟩
  | .local _ .vmem, ⟨22, _⟩ => ⟨S256x256, .fp8e4m3⟩
  | .local _ .vmem, ⟨23, _⟩ => ⟨S256x256, .fp8e4m3⟩
  | .local _ .vmem, ⟨24, _⟩ => ⟨S256x2, .f32⟩
  | .local _ .vmem, ⟨25, _⟩ => ⟨S256x2, .f32⟩
  | .local _ .vmem, ⟨26, _⟩ => ⟨S1024x5376, .bf16⟩
  | .local _ .vmem, ⟨27, _⟩ => ⟨S5376x256, .bf16⟩
  | .local _ .vmem, ⟨28, _⟩ => ⟨S1024x256, .f32⟩
  | .local _ .vmem, ⟨29, _⟩ => ⟨S1x256, .f32⟩
  | .local _ .vmem, ⟨30, _⟩ => ⟨S48x256, .f32⟩
  | .local _ .smem, ⟨0, _⟩ => ⟨S42x8, .f32⟩
  | _, _ => ⟨S13824x5376, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .smem, ⟨0, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev main_v6_4 : Ref sig .tc := ⟨.hbm, 18, rfl⟩
abbrev main_v6_5 : Ref sig .tc := ⟨.hbm, 19, rfl⟩
abbrev main_v6_6 : Ref sig .tc := ⟨.hbm, 20, rfl⟩
abbrev main_v6_7 : Ref sig .tc := ⟨.hbm, 21, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_scratch4 : Ref sig .tc := ⟨.vmem, 30, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨1, ![56], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_5 : BitVec 32 := 0#32
  let c42_i32 : BitVec 32 := 42#32
  let v11 : BitVec 32 := Scalar.addi c0_i32_5 c42_i32
  let c1_i32 : BitVec 32 := 1#32
  ⟨c0_i32_5, v11, c1_i32⟩
def k0_mult1 (k0_t1 : Fin k0_t1_loop.trips) : BitVec 32 :=
  let c0_i32_5 : BitVec 32 := 0#32
  let c1_i32 : BitVec 32 := 1#32
  let arg22 : BitVec 32 := Scf.iv c0_i32_5 c1_i32 k0_t1
  let c128_i32 : BitVec 32 := 128#32
  let v1525 : BitVec 32 := Scalar.muli arg22 c128_i32
  v1525
def k0_off1 (k0_t1 : Fin k0_t1_loop.trips) : Fin 2 → Nat :=
  let c0_i32_5 : BitVec 32 := 0#32
  let c1_i32 : BitVec 32 := 1#32
  let arg22 : BitVec 32 := Scf.iv c0_i32_5 c1_i32 k0_t1
  let c128_i32 : BitVec 32 := 128#32
  let v1525 : BitVec 32 := Scalar.muli arg22 c128_i32
  let v1526 : BitVec 32 := v1525
  let v1527 : Index := Scalar.indexCast v1526
  let c0_80 : Index := 0#32
  ![v1527.toNat, 0]
def k0_off2 (k0_t1 : Fin k0_t1_loop.trips) : Fin 2 → Nat :=
  let c0_i32_5 : BitVec 32 := 0#32
  let c1_i32 : BitVec 32 := 1#32
  let arg22 : BitVec 32 := Scf.iv c0_i32_5 c1_i32 k0_t1
  let v1530 : Index := Scalar.indexCast arg22
  let c0_81 : Index := 0#32
  ![v1530.toNat, 0]
def k0_off3 (k0_t1 : Fin k0_t1_loop.trips) : Fin 2 → Nat :=
  let c0_82 : Index := 0#32
  let c0_i32_5 : BitVec 32 := 0#32
  let c1_i32 : BitVec 32 := 1#32
  let arg22 : BitVec 32 := Scf.iv c0_i32_5 c1_i32 k0_t1
  let c128_i32 : BitVec 32 := 128#32
  let v1525 : BitVec 32 := Scalar.muli arg22 c128_i32
  let v1526 : BitVec 32 := v1525
  let v1536 : Index := Scalar.indexCast v1526
  ![0, v1536.toNat]
def k0_off4 (k0_t1 : Fin k0_t1_loop.trips) : Fin 2 → Nat :=
  let c0_i32_5 : BitVec 32 := 0#32
  let c1_i32 : BitVec 32 := 1#32
  let arg22 : BitVec 32 := Scf.iv c0_i32_5 c1_i32 k0_t1
  let c128_i32 : BitVec 32 := 128#32
  let v1525 : BitVec 32 := Scalar.muli arg22 c128_i32
  let v1526 : BitVec 32 := v1525
  let v1540 : Index := Scalar.indexCast v1526
  let c128 : Index := 128#32
  ![v1540.toNat, 128]
def k0_off5 (k0_t1 : Fin k0_t1_loop.trips) : Fin 2 → Nat :=
  let c0_i32_5 : BitVec 32 := 0#32
  let c1_i32 : BitVec 32 := 1#32
  let arg22 : BitVec 32 := Scf.iv c0_i32_5 c1_i32 k0_t1
  let v1543 : Index := Scalar.indexCast arg22
  let c1 : Index := 1#32
  ![v1543.toNat, 1]
def k0_off6 (k0_t1 : Fin k0_t1_loop.trips) : Fin 2 → Nat :=
  let c128_83 : Index := 128#32
  let c0_i32_5 : BitVec 32 := 0#32
  let c1_i32 : BitVec 32 := 1#32
  let arg22 : BitVec 32 := Scf.iv c0_i32_5 c1_i32 k0_t1
  let c128_i32 : BitVec 32 := 128#32
  let v1525 : BitVec 32 := Scalar.muli arg22 c128_i32
  let v1526 : BitVec 32 := v1525
  let v1549 : Index := Scalar.indexCast v1526
  ![128, v1549.toNat]
def k0_off7 (k0_t1 : Fin k0_t1_loop.trips) : Fin 2 → Nat :=
  let c0_i32_5 : BitVec 32 := 0#32
  let c1_i32 : BitVec 32 := 1#32
  let arg22 : BitVec 32 := Scf.iv c0_i32_5 c1_i32 k0_t1
  let c128_i32 : BitVec 32 := 128#32
  let v1525 : BitVec 32 := Scalar.muli arg22 c128_i32
  let v1526 : BitVec 32 := v1525
  let v1553 : Index := Scalar.indexCast v1526
  let c256_84 : Index := 256#32
  ![v1553.toNat, 256]
def k0_off8 (k0_t1 : Fin k0_t1_loop.trips) : Fin 2 → Nat :=
  let c0_i32_5 : BitVec 32 := 0#32
  let c1_i32 : BitVec 32 := 1#32
  let arg22 : BitVec 32 := Scf.iv c0_i32_5 c1_i32 k0_t1
  let v1556 : Index := Scalar.indexCast arg22
  let c2 : Index := 2#32
  ![v1556.toNat, 2]
def k0_off9 (k0_t1 : Fin k0_t1_loop.trips) : Fin 2 → Nat :=
  let c256_85 : Index := 256#32
  let c0_i32_5 : BitVec 32 := 0#32
  let c1_i32 : BitVec 32 := 1#32
  let arg22 : BitVec 32 := Scf.iv c0_i32_5 c1_i32 k0_t1
  let c128_i32 : BitVec 32 := 128#32
  let v1525 : BitVec 32 := Scalar.muli arg22 c128_i32
  let v1526 : BitVec 32 := v1525
  let v1562 : Index := Scalar.indexCast v1526
  ![256, v1562.toNat]
def k0_off10 (k0_t1 : Fin k0_t1_loop.trips) : Fin 2 → Nat :=
  let c0_i32_5 : BitVec 32 := 0#32
  let c1_i32 : BitVec 32 := 1#32
  let arg22 : BitVec 32 := Scf.iv c0_i32_5 c1_i32 k0_t1
  let c128_i32 : BitVec 32 := 128#32
  let v1525 : BitVec 32 := Scalar.muli arg22 c128_i32
  let v1526 : BitVec 32 := v1525
  let v1566 : Index := Scalar.indexCast v1526
  let c384 : Index := 384#32
  ![v1566.toNat, 384]
def k0_off11 (k0_t1 : Fin k0_t1_loop.trips) : Fin 2 → Nat :=
  let c0_i32_5 : BitVec 32 := 0#32
  let c1_i32 : BitVec 32 := 1#32
  let arg22 : BitVec 32 := Scf.iv c0_i32_5 c1_i32 k0_t1
  let v1569 : Index := Scalar.indexCast arg22
  let c3 : Index := 3#32
  ![v1569.toNat, 3]
def k0_off12 (k0_t1 : Fin k0_t1_loop.trips) : Fin 2 → Nat :=
  let c384_86 : Index := 384#32
  let c0_i32_5 : BitVec 32 := 0#32
  let c1_i32 : BitVec 32 := 1#32
  let arg22 : BitVec 32 := Scf.iv c0_i32_5 c1_i32 k0_t1
  let c128_i32 : BitVec 32 := 128#32
  let v1525 : BitVec 32 := Scalar.muli arg22 c128_i32
  let v1526 : BitVec 32 := v1525
  let v1575 : Index := Scalar.indexCast v1526
  ![384, v1575.toNat]
def k0_off13 (k0_t1 : Fin k0_t1_loop.trips) : Fin 2 → Nat :=
  let c0_i32_5 : BitVec 32 := 0#32
  let c1_i32 : BitVec 32 := 1#32
  let arg22 : BitVec 32 := Scf.iv c0_i32_5 c1_i32 k0_t1
  let c128_i32 : BitVec 32 := 128#32
  let v1525 : BitVec 32 := Scalar.muli arg22 c128_i32
  let v1526 : BitVec 32 := v1525
  let v1579 : Index := Scalar.indexCast v1526
  let c512_87 : Index := 512#32
  ![v1579.toNat, 512]
def k0_off14 (k0_t1 : Fin k0_t1_loop.trips) : Fin 2 → Nat :=
  let c0_i32_5 : BitVec 32 := 0#32
  let c1_i32 : BitVec 32 := 1#32
  let arg22 : BitVec 32 := Scf.iv c0_i32_5 c1_i32 k0_t1
  let v1582 : Index := Scalar.indexCast arg22
  let c4 : Index := 4#32
  ![v1582.toNat, 4]
def k0_off15 (k0_t1 : Fin k0_t1_loop.trips) : Fin 2 → Nat :=
  let c512_88 : Index := 512#32
  let c0_i32_5 : BitVec 32 := 0#32
  let c1_i32 : BitVec 32 := 1#32
  let arg22 : BitVec 32 := Scf.iv c0_i32_5 c1_i32 k0_t1
  let c128_i32 : BitVec 32 := 128#32
  let v1525 : BitVec 32 := Scalar.muli arg22 c128_i32
  let v1526 : BitVec 32 := v1525
  let v1588 : Index := Scalar.indexCast v1526
  ![512, v1588.toNat]
def k0_off16 (k0_t1 : Fin k0_t1_loop.trips) : Fin 2 → Nat :=
  let c0_i32_5 : BitVec 32 := 0#32
  let c1_i32 : BitVec 32 := 1#32
  let arg22 : BitVec 32 := Scf.iv c0_i32_5 c1_i32 k0_t1
  let c128_i32 : BitVec 32 := 128#32
  let v1525 : BitVec 32 := Scalar.muli arg22 c128_i32
  let v1526 : BitVec 32 := v1525
  let v1592 : Index := Scalar.indexCast v1526
  let c640 : Index := 640#32
  ![v1592.toNat, 640]
def k0_off17 (k0_t1 : Fin k0_t1_loop.trips) : Fin 2 → Nat :=
  let c0_i32_5 : BitVec 32 := 0#32
  let c1_i32 : BitVec 32 := 1#32
  let arg22 : BitVec 32 := Scf.iv c0_i32_5 c1_i32 k0_t1
  let v1595 : Index := Scalar.indexCast arg22
  let c5 : Index := 5#32
  ![v1595.toNat, 5]
def k0_off18 (k0_t1 : Fin k0_t1_loop.trips) : Fin 2 → Nat :=
  let c640_89 : Index := 640#32
  let c0_i32_5 : BitVec 32 := 0#32
  let c1_i32 : BitVec 32 := 1#32
  let arg22 : BitVec 32 := Scf.iv c0_i32_5 c1_i32 k0_t1
  let c128_i32 : BitVec 32 := 128#32
  let v1525 : BitVec 32 := Scalar.muli arg22 c128_i32
  let v1526 : BitVec 32 := v1525
  let v1601 : Index := Scalar.indexCast v1526
  ![640, v1601.toNat]
def k0_off19 (k0_t1 : Fin k0_t1_loop.trips) : Fin 2 → Nat :=
  let c0_i32_5 : BitVec 32 := 0#32
  let c1_i32 : BitVec 32 := 1#32
  let arg22 : BitVec 32 := Scf.iv c0_i32_5 c1_i32 k0_t1
  let c128_i32 : BitVec 32 := 128#32
  let v1525 : BitVec 32 := Scalar.muli arg22 c128_i32
  let v1526 : BitVec 32 := v1525
  let v1605 : Index := Scalar.indexCast v1526
  let c768_90 : Index := 768#32
  ![v1605.toNat, 768]
def k0_off20 (k0_t1 : Fin k0_t1_loop.trips) : Fin 2 → Nat :=
  let c0_i32_5 : BitVec 32 := 0#32
  let c1_i32 : BitVec 32 := 1#32
  let arg22 : BitVec 32 := Scf.iv c0_i32_5 c1_i32 k0_t1
  let v1608 : Index := Scalar.indexCast arg22
  let c6 : Index := 6#32
  ![v1608.toNat, 6]
def k0_off21 (k0_t1 : Fin k0_t1_loop.trips) : Fin 2 → Nat :=
  let c768_91 : Index := 768#32
  let c0_i32_5 : BitVec 32 := 0#32
  let c1_i32 : BitVec 32 := 1#32
  let arg22 : BitVec 32 := Scf.iv c0_i32_5 c1_i32 k0_t1
  let c128_i32 : BitVec 32 := 128#32
  let v1525 : BitVec 32 := Scalar.muli arg22 c128_i32
  let v1526 : BitVec 32 := v1525
  let v1614 : Index := Scalar.indexCast v1526
  ![768, v1614.toNat]
def k0_off22 (k0_t1 : Fin k0_t1_loop.trips) : Fin 2 → Nat :=
  let c0_i32_5 : BitVec 32 := 0#32
  let c1_i32 : BitVec 32 := 1#32
  let arg22 : BitVec 32 := Scf.iv c0_i32_5 c1_i32 k0_t1
  let c128_i32 : BitVec 32 := 128#32
  let v1525 : BitVec 32 := Scalar.muli arg22 c128_i32
  let v1526 : BitVec 32 := v1525
  let v1618 : Index := Scalar.indexCast v1526
  let c896 : Index := 896#32
  ![v1618.toNat, 896]
def k0_off23 (k0_t1 : Fin k0_t1_loop.trips) : Fin 2 → Nat :=
  let c0_i32_5 : BitVec 32 := 0#32
  let c1_i32 : BitVec 32 := 1#32
  let arg22 : BitVec 32 := Scf.iv c0_i32_5 c1_i32 k0_t1
  let v1621 : Index := Scalar.indexCast arg22
  let c7 : Index := 7#32
  ![v1621.toNat, 7]
def k0_off24 (k0_t1 : Fin k0_t1_loop.trips) : Fin 2 → Nat :=
  let c896_92 : Index := 896#32
  let c0_i32_5 : BitVec 32 := 0#32
  let c1_i32 : BitVec 32 := 1#32
  let arg22 : BitVec 32 := Scf.iv c0_i32_5 c1_i32 k0_t1
  let c128_i32 : BitVec 32 := 128#32
  let v1525 : BitVec 32 := Scalar.muli arg22 c128_i32
  let v1526 : BitVec 32 := v1525
  let v1627 : Index := Scalar.indexCast v1526
  ![896, v1627.toNat]
def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let c54_i32 : BitVec 32 := 54#32
  let v4 : BitVec 1 := Scalar.cmpi .sle arg0 c54_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg0 : BitVec 32 := BitVec.ofNat 32 (i 0).val
  let c54_i32_3 : BitVec 32 := 54#32
  let v8 : BitVec 1 := Scalar.cmpi .sgt arg0 c54_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c53_i32 : BitVec 32 := 53#32
  let v1 : BitVec 32 := Scalar.maxsi c0_i32_0 v0
  let v2 : BitVec 32 := Scalar.minsi c53_i32 v1
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let c53_i32 : BitVec 32 := 53#32
  let v1 : BitVec 32 := Scalar.maxsi c0_i32 v0
  let v2 : BitVec 32 := Scalar.minsi c53_i32 v1
  let c0_i32_0 : BitVec 32 := 0#32
  let c0_i32_1 : BitVec 32 := 0#32
  ![v2.toNat, c0_i32_0.toNat]

def cc0_transform_7 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let c53_i32 : BitVec 32 := 53#32
  let v1 : BitVec 32 := Scalar.maxsi c0_i32 v0
  let v2 : BitVec 32 := Scalar.minsi c53_i32 v1
  let c0_i32_0 : BitVec 32 := 0#32
  let c0_i32_1 : BitVec 32 := 0#32
  ![v2.toNat, c0_i32_0.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c53_i32 : BitVec 32 := 53#32
  let v1 : BitVec 32 := Scalar.maxsi c0_i32 v0
  let v2 : BitVec 32 := Scalar.minsi c53_i32 v1
  let c0_i32_0 : BitVec 32 := 0#32
  let c0_i32_1 : BitVec 32 := 0#32
  ![v2.toNat, c0_i32_0.toNat]

def cc0_transform_9 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c53_i32 : BitVec 32 := 53#32
  let v1 : BitVec 32 := Scalar.maxsi c0_i32 v0
  let v2 : BitVec 32 := Scalar.minsi c53_i32 v1
  let c0_i32_0 : BitVec 32 := 0#32
  let c0_i32_1 : BitVec 32 := 0#32
  ![v2.toNat, c0_i32_0.toNat]

def cc0_transform_10 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let c53_i32 : BitVec 32 := 53#32
  let v1 : BitVec 32 := Scalar.maxsi c0_i32 v0
  let v2 : BitVec 32 := Scalar.minsi c53_i32 v1
  let c0_i32_0 : BitVec 32 := 0#32
  let c0_i32_1 : BitVec 32 := 0#32
  ![c0_i32_0.toNat, v2.toNat]

def cc0_transform_11 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let c53_i32 : BitVec 32 := 53#32
  let v1 : BitVec 32 := Scalar.maxsi c0_i32 v0
  let v2 : BitVec 32 := Scalar.minsi c53_i32 v1
  let c0_i32_0 : BitVec 32 := 0#32
  let c0_i32_1 : BitVec 32 := 0#32
  ![v2.toNat, c0_i32_0.toNat]

def cc0_transform_12 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let c53_i32 : BitVec 32 := 53#32
  let v1 : BitVec 32 := Scalar.maxsi c0_i32 v0
  let v2 : BitVec 32 := Scalar.minsi c53_i32 v1
  let c0_i32_0 : BitVec 32 := 0#32
  let c0_i32_1 : BitVec 32 := 0#32
  ![v2.toNat, c0_i32_0.toNat]

def cc0_transform_13 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let c53_i32 : BitVec 32 := 53#32
  let v1 : BitVec 32 := Scalar.maxsi c0_i32 v0
  let v2 : BitVec 32 := Scalar.minsi c53_i32 v1
  let c0_i32_0 : BitVec 32 := 0#32
  let c0_i32_1 : BitVec 32 := 0#32
  ![v2.toNat, c0_i32_0.toNat]

def cc0_transform_14 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let c53_i32 : BitVec 32 := 53#32
  let v1 : BitVec 32 := Scalar.maxsi c0_i32 v0
  let v2 : BitVec 32 := Scalar.minsi c53_i32 v1
  let c0_i32_0 : BitVec 32 := 0#32
  let c0_i32_1 : BitVec 32 := 0#32
  ![c0_i32_0.toNat, v2.toNat]

def cc0_transform_15 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let c53_i32 : BitVec 32 := 53#32
  let v1 : BitVec 32 := Scalar.maxsi c0_i32 v0
  let v2 : BitVec 32 := Scalar.minsi c53_i32 v1
  let c0_i32_0 : BitVec 32 := 0#32
  let c0_i32_1 : BitVec 32 := 0#32
  ![v2.toNat, c0_i32_0.toNat]

abbrev stage0_0 : Fin 1 → Memref sig .tc .smem S42x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x5376 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5376x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5376x1024 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x5376 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x42 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x256 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x256 .fp8e4m3 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x256 .fp8e4m3 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x2 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ProjectIdeal.lean ====
variable {F : FTy → Type} [FloatOps F] [Named F]
def κ : String → Option EReal := fun
  | "inv_448" => some ((448⁻¹ : ℝ) : EReal)
  | "inv_width" => some ((5376⁻¹ : ℝ) : EReal)
  | _ => none
-- ==== HeadsIdeal.lean ====
abbrev S13824x5376 : Shape := ⟨2, ![13824, 5376]⟩
abbrev S5376 : Shape := ⟨1, ![5376]⟩
abbrev S5376x1024 : Shape := ⟨2, ![5376, 1024]⟩
abbrev S42x8 : Shape := ⟨2, ![42, 8]⟩
abbrev S128 : Shape := ⟨1, ![128]⟩
abbrev S13824x64 : Shape := ⟨2, ![13824, 64]⟩
abbrev S512x13824 : Shape := ⟨2, ![512, 13824]⟩
abbrev S13824x256 : Shape := ⟨2, ![13824, 256]⟩
abbrev S13824x2 : Shape := ⟨2, ![13824, 2]⟩
abbrev S256x13824 : Shape := ⟨2, ![256, 13824]⟩
abbrev S13824 : Shape := ⟨1, ![13824]⟩
abbrev S13824x1 : Shape := ⟨2, ![13824, 1]⟩
abbrev S1x5376 : Shape := ⟨2, ![1, 5376]⟩
abbrev S13824x42x128 : Shape := ⟨3, ![13824, 42, 128]⟩
abbrev S13824x42 : Shape := ⟨2, ![13824, 42]⟩
abbrev S13824x42x1 : Shape := ⟨3, ![13824, 42, 1]⟩
abbrev S42x128x8x128 : Shape := ⟨4, ![42, 128, 8, 128]⟩
abbrev S42x1x8x1 : Shape := ⟨4, ![42, 1, 8, 1]⟩
abbrev S13824x1024 : Shape := ⟨2, ![13824, 1024]⟩
abbrev S13824x512 : Shape := ⟨2, ![13824, 512]⟩
abbrev S13824x4x128 : Shape := ⟨3, ![13824, 4, 128]⟩
abbrev S13824x2x128 : Shape := ⟨3, ![13824, 2, 128]⟩
abbrev S13824x4 : Shape := ⟨2, ![13824, 4]⟩
abbrev S13824x4x1 : Shape := ⟨3, ![13824, 4, 1]⟩
abbrev S1x1x128 : Shape := ⟨3, ![1, 1, 128]⟩
abbrev S13824x4x64 : Shape := ⟨3, ![13824, 4, 64]⟩
abbrev S13824x1x64 : Shape := ⟨3, ![13824, 1, 64]⟩
abbrev S13824x2x1 : Shape := ⟨3, ![13824, 2, 1]⟩
abbrev S13824x2x64 : Shape := ⟨3, ![13824, 2, 64]⟩

abbrev nBuf : Space → Nat
  | .hbm => 14
  | .vmem => 14
  | .smem => 0
  | _ => 0

abbrev bufTy : (tb : Table) → Fin (tcTables nBuf tb) → BufTy
  | .hbm, ⟨0, _⟩ => ⟨S13824x5376, .bf16⟩
  | .hbm, ⟨1, _⟩ => ⟨S5376, .f32⟩
  | .hbm, ⟨2, _⟩ => ⟨S5376x1024, .fp8e4m3⟩
  | .hbm, ⟨3, _⟩ => ⟨S42x8, .f32⟩
  | .hbm, ⟨4, _⟩ => ⟨S128, .f32⟩
  | .hbm, ⟨5, _⟩ => ⟨S128, .f32⟩
  | .hbm, ⟨6, _⟩ => ⟨S13824x64, .f32⟩
  | .hbm, ⟨7, _⟩ => ⟨S13824x64, .f32⟩
  | .hbm, ⟨8, _⟩ => ⟨S512x13824, .bf16⟩
  | .hbm, ⟨9, _⟩ => ⟨S13824x256, .fp8e4m3⟩
  | .hbm, ⟨10, _⟩ => ⟨S13824x2, .f32⟩
  | .hbm, ⟨11, _⟩ => ⟨S13824x256, .fp8e4m3⟩
  | .hbm, ⟨12, _⟩ => ⟨S256x13824, .fp8e4m3⟩
  | .hbm, ⟨13, _⟩ => ⟨S13824x2, .f32⟩
  | .local _ .vmem, ⟨0, _⟩ => ⟨S13824x5376, .bf16⟩
  | .local _ .vmem, ⟨1, _⟩ => ⟨S5376, .f32⟩
  | .local _ .vmem, ⟨2, _⟩ => ⟨S5376x1024, .fp8e4m3⟩
  | .local _ .vmem, ⟨3, _⟩ => ⟨S42x8, .f32⟩
  | .local _ .vmem, ⟨4, _⟩ => ⟨S128, .f32⟩
  | .local _ .vmem, ⟨5, _⟩ => ⟨S128, .f32⟩
  | .local _ .vmem, ⟨6, _⟩ => ⟨S13824x64, .f32⟩
  | .local _ .vmem, ⟨7, _⟩ => ⟨S13824x64, .f32⟩
  | .local _ .vmem, ⟨8, _⟩ => ⟨S512x13824, .bf16⟩
  | .local _ .vmem, ⟨9, _⟩ => ⟨S13824x256, .fp8e4m3⟩
  | .local _ .vmem, ⟨10, _⟩ => ⟨S13824x2, .f32⟩
  | .local _ .vmem, ⟨11, _⟩ => ⟨S13824x256, .fp8e4m3⟩
  | .local _ .vmem, ⟨12, _⟩ => ⟨S256x13824, .fp8e4m3⟩
  | .local _ .vmem, ⟨13, _⟩ => ⟨S13824x2, .f32⟩
  | _, _ => ⟨S13824x5376, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S13824x5376 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5376 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5376x1024 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S42x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S13824x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S13824x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S512x13824 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S13824x256 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S13824x2 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S13824x256 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S256x13824 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S13824x2 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Proof.Widen.lean ====
/- The weight that the first step widens into a buffer: every tile is code times scale, and so is what later steps load. -/
module
public import proofs.«01_k».proof.Proof.Gen.OutputIdeal.Value
public import Idealize.ShloMosaic.Lib.Pointwise
public import Idealize.ShloMosaic.Lib.WholeRead
public import Idealize.ShloMosaic.Lib.Tactic.RunNames
@[expose] public section
set_option maxRecDepth 16384
noncomputable section
namespace Cert.Proof.Output
open Cert.OutputIdeal Cert.OutputIdeal.Gen Cert.OutputIdeal.Value Idealize.ShloMosaic Idealize.ShloMosaic.TcCoe Idealize.SL.Sem

/-- The widened weight: code times the scale of its 128 by 128 block. -/
def Wide (x5 : Vec Ideal S512x5376 .fp8e4m3) (x0 : Vec Ideal S4x42 .f32) : Vec Ideal S512x5376 .bf16 :=
  fun j => x5 j * x0 (ix2 ⟨(j 0).val / 128, by have := (j 0).isLt; change _ < 512 at this; show _ < 4; omega⟩ ⟨(j 1).val / 128, by have := (j 1).isLt; change _ < 5376 at this; show _ < 42; omega⟩)

/-- One stored tile is the matching tile of the widened weight. -/
theorem wide_piece (arg1 : Memref sig .tc .smem S4x42 .f32) (harg1 : arg1.IsWhole) (arg6 : Memref sig .tc .vmem S512x5376 .fp8e4m3) (harg6 : arg6.IsWhole)
  (x0 : Vec Ideal S4x42 .f32) (x5 : Vec Ideal S512x5376 .fp8e4m3) {off : Fin 2 → ℕ} {soff : Fin 2 → ℕ} (hoff : ∀ a, off a = 128 * soff a)
  (inb) (inb') (h1) (x) :
  View.readAt (Elt Ideal) arg6.view (Rect.unit (s := S512x5376) off ![128, 128] inb).toLoadRect (harg6.unread x5) x * View.readAt (Elt Ideal) arg1.view (Rect.unit (s := S4x42) soff ![1, 1] inb').toLoadRect (harg1.unread x0) (Shape.Idx.first h1) = Wide x5 x0 ((Rect.unit (s := S512x5376) off ![128, 128] inb).emb x) := by
  rw [harg6.readAt_unread, harg1.readAt_unread]
  unfold Wide
  congr 1
  congr 1
  funext a
  apply Fin.ext
  have h0 := hoff 0
  have h1' := hoff 1
  have e0 := (x 0).isLt
  have e1 := (x 1).isLt
  have f0 : (Shape.Idx.first h1 0).val = 0 := rfl
  have f1 : (Shape.Idx.first h1 1).val = 0 := rfl
  change (x 0).val < 128 at e0
  change (x 1).val < 128 at e1
  fin_cases a
  · simp
    omega
  · simp
    omega

/-- Every tile of one trip of the loop. -/
theorem trip_pieces (c : Dev nD) (i : grid0.Coords) (arg1 : Memref sig .tc .smem S4x42 .f32) (harg1 : arg1.IsWhole) (arg2 : Memref sig .tc .vmem S256x512 .fp8e4m3) (harg2 : arg2.IsWhole) (arg3 : Memref sig .tc .vmem S256x4 .f32) (harg3 : arg3.IsWhole) (arg4 : Memref sig .tc .vmem S256x5376 .bf16) (harg4 : arg4.IsWhole) (arg5 : Memref sig .tc .vmem S1x5376 .f32) (harg5 : arg5.IsWhole) (arg6 : Memref sig .tc .vmem S512x5376 .fp8e4m3) (harg6 : arg6.IsWhole) (arg7 : Memref sig .tc .vmem S256x5376 .bf16) (harg7 : arg7.IsWhole) (arg8 : Memref sig .tc .vmem S512x5376 .bf16) (harg8 : arg8.IsWhole) (arg9 : Memref sig .tc .vmem S256x5376 .f32) (harg9 : arg9.IsWhole) (k0_h1 : k0_cond1 i = 1#1) (x0 : Vec Ideal S4x42 .f32)
  (x5 : Vec Ideal S512x5376 .fp8e4m3) (k : Fin k0_t1_loop.trips) :
  ∀ p ∈ tripL_k0_t1 (F := Ideal) Variants.none c none i arg1 harg1 arg2 harg2 arg3 harg3 arg4 harg4 arg5 harg5 arg6 harg6 arg7 harg7 arg8 harg8 arg9 harg9 k0_h1 (harg1.unread x0) (harg6.unread x5) k, ∀ x, p.2 x = Wide x5 x0 (p.1.emb x) := by
  unfold tripL_k0_t1 trip_k0_t1
  dsimp only
  simp only [List.forall_mem_cons]
  iterate 42
    refine ⟨?_, ?_⟩
    · intro x
      sl_unfold_run_names
      simp only [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55]
      pointwise
      refine wide_piece arg1 harg1 arg6 harg6 x0 x5 ?_ _ _ _ x
      intro a
      simp only [Gen.k0_off1_eq, Gen.k0_off2_eq, Gen.k0_off3_eq, Gen.k0_off4_eq, Gen.k0_off5_eq, Gen.k0_off6_eq, Gen.k0_off7_eq, Gen.k0_off8_eq, Gen.k0_off9_eq, Gen.k0_off10_eq, Gen.k0_off11_eq, Gen.k0_off12_eq, Gen.k0_off13_eq, Gen.k0_off14_eq, Gen.k0_off15_eq, Gen.k0_off16_eq, Gen.k0_off17_eq, Gen.k0_off18_eq, Gen.k0_off19_eq, Gen.k0_off20_eq, Gen.k0_off21_eq, Gen.k0_off22_eq, Gen.k0_off23_eq, Gen.k0_off24_eq, Gen.k0_off25_eq, Gen.k0_off26_eq, Gen.k0_off27_eq, Gen.k0_off28_eq, Gen.k0_off29_eq, Gen.k0_off30_eq, Gen.k0_off31_eq, Gen.k0_off32_eq, Gen.k0_off33_eq, Gen.k0_off34_eq, Gen.k0_off35_eq, Gen.k0_off36_eq, Gen.k0_off37_eq, Gen.k0_off38_eq, Gen.k0_off39_eq, Gen.k0_off40_eq, Gen.k0_off41_eq, Gen.k0_off42_eq, Gen.k0_off43_eq, Gen.k0_off44_eq, Gen.k0_off45_eq, Gen.k0_off46_eq, Gen.k0_off47_eq, Gen.k0_off48_eq, Gen.k0_off49_eq, Gen.k0_off50_eq, Gen.k0_off51_eq, Gen.k0_off52_eq, Gen.k0_off53_eq, Gen.k0_off54_eq, Gen.k0_off55_eq, Gen.k0_off56_eq, Gen.k0_off57_eq, Gen.k0_off58_eq, Gen.k0_off59_eq, Gen.k0_off60_eq, Gen.k0_off61_eq, Gen.k0_off62_eq, Gen.k0_off63_eq, Gen.k0_off64_eq, Gen.k0_off65_eq, Gen.k0_off66_eq, Gen.k0_off67_eq, Gen.k0_off68_eq, Gen.k0_off69_eq, Gen.k0_off70_eq, Gen.k0_off71_eq, Gen.k0_off72_eq, Gen.k0_off73_eq, Gen.k0_off74_eq, Gen.k0_off75_eq, Gen.k0_off76_eq, Gen.k0_off77_eq, Gen.k0_off78_eq, Gen.k0_off79_eq, Gen.k0_off80_eq, Gen.k0_off81_eq, Gen.k0_off82_eq, Gen.k0_off83_eq, Gen.k0_off84_eq]
      fin_cases a <;> simp
  intro p hp
  cases hp
variable (c : Dev nD) (i : grid0.Coords) (arg1 : Memref sig .tc .smem S4x42 .f32) (harg1 : arg1.IsWhole) (arg2 : Memref sig .tc .vmem S256x512 .fp8e4m3) (harg2 : arg2.IsWhole) (arg3 : Memref sig .tc .vmem S256x4 .f32) (harg3 : arg3.IsWhole) (arg4 : Memref sig .tc .vmem S256x5376 .bf16) (harg4 : arg4.IsWhole) (arg5 : Memref sig .tc .vmem S1x5376 .f32) (harg5 : arg5.IsWhole) (arg6 : Memref sig .tc .vmem S512x5376 .fp8e4m3) (harg6 : arg6.IsWhole) (arg7 : Memref sig .tc .vmem S256x5376 .bf16) (harg7 : arg7.IsWhole) (arg8 : Memref sig .tc .vmem S512x5376 .bf16) (harg8 : arg8.IsWhole) (arg9 : Memref sig .tc .vmem S256x5376 .f32) (harg9 : arg9.IsWhole)
  (x0 : Vec Ideal S4x42 .f32) (x1 : Vec Ideal S256x512 .fp8e4m3) (x2 : Vec Ideal S256x4 .f32) (x3 : Vec Ideal S256x5376 .bf16) (x4 : Vec Ideal S1x5376 .f32) (x5 : Vec Ideal S512x5376 .fp8e4m3) (xs0 : Vec Ideal S512x5376 .bf16)

/-- Every tile of the trips run so far. -/
theorem loop_pieces (hc0 : k0_cond1 i = 1#1) : ∀ n : ℕ, n ≤ k0_t1_loop.trips → ∀ p ∈ pb_k0_t1 (F := Ideal) Variants.none c none i arg1 harg1 arg2 harg2 arg3 harg3 arg4 harg4 arg5 harg5 arg6 harg6 arg7 harg7 arg8 harg8 arg9 harg9 hc0 (harg1.unread x0) (harg6.unread x5) n, ∀ x, p.2 x = Wide x5 x0 (p.1.emb x)
  | 0, _ => by
    intro p hp
    unfold pb_k0_t1 at hp
    cases hp
  | n + 1, h => by
    intro p hp
    have e := pb_k0_t1_succ (F := Ideal) Variants.none c none i arg1 harg1 arg2 harg2 arg3 harg3 arg4 harg4 arg5 harg5 arg6 harg6 arg7 harg7 arg8 harg8 arg9 harg9 hc0 (harg1.unread x0) (harg6.unread x5) ⟨n, h⟩
    dsimp only at e
    rw [e, List.mem_append] at hp
    rcases hp with hp | hp
    · exact trip_pieces c i arg1 harg1 arg2 harg2 arg3 harg3 arg4 harg4 arg5 harg5 arg6 harg6 arg7 harg7 arg8 harg8 arg9 harg9 hc0 x0 x5 ⟨n, h⟩ p hp
    · exact loop_pieces hc0 n (Nat.le_of_succ_le h) p hp

/-- 256 columns of the weight, from column `o`. -/
def chunk (W : Vec Ideal S512x5376 .bf16) (o : ℕ) (ho : o + 256 ≤ 5376) : Vec Ideal S512x256 .bf16 :=
  fun j => W (ix2 (j 0) ⟨o + (j 1).val, by have := (j 1).isLt; change _ < 256 at this; show _ < 5376; omega⟩)

/-- Columns loaded from a weight that is held whole. -/
theorem chunk_of_read (o : ℕ) (ho : o + 256 ≤ 5376) (inb) :
    View.readAt (Elt Ideal) arg8.view (Rect.unit (s := S512x5376) ![0, o] S512x256.size inb).toLoadRect (harg8.unread xs0) = chunk xs0 o ho := by
  funext j
  rw [harg8.readAt_unread]
  unfold chunk
  congr 1
  funext a
  apply Fin.ext
  fin_cases a <;> simp

/-- Columns loaded from the weight just after the loop. -/
theorem chunk_of_cov (hc0 : k0_cond1 i = 1#1) (o : ℕ) (ho : o + 256 ≤ 5376) (inb) :
    arg8.view.readCov (pb_k0_t1 (F := Ideal) Variants.none c none i arg1 harg1 arg2 harg2 arg3 harg3 arg4 harg4 arg5 harg5 arg6 harg6 arg7 harg7 arg8 harg8 arg9 harg9 hc0 (harg1.unread x0) (harg6.unread x5) (Scf.trips k0_t1_loop.lb k0_t1_loop.ub k0_t1_loop.st)) (Rect.unit (s := S512x5376) ![0, o] S512x256.size inb).toLoadRect = chunk (Wide x5 x0) o ho := by
  funext j
  have h := View.read_writes_apply_of_pieces arg8.view arg8.view.junk (Wide x5 x0) (pb_k0_t1 (F := Ideal) Variants.none c none i arg1 harg1 arg2 harg2 arg3 harg3 arg4 harg4 arg5 harg5 arg6 harg6 arg7 harg7 arg8 harg8 arg9 harg9 hc0 (harg1.unread x0) (harg6.unread x5) (Scf.trips k0_t1_loop.lb k0_t1_loop.ub k0_t1_loop.st))
    (loop_pieces c i arg1 harg1 arg2 harg2 arg3 harg3 arg4 harg4 arg5 harg5 arg6 harg6 arg7 harg7 arg8 harg8 arg9 harg9 x0 x5 hc0 _ le_rfl)
    ((Rect.unit (s := S512x5376) ![0, o] S512x256.size inb).toLoadRect.idx j)
    (View.cover_of_tiledL (s := S512x5376) _ S128x128.size (by sl_kernel_rfl) _)
  refine Eq.trans h ?_
  unfold chunk
  congr 1
  funext a
  apply Fin.ext
  fin_cases a <;> simp

/-- What the first step leaves in the weight's buffer. -/
theorem widened (hc0 : cond0_0 i) : sout0_A_0 (F := Ideal) c i arg1 harg1 arg2 harg2 arg3 harg3 arg4 harg4 arg5 harg5 arg6 harg6 arg7 harg7 arg8 harg8 arg9 harg9 hc0 x0 x1 x2 x3 x4 x5 = Wide x5 x0 := by
  funext y
  unfold sout0_A_0
  exact View.read_writes_apply_of_pieces _ _ _ _
    (loop_pieces c i arg1 harg1 arg2 harg2 arg3 harg3 arg4 harg4 arg5 harg5 arg6 harg6 arg7 harg7 arg8 harg8 arg9 harg9 x0 x5 hc0 _ le_rfl) y
    (scover0_A_0 (F := Ideal) c i arg1 harg1 arg2 harg2 arg3 harg3 arg4 harg4 arg5 harg5 arg6 harg6 arg7 harg7 arg8 harg8 arg9 harg9 hc0 x0 x1 x2 x3 x4 x5 y)

end Cert.Proof.Output
end
-- ==== Proof.Rows.lean ====
/- What one step makes of a block of rows, over a weight already widened. -/
module
public import proofs.«01_k».proof.Proof.Widen
@[expose] public section
set_option maxRecDepth 16384
noncomputable section
namespace Cert.Proof.Output
open Cert.OutputIdeal Cert.OutputIdeal.Gen Cert.OutputIdeal.Value Idealize.ShloMosaic Idealize.ShloMosaic.TcCoe Idealize.SL.Sem

variable (c : Dev nD) (i : grid0.Coords) (arg1 : Memref sig .tc .smem S4x42 .f32) (harg1 : arg1.IsWhole) (arg2 : Memref sig .tc .vmem S256x512 .fp8e4m3) (harg2 : arg2.IsWhole) (arg3 : Memref sig .tc .vmem S256x4 .f32) (harg3 : arg3.IsWhole) (arg4 : Memref sig .tc .vmem S256x5376 .bf16) (harg4 : arg4.IsWhole) (arg5 : Memref sig .tc .vmem S1x5376 .f32) (harg5 : arg5.IsWhole) (arg6 : Memref sig .tc .vmem S512x5376 .fp8e4m3) (harg6 : arg6.IsWhole) (arg7 : Memref sig .tc .vmem S256x5376 .bf16) (harg7 : arg7.IsWhole) (arg8 : Memref sig .tc .vmem S512x5376 .bf16) (harg8 : arg8.IsWhole) (arg9 : Memref sig .tc .vmem S256x5376 .f32) (harg9 : arg9.IsWhole)
  (x0 : Vec Ideal S4x42 .f32) (x1 : Vec Ideal S256x512 .fp8e4m3) (x2 : Vec Ideal S256x4 .f32) (x3 : Vec Ideal S256x5376 .bf16) (x4 : Vec Ideal S1x5376 .f32) (x5 : Vec Ideal S512x5376 .fp8e4m3) (xs0 : Vec Ideal S512x5376 .bf16)
/-- The widened attention output of a block: code times the scale of its head. -/
def WideA (x1 : Vec Ideal S256x512 .fp8e4m3) (x2 : Vec Ideal S256x4 .f32) : Vec Ideal S256x512 .bf16 :=
  fun j => x1 j * x2 (ix2 (j 0) ⟨(j 1).val / 128, by have := (j 1).isLt; change _ < 512 at this; show _ < 4; omega⟩)

/-- The projection of row `r` at column `n`. -/
def prj (A : Vec Ideal S256x512 .bf16) (W : Vec Ideal S512x5376 .bf16) (r : Fin 256) (n : ℕ) : EReal :=
  if h : n < 5376 then ∑ k : Fin 512, A (ix2 r k) * W (ix2 k ⟨n, h⟩) else 0

/-- 256 columns of the projection, from column `o`. -/
def prjC (A : Vec Ideal S256x512 .bf16) (W : Vec Ideal S512x5376 .bf16) (o : ℕ) : Vec Ideal S256x256 .f32 :=
  fun j => prj A W (j 0) (o + (j 1).val)

/-- The product of a block of rows with 256 columns. -/
theorem mm_chunk (A : Vec Ideal S256x512 .bf16) (W : Vec Ideal S512x5376 .bf16) (o : ℕ) (ho : o + 256 ≤ 5376) :
    matmul (φ₁ := .bf16) (φ₂ := .bf16) dot_S256x512_S512x256_S256x256_1_0_0_1_n_n none A (chunk W o ho) (constant (F := Ideal) S256x256 .f32 0x00000000#32) = prjC A W o := by
  funext j
  idx_vars j
  unfold prjC prj
  pointwise
  have h : o + j1.val < 5376 := by have := j1.isLt; omega
  simp [h, chunk]

/-- The sum of the squares of a row of the projection. -/
def ssq (A : Vec Ideal S256x512 .bf16) (W : Vec Ideal S512x5376 .bf16) (r : Fin 256) : EReal :=
  ∑ n : Fin 5376, prj A W r n.val * prj A W r n.val

/-- A sum over all columns, lane by lane. -/
theorem regroup (f : ℕ → EReal) : (∑ n : Fin 5376, f n.val) = ∑ x : Fin 128, ∑ q ∈ Finset.range 42, f (128 * q + x.val) := by
  have h := (finProdFinEquiv (m := 42) (n := 128)).sum_comp (fun n => f n.val)
  rw [show (∑ n : Fin 5376, f n.val) = ∑ n : Fin (42 * 128), f n.val from rfl, ← h, Fintype.sum_prod_type, Finset.sum_comm]
  refine Finset.sum_congr rfl fun x _ => ?_
  rw [← Fin.sum_univ_eq_sum_range (fun q => f (128 * q + x.val))]
  refine Finset.sum_congr rfl fun q _ => ?_
  simp [finProdFinEquiv, add_comm]

/-- The four heads joined are the widened block. -/
theorem wideA_loads : k0_pay56 (F := Ideal) (View.readAt (Elt Ideal) arg2.view (Rect.unit (s := S256x512) ![0, 0] S256x128.size inb_S256x512_S256x128_0_0).toLoadRect (harg2.unread x1)) (View.readAt (Elt Ideal) arg3.view (Rect.unit (s := S256x4) ![0, 0] S256x1.size inb_S256x4_S256x1_0_0).toLoadRect (harg3.unread x2)) (View.readAt (Elt Ideal) arg2.view (Rect.unit (s := S256x512) ![0, 128] S256x128.size inb_S256x512_S256x128_0_128).toLoadRect (harg2.unread x1)) (View.readAt (Elt Ideal) arg3.view (Rect.unit (s := S256x4) ![0, 1] S256x1.size inb_S256x4_S256x1_0_1).toLoadRect (harg3.unread x2)) (View.readAt (Elt Ideal) arg2.view (Rect.unit (s := S256x512) ![0, 256] S256x128.size inb_S256x512_S256x128_0_256).toLoadRect (harg2.unread x1)) (View.readAt (Elt Ideal) arg3.view (Rect.unit (s := S256x4) ![0, 2] S256x1.size inb_S256x4_S256x1_0_2).toLoadRect (harg3.unread x2)) (View.readAt (Elt Ideal) arg2.view (Rect.unit (s := S256x512) ![0, 384] S256x128.size inb_S256x512_S256x128_0_384).toLoadRect (harg2.unread x1)) (View.readAt (Elt Ideal) arg3.view (Rect.unit (s := S256x4) ![0, 3] S256x1.size inb_S256x4_S256x1_0_3).toLoadRect (harg3.unread x2)) = WideA x1 x2 := by
  unfold k0_pay56
  funext j
  idx_vars j
  pointwise
  unfold WideA
  have hj : j1.val < 512 := j1.isLt
  split_ifs
  all_goals
    rw [harg2.readAt_unread, harg3.readAt_unread]
    congr 1
    · congr 1
      funext a
      apply Fin.ext
      fin_cases a <;> simp <;> omega
    · congr 1
      funext a
      apply Fin.ext
      fin_cases a <;> simp <;> omega

/-- The whole projection of a block of rows. -/
def prjAll (A : Vec Ideal S256x512 .bf16) (W : Vec Ideal S512x5376 .bf16) : Vec Ideal S256x5376 .f32 := fun j => prj A W (j 0) (j 1).val

/-- A stored tile of the projection is a tile of the whole. -/
theorem prj_emb (A : Vec Ideal S256x512 .bf16) (W : Vec Ideal S512x5376 .bf16) (o : ℕ) (inb) (x) :
    prjC A W o x = prjAll A W ((Rect.unit (s := S256x5376) ![0, o] ![256, 256] inb).emb x) := by
  unfold prjC prjAll
  congr 1
  · apply Fin.ext
    simp
  · simp

/-- One over the root of the mean square of a row, as the kernel takes it. -/
def rstd (A : Vec Ideal S256x512 .bf16) (W : Vec Ideal S512x5376 .bf16) (r : Fin 256) : EReal :=
  Ideal.div 1 (Ideal.sqrt (ssq A W r * ((5376⁻¹ : ℝ) : EReal) + Ideal.ofBits .f32 897988541#32))

/-- The same as a column. -/
def rstdC (A : Vec Ideal S256x512 .bf16) (W : Vec Ideal S512x5376 .bf16) : Vec Ideal S256x1 .f32 := fun j => rstd A W (j 0)

/-- What the kernel stores of one block of rows. -/
def rowsOut (x1 : Vec Ideal S256x512 .fp8e4m3) (x2 : Vec Ideal S256x4 .f32) (x3 : Vec Ideal S256x5376 .bf16) (x4 : Vec Ideal S1x5376 .f32) (W : Vec Ideal S512x5376 .bf16) : Vec Ideal S256x5376 .bf16 :=
  fun j => x3 j + prj (WideA x1 x2) W (j 0) (j 1).val * rstd (WideA x1 x2) W (j 0) * x4 (ix2 0 (j 1))

/-- A stored tile of the result is a tile of the whole. -/
theorem out_piece (o : ℕ) (inb) (inb3) (inb4) (x) :
    View.readAt (Elt Ideal) arg4.view (Rect.unit (s := S256x5376) ![0, o] ![256, 256] inb3).toLoadRect (harg4.unread x3) x + prjC (WideA x1 x2) xs0 o x * rstd (WideA x1 x2) xs0 (x 0) * View.readAt (Elt Ideal) arg5.view (Rect.unit (s := S1x5376) ![0, o] ![1, 256] inb4).toLoadRect (harg5.unread x4) (ix2 0 (x 1))
      = rowsOut x1 x2 x3 x4 xs0 ((Rect.unit (s := S256x5376) ![0, o] ![256, 256] inb).emb x) := by
  rw [prj_emb _ _ _ inb, harg4.readAt_unread, harg5.readAt_unread]
  unfold rowsOut prjAll
  have e0 : ((Rect.unit (s := S256x5376) ![0, o] ![256, 256] inb).emb x 0) = x 0 := by
    apply Fin.ext
    simp
  have e1 : ((Rect.unit (s := S256x5376) ![0, o] ![256, 256] inb).emb x 1).val = o + (x 1).val := by
    simp
  rw [e0]
  congr 2
  congr 1
  funext a
  apply Fin.ext
  fin_cases a <;> simp

end Cert.Proof.Output
end
-- ==== Proof.CaseA.lean ====
/- The first step, which widens the weight and then does a block of rows. -/
module
public import proofs.«01_k».proof.Proof.Rows
@[expose] public section
set_option maxRecDepth 16384
noncomputable section
namespace Cert.Proof.Output
open Cert.OutputIdeal Cert.OutputIdeal.Gen Cert.OutputIdeal.Value Idealize.ShloMosaic Idealize.ShloMosaic.TcCoe Idealize.SL.Sem

variable (c : Dev nD) (i : grid0.Coords) (arg1 : Memref sig .tc .smem S4x42 .f32) (harg1 : arg1.IsWhole) (arg2 : Memref sig .tc .vmem S256x512 .fp8e4m3) (harg2 : arg2.IsWhole) (arg3 : Memref sig .tc .vmem S256x4 .f32) (harg3 : arg3.IsWhole) (arg4 : Memref sig .tc .vmem S256x5376 .bf16) (harg4 : arg4.IsWhole) (arg5 : Memref sig .tc .vmem S1x5376 .f32) (harg5 : arg5.IsWhole) (arg6 : Memref sig .tc .vmem S512x5376 .fp8e4m3) (harg6 : arg6.IsWhole) (arg7 : Memref sig .tc .vmem S256x5376 .bf16) (harg7 : arg7.IsWhole) (arg8 : Memref sig .tc .vmem S512x5376 .bf16) (harg8 : arg8.IsWhole) (arg9 : Memref sig .tc .vmem S256x5376 .f32) (harg9 : arg9.IsWhole)
  (x0 : Vec Ideal S4x42 .f32) (x1 : Vec Ideal S256x512 .fp8e4m3) (x2 : Vec Ideal S256x4 .f32) (x3 : Vec Ideal S256x5376 .bf16) (x4 : Vec Ideal S1x5376 .f32) (x5 : Vec Ideal S512x5376 .fp8e4m3)
/-- The attention output the first step widens. -/
theorem wideA_A : kernelRun0_A.sl.r (F := Ideal) c arg2 harg2 arg3 harg3 x1 x2 = WideA x1 x2 := by
  unfold kernelRun0_A.sl.r
  exact wideA_loads arg2 harg2 arg3 harg3 x1 x2

/-- The inverse root the first step takes. -/
theorem rstd_A (hc0 : cond0_0 i) : kernelRun0_A.sl.r_17 (F := Ideal) c i arg1 harg1 arg2 harg2 arg3 harg3 arg4 harg4 arg5 harg5 arg6 harg6 arg7 harg7 arg8 harg8 arg9 harg9 hc0 x0 x1 x2 x5 = fun j => Ideal.div 1 (Ideal.sqrt (ssq (WideA x1 x2) (Wide x5 x0) (j 0) * ((5376⁻¹ : ℝ) : EReal) + Ideal.ofBits .f32 897988541#32)) := by
  simp only [kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, wideA_A, k0_pay58, k0_pay59]
  rw [wideA_loads]
  simp only [chunk_of_cov c i arg1 harg1 arg2 harg2 arg3 harg3 arg4 harg4 arg5 harg5 arg6 harg6 arg7 harg7 arg8 harg8 arg9 harg9 x0 x5 hc0 0 (by norm_num), chunk_of_cov c i arg1 harg1 arg2 harg2 arg3 harg3 arg4 harg4 arg5 harg5 arg6 harg6 arg7 harg7 arg8 harg8 arg9 harg9 x0 x5 hc0 256 (by norm_num), chunk_of_cov c i arg1 harg1 arg2 harg2 arg3 harg3 arg4 harg4 arg5 harg5 arg6 harg6 arg7 harg7 arg8 harg8 arg9 harg9 x0 x5 hc0 512 (by norm_num), chunk_of_cov c i arg1 harg1 arg2 harg2 arg3 harg3 arg4 harg4 arg5 harg5 arg6 harg6 arg7 harg7 arg8 harg8 arg9 harg9 x0 x5 hc0 768 (by norm_num), chunk_of_cov c i arg1 harg1 arg2 harg2 arg3 harg3 arg4 harg4 arg5 harg5 arg6 harg6 arg7 harg7 arg8 harg8 arg9 harg9 x0 x5 hc0 1024 (by norm_num), chunk_of_cov c i arg1 harg1 arg2 harg2 arg3 harg3 arg4 harg4 arg5 harg5 arg6 harg6 arg7 harg7 arg8 harg8 arg9 harg9 x0 x5 hc0 1280 (by norm_num), chunk_of_cov c i arg1 harg1 arg2 harg2 arg3 harg3 arg4 harg4 arg5 harg5 arg6 harg6 arg7 harg7 arg8 harg8 arg9 harg9 x0 x5 hc0 1536 (by norm_num), chunk_of_cov c i arg1 harg1 arg2 harg2 arg3 harg3 arg4 harg4 arg5 harg5 arg6 harg6 arg7 harg7 arg8 harg8 arg9 harg9 x0 x5 hc0 1792 (by norm_num), chunk_of_cov c i arg1 harg1 arg2 harg2 arg3 harg3 arg4 harg4 arg5 harg5 arg6 harg6 arg7 harg7 arg8 harg8 arg9 harg9 x0 x5 hc0 2048 (by norm_num), chunk_of_cov c i arg1 harg1 arg2 harg2 arg3 harg3 arg4 harg4 arg5 harg5 arg6 harg6 arg7 harg7 arg8 harg8 arg9 harg9 x0 x5 hc0 2304 (by norm_num), chunk_of_cov c i arg1 harg1 arg2 harg2 arg3 harg3 arg4 harg4 arg5 harg5 arg6 harg6 arg7 harg7 arg8 harg8 arg9 harg9 x0 x5 hc0 2560 (by norm_num), chunk_of_cov c i arg1 harg1 arg2 harg2 arg3 harg3 arg4 harg4 arg5 harg5 arg6 harg6 arg7 harg7 arg8 harg8 arg9 harg9 x0 x5 hc0 2816 (by norm_num), chunk_of_cov c i arg1 harg1 arg2 harg2 arg3 harg3 arg4 harg4 arg5 harg5 arg6 harg6 arg7 harg7 arg8 harg8 arg9 harg9 x0 x5 hc0 3072 (by norm_num), chunk_of_cov c i arg1 harg1 arg2 harg2 arg3 harg3 arg4 harg4 arg5 harg5 arg6 harg6 arg7 harg7 arg8 harg8 arg9 harg9 x0 x5 hc0 3328 (by norm_num), chunk_of_cov c i arg1 harg1 arg2 harg2 arg3 harg3 arg4 harg4 arg5 harg5 arg6 harg6 arg7 harg7 arg8 harg8 arg9 harg9 x0 x5 hc0 3584 (by norm_num), chunk_of_cov c i arg1 harg1 arg2 harg2 arg3 harg3 arg4 harg4 arg5 harg5 arg6 harg6 arg7 harg7 arg8 harg8 arg9 harg9 x0 x5 hc0 3840 (by norm_num), chunk_of_cov c i arg1 harg1 arg2 harg2 arg3 harg3 arg4 harg4 arg5 harg5 arg6 harg6 arg7 harg7 arg8 harg8 arg9 harg9 x0 x5 hc0 4096 (by norm_num), chunk_of_cov c i arg1 harg1 arg2 harg2 arg3 harg3 arg4 harg4 arg5 harg5 arg6 harg6 arg7 harg7 arg8 harg8 arg9 harg9 x0 x5 hc0 4352 (by norm_num), chunk_of_cov c i arg1 harg1 arg2 harg2 arg3 harg3 arg4 harg4 arg5 harg5 arg6 harg6 arg7 harg7 arg8 harg8 arg9 harg9 x0 x5 hc0 4608 (by norm_num), chunk_of_cov c i arg1 harg1 arg2 harg2 arg3 harg3 arg4 harg4 arg5 harg5 arg6 harg6 arg7 harg7 arg8 harg8 arg9 harg9 x0 x5 hc0 4864 (by norm_num), chunk_of_cov c i arg1 harg1 arg2 harg2 arg3 harg3 arg4 harg4 arg5 harg5 arg6 harg6 arg7 harg7 arg8 harg8 arg9 harg9 x0 x5 hc0 5120 (by norm_num)]
  generalize WideA x1 x2 = A
  simp only [k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, mm_chunk]
  funext j
  idx_vars j
  pointwise
  rw [ssq, regroup (fun n => prj A (Wide x5 x0) j0 n * prj A (Wide x5 x0) j0 n)]
  congr 4
  · refine Finset.sum_congr rfl fun x _ => ?_
    simp only [prjC, Finset.sum_range_succ, Finset.sum_range_zero, ← add_assoc, Nat.reduceMul, Nat.reduceAdd, zero_add, ix2_0, ix2_1]
    done

/-- The tiles of the projection. -/
theorem hs_A (hc0 : cond0_0 i) : ∀ p ∈ kernelRun0_A.sl.HS1_21 (F := Ideal) c i arg1 harg1 arg2 harg2 arg3 harg3 arg4 harg4 arg5 harg5 arg6 harg6 arg7 harg7 arg8 harg8 arg9 harg9 hc0 x0 x1 x2 x5, ∀ x, p.2 x = prjAll (WideA x1 x2) (Wide x5 x0) (p.1.emb x) := by
  unfold kernelRun0_A.sl.HS1_21
  simp only [kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, wideA_A, k0_pay58, k0_pay59]
  rw [wideA_loads]
  simp only [chunk_of_cov c i arg1 harg1 arg2 harg2 arg3 harg3 arg4 harg4 arg5 harg5 arg6 harg6 arg7 harg7 arg8 harg8 arg9 harg9 x0 x5 hc0 0 (by norm_num), chunk_of_cov c i arg1 harg1 arg2 harg2 arg3 harg3 arg4 harg4 arg5 harg5 arg6 harg6 arg7 harg7 arg8 harg8 arg9 harg9 x0 x5 hc0 256 (by norm_num), chunk_of_cov c i arg1 harg1 arg2 harg2 arg3 harg3 arg4 harg4 arg5 harg5 arg6 harg6 arg7 harg7 arg8 harg8 arg9 harg9 x0 x5 hc0 512 (by norm_num), chunk_of_cov c i arg1 harg1 arg2 harg2 arg3 harg3 arg4 harg4 arg5 harg5 arg6 harg6 arg7 harg7 arg8 harg8 arg9 harg9 x0 x5 hc0 768 (by norm_num), chunk_of_cov c i arg1 harg1 arg2 harg2 arg3 harg3 arg4 harg4 arg5 harg5 arg6 harg6 arg7 harg7 arg8 harg8 arg9 harg9 x0 x5 hc0 1024 (by norm_num), chunk_of_cov c i arg1 harg1 arg2 harg2 arg3 harg3 arg4 harg4 arg5 harg5 arg6 harg6 arg7 harg7 arg8 harg8 arg9 harg9 x0 x5 hc0 1280 (by norm_num), chunk_of_cov c i arg1 harg1 arg2 harg2 arg3 harg3 arg4 harg4 arg5 harg5 arg6 harg6 arg7 harg7 arg8 harg8 arg9 harg9 x0 x5 hc0 1536 (by norm_num), chunk_of_cov c i arg1 harg1 arg2 harg2 arg3 harg3 arg4 harg4 arg5 harg5 arg6 harg6 arg7 harg7 arg8 harg8 arg9 harg9 x0 x5 hc0 1792 (by norm_num), chunk_of_cov c i arg1 harg1 arg2 harg2 arg3 harg3 arg4 harg4 arg5 harg5 arg6 harg6 arg7 harg7 arg8 harg8 arg9 harg9 x0 x5 hc0 2048 (by norm_num), chunk_of_cov c i arg1 harg1 arg2 harg2 arg3 harg3 arg4 harg4 arg5 harg5 arg6 harg6 arg7 harg7 arg8 harg8 arg9 harg9 x0 x5 hc0 2304 (by norm_num), chunk_of_cov c i arg1 harg1 arg2 harg2 arg3 harg3 arg4 harg4 arg5 harg5 arg6 harg6 arg7 harg7 arg8 harg8 arg9 harg9 x0 x5 hc0 2560 (by norm_num), chunk_of_cov c i arg1 harg1 arg2 harg2 arg3 harg3 arg4 harg4 arg5 harg5 arg6 harg6 arg7 harg7 arg8 harg8 arg9 harg9 x0 x5 hc0 2816 (by norm_num), chunk_of_cov c i arg1 harg1 arg2 harg2 arg3 harg3 arg4 harg4 arg5 harg5 arg6 harg6 arg7 harg7 arg8 harg8 arg9 harg9 x0 x5 hc0 3072 (by norm_num), chunk_of_cov c i arg1 harg1 arg2 harg2 arg3 harg3 arg4 harg4 arg5 harg5 arg6 harg6 arg7 harg7 arg8 harg8 arg9 harg9 x0 x5 hc0 3328 (by norm_num), chunk_of_cov c i arg1 harg1 arg2 harg2 arg3 harg3 arg4 harg4 arg5 harg5 arg6 harg6 arg7 harg7 arg8 harg8 arg9 harg9 x0 x5 hc0 3584 (by norm_num), chunk_of_cov c i arg1 harg1 arg2 harg2 arg3 harg3 arg4 harg4 arg5 harg5 arg6 harg6 arg7 harg7 arg8 harg8 arg9 harg9 x0 x5 hc0 3840 (by norm_num), chunk_of_cov c i arg1 harg1 arg2 harg2 arg3 harg3 arg4 harg4 arg5 harg5 arg6 harg6 arg7 harg7 arg8 harg8 arg9 harg9 x0 x5 hc0 4096 (by norm_num), chunk_of_cov c i arg1 harg1 arg2 harg2 arg3 harg3 arg4 harg4 arg5 harg5 arg6 harg6 arg7 harg7 arg8 harg8 arg9 harg9 x0 x5 hc0 4352 (by norm_num), chunk_of_cov c i arg1 harg1 arg2 harg2 arg3 harg3 arg4 harg4 arg5 harg5 arg6 harg6 arg7 harg7 arg8 harg8 arg9 harg9 x0 x5 hc0 4608 (by norm_num), chunk_of_cov c i arg1 harg1 arg2 harg2 arg3 harg3 arg4 harg4 arg5 harg5 arg6 harg6 arg7 harg7 arg8 harg8 arg9 harg9 x0 x5 hc0 4864 (by norm_num), chunk_of_cov c i arg1 harg1 arg2 harg2 arg3 harg3 arg4 harg4 arg5 harg5 arg6 harg6 arg7 harg7 arg8 harg8 arg9 harg9 x0 x5 hc0 5120 (by norm_num), k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, mm_chunk, List.forall_mem_cons]
  iterate 21
    refine ⟨?_, ?_⟩
    · intro x
      pointwise
      exact prj_emb _ _ _ _ x
  intro p hp
  cases hp

/-- A load from them. -/
theorem cov_A (hc0 : cond0_0 i) (o : ℕ) (inb) : arg9.view.readCov (kernelRun0_A.sl.HS1_21 (F := Ideal) c i arg1 harg1 arg2 harg2 arg3 harg3 arg4 harg4 arg5 harg5 arg6 harg6 arg7 harg7 arg8 harg8 arg9 harg9 hc0 x0 x1 x2 x5) (Rect.unit (s := S256x5376) ![0, o] S256x256.size inb).toLoadRect = prjC (WideA x1 x2) (Wide x5 x0) o := by
  funext x
  rw [prj_emb _ _ _ inb]
  exact View.read_writes_apply_of_pieces arg9.view _ (prjAll (WideA x1 x2) (Wide x5 x0)) _ (hs_A c i arg1 harg1 arg2 harg2 arg3 harg3 arg4 harg4 arg5 harg5 arg6 harg6 arg7 harg7 arg8 harg8 arg9 harg9 x0 x1 x2 x5 hc0) _
    (View.cover_of_tiledL (s := S256x5376) _ S256x256.size (by sl_kernel_rfl) _)

/-- What the first step leaves in its block of the result. -/
theorem out_A (hc0 : cond0_0 i) : out0_A_6 (F := Ideal) c i arg1 harg1 arg2 harg2 arg3 harg3 arg4 harg4 arg5 harg5 arg6 harg6 arg7 harg7 arg8 harg8 arg9 harg9 hc0 x0 x1 x2 x3 x4 x5 = rowsOut x1 x2 x3 x4 (Wide x5 x0) := by
  funext y
  unfold out0_A_6
  refine View.read_writes_apply_of_pieces _ _ _ _ ?_ y (cover0_A_6 (F := Ideal) c i arg1 harg1 arg2 harg2 arg3 harg3 arg4 harg4 arg5 harg5 arg6 harg6 arg7 harg7 arg8 harg8 arg9 harg9 hc0 x0 x1 x2 x3 x4 x5 y)
  unfold kernelRun0_A
  dsimp only
  simp only [kernelRun0_A.sl.r_18, kernelRun0_A.sl.r_19, kernelRun0_A.sl.r_20, kernelRun0_A.sl.r_21, kernelRun0_A.sl.r_22, kernelRun0_A.sl.r_23, kernelRun0_A.sl.r_24, kernelRun0_A.sl.v313, kernelRun0_A.sl.v324, kernelRun0_A.sl.v335, kernelRun0_A.sl.v346, kernelRun0_A.sl.v357, kernelRun0_A.sl.v368, kernelRun0_A.sl.v379, kernelRun0_A.sl.v390, kernelRun0_A.sl.v401, kernelRun0_A.sl.v412, kernelRun0_A.sl.v423, kernelRun0_A.sl.v434, kernelRun0_A.sl.v445, kernelRun0_A.sl.v456, kernelRun0_A.sl.v467, kernelRun0_A.sl.v478, kernelRun0_A.sl.v489, kernelRun0_A.sl.v500, kernelRun0_A.sl.v511, kernelRun0_A.sl.v522, kernelRun0_A.sl.v533, cov_A c i arg1 harg1 arg2 harg2 arg3 harg3 arg4 harg4 arg5 harg5 arg6 harg6 arg7 harg7 arg8 harg8 arg9 harg9 x0 x1 x2 x5 hc0 0, cov_A c i arg1 harg1 arg2 harg2 arg3 harg3 arg4 harg4 arg5 harg5 arg6 harg6 arg7 harg7 arg8 harg8 arg9 harg9 x0 x1 x2 x5 hc0 256, cov_A c i arg1 harg1 arg2 harg2 arg3 harg3 arg4 harg4 arg5 harg5 arg6 harg6 arg7 harg7 arg8 harg8 arg9 harg9 x0 x1 x2 x5 hc0 512, cov_A c i arg1 harg1 arg2 harg2 arg3 harg3 arg4 harg4 arg5 harg5 arg6 harg6 arg7 harg7 arg8 harg8 arg9 harg9 x0 x1 x2 x5 hc0 768, cov_A c i arg1 harg1 arg2 harg2 arg3 harg3 arg4 harg4 arg5 harg5 arg6 harg6 arg7 harg7 arg8 harg8 arg9 harg9 x0 x1 x2 x5 hc0 1024, cov_A c i arg1 harg1 arg2 harg2 arg3 harg3 arg4 harg4 arg5 harg5 arg6 harg6 arg7 harg7 arg8 harg8 arg9 harg9 x0 x1 x2 x5 hc0 1280, cov_A c i arg1 harg1 arg2 harg2 arg3 harg3 arg4 harg4 arg5 harg5 arg6 harg6 arg7 harg7 arg8 harg8 arg9 harg9 x0 x1 x2 x5 hc0 1536, cov_A c i arg1 harg1 arg2 harg2 arg3 harg3 arg4 harg4 arg5 harg5 arg6 harg6 arg7 harg7 arg8 harg8 arg9 harg9 x0 x1 x2 x5 hc0 1792, cov_A c i arg1 harg1 arg2 harg2 arg3 harg3 arg4 harg4 arg5 harg5 arg6 harg6 arg7 harg7 arg8 harg8 arg9 harg9 x0 x1 x2 x5 hc0 2048, cov_A c i arg1 harg1 arg2 harg2 arg3 harg3 arg4 harg4 arg5 harg5 arg6 harg6 arg7 harg7 arg8 harg8 arg9 harg9 x0 x1 x2 x5 hc0 2304, cov_A c i arg1 harg1 arg2 harg2 arg3 harg3 arg4 harg4 arg5 harg5 arg6 harg6 arg7 harg7 arg8 harg8 arg9 harg9 x0 x1 x2 x5 hc0 2560, cov_A c i arg1 harg1 arg2 harg2 arg3 harg3 arg4 harg4 arg5 harg5 arg6 harg6 arg7 harg7 arg8 harg8 arg9 harg9 x0 x1 x2 x5 hc0 2816, cov_A c i arg1 harg1 arg2 harg2 arg3 harg3 arg4 harg4 arg5 harg5 arg6 harg6 arg7 harg7 arg8 harg8 arg9 harg9 x0 x1 x2 x5 hc0 3072, cov_A c i arg1 harg1 arg2 harg2 arg3 harg3 arg4 harg4 arg5 harg5 arg6 harg6 arg7 harg7 arg8 harg8 arg9 harg9 x0 x1 x2 x5 hc0 3328, cov_A c i arg1 harg1 arg2 harg2 arg3 harg3 arg4 harg4 arg5 harg5 arg6 harg6 arg7 harg7 arg8 harg8 arg9 harg9 x0 x1 x2 x5 hc0 3584, cov_A c i arg1 harg1 arg2 harg2 arg3 harg3 arg4 harg4 arg5 harg5 arg6 harg6 arg7 harg7 arg8 harg8 arg9 harg9 x0 x1 x2 x5 hc0 3840, cov_A c i arg1 harg1 arg2 harg2 arg3 harg3 arg4 harg4 arg5 harg5 arg6 harg6 arg7 harg7 arg8 harg8 arg9 harg9 x0 x1 x2 x5 hc0 4096, cov_A c i arg1 harg1 arg2 harg2 arg3 harg3 arg4 harg4 arg5 harg5 arg6 harg6 arg7 harg7 arg8 harg8 arg9 harg9 x0 x1 x2 x5 hc0 4352, cov_A c i arg1 harg1 arg2 harg2 arg3 harg3 arg4 harg4 arg5 harg5 arg6 harg6 arg7 harg7 arg8 harg8 arg9 harg9 x0 x1 x2 x5 hc0 4608, cov_A c i arg1 harg1 arg2 harg2 arg3 harg3 arg4 harg4 arg5 harg5 arg6 harg6 arg7 harg7 arg8 harg8 arg9 harg9 x0 x1 x2 x5 hc0 4864, cov_A c i arg1 harg1 arg2 harg2 arg3 harg3 arg4 harg4 arg5 harg5 arg6 harg6 arg7 harg7 arg8 harg8 arg9 harg9 x0 x1 x2 x5 hc0 5120]
  have hr : _ = rstdC (WideA x1 x2) (Wide x5 x0) := rstd_A c i arg1 harg1 arg2 harg2 arg3 harg3 arg4 harg4 arg5 harg5 arg6 harg6 arg7 harg7 arg8 harg8 arg9 harg9 x0 x1 x2 x5 hc0
  unfold kernelRun0_A.sl.r_17 at hr ⊢
  simp only [k0_pay110]
  rw [hr]
  simp only [List.forall_mem_cons]
  iterate 21
    refine ⟨?_, ?_⟩
    · intro x
      try simp only [k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay1, k0_pay2]
      pointwise
      exact out_piece arg4 harg4 arg5 harg5 x1 x2 x3 x4 (Wide x5 x0) _ _ _ _ x
  intro p hp
  cases hp

end Cert.Proof.Output
end
-- ==== Proof.CaseB.lean ====
/- A later step, which finds the weight widened. -/
module
public import proofs.«01_k».proof.Proof.Rows
@[expose] public section
set_option maxRecDepth 16384
noncomputable section
namespace Cert.Proof.Output
open Cert.OutputIdeal Cert.OutputIdeal.Gen Cert.OutputIdeal.Value Idealize.ShloMosaic Idealize.ShloMosaic.TcCoe Idealize.SL.Sem

variable (c : Dev nD) (i : grid0.Coords) (arg1 : Memref sig .tc .smem S4x42 .f32) (harg1 : arg1.IsWhole) (arg2 : Memref sig .tc .vmem S256x512 .fp8e4m3) (harg2 : arg2.IsWhole) (arg3 : Memref sig .tc .vmem S256x4 .f32) (harg3 : arg3.IsWhole) (arg4 : Memref sig .tc .vmem S256x5376 .bf16) (harg4 : arg4.IsWhole) (arg5 : Memref sig .tc .vmem S1x5376 .f32) (harg5 : arg5.IsWhole) (arg6 : Memref sig .tc .vmem S512x5376 .fp8e4m3) (harg6 : arg6.IsWhole) (arg7 : Memref sig .tc .vmem S256x5376 .bf16) (harg7 : arg7.IsWhole) (arg8 : Memref sig .tc .vmem S512x5376 .bf16) (harg8 : arg8.IsWhole) (arg9 : Memref sig .tc .vmem S256x5376 .f32) (harg9 : arg9.IsWhole)
  (x0 : Vec Ideal S4x42 .f32) (x1 : Vec Ideal S256x512 .fp8e4m3) (x2 : Vec Ideal S256x4 .f32) (x3 : Vec Ideal S256x5376 .bf16) (x4 : Vec Ideal S1x5376 .f32) (x5 : Vec Ideal S512x5376 .fp8e4m3) (xs0 : Vec Ideal S512x5376 .bf16)
/-- The attention output a later step widens. -/
theorem wideA_B : kernelRun0_B.sl.r (F := Ideal) c arg2 harg2 arg3 harg3 x1 x2 = WideA x1 x2 := by
  unfold kernelRun0_B.sl.r
  exact wideA_loads arg2 harg2 arg3 harg3 x1 x2

/-- The inverse root a later step takes. -/
theorem rstd_B : kernelRun0_B.sl.r_17 (F := Ideal) c arg2 harg2 arg3 harg3 arg8 harg8 x1 x2 xs0 = fun j => Ideal.div 1 (Ideal.sqrt (ssq (WideA x1 x2) xs0 (j 0) * ((5376⁻¹ : ℝ) : EReal) + Ideal.ofBits .f32 897988541#32)) := by
  simp only [kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, wideA_B, k0_pay58, k0_pay59]
  rw [wideA_loads]
  simp only [chunk_of_read arg8 harg8 xs0 0 (by norm_num), chunk_of_read arg8 harg8 xs0 256 (by norm_num), chunk_of_read arg8 harg8 xs0 512 (by norm_num), chunk_of_read arg8 harg8 xs0 768 (by norm_num), chunk_of_read arg8 harg8 xs0 1024 (by norm_num), chunk_of_read arg8 harg8 xs0 1280 (by norm_num), chunk_of_read arg8 harg8 xs0 1536 (by norm_num), chunk_of_read arg8 harg8 xs0 1792 (by norm_num), chunk_of_read arg8 harg8 xs0 2048 (by norm_num), chunk_of_read arg8 harg8 xs0 2304 (by norm_num), chunk_of_read arg8 harg8 xs0 2560 (by norm_num), chunk_of_read arg8 harg8 xs0 2816 (by norm_num), chunk_of_read arg8 harg8 xs0 3072 (by norm_num), chunk_of_read arg8 harg8 xs0 3328 (by norm_num), chunk_of_read arg8 harg8 xs0 3584 (by norm_num), chunk_of_read arg8 harg8 xs0 3840 (by norm_num), chunk_of_read arg8 harg8 xs0 4096 (by norm_num), chunk_of_read arg8 harg8 xs0 4352 (by norm_num), chunk_of_read arg8 harg8 xs0 4608 (by norm_num), chunk_of_read arg8 harg8 xs0 4864 (by norm_num), chunk_of_read arg8 harg8 xs0 5120 (by norm_num)]
  generalize WideA x1 x2 = A
  simp only [k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, mm_chunk]
  funext j
  idx_vars j
  pointwise
  rw [ssq, regroup (fun n => prj A xs0 j0 n * prj A xs0 j0 n)]
  congr 4
  · refine Finset.sum_congr rfl fun x _ => ?_
    simp only [prjC, Finset.sum_range_succ, Finset.sum_range_zero, ← add_assoc, Nat.reduceMul, Nat.reduceAdd, zero_add, ix2_0, ix2_1]
    done

/-- The tiles of the projection. -/
theorem hs_B : ∀ p ∈ kernelRun0_B.sl.HS1_21 (F := Ideal) c arg2 harg2 arg3 harg3 arg8 harg8 x1 x2 xs0, ∀ x, p.2 x = prjAll (WideA x1 x2) xs0 (p.1.emb x) := by
  unfold kernelRun0_B.sl.HS1_21
  simp only [kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, wideA_B, k0_pay58, k0_pay59]
  rw [wideA_loads]
  simp only [chunk_of_read arg8 harg8 xs0 0 (by norm_num), chunk_of_read arg8 harg8 xs0 256 (by norm_num), chunk_of_read arg8 harg8 xs0 512 (by norm_num), chunk_of_read arg8 harg8 xs0 768 (by norm_num), chunk_of_read arg8 harg8 xs0 1024 (by norm_num), chunk_of_read arg8 harg8 xs0 1280 (by norm_num), chunk_of_read arg8 harg8 xs0 1536 (by norm_num), chunk_of_read arg8 harg8 xs0 1792 (by norm_num), chunk_of_read arg8 harg8 xs0 2048 (by norm_num), chunk_of_read arg8 harg8 xs0 2304 (by norm_num), chunk_of_read arg8 harg8 xs0 2560 (by norm_num), chunk_of_read arg8 harg8 xs0 2816 (by norm_num), chunk_of_read arg8 harg8 xs0 3072 (by norm_num), chunk_of_read arg8 harg8 xs0 3328 (by norm_num), chunk_of_read arg8 harg8 xs0 3584 (by norm_num), chunk_of_read arg8 harg8 xs0 3840 (by norm_num), chunk_of_read arg8 harg8 xs0 4096 (by norm_num), chunk_of_read arg8 harg8 xs0 4352 (by norm_num), chunk_of_read arg8 harg8 xs0 4608 (by norm_num), chunk_of_read arg8 harg8 xs0 4864 (by norm_num), chunk_of_read arg8 harg8 xs0 5120 (by norm_num), k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, mm_chunk, List.forall_mem_cons]
  iterate 21
    refine ⟨?_, ?_⟩
    · intro x
      pointwise
      exact prj_emb _ _ _ _ x
  intro p hp
  cases hp

/-- A load from them. -/
theorem cov_B (o : ℕ) (inb) : arg9.view.readCov (kernelRun0_B.sl.HS1_21 (F := Ideal) c arg2 harg2 arg3 harg3 arg8 harg8 x1 x2 xs0) (Rect.unit (s := S256x5376) ![0, o] S256x256.size inb).toLoadRect = prjC (WideA x1 x2) xs0 o := by
  funext x
  rw [prj_emb _ _ _ inb]
  exact View.read_writes_apply_of_pieces arg9.view _ (prjAll (WideA x1 x2) xs0) _ (hs_B c arg2 harg2 arg3 harg3 arg8 harg8 x1 x2 xs0) _
    (View.cover_of_tiledL (s := S256x5376) _ S256x256.size (by sl_kernel_rfl) _)

/-- What a later step leaves in its block of the result. -/
theorem out_B (hc0 : ¬cond0_0 i) : out0_B_6 (F := Ideal) c i arg1 harg1 arg2 harg2 arg3 harg3 arg4 harg4 arg5 harg5 arg6 harg6 arg7 harg7 arg8 harg8 arg9 harg9 hc0 x0 x1 x2 x3 x4 x5 xs0 = rowsOut x1 x2 x3 x4 xs0 := by
  funext y
  unfold out0_B_6
  refine View.read_writes_apply_of_pieces _ _ _ _ ?_ y (cover0_B_6 (F := Ideal) c i arg1 harg1 arg2 harg2 arg3 harg3 arg4 harg4 arg5 harg5 arg6 harg6 arg7 harg7 arg8 harg8 arg9 harg9 hc0 x0 x1 x2 x3 x4 x5 xs0 y)
  unfold kernelRun0_B
  dsimp only
  simp only [kernelRun0_B.sl.r_18, kernelRun0_B.sl.r_19, kernelRun0_B.sl.r_20, kernelRun0_B.sl.r_21, kernelRun0_B.sl.r_22, kernelRun0_B.sl.r_23, kernelRun0_B.sl.r_24, kernelRun0_B.sl.v313, kernelRun0_B.sl.v324, kernelRun0_B.sl.v335, kernelRun0_B.sl.v346, kernelRun0_B.sl.v357, kernelRun0_B.sl.v368, kernelRun0_B.sl.v379, kernelRun0_B.sl.v390, kernelRun0_B.sl.v401, kernelRun0_B.sl.v412, kernelRun0_B.sl.v423, kernelRun0_B.sl.v434, kernelRun0_B.sl.v445, kernelRun0_B.sl.v456, kernelRun0_B.sl.v467, kernelRun0_B.sl.v478, kernelRun0_B.sl.v489, kernelRun0_B.sl.v500, kernelRun0_B.sl.v511, kernelRun0_B.sl.v522, kernelRun0_B.sl.v533, cov_B c arg2 harg2 arg3 harg3 arg8 harg8 arg9 x1 x2 xs0 0, cov_B c arg2 harg2 arg3 harg3 arg8 harg8 arg9 x1 x2 xs0 256, cov_B c arg2 harg2 arg3 harg3 arg8 harg8 arg9 x1 x2 xs0 512, cov_B c arg2 harg2 arg3 harg3 arg8 harg8 arg9 x1 x2 xs0 768, cov_B c arg2 harg2 arg3 harg3 arg8 harg8 arg9 x1 x2 xs0 1024, cov_B c arg2 harg2 arg3 harg3 arg8 harg8 arg9 x1 x2 xs0 1280, cov_B c arg2 harg2 arg3 harg3 arg8 harg8 arg9 x1 x2 xs0 1536, cov_B c arg2 harg2 arg3 harg3 arg8 harg8 arg9 x1 x2 xs0 1792, cov_B c arg2 harg2 arg3 harg3 arg8 harg8 arg9 x1 x2 xs0 2048, cov_B c arg2 harg2 arg3 harg3 arg8 harg8 arg9 x1 x2 xs0 2304, cov_B c arg2 harg2 arg3 harg3 arg8 harg8 arg9 x1 x2 xs0 2560, cov_B c arg2 harg2 arg3 harg3 arg8 harg8 arg9 x1 x2 xs0 2816, cov_B c arg2 harg2 arg3 harg3 arg8 harg8 arg9 x1 x2 xs0 3072, cov_B c arg2 harg2 arg3 harg3 arg8 harg8 arg9 x1 x2 xs0 3328, cov_B c arg2 harg2 arg3 harg3 arg8 harg8 arg9 x1 x2 xs0 3584, cov_B c arg2 harg2 arg3 harg3 arg8 harg8 arg9 x1 x2 xs0 3840, cov_B c arg2 harg2 arg3 harg3 arg8 harg8 arg9 x1 x2 xs0 4096, cov_B c arg2 harg2 arg3 harg3 arg8 harg8 arg9 x1 x2 xs0 4352, cov_B c arg2 harg2 arg3 harg3 arg8 harg8 arg9 x1 x2 xs0 4608, cov_B c arg2 harg2 arg3 harg3 arg8 harg8 arg9 x1 x2 xs0 4864, cov_B c arg2 harg2 arg3 harg3 arg8 harg8 arg9 x1 x2 xs0 5120]
  have hr : _ = rstdC (WideA x1 x2) xs0 := rstd_B c arg2 harg2 arg3 harg3 arg8 harg8 x1 x2 xs0
  unfold kernelRun0_B.sl.r_17 at hr ⊢
  simp only [k0_pay110]
  rw [hr]
  simp only [List.forall_mem_cons]
  iterate 21
    refine ⟨?_, ?_⟩
    · intro x
      try simp only [k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay1, k0_pay2]
      pointwise
      exact out_piece arg4 harg4 arg5 harg5 x1 x2 x3 x4 xs0 _ _ _ _ x
  intro p hp
  cases hp

end Cert.Proof.Output
end
-- ==== Proof.Finish.lean ====
/- The result arrays of the output kernel and of its reference, each as one function of the arguments. -/
module
public import proofs.«01_k».proof.Proof.CaseA
public import proofs.«01_k».proof.Proof.CaseB
public import proofs.«01_k».proof.Proof.Gen.FinishIdeal.Value
public import Idealize.ShloMosaic.Lib.Pipeline.ValueKit
@[expose] public section
set_option maxRecDepth 16384
noncomputable section
namespace Cert.Proof.Output
open Cert.OutputIdeal Cert.OutputIdeal.Gen Cert.OutputIdeal.Value Idealize.ShloMosaic Idealize.ShloMosaic.TcCoe Idealize.SL.Sem

/-- One entry of the projection, of the arguments. -/
def entry (a : Vec Ideal S13824x512 .fp8e4m3) (s : Vec Ideal S13824x4 .f32) (w : Vec Ideal S512x5376 .fp8e4m3) (sc : Vec Ideal S4x42 .f32) (r : Fin 13824) (o : Fin 5376) : EReal :=
  ∑ k : Fin 512, a (ix2 r k) * s (ix2 r ⟨k.val / 128, by omega⟩) * (w (ix2 k o) * sc (ix2 ⟨k.val / 128, by omega⟩ ⟨o.val / 128, by omega⟩))

/-- The result of the arguments: the row over the root of its mean square, scaled, added to the input. -/
def result (a : Vec Ideal S13824x512 .fp8e4m3) (s : Vec Ideal S13824x4 .f32) (x : Vec Ideal S13824x5376 .bf16) (g : Vec Ideal S1x5376 .f32) (w : Vec Ideal S512x5376 .fp8e4m3) (sc : Vec Ideal S4x42 .f32) : Vec Ideal S13824x5376 .bf16 :=
  fun j => x j + Ideal.div (entry a s w sc (j 0) (j 1)) (Ideal.sqrt (Ideal.div (∑ o : Fin 5376, entry a s w sc (j 0) o * entry a s w sc (j 0) o) (Ideal.ofBits .f32 1168637952#32) + Ideal.ofBits .f32 897988541#32)) * g (ix2 0 (j 1))

theorem width : Ideal.ofBits .f32 1168637952#32 = ((5376 : ℝ) : EReal) := by
  simp [Ideal.ofBits, Ideal.ieee, -EReal.coe_mul]; norm_num

theorem eps_pos : (0 : EReal) < Ideal.ofBits .f32 897988541#32 := by
  simp [Ideal.ofBits, Ideal.ieee, -EReal.coe_mul]
  try norm_num

theorem square_nonneg (x : EReal) : 0 ≤ x * x := by
  induction x with
  | bot => simp
  | top => simp
  | coe r => exact_mod_cast mul_self_nonneg r

theorem root_ne_zero (y : EReal) (h : 0 < y) : Ideal.sqrt y ≠ 0 := by
  induction y with
  | bot => simp at h
  | top => simp
  | coe r =>
    have hr : 0 < r := by exact_mod_cast h
    rw [Ideal.sqrt_coe, if_neg (not_lt.mpr hr.le)]
    exact_mod_cast (Real.sqrt_pos.mpr hr).ne'

/-- Multiplying by the inverse root is dividing by the root. -/
theorem by_root (p q : EReal) (hq : 0 ≤ q) :
    p * Ideal.div 1 (Ideal.sqrt (q * ((5376⁻¹ : ℝ) : EReal) + Ideal.ofBits .f32 897988541#32))
      = Ideal.div p (Ideal.sqrt (Ideal.div q (Ideal.ofBits .f32 1168637952#32) + Ideal.ofBits .f32 897988541#32)) := by
  rw [width, Ideal.div_coe (by norm_num), one_div]
  have h5 : (0 : EReal) ≤ ((5376⁻¹ : ℝ) : EReal) := by exact_mod_cast (by norm_num : (0 : ℝ) ≤ 5376⁻¹)
  have h := root_ne_zero (q * ((5376⁻¹ : ℝ) : EReal) + Ideal.ofBits .f32 897988541#32) (lt_of_lt_of_le eps_pos (le_add_of_nonneg_left (mul_nonneg hq h5)))
  rw [Ideal.div, Ideal.div, if_neg h, if_neg h, one_mul]

variable (m : (ℓ : Loc nD τ sig) → Buf (Elt Ideal) ℓ) (c : Dev nD)

theorem idx0 : ∀ t : Fin cfg0.N, win0_0.index t = ![0, 0] := (by decide +kernel : ∀ t : Fin grid0.N, win0_0.index t = ![0, 0])
theorem idx1 : ∀ t : Fin cfg0.N, win0_1.index t = ![t.val, 0] := (by decide +kernel : ∀ t : Fin grid0.N, win0_1.index t = ![t.val, 0])
theorem idx2 : ∀ t : Fin cfg0.N, win0_2.index t = ![t.val, 0] := (by decide +kernel : ∀ t : Fin grid0.N, win0_2.index t = ![t.val, 0])
theorem idx3 : ∀ t : Fin cfg0.N, win0_3.index t = ![t.val, 0] := (by decide +kernel : ∀ t : Fin grid0.N, win0_3.index t = ![t.val, 0])
theorem idx4 : ∀ t : Fin cfg0.N, win0_4.index t = ![0, 0] := (by decide +kernel : ∀ t : Fin grid0.N, win0_4.index t = ![0, 0])
theorem idx5 : ∀ t : Fin cfg0.N, win0_5.index t = ![0, 0] := (by decide +kernel : ∀ t : Fin grid0.N, win0_5.index t = ![0, 0])

/-- Row `r` of block `t`, in the array. -/
def row (t : Fin cfg0.N) (r : Fin 256) : Fin 13824 := ⟨256 * t.val + r.val, by have := lt_of_lt_of_eq t.isLt N_0; omega⟩

theorem blk1 (t : Fin cfg0.N) (r : Fin 256) (k : Fin 512) : iblk m c 1 t (ix2 r k) = m ((c : Thread nD τ).loc main_arg0) (ix2 (row t r) k) := by
  unfold row
  blk_ext [iblk, V, idx1 t]
theorem blk2 (t : Fin cfg0.N) (r : Fin 256) (k : Fin 4) : iblk m c 2 t (ix2 r k) = m ((c : Thread nD τ).loc main_arg1) (ix2 (row t r) k) := by
  unfold row
  blk_ext [iblk, V, idx2 t]
theorem blk3 (t : Fin cfg0.N) (r : Fin 256) (k : Fin 5376) : iblk m c 3 t (ix2 r k) = m ((c : Thread nD τ).loc main_arg2) (ix2 (row t r) k) := by
  unfold row
  blk_ext [iblk, V, idx3 t]
theorem blk0 (t : Fin cfg0.N) (r : Fin 4) (k : Fin 42) : iblk m c 0 t (ix2 r k) = m ((c : Thread nD τ).loc main_arg5) (ix2 r k) := by
  blk_ext [iblk, V, idx0 t]
theorem blk4 (t : Fin cfg0.N) (r : Fin 1) (k : Fin 5376) : iblk m c 4 t (ix2 r k) = m ((c : Thread nD τ).loc main_arg3) (ix2 r k) := by
  blk_ext [iblk, V, idx4 t]
theorem blk5 (t : Fin cfg0.N) (r : Fin 512) (k : Fin 5376) : iblk m c 5 t (ix2 r k) = m ((c : Thread nD τ).loc main_arg4) (ix2 r k) := by
  blk_ext [iblk, V, idx5 t]

/-- The weight, widened. -/
def weight : Vec Ideal S512x5376 .bf16 := Wide (m ((c : Thread nD τ).loc main_arg4)) (m ((c : Thread nD τ).loc main_arg5))

theorem weight_eq (t : Fin cfg0.N) : Wide (iblk m c 5 t) (iblk m c 0 t) = weight m c := by
  funext j
  idx_vars j
  unfold weight Wide
  rw [blk5, blk0]

/-- The buffer holds the widened weight after every step. -/
theorem held : ∀ (n : ℕ) (hn : n < cfg0.N), (outsAt0 m c n hn).2 = weight m c
  | 0, hn => by
    rw [outsAt0_A m c ⟨0, hn⟩ rfl]
    rw [← weight_eq m c ⟨0, hn⟩]
    exact widened _ _ _ _ _ _ _ _ _ _ _ _ _ _ _ _ _ _ _ _ _ _ _ _ _ _ _
  | n + 1, hn => by
    have hN := lt_of_lt_of_eq hn N_0
    have h0 : ¬ (⟨n + 1, hn⟩ : Fin cfg0.N).val % 54 = 0 := by show ¬ (n + 1) % 54 = 0; omega
    rw [outsAt0_B m c ⟨n + 1, hn⟩ h0]
    exact held n (Nat.lt_of_succ_lt hn)

/-- What a step leaves in its block of the result. -/
theorem left (t : Fin cfg0.N) : (outsAt0 m c t.val t.isLt).1 = rowsOut (iblk m c 1 t) (iblk m c 2 t) (iblk m c 3 t) (iblk m c 4 t) (weight m c) := by
  by_cases h0 : t.val % 54 = 0
  · rw [outsAt0_A m c t h0]
    dsimp only
    rw [out_A, weight_eq]
  · rw [outsAt0_B m c t h0]
    dsimp only
    rw [out_B, held]

theorem prj_entry (t : Fin cfg0.N) (r : Fin 256) (o : Fin 5376) :
    prj (WideA (iblk m c 1 t) (iblk m c 2 t)) (weight m c) r o.val
      = entry (m ((c : Thread nD τ).loc main_arg0)) (m ((c : Thread nD τ).loc main_arg1)) (m ((c : Thread nD τ).loc main_arg4)) (m ((c : Thread nD τ).loc main_arg5)) (row t r) o := by
  unfold prj entry
  rw [dif_pos o.isLt]
  refine Finset.sum_congr rfl fun k _ => ?_
  unfold WideA weight Wide
  rw [blk1]
  congr 2
  exact blk2 m c t r _

/-- One row of the result. -/
theorem row_eq (t : Fin cfg0.N) (r : Fin 256) (o : Fin 5376) :
    rowsOut (iblk m c 1 t) (iblk m c 2 t) (iblk m c 3 t) (iblk m c 4 t) (weight m c) (ix2 r o)
      = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (row t r) o) := by
  have hs : ssq (WideA (iblk m c 1 t) (iblk m c 2 t)) (weight m c) r = ∑ o : Fin 5376, entry (m ((c : Thread nD τ).loc main_arg0)) (m ((c : Thread nD τ).loc main_arg1)) (m ((c : Thread nD τ).loc main_arg4)) (m ((c : Thread nD τ).loc main_arg5)) (row t r) o * entry (m ((c : Thread nD τ).loc main_arg0)) (m ((c : Thread nD τ).loc main_arg1)) (m ((c : Thread nD τ).loc main_arg4)) (m ((c : Thread nD τ).loc main_arg5)) (row t r) o := by
    unfold ssq
    exact Finset.sum_congr rfl fun o _ => by rw [prj_entry]
  change @id EReal (iblk m c 3 t (ix2 r o)) + prj (WideA (iblk m c 1 t) (iblk m c 2 t)) (weight m c) r o.val * rstd (WideA (iblk m c 1 t) (iblk m c 2 t)) (weight m c) r * @id EReal (iblk m c 4 t (ix2 0 o)) = _
  unfold rstd
  rw [hs, prj_entry, by_root _ _ (Finset.sum_nonneg fun _ _ => square_nonneg _), blk3, blk4]
  rfl

/-- The kernel's result array. -/
theorem result_eq : G6 m c = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  funext i
  have h0 : (i 0).val < 13824 := (i 0).isLt
  have h1 : (i 1).val < 5376 := (i 1).isLt
  have hp : pt6Of i < cfg0.N := by
    rw [show cfg0.N = 54 from N_0]
    show 1 * ((i 0).val / 256 - 0) + 1 * ((i 1).val / 5376 - 0) < 54
    omega
  unfold G6
  rw [dif_pos hp, ← outsAt0_sweep m c (pt6Of i) hp, left m c ⟨pt6Of i, hp⟩]
  have e := row_eq m c ⟨pt6Of i, hp⟩ ⟨(i 0).val % 256, by omega⟩ ⟨(i 1).val, h1⟩
  have e1 : loc6Of i = ix2 ⟨(i 0).val % 256, by omega⟩ ⟨(i 1).val, h1⟩ := by
    funext a
    apply Fin.ext
    match a with
    | ⟨0, _⟩ => rfl
    | ⟨1, _⟩ => show (i 1).val % 5376 = (i 1).val; omega
  have e2 : i = ix2 (row ⟨pt6Of i, hp⟩ ⟨(i 0).val % 256, by omega⟩) ⟨(i 1).val, h1⟩ := by
    funext a
    apply Fin.ext
    match a with
    | ⟨0, _⟩ => show (i 0).val = 256 * (1 * ((i 0).val / 256 - 0) + 1 * ((i 1).val / 5376 - 0)) + (i 0).val % 256; omega
    | ⟨1, _⟩ => rfl
  rw [e1, e]
  exact congrArg _ e2.symm

/-- The reference's result array. -/
theorem reference_eq (a0 : Vec Ideal S13824x512 .fp8e4m3) (a1 : Vec Ideal S13824x4 .f32) (a2 : Vec Ideal S13824x5376 .bf16) (a3 : Vec Ideal S1x5376 .f32) (a4 : Vec Ideal S512x5376 .fp8e4m3) (a5 : Vec Ideal S4x42 .f32) :
    Cert.FinishIdeal.Value.G6 (F := Ideal) a0 a1 a2 a3 a4 a5 = result a0 a1 a2 a3 a4 a5 := by
  unfold Cert.FinishIdeal.Value.G6 Cert.FinishIdeal.Gen.k0_pay1
  funext j
  idx_vars j
  pointwise
  unfold result entry
  rfl

end Cert.Proof.Output
end
-- ==== Proof.ProjectRuns.lean ====
module

public import proofs.«01_k».proof.Proof.Gen.Project.Launch
public import proofs.«01_k».proof.Proof.Gen.Project.Skeleton
public import proofs.«01_k».proof.Proof.Gen.Project.Loops
public import proofs.«01_k».proof.Proof.Gen.Project.Points
public import Idealize.ShloMosaic.Lib.Pipeline.FrameBody
public import Idealize.ShloMosaic.Lib.Ring
public import Idealize.ShloMosaic.Lib.Tactic
public import Idealize.ShloMosaic.Lib.WordCmp

/-! The projection kernel as written: its windows, its conditions and its buffers. -/

@[expose] public section

set_option maxRecDepth 16384

noncomputable section

namespace Cert.Project.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(Pipeline.RDat.FramePost.arr_in h c 1 rfl).trans ((hA c 1).trans (V_main_arg0 m c)),
      ((h c).2 main_arg1 (Pipeline.mem_restRefs_of main_arg1 (by decide) (by decide))).trans (V_main_arg1 m c),
      (Pipeline.RDat.FramePost.arr_in h c 3 rfl).trans ((hA c 3).trans (V_main_arg2 m c)),
      (Pipeline.RDat.FramePost.arr_in h c 0 rfl).trans ((hA c 0).trans (V_main_arg3 m c)),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      (Pipeline.RDat.FramePost.arr_in h c 6 rfl).trans ((hA c 6).trans (V_main_arg6 m c)),
      (Pipeline.RDat.FramePost.arr_in h c 7 rfl).trans ((hA c 7).trans (V_main_arg7 m c))⟩) h

abbrev cond0_0 (i : grid0.Coords) : Prop := k0_cond1 i = 1#1
theorem hcond0_0 : ∀ t : Fin cfg0.N, cond0_0 (grid0.coords t) ↔ t.val % 56 = 0 :=
  (fun t => by
    have ht : t.val < 56 := Nat.lt_of_lt_of_eq t.isLt N_0
    have e0 : (grid0.coords t 0).val = t.val / 1 % 56 := Pipeline.Grid.coords_val t 0 (by decide) rfl
    simp only [cond0_0, k0_cond1, e0]
    word_cmp
   : ∀ t : Fin grid0.N, cond0_0 (grid0.coords t) ↔ t.val % 56 = 0)

abbrev cond0_1 (i : grid0.Coords) : Prop := k0_cond2 i = 1#1
theorem hcond0_1 : ∀ t : Fin cfg0.N, cond0_1 (grid0.coords t) ↔ (1 ≤ t.val % 56 ∧ t.val % 56 ≤ 54) :=
  (by decide +kernel : ∀ t : Fin grid0.N, cond0_1 (grid0.coords t) ↔ (1 ≤ t.val % 56 ∧ t.val % 56 ≤ 54))

abbrev cond0_2 (i : grid0.Coords) : Prop := k0_cond3 i = 1#1
theorem hcond0_2 : ∀ t : Fin cfg0.N, cond0_2 (grid0.coords t) ↔ t.val % 56 = 55 :=
  (by decide +kernel : ∀ t : Fin grid0.N, cond0_2 (grid0.coords t) ↔ t.val % 56 = 55)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl

abbrev ms0_0 (t : Fin cfg0.N) : Memref sig .tc .smem S42x8 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x5376 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S5376x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S5376x1024 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x64 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x5376 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x42 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512x256 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x256 .fp8e4m3 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S256x2 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S256x256 .fp8e4m3 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S256x256 .fp8e4m3 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S256x2 .f32 := win0_15.stage (cfg0.slots t 15)
abbrev hs0_15 (t : Fin cfg0.N) : (ms0_15 t).IsWhole := hstage0_15 ((cfg0.slots t 15).cast nbuf0_15)
abbrev scM0_0 : Memref sig .tc .vmem S1024x5376 .bf16 := Memref.whole cc0_scratch0
abbrev scM0_1 : Memref sig .tc .vmem S5376x256 .bf16 := Memref.whole cc0_scratch1
abbrev scM0_2 : Memref sig .tc .vmem S1024x256 .f32 := Memref.whole cc0_scratch2
abbrev scM0_3 : Memref sig .tc .vmem S1x256 .f32 := Memref.whole cc0_scratch3
abbrev scM0_4 : Memref sig .tc .vmem S48x256 .f32 := Memref.whole cc0_scratch4
abbrev VS0_0 : View sig .tc .vmem S1024x5376 .bf16 := scM0_0.view
abbrev VS0_1 : View sig .tc .vmem S5376x256 .bf16 := scM0_1.view
abbrev VS0_3 : View sig .tc .vmem S1x256 .f32 := scM0_3.view

theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.Project.Gen

end
-- ==== Proof.ProjectRunA.lean ====
module

public import proofs.«01_k».proof.Proof.ProjectRuns

/-! The first grid point of the projection kernel as written: the body run on any buffers. -/

@[expose] public section

set_option maxRecDepth 16384

noncomputable section

namespace Cert.Project.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option maxHeartbeats 1000000 in
noncomputable def kernelRun0_A (c : Dev nD) (i : grid0.Coords) (arg1 : Memref sig .tc .smem S42x8 .f32) (harg1 : arg1.IsWhole) (arg2 : Memref sig .tc .vmem S256x5376 .bf16) (harg2 : arg2.IsWhole) (arg3 : Memref sig .tc .vmem S5376x128 .f32) (harg3 : arg3.IsWhole) (arg4 : Memref sig .tc .vmem S5376x1024 .fp8e4m3) (harg4 : arg4.IsWhole) (arg5 : Memref sig .tc .vmem S128x128 .f32) (harg5 : arg5.IsWhole) (arg6 : Memref sig .tc .vmem S128x128 .f32) (harg6 : arg6.IsWhole) (arg7 : Memref sig .tc .vmem S256x64 .f32) (harg7 : arg7.IsWhole) (arg8 : Memref sig .tc .vmem S256x64 .f32) (harg8 : arg8.IsWhole) (arg9 : Memref sig .tc .vmem S256x5376 .fp8e4m3) (harg9 : arg9.IsWhole) (arg10 : Memref sig .tc .vmem S256x42 .f32) (harg10 : arg10.IsWhole) (arg11 : Memref sig .tc .vmem S512x256 .bf16) (harg11 : arg11.IsWhole) (arg12 : Memref sig .tc .vmem S256x256 .fp8e4m3) (harg12 : arg12.IsWhole) (arg13 : Memref sig .tc .vmem S256x2 .f32) (harg13 : arg13.IsWhole) (arg14 : Memref sig .tc .vmem S256x256 .fp8e4m3) (harg14 : arg14.IsWhole) (arg15 : Memref sig .tc .vmem S256x256 .fp8e4m3) (harg15 : arg15.IsWhole) (arg16 : Memref sig .tc .vmem S256x2 .f32) (harg16 : arg16.IsWhole) (arg17 : Memref sig .tc .vmem S1024x5376 .bf16) (harg17 : arg17.IsWhole) (arg18 : Memref sig .tc .vmem S5376x256 .bf16) (harg18 : arg18.IsWhole) (arg19 : Memref sig .tc .vmem S1024x256 .f32) (harg19 : arg19.IsWhole) (arg20 : Memref sig .tc .vmem S1x256 .f32) (harg20 : arg20.IsWhole) (arg21 : Memref sig .tc .vmem S48x256 .f32) (harg21 : arg21.IsWhole) (hc0 : cond0_0 i) (hc1 : ¬cond0_1 i) (hc2 : ¬cond0_2 i)
    (x0 : Vec F S42x8 .f32) (x1 : Vec F S256x5376 .bf16) (x2 : Vec F S5376x128 .f32) (x3 : Vec F S5376x1024 .fp8e4m3) (x4 : Vec F S128x128 .f32) (x5 : Vec F S128x128 .f32) (x6 : Vec F S256x64 .f32) (x7 : Vec F S256x64 .f32) :
    Σ' (LS0 : List (View.Piece (Elt F) S1024x5376 .bf16)), Σ' (LS1 : List (View.Piece (Elt F) S5376x256 .bf16)), { LS3 : List (View.Piece (Elt F) S1x256 .f32) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ f, arg17.view.loc (c : Thread nD τ) ↦[arg17.view.set]{fullShare} arg17.view.writes (Elt F) f LS0) ∗ (∃ f, arg18.view.loc (c : Thread nD τ) ↦[arg18.view.set]{fullShare} arg18.view.writes (Elt F) f LS1) ∗ (∃ d, owns (c : Thread nD τ) arg19 fullShare d) ∗ (∃ f, arg20.view.loc (c : Thread nD τ) ↦[arg20.view.set]{fullShare} arg20.view.writes (Elt F) f LS3) ∗ (∃ d, owns (c : Thread nD τ) arg21 fullShare d)) -∗ K ⟨⟩))
          ⊢ wp frame (wpE (defs₀ (F := F)) Variants.none c none) E (cc0_project i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, fun E K => ?run⟩
  case run =>
    simp only [cc0_project_eq_skeleton]; unfold cc0_project_skel
    simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [HS0]; · iexists _; iexact HS0
    isplitl [HS1]; · iexists _; iexact HS1
    isplitl [HS2]
    · iexists _, _; isplitr; swap; · iexact HS2
      ipureintro; rfl
    isplitl [HS3]; · iexists _; iexact HS3
    iexists _, _; isplitr; swap; · iexact HS4
    ipureintro; rfl

end Cert.Project.Gen

end
-- ==== Proof.ProjectRunB.lean ====
module

public import proofs.«01_k».proof.Proof.ProjectRunA

/-! The middle grid points of the projection kernel as written: the body run on any buffers. -/

@[expose] public section

set_option maxRecDepth 16384

noncomputable section

namespace Cert.Project.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option maxHeartbeats 2920000 in
noncomputable def kernelRun0_B (c : Dev nD) (i : grid0.Coords) (arg1 : Memref sig .tc .smem S42x8 .f32) (harg1 : arg1.IsWhole) (arg2 : Memref sig .tc .vmem S256x5376 .bf16) (harg2 : arg2.IsWhole) (arg3 : Memref sig .tc .vmem S5376x128 .f32) (harg3 : arg3.IsWhole) (arg4 : Memref sig .tc .vmem S5376x1024 .fp8e4m3) (harg4 : arg4.IsWhole) (arg5 : Memref sig .tc .vmem S128x128 .f32) (harg5 : arg5.IsWhole) (arg6 : Memref sig .tc .vmem S128x128 .f32) (harg6 : arg6.IsWhole) (arg7 : Memref sig .tc .vmem S256x64 .f32) (harg7 : arg7.IsWhole) (arg8 : Memref sig .tc .vmem S256x64 .f32) (harg8 : arg8.IsWhole) (arg9 : Memref sig .tc .vmem S256x5376 .fp8e4m3) (harg9 : arg9.IsWhole) (arg10 : Memref sig .tc .vmem S256x42 .f32) (harg10 : arg10.IsWhole) (arg11 : Memref sig .tc .vmem S512x256 .bf16) (harg11 : arg11.IsWhole) (arg12 : Memref sig .tc .vmem S256x256 .fp8e4m3) (harg12 : arg12.IsWhole) (arg13 : Memref sig .tc .vmem S256x2 .f32) (harg13 : arg13.IsWhole) (arg14 : Memref sig .tc .vmem S256x256 .fp8e4m3) (harg14 : arg14.IsWhole) (arg15 : Memref sig .tc .vmem S256x256 .fp8e4m3) (harg15 : arg15.IsWhole) (arg16 : Memref sig .tc .vmem S256x2 .f32) (harg16 : arg16.IsWhole) (arg17 : Memref sig .tc .vmem S1024x5376 .bf16) (harg17 : arg17.IsWhole) (arg18 : Memref sig .tc .vmem S5376x256 .bf16) (harg18 : arg18.IsWhole) (arg19 : Memref sig .tc .vmem S1024x256 .f32) (harg19 : arg19.IsWhole) (arg20 : Memref sig .tc .vmem S1x256 .f32) (harg20 : arg20.IsWhole) (arg21 : Memref sig .tc .vmem S48x256 .f32) (harg21 : arg21.IsWhole) (hc0 : ¬cond0_0 i) (hc1 : cond0_1 i) (hc2 : ¬cond0_2 i)
    (x0 : Vec F S42x8 .f32) (x1 : Vec F S256x5376 .bf16) (x2 : Vec F S5376x128 .f32) (x3 : Vec F S5376x1024 .fp8e4m3) (x4 : Vec F S128x128 .f32) (x5 : Vec F S128x128 .f32) (x6 : Vec F S256x64 .f32) (x7 : Vec F S256x64 .f32) (xs0 : Vec F S1024x5376 .bf16) (xs1 : Vec F S5376x256 .bf16) (xs3 : Vec F S1x256 .f32) :
    Σ' (LS0 : List (View.Piece (Elt F) S1024x5376 .bf16)), Σ' (LS1 : List (View.Piece (Elt F) S5376x256 .bf16)), { LS3 : List (View.Piece (Elt F) S1x256 .f32) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xs0 ∗ owns (c : Thread nD τ) arg18 fullShare xs1 ∗ (∃ d, owns (c : Thread nD τ) arg19 fullShare d) ∗ owns (c : Thread nD τ) arg20 fullShare xs3 ∗ (∃ d, owns (c : Thread nD τ) arg21 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xs0 ∗ (∃ f, arg18.view.loc (c : Thread nD τ) ↦[arg18.view.set]{fullShare} arg18.view.writes (Elt F) f LS1) ∗ (∃ d, owns (c : Thread nD τ) arg19 fullShare d) ∗ (∃ f, arg20.view.loc (c : Thread nD τ) ↦[arg20.view.set]{fullShare} arg20.view.writes (Elt F) f LS3) ∗ (∃ d, owns (c : Thread nD τ) arg21 fullShare d)) -∗ K ⟨⟩))
          ⊢ wp frame (wpE (defs₀ (F := F)) Variants.none c none) E (cc0_project i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨[], ?_, ?_, fun E K => ?run⟩
  case run =>
    simp only [cc0_project_eq_skeleton]; unfold cc0_project_skel
    simp only [k0_part121_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part122_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%fs0, %hfs0, HS0⟩, ⟨%fs1, %hfs1, HS1⟩, ⟨%ds2, %fs2, -, HS2⟩, ⟨%fs3, %hfs3, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg17.eq_unread hfs0; obtain rfl := harg18.eq_unread hfs1; obtain rfl := harg20.eq_unread hfs3
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [HS0]
    · iexists _; isplitr; · ipureintro; exact harg17.read_unread _
      iexact HS0
    isplitl [HS1]; · iexists _; iexact HS1
    isplitl [HS2]
    · iexists _, _; isplitr; swap; · iexact HS2
      ipureintro; rfl
    isplitl [HS3]; · iexists _; iexact HS3
    iexists _, _; isplitr; swap; · iexact HS4
    ipureintro; rfl

end Cert.Project.Gen

end
-- ==== Proof.ProjectRunC.lean ====
module

public import proofs.«01_k».proof.Proof.ProjectRunB

/-! The last grid point of the projection kernel as written: the body run on any buffers. -/

@[expose] public section

set_option maxRecDepth 16384

noncomputable section

namespace Cert.Project.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option maxHeartbeats 2920000 in
noncomputable def kernelRun0_C (c : Dev nD) (i : grid0.Coords) (arg1 : Memref sig .tc .smem S42x8 .f32) (harg1 : arg1.IsWhole) (arg2 : Memref sig .tc .vmem S256x5376 .bf16) (harg2 : arg2.IsWhole) (arg3 : Memref sig .tc .vmem S5376x128 .f32) (harg3 : arg3.IsWhole) (arg4 : Memref sig .tc .vmem S5376x1024 .fp8e4m3) (harg4 : arg4.IsWhole) (arg5 : Memref sig .tc .vmem S128x128 .f32) (harg5 : arg5.IsWhole) (arg6 : Memref sig .tc .vmem S128x128 .f32) (harg6 : arg6.IsWhole) (arg7 : Memref sig .tc .vmem S256x64 .f32) (harg7 : arg7.IsWhole) (arg8 : Memref sig .tc .vmem S256x64 .f32) (harg8 : arg8.IsWhole) (arg9 : Memref sig .tc .vmem S256x5376 .fp8e4m3) (harg9 : arg9.IsWhole) (arg10 : Memref sig .tc .vmem S256x42 .f32) (harg10 : arg10.IsWhole) (arg11 : Memref sig .tc .vmem S512x256 .bf16) (harg11 : arg11.IsWhole) (arg12 : Memref sig .tc .vmem S256x256 .fp8e4m3) (harg12 : arg12.IsWhole) (arg13 : Memref sig .tc .vmem S256x2 .f32) (harg13 : arg13.IsWhole) (arg14 : Memref sig .tc .vmem S256x256 .fp8e4m3) (harg14 : arg14.IsWhole) (arg15 : Memref sig .tc .vmem S256x256 .fp8e4m3) (harg15 : arg15.IsWhole) (arg16 : Memref sig .tc .vmem S256x2 .f32) (harg16 : arg16.IsWhole) (arg17 : Memref sig .tc .vmem S1024x5376 .bf16) (harg17 : arg17.IsWhole) (arg18 : Memref sig .tc .vmem S5376x256 .bf16) (harg18 : arg18.IsWhole) (arg19 : Memref sig .tc .vmem S1024x256 .f32) (harg19 : arg19.IsWhole) (arg20 : Memref sig .tc .vmem S1x256 .f32) (harg20 : arg20.IsWhole) (arg21 : Memref sig .tc .vmem S48x256 .f32) (harg21 : arg21.IsWhole) (hc0 : ¬cond0_0 i) (hc1 : ¬cond0_1 i) (hc2 : cond0_2 i)
    (x0 : Vec F S42x8 .f32) (x1 : Vec F S256x5376 .bf16) (x2 : Vec F S5376x128 .f32) (x3 : Vec F S5376x1024 .fp8e4m3) (x4 : Vec F S128x128 .f32) (x5 : Vec F S128x128 .f32) (x6 : Vec F S256x64 .f32) (x7 : Vec F S256x64 .f32) (xs0 : Vec F S1024x5376 .bf16) (xs1 : Vec F S5376x256 .bf16) (xs3 : Vec F S1x256 .f32) :
    Σ' (LS0 : List (View.Piece (Elt F) S1024x5376 .bf16)), Σ' (LS1 : List (View.Piece (Elt F) S5376x256 .bf16)), { LS3 : List (View.Piece (Elt F) S1x256 .f32) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xs0 ∗ owns (c : Thread nD τ) arg18 fullShare xs1 ∗ (∃ d, owns (c : Thread nD τ) arg19 fullShare d) ∗ owns (c : Thread nD τ) arg20 fullShare xs3 ∗ (∃ d, owns (c : Thread nD τ) arg21 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xs0 ∗ owns (c : Thread nD τ) arg18 fullShare xs1 ∗ (∃ d, owns (c : Thread nD τ) arg19 fullShare d) ∗ owns (c : Thread nD τ) arg20 fullShare xs3 ∗ (∃ d, owns (c : Thread nD τ) arg21 fullShare d)) -∗ K ⟨⟩))
          ⊢ wp frame (wpE (defs₀ (F := F)) Variants.none c none) E (cc0_project i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨[], [], [], fun E K => ?run⟩
  case run =>
    rw [cc0_project_eq_skeleton]; unfold cc0_project_skel
    rw [dif_neg hc0, dif_neg hc1, dif_pos hc2]
    simp only [k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%fs0, %hfs0, HS0⟩, ⟨%fs1, %hfs1, HS1⟩, ⟨%ds2, %fs2, -, HS2⟩, ⟨%fs3, %hfs3, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg17.eq_unread hfs0; obtain rfl := harg18.eq_unread hfs1; obtain rfl := harg20.eq_unread hfs3
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [HS0]
    · iexists _; isplitr; · ipureintro; exact harg17.read_unread _
      iexact HS0
    isplitl [HS1]
    · iexists _; isplitr; · ipureintro; exact harg18.read_unread _
      iexact HS1
    isplitl [HS2]
    · iexists _, _; isplitr; swap; · iexact HS2
      ipureintro; rfl
    isplitl [HS3]
    · iexists _; isplitr; · ipureintro; exact harg20.read_unread _
      iexact HS3
    iexists _, _; isplitr; swap; · iexact HS4
    ipureintro; rfl

end Cert.Project.Gen

end
-- ==== Proof.ProjectFrame.lean ====
module

public import proofs.«01_k».proof.Proof.ProjectRunC
public import Idealize.ShloMosaic.Lib.Claim

/-! The projection kernel as written, grid point by grid point: the run and the frame. -/

@[expose] public section

set_option maxRecDepth 16384

noncomputable section

namespace Cert.Project.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

section
variable (c : Dev nD) (i : grid0.Coords) (arg1 : Memref sig .tc .smem S42x8 .f32) (harg1 : arg1.IsWhole) (arg2 : Memref sig .tc .vmem S256x5376 .bf16) (harg2 : arg2.IsWhole) (arg3 : Memref sig .tc .vmem S5376x128 .f32) (harg3 : arg3.IsWhole) (arg4 : Memref sig .tc .vmem S5376x1024 .fp8e4m3) (harg4 : arg4.IsWhole) (arg5 : Memref sig .tc .vmem S128x128 .f32) (harg5 : arg5.IsWhole) (arg6 : Memref sig .tc .vmem S128x128 .f32) (harg6 : arg6.IsWhole) (arg7 : Memref sig .tc .vmem S256x64 .f32) (harg7 : arg7.IsWhole) (arg8 : Memref sig .tc .vmem S256x64 .f32) (harg8 : arg8.IsWhole) (arg9 : Memref sig .tc .vmem S256x5376 .fp8e4m3) (harg9 : arg9.IsWhole) (arg10 : Memref sig .tc .vmem S256x42 .f32) (harg10 : arg10.IsWhole) (arg11 : Memref sig .tc .vmem S512x256 .bf16) (harg11 : arg11.IsWhole) (arg12 : Memref sig .tc .vmem S256x256 .fp8e4m3) (harg12 : arg12.IsWhole) (arg13 : Memref sig .tc .vmem S256x2 .f32) (harg13 : arg13.IsWhole) (arg14 : Memref sig .tc .vmem S256x256 .fp8e4m3) (harg14 : arg14.IsWhole) (arg15 : Memref sig .tc .vmem S256x256 .fp8e4m3) (harg15 : arg15.IsWhole) (arg16 : Memref sig .tc .vmem S256x2 .f32) (harg16 : arg16.IsWhole) (arg17 : Memref sig .tc .vmem S1024x5376 .bf16) (harg17 : arg17.IsWhole) (arg18 : Memref sig .tc .vmem S5376x256 .bf16) (harg18 : arg18.IsWhole) (arg19 : Memref sig .tc .vmem S1024x256 .f32) (harg19 : arg19.IsWhole) (arg20 : Memref sig .tc .vmem S1x256 .f32) (harg20 : arg20.IsWhole) (arg21 : Memref sig .tc .vmem S48x256 .f32) (harg21 : arg21.IsWhole)

section
variable (hc0 : cond0_0 i) (hc1 : ¬cond0_1 i) (hc2 : ¬cond0_2 i)
    (x0 : Vec F S42x8 .f32) (x1 : Vec F S256x5376 .bf16) (x2 : Vec F S5376x128 .f32) (x3 : Vec F S5376x1024 .fp8e4m3) (x4 : Vec F S128x128 .f32) (x5 : Vec F S128x128 .f32) (x6 : Vec F S256x64 .f32) (x7 : Vec F S256x64 .f32)

theorem scover0_A_0 (y : S1024x5376.Idx) :
    ∃ pc ∈ (kernelRun0_A c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 hc0 hc1 hc2 x0 x1 x2 x3 x4 x5 x6 x7).1, y ∈ pc.1.set :=
  View.cover_of_tiledL (kernelRun0_A c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 hc0 hc1 hc2 x0 x1 x2 x3 x4 x5 x6 x7).1 S128x128.size (by sl_kernel_rfl) y

def sout0_A_0 : Vec F S1024x5376 .bf16 :=
  VS0_0.read (Elt F) (VS0_0.writes (Elt F) VS0_0.junk (kernelRun0_A c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 hc0 hc1 hc2 x0 x1 x2 x3 x4 x5 x6 x7).1)

theorem scover0_A_1 (y : S5376x256.Idx) :
    ∃ pc ∈ (kernelRun0_A c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 hc0 hc1 hc2 x0 x1 x2 x3 x4 x5 x6 x7).2.1, y ∈ pc.1.set :=
  View.cover_of_tiledL (kernelRun0_A c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 hc0 hc1 hc2 x0 x1 x2 x3 x4 x5 x6 x7).2.1 S256x256.size (by sl_kernel_rfl) y

def sout0_A_1 : Vec F S5376x256 .bf16 :=
  VS0_1.read (Elt F) (VS0_1.writes (Elt F) VS0_1.junk (kernelRun0_A c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 hc0 hc1 hc2 x0 x1 x2 x3 x4 x5 x6 x7).2.1)

theorem scover0_A_3 (y : S1x256.Idx) :
    ∃ pc ∈ (kernelRun0_A c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 hc0 hc1 hc2 x0 x1 x2 x3 x4 x5 x6 x7).2.2.1, y ∈ pc.1.set :=
  View.cover_of_tiledL (kernelRun0_A c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 hc0 hc1 hc2 x0 x1 x2 x3 x4 x5 x6 x7).2.2.1 S1x256.size (by sl_kernel_rfl) y

def sout0_A_3 : Vec F S1x256 .f32 :=
  VS0_3.read (Elt F) (VS0_3.writes (Elt F) VS0_3.junk (kernelRun0_A c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 hc0 hc1 hc2 x0 x1 x2 x3 x4 x5 x6 x7).2.2.1)

end

def sout0_B_0 (c : Dev nD) (i : grid0.Coords) (arg1 : Memref sig .tc .smem S42x8 .f32) (harg1 : arg1.IsWhole) (arg2 : Memref sig .tc .vmem S256x5376 .bf16) (harg2 : arg2.IsWhole) (arg3 : Memref sig .tc .vmem S5376x128 .f32) (harg3 : arg3.IsWhole) (arg4 : Memref sig .tc .vmem S5376x1024 .fp8e4m3) (harg4 : arg4.IsWhole) (arg5 : Memref sig .tc .vmem S128x128 .f32) (harg5 : arg5.IsWhole) (arg6 : Memref sig .tc .vmem S128x128 .f32) (harg6 : arg6.IsWhole) (arg7 : Memref sig .tc .vmem S256x64 .f32) (harg7 : arg7.IsWhole) (arg8 : Memref sig .tc .vmem S256x64 .f32) (harg8 : arg8.IsWhole) (arg9 : Memref sig .tc .vmem S256x5376 .fp8e4m3) (harg9 : arg9.IsWhole) (arg10 : Memref sig .tc .vmem S256x42 .f32) (harg10 : arg10.IsWhole) (arg11 : Memref sig .tc .vmem S512x256 .bf16) (harg11 : arg11.IsWhole) (arg12 : Memref sig .tc .vmem S256x256 .fp8e4m3) (harg12 : arg12.IsWhole) (arg13 : Memref sig .tc .vmem S256x2 .f32) (harg13 : arg13.IsWhole) (arg14 : Memref sig .tc .vmem S256x256 .fp8e4m3) (harg14 : arg14.IsWhole) (arg15 : Memref sig .tc .vmem S256x256 .fp8e4m3) (harg15 : arg15.IsWhole) (arg16 : Memref sig .tc .vmem S256x2 .f32) (harg16 : arg16.IsWhole) (arg17 : Memref sig .tc .vmem S1024x5376 .bf16) (harg17 : arg17.IsWhole) (arg18 : Memref sig .tc .vmem S5376x256 .bf16) (harg18 : arg18.IsWhole) (arg19 : Memref sig .tc .vmem S1024x256 .f32) (harg19 : arg19.IsWhole) (arg20 : Memref sig .tc .vmem S1x256 .f32) (harg20 : arg20.IsWhole) (arg21 : Memref sig .tc .vmem S48x256 .f32) (harg21 : arg21.IsWhole) (hc0 : ¬cond0_0 i) (hc1 : cond0_1 i) (hc2 : ¬cond0_2 i)
    (x0 : Vec F S42x8 .f32) (x1 : Vec F S256x5376 .bf16) (x2 : Vec F S5376x128 .f32) (x3 : Vec F S5376x1024 .fp8e4m3) (x4 : Vec F S128x128 .f32) (x5 : Vec F S128x128 .f32) (x6 : Vec F S256x64 .f32) (x7 : Vec F S256x64 .f32) (xs0 : Vec F S1024x5376 .bf16) (xs1 : Vec F S5376x256 .bf16) (xs3 : Vec F S1x256 .f32) : Vec F S1024x5376 .bf16 := xs0

section
variable (hc0 : ¬cond0_0 i) (hc1 : cond0_1 i) (hc2 : ¬cond0_2 i)
    (x0 : Vec F S42x8 .f32) (x1 : Vec F S256x5376 .bf16) (x2 : Vec F S5376x128 .f32) (x3 : Vec F S5376x1024 .fp8e4m3) (x4 : Vec F S128x128 .f32) (x5 : Vec F S128x128 .f32) (x6 : Vec F S256x64 .f32) (x7 : Vec F S256x64 .f32) (xs0 : Vec F S1024x5376 .bf16) (xs1 : Vec F S5376x256 .bf16) (xs3 : Vec F S1x256 .f32)

theorem scover0_B_1 (y : S5376x256.Idx) :
    ∃ pc ∈ (kernelRun0_B c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 hc0 hc1 hc2 x0 x1 x2 x3 x4 x5 x6 x7 xs0 xs1 xs3).2.1, y ∈ pc.1.set :=
  View.cover_of_tiledL (kernelRun0_B c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 hc0 hc1 hc2 x0 x1 x2 x3 x4 x5 x6 x7 xs0 xs1 xs3).2.1 S256x256.size (by sl_kernel_rfl) y

def sout0_B_1 : Vec F S5376x256 .bf16 :=
  VS0_1.read (Elt F) (VS0_1.writes (Elt F) VS0_1.junk (kernelRun0_B c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 hc0 hc1 hc2 x0 x1 x2 x3 x4 x5 x6 x7 xs0 xs1 xs3).2.1)

theorem scover0_B_3 (y : S1x256.Idx) :
    ∃ pc ∈ (kernelRun0_B c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 hc0 hc1 hc2 x0 x1 x2 x3 x4 x5 x6 x7 xs0 xs1 xs3).2.2.1, y ∈ pc.1.set :=
  View.cover_of_tiledL (kernelRun0_B c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 hc0 hc1 hc2 x0 x1 x2 x3 x4 x5 x6 x7 xs0 xs1 xs3).2.2.1 S1x256.size (by sl_kernel_rfl) y

def sout0_B_3 : Vec F S1x256 .f32 :=
  VS0_3.read (Elt F) (VS0_3.writes (Elt F) VS0_3.junk (kernelRun0_B c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 hc0 hc1 hc2 x0 x1 x2 x3 x4 x5 x6 x7 xs0 xs1 xs3).2.2.1)

end

def sout0_C_0 (c : Dev nD) (i : grid0.Coords) (arg1 : Memref sig .tc .smem S42x8 .f32) (harg1 : arg1.IsWhole) (arg2 : Memref sig .tc .vmem S256x5376 .bf16) (harg2 : arg2.IsWhole) (arg3 : Memref sig .tc .vmem S5376x128 .f32) (harg3 : arg3.IsWhole) (arg4 : Memref sig .tc .vmem S5376x1024 .fp8e4m3) (harg4 : arg4.IsWhole) (arg5 : Memref sig .tc .vmem S128x128 .f32) (harg5 : arg5.IsWhole) (arg6 : Memref sig .tc .vmem S128x128 .f32) (harg6 : arg6.IsWhole) (arg7 : Memref sig .tc .vmem S256x64 .f32) (harg7 : arg7.IsWhole) (arg8 : Memref sig .tc .vmem S256x64 .f32) (harg8 : arg8.IsWhole) (arg9 : Memref sig .tc .vmem S256x5376 .fp8e4m3) (harg9 : arg9.IsWhole) (arg10 : Memref sig .tc .vmem S256x42 .f32) (harg10 : arg10.IsWhole) (arg11 : Memref sig .tc .vmem S512x256 .bf16) (harg11 : arg11.IsWhole) (arg12 : Memref sig .tc .vmem S256x256 .fp8e4m3) (harg12 : arg12.IsWhole) (arg13 : Memref sig .tc .vmem S256x2 .f32) (harg13 : arg13.IsWhole) (arg14 : Memref sig .tc .vmem S256x256 .fp8e4m3) (harg14 : arg14.IsWhole) (arg15 : Memref sig .tc .vmem S256x256 .fp8e4m3) (harg15 : arg15.IsWhole) (arg16 : Memref sig .tc .vmem S256x2 .f32) (harg16 : arg16.IsWhole) (arg17 : Memref sig .tc .vmem S1024x5376 .bf16) (harg17 : arg17.IsWhole) (arg18 : Memref sig .tc .vmem S5376x256 .bf16) (harg18 : arg18.IsWhole) (arg19 : Memref sig .tc .vmem S1024x256 .f32) (harg19 : arg19.IsWhole) (arg20 : Memref sig .tc .vmem S1x256 .f32) (harg20 : arg20.IsWhole) (arg21 : Memref sig .tc .vmem S48x256 .f32) (harg21 : arg21.IsWhole) (hc0 : ¬cond0_0 i) (hc1 : ¬cond0_1 i) (hc2 : cond0_2 i)
    (x0 : Vec F S42x8 .f32) (x1 : Vec F S256x5376 .bf16) (x2 : Vec F S5376x128 .f32) (x3 : Vec F S5376x1024 .fp8e4m3) (x4 : Vec F S128x128 .f32) (x5 : Vec F S128x128 .f32) (x6 : Vec F S256x64 .f32) (x7 : Vec F S256x64 .f32) (xs0 : Vec F S1024x5376 .bf16) (xs1 : Vec F S5376x256 .bf16) (xs3 : Vec F S1x256 .f32) : Vec F S1024x5376 .bf16 := xs0

def sout0_C_1 (c : Dev nD) (i : grid0.Coords) (arg1 : Memref sig .tc .smem S42x8 .f32) (harg1 : arg1.IsWhole) (arg2 : Memref sig .tc .vmem S256x5376 .bf16) (harg2 : arg2.IsWhole) (arg3 : Memref sig .tc .vmem S5376x128 .f32) (harg3 : arg3.IsWhole) (arg4 : Memref sig .tc .vmem S5376x1024 .fp8e4m3) (harg4 : arg4.IsWhole) (arg5 : Memref sig .tc .vmem S128x128 .f32) (harg5 : arg5.IsWhole) (arg6 : Memref sig .tc .vmem S128x128 .f32) (harg6 : arg6.IsWhole) (arg7 : Memref sig .tc .vmem S256x64 .f32) (harg7 : arg7.IsWhole) (arg8 : Memref sig .tc .vmem S256x64 .f32) (harg8 : arg8.IsWhole) (arg9 : Memref sig .tc .vmem S256x5376 .fp8e4m3) (harg9 : arg9.IsWhole) (arg10 : Memref sig .tc .vmem S256x42 .f32) (harg10 : arg10.IsWhole) (arg11 : Memref sig .tc .vmem S512x256 .bf16) (harg11 : arg11.IsWhole) (arg12 : Memref sig .tc .vmem S256x256 .fp8e4m3) (harg12 : arg12.IsWhole) (arg13 : Memref sig .tc .vmem S256x2 .f32) (harg13 : arg13.IsWhole) (arg14 : Memref sig .tc .vmem S256x256 .fp8e4m3) (harg14 : arg14.IsWhole) (arg15 : Memref sig .tc .vmem S256x256 .fp8e4m3) (harg15 : arg15.IsWhole) (arg16 : Memref sig .tc .vmem S256x2 .f32) (harg16 : arg16.IsWhole) (arg17 : Memref sig .tc .vmem S1024x5376 .bf16) (harg17 : arg17.IsWhole) (arg18 : Memref sig .tc .vmem S5376x256 .bf16) (harg18 : arg18.IsWhole) (arg19 : Memref sig .tc .vmem S1024x256 .f32) (harg19 : arg19.IsWhole) (arg20 : Memref sig .tc .vmem S1x256 .f32) (harg20 : arg20.IsWhole) (arg21 : Memref sig .tc .vmem S48x256 .f32) (harg21 : arg21.IsWhole) (hc0 : ¬cond0_0 i) (hc1 : ¬cond0_1 i) (hc2 : cond0_2 i)
    (x0 : Vec F S42x8 .f32) (x1 : Vec F S256x5376 .bf16) (x2 : Vec F S5376x128 .f32) (x3 : Vec F S5376x1024 .fp8e4m3) (x4 : Vec F S128x128 .f32) (x5 : Vec F S128x128 .f32) (x6 : Vec F S256x64 .f32) (x7 : Vec F S256x64 .f32) (xs0 : Vec F S1024x5376 .bf16) (xs1 : Vec F S5376x256 .bf16) (xs3 : Vec F S1x256 .f32) : Vec F S5376x256 .bf16 := xs1

def sout0_C_3 (c : Dev nD) (i : grid0.Coords) (arg1 : Memref sig .tc .smem S42x8 .f32) (harg1 : arg1.IsWhole) (arg2 : Memref sig .tc .vmem S256x5376 .bf16) (harg2 : arg2.IsWhole) (arg3 : Memref sig .tc .vmem S5376x128 .f32) (harg3 : arg3.IsWhole) (arg4 : Memref sig .tc .vmem S5376x1024 .fp8e4m3) (harg4 : arg4.IsWhole) (arg5 : Memref sig .tc .vmem S128x128 .f32) (harg5 : arg5.IsWhole) (arg6 : Memref sig .tc .vmem S128x128 .f32) (harg6 : arg6.IsWhole) (arg7 : Memref sig .tc .vmem S256x64 .f32) (harg7 : arg7.IsWhole) (arg8 : Memref sig .tc .vmem S256x64 .f32) (harg8 : arg8.IsWhole) (arg9 : Memref sig .tc .vmem S256x5376 .fp8e4m3) (harg9 : arg9.IsWhole) (arg10 : Memref sig .tc .vmem S256x42 .f32) (harg10 : arg10.IsWhole) (arg11 : Memref sig .tc .vmem S512x256 .bf16) (harg11 : arg11.IsWhole) (arg12 : Memref sig .tc .vmem S256x256 .fp8e4m3) (harg12 : arg12.IsWhole) (arg13 : Memref sig .tc .vmem S256x2 .f32) (harg13 : arg13.IsWhole) (arg14 : Memref sig .tc .vmem S256x256 .fp8e4m3) (harg14 : arg14.IsWhole) (arg15 : Memref sig .tc .vmem S256x256 .fp8e4m3) (harg15 : arg15.IsWhole) (arg16 : Memref sig .tc .vmem S256x2 .f32) (harg16 : arg16.IsWhole) (arg17 : Memref sig .tc .vmem S1024x5376 .bf16) (harg17 : arg17.IsWhole) (arg18 : Memref sig .tc .vmem S5376x256 .bf16) (harg18 : arg18.IsWhole) (arg19 : Memref sig .tc .vmem S1024x256 .f32) (harg19 : arg19.IsWhole) (arg20 : Memref sig .tc .vmem S1x256 .f32) (harg20 : arg20.IsWhole) (arg21 : Memref sig .tc .vmem S48x256 .f32) (harg21 : arg21.IsWhole) (hc0 : ¬cond0_0 i) (hc1 : ¬cond0_1 i) (hc2 : cond0_2 i)
    (x0 : Vec F S42x8 .f32) (x1 : Vec F S256x5376 .bf16) (x2 : Vec F S5376x128 .f32) (x3 : Vec F S5376x1024 .fp8e4m3) (x4 : Vec F S128x128 .f32) (x5 : Vec F S128x128 .f32) (x6 : Vec F S256x64 .f32) (x7 : Vec F S256x64 .f32) (xs0 : Vec F S1024x5376 .bf16) (xs1 : Vec F S5376x256 .bf16) (xs3 : Vec F S1x256 .f32) : Vec F S1x256 .f32 := xs3

end

def outsAt0 (c : Dev nD) : (n : ℕ) → n < cfg0.N → Vec F S1024x5376 .bf16 × Vec F S5376x256 .bf16 × Vec F S1x256 .f32
  | 0, hn => (sout0_A_0 c (grid0.coords ⟨0, hn⟩) _ (hs0_0 ⟨0, hn⟩) _ (hs0_1 ⟨0, hn⟩) _ (hs0_2 ⟨0, hn⟩) _ (hs0_3 ⟨0, hn⟩) _ (hs0_4 ⟨0, hn⟩) _ (hs0_5 ⟨0, hn⟩) _ (hs0_6 ⟨0, hn⟩) _ (hs0_7 ⟨0, hn⟩) _ (hs0_8 ⟨0, hn⟩) _ (hs0_9 ⟨0, hn⟩) _ (hs0_10 ⟨0, hn⟩) _ (hs0_11 ⟨0, hn⟩) _ (hs0_12 ⟨0, hn⟩) _ (hs0_13 ⟨0, hn⟩) _ (hs0_14 ⟨0, hn⟩) _ (hs0_15 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), sout0_A_1 c (grid0.coords ⟨0, hn⟩) _ (hs0_0 ⟨0, hn⟩) _ (hs0_1 ⟨0, hn⟩) _ (hs0_2 ⟨0, hn⟩) _ (hs0_3 ⟨0, hn⟩) _ (hs0_4 ⟨0, hn⟩) _ (hs0_5 ⟨0, hn⟩) _ (hs0_6 ⟨0, hn⟩) _ (hs0_7 ⟨0, hn⟩) _ (hs0_8 ⟨0, hn⟩) _ (hs0_9 ⟨0, hn⟩) _ (hs0_10 ⟨0, hn⟩) _ (hs0_11 ⟨0, hn⟩) _ (hs0_12 ⟨0, hn⟩) _ (hs0_13 ⟨0, hn⟩) _ (hs0_14 ⟨0, hn⟩) _ (hs0_15 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), sout0_A_3 c (grid0.coords ⟨0, hn⟩) _ (hs0_0 ⟨0, hn⟩) _ (hs0_1 ⟨0, hn⟩) _ (hs0_2 ⟨0, hn⟩) _ (hs0_3 ⟨0, hn⟩) _ (hs0_4 ⟨0, hn⟩) _ (hs0_5 ⟨0, hn⟩) _ (hs0_6 ⟨0, hn⟩) _ (hs0_7 ⟨0, hn⟩) _ (hs0_8 ⟨0, hn⟩) _ (hs0_9 ⟨0, hn⟩) _ (hs0_10 ⟨0, hn⟩) _ (hs0_11 ⟨0, hn⟩) _ (hs0_12 ⟨0, hn⟩) _ (hs0_13 ⟨0, hn⟩) _ (hs0_14 ⟨0, hn⟩) _ (hs0_15 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩))
  | n + 1, hn =>
    if h0 : (n + 1) % 56 = 0 then
      if h1 : (1 ≤ (n + 1) % 56 ∧ (n + 1) % 56 ≤ 54) then
        False.elim (by have hN : n + 1 < 56 := lt_of_lt_of_eq hn (show cfg0.N = 56 from N_0); omega)
      else
        if h2 : (n + 1) % 56 = 55 then
          False.elim (by have hN : n + 1 < 56 := lt_of_lt_of_eq hn (show cfg0.N = 56 from N_0); omega)
        else
          (sout0_A_0 c (grid0.coords ⟨n + 1, hn⟩) _ (hs0_0 ⟨n + 1, hn⟩) _ (hs0_1 ⟨n + 1, hn⟩) _ (hs0_2 ⟨n + 1, hn⟩) _ (hs0_3 ⟨n + 1, hn⟩) _ (hs0_4 ⟨n + 1, hn⟩) _ (hs0_5 ⟨n + 1, hn⟩) _ (hs0_6 ⟨n + 1, hn⟩) _ (hs0_7 ⟨n + 1, hn⟩) _ (hs0_8 ⟨n + 1, hn⟩) _ (hs0_9 ⟨n + 1, hn⟩) _ (hs0_10 ⟨n + 1, hn⟩) _ (hs0_11 ⟨n + 1, hn⟩) _ (hs0_12 ⟨n + 1, hn⟩) _ (hs0_13 ⟨n + 1, hn⟩) _ (hs0_14 ⟨n + 1, hn⟩) _ (hs0_15 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), sout0_A_1 c (grid0.coords ⟨n + 1, hn⟩) _ (hs0_0 ⟨n + 1, hn⟩) _ (hs0_1 ⟨n + 1, hn⟩) _ (hs0_2 ⟨n + 1, hn⟩) _ (hs0_3 ⟨n + 1, hn⟩) _ (hs0_4 ⟨n + 1, hn⟩) _ (hs0_5 ⟨n + 1, hn⟩) _ (hs0_6 ⟨n + 1, hn⟩) _ (hs0_7 ⟨n + 1, hn⟩) _ (hs0_8 ⟨n + 1, hn⟩) _ (hs0_9 ⟨n + 1, hn⟩) _ (hs0_10 ⟨n + 1, hn⟩) _ (hs0_11 ⟨n + 1, hn⟩) _ (hs0_12 ⟨n + 1, hn⟩) _ (hs0_13 ⟨n + 1, hn⟩) _ (hs0_14 ⟨n + 1, hn⟩) _ (hs0_15 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), sout0_A_3 c (grid0.coords ⟨n + 1, hn⟩) _ (hs0_0 ⟨n + 1, hn⟩) _ (hs0_1 ⟨n + 1, hn⟩) _ (hs0_2 ⟨n + 1, hn⟩) _ (hs0_3 ⟨n + 1, hn⟩) _ (hs0_4 ⟨n + 1, hn⟩) _ (hs0_5 ⟨n + 1, hn⟩) _ (hs0_6 ⟨n + 1, hn⟩) _ (hs0_7 ⟨n + 1, hn⟩) _ (hs0_8 ⟨n + 1, hn⟩) _ (hs0_9 ⟨n + 1, hn⟩) _ (hs0_10 ⟨n + 1, hn⟩) _ (hs0_11 ⟨n + 1, hn⟩) _ (hs0_12 ⟨n + 1, hn⟩) _ (hs0_13 ⟨n + 1, hn⟩) _ (hs0_14 ⟨n + 1, hn⟩) _ (hs0_15 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩))
    else
      if h1 : (1 ≤ (n + 1) % 56 ∧ (n + 1) % 56 ≤ 54) then
        if h2 : (n + 1) % 56 = 55 then
          False.elim (by have hN : n + 1 < 56 := lt_of_lt_of_eq hn (show cfg0.N = 56 from N_0); omega)
        else
          (sout0_B_0 c (grid0.coords ⟨n + 1, hn⟩) _ (hs0_0 ⟨n + 1, hn⟩) _ (hs0_1 ⟨n + 1, hn⟩) _ (hs0_2 ⟨n + 1, hn⟩) _ (hs0_3 ⟨n + 1, hn⟩) _ (hs0_4 ⟨n + 1, hn⟩) _ (hs0_5 ⟨n + 1, hn⟩) _ (hs0_6 ⟨n + 1, hn⟩) _ (hs0_7 ⟨n + 1, hn⟩) _ (hs0_8 ⟨n + 1, hn⟩) _ (hs0_9 ⟨n + 1, hn⟩) _ (hs0_10 ⟨n + 1, hn⟩) _ (hs0_11 ⟨n + 1, hn⟩) _ (hs0_12 ⟨n + 1, hn⟩) _ (hs0_13 ⟨n + 1, hn⟩) _ (hs0_14 ⟨n + 1, hn⟩) _ (hs0_15 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).1 (outsAt0 c n (Nat.lt_of_succ_lt hn)).2.1 (outsAt0 c n (Nat.lt_of_succ_lt hn)).2.2, sout0_B_1 c (grid0.coords ⟨n + 1, hn⟩) _ (hs0_0 ⟨n + 1, hn⟩) _ (hs0_1 ⟨n + 1, hn⟩) _ (hs0_2 ⟨n + 1, hn⟩) _ (hs0_3 ⟨n + 1, hn⟩) _ (hs0_4 ⟨n + 1, hn⟩) _ (hs0_5 ⟨n + 1, hn⟩) _ (hs0_6 ⟨n + 1, hn⟩) _ (hs0_7 ⟨n + 1, hn⟩) _ (hs0_8 ⟨n + 1, hn⟩) _ (hs0_9 ⟨n + 1, hn⟩) _ (hs0_10 ⟨n + 1, hn⟩) _ (hs0_11 ⟨n + 1, hn⟩) _ (hs0_12 ⟨n + 1, hn⟩) _ (hs0_13 ⟨n + 1, hn⟩) _ (hs0_14 ⟨n + 1, hn⟩) _ (hs0_15 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).1 (outsAt0 c n (Nat.lt_of_succ_lt hn)).2.1 (outsAt0 c n (Nat.lt_of_succ_lt hn)).2.2, sout0_B_3 c (grid0.coords ⟨n + 1, hn⟩) _ (hs0_0 ⟨n + 1, hn⟩) _ (hs0_1 ⟨n + 1, hn⟩) _ (hs0_2 ⟨n + 1, hn⟩) _ (hs0_3 ⟨n + 1, hn⟩) _ (hs0_4 ⟨n + 1, hn⟩) _ (hs0_5 ⟨n + 1, hn⟩) _ (hs0_6 ⟨n + 1, hn⟩) _ (hs0_7 ⟨n + 1, hn⟩) _ (hs0_8 ⟨n + 1, hn⟩) _ (hs0_9 ⟨n + 1, hn⟩) _ (hs0_10 ⟨n + 1, hn⟩) _ (hs0_11 ⟨n + 1, hn⟩) _ (hs0_12 ⟨n + 1, hn⟩) _ (hs0_13 ⟨n + 1, hn⟩) _ (hs0_14 ⟨n + 1, hn⟩) _ (hs0_15 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).1 (outsAt0 c n (Nat.lt_of_succ_lt hn)).2.1 (outsAt0 c n (Nat.lt_of_succ_lt hn)).2.2)
      else
        if h2 : (n + 1) % 56 = 55 then
          (sout0_C_0 c (grid0.coords ⟨n + 1, hn⟩) _ (hs0_0 ⟨n + 1, hn⟩) _ (hs0_1 ⟨n + 1, hn⟩) _ (hs0_2 ⟨n + 1, hn⟩) _ (hs0_3 ⟨n + 1, hn⟩) _ (hs0_4 ⟨n + 1, hn⟩) _ (hs0_5 ⟨n + 1, hn⟩) _ (hs0_6 ⟨n + 1, hn⟩) _ (hs0_7 ⟨n + 1, hn⟩) _ (hs0_8 ⟨n + 1, hn⟩) _ (hs0_9 ⟨n + 1, hn⟩) _ (hs0_10 ⟨n + 1, hn⟩) _ (hs0_11 ⟨n + 1, hn⟩) _ (hs0_12 ⟨n + 1, hn⟩) _ (hs0_13 ⟨n + 1, hn⟩) _ (hs0_14 ⟨n + 1, hn⟩) _ (hs0_15 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).1 (outsAt0 c n (Nat.lt_of_succ_lt hn)).2.1 (outsAt0 c n (Nat.lt_of_succ_lt hn)).2.2, sout0_C_1 c (grid0.coords ⟨n + 1, hn⟩) _ (hs0_0 ⟨n + 1, hn⟩) _ (hs0_1 ⟨n + 1, hn⟩) _ (hs0_2 ⟨n + 1, hn⟩) _ (hs0_3 ⟨n + 1, hn⟩) _ (hs0_4 ⟨n + 1, hn⟩) _ (hs0_5 ⟨n + 1, hn⟩) _ (hs0_6 ⟨n + 1, hn⟩) _ (hs0_7 ⟨n + 1, hn⟩) _ (hs0_8 ⟨n + 1, hn⟩) _ (hs0_9 ⟨n + 1, hn⟩) _ (hs0_10 ⟨n + 1, hn⟩) _ (hs0_11 ⟨n + 1, hn⟩) _ (hs0_12 ⟨n + 1, hn⟩) _ (hs0_13 ⟨n + 1, hn⟩) _ (hs0_14 ⟨n + 1, hn⟩) _ (hs0_15 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).1 (outsAt0 c n (Nat.lt_of_succ_lt hn)).2.1 (outsAt0 c n (Nat.lt_of_succ_lt hn)).2.2, sout0_C_3 c (grid0.coords ⟨n + 1, hn⟩) _ (hs0_0 ⟨n + 1, hn⟩) _ (hs0_1 ⟨n + 1, hn⟩) _ (hs0_2 ⟨n + 1, hn⟩) _ (hs0_3 ⟨n + 1, hn⟩) _ (hs0_4 ⟨n + 1, hn⟩) _ (hs0_5 ⟨n + 1, hn⟩) _ (hs0_6 ⟨n + 1, hn⟩) _ (hs0_7 ⟨n + 1, hn⟩) _ (hs0_8 ⟨n + 1, hn⟩) _ (hs0_9 ⟨n + 1, hn⟩) _ (hs0_10 ⟨n + 1, hn⟩) _ (hs0_11 ⟨n + 1, hn⟩) _ (hs0_12 ⟨n + 1, hn⟩) _ (hs0_13 ⟨n + 1, hn⟩) _ (hs0_14 ⟨n + 1, hn⟩) _ (hs0_15 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).1 (outsAt0 c n (Nat.lt_of_succ_lt hn)).2.1 (outsAt0 c n (Nat.lt_of_succ_lt hn)).2.2)
        else
          False.elim (by have hN : n + 1 < 56 := lt_of_lt_of_eq hn (show cfg0.N = 56 from N_0); omega)

theorem outsAt0_A (c : Dev nD) (t : Fin cfg0.N) (h0 : t.val % 56 = 0) (h1 : ¬(1 ≤ t.val % 56 ∧ t.val % 56 ≤ 54)) (h2 : ¬t.val % 56 = 55) :
    outsAt0 m c t.val t.isLt = (sout0_A_0 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t), sout0_A_1 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t), sout0_A_3 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t)) := by
  obtain ⟨n, hn⟩ := t
  cases n with
  | zero => exact rfl
  | succ n => exact (dif_pos h0).trans ((dif_neg h1).trans ((dif_neg h2).trans rfl))

theorem outsAt0_B (c : Dev nD) (t : Fin cfg0.N) (h0 : ¬t.val % 56 = 0) (h1 : (1 ≤ t.val % 56 ∧ t.val % 56 ≤ 54)) (h2 : ¬t.val % 56 = 55) :
    outsAt0 m c t.val t.isLt = (sout0_B_0 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, sout0_B_1 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, sout0_B_3 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans ((dif_neg h2).trans rfl))

theorem outsAt0_C (c : Dev nD) (t : Fin cfg0.N) (h0 : ¬t.val % 56 = 0) (h1 : ¬(1 ≤ t.val % 56 ∧ t.val % 56 ≤ 54)) (h2 : t.val % 56 = 55) :
    outsAt0 m c t.val t.isLt = (sout0_C_0 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, sout0_C_1 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, sout0_C_3 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans ((dif_pos h2).trans rfl))

def PhiS (c : Dev nD) : (n : ℕ) → n ≤ cfg0.N → sProp (MT nD τ sig Unit (Elt F) ℕ (UR sig nD τ) ℕ)
  | 0, _ => Pipeline.ΦA spec0 c
  | n + 1, hn => iprop(iprop(owns (c : Thread nD τ) scM0_0 fullShare ((outsAt0 m c n hn).1) ∗ owns (c : Thread nD τ) scM0_1 fullShare ((outsAt0 m c n hn).2.1) ∗ (∃ d, owns (c : Thread nD τ) scM0_2 fullShare d) ∗ owns (c : Thread nD τ) scM0_3 fullShare ((outsAt0 m c n hn).2.2) ∗ (∃ d, owns (c : Thread nD τ) scM0_4 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).1) ∗ owns (c : Thread nD τ) scM0_1 fullShare ((outsAt0 m c n hn).2.1) ∗ (∃ d, owns (c : Thread nD τ) scM0_2 fullShare d) ∗ owns (c : Thread nD τ) scM0_3 fullShare ((outsAt0 m c n hn).2.2) ∗ (∃ d, owns (c : Thread nD τ) scM0_4 fullShare d)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).1) ∗ owns (c : Thread nD τ) scM0_1 fullShare ((outsAt0 m c (n - 1) (by omega)).2.1) ∗ (∃ d, owns (c : Thread nD τ) scM0_2 fullShare d) ∗ owns (c : Thread nD τ) scM0_3 fullShare ((outsAt0 m c (n - 1) (by omega)).2.2) ∗ (∃ d, owns (c : Thread nD τ) scM0_4 fullShare d)) ∗ (∃ r, prngReg c r)) := by
  cases n with
  | zero => exact absurd rfl hz
  | succ n => rfl

def forgets0 : Fin 16 → Bool := fun w => w.val == 8 || w.val == 9 || w.val == 10 || w.val == 11 || w.val == 12 || w.val == 13 || w.val == 14 || w.val == 15

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨_ + 16, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d))

def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d))

set_option maxHeartbeats 24000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  have hN : t.val < 56 := lt_of_lt_of_eq t.isLt (show cfg0.N = 56 from N_0)
  by_cases h0 : t.val % 56 = 0
  · by_cases h1 : (1 ≤ t.val % 56 ∧ t.val % 56 ≤ 54)
    · exfalso; omega
    · by_cases h2 : t.val % 56 = 55
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        by_cases hz : t.val = 0
        · rw [PhiS_castSucc m c t, PhiS_zero m c _ _ hz, PhiA0_eq]
          rw [outsAt0_A m c t h0 h1 h2]
          unfold sout0_A_0 sout0_A_1 sout0_A_3; (try dsimp only)
          iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
          iapply ((kernelRun0_A c (grid0.coords t) _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t)).2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexists _; iexact H8
          isplitl [H9]; · iexists _; iexact H9
          isplitl [H10]; · iexists _; iexact H10
          isplitl [H11]; · iexists _; iexact H11
          isplitl [H12]; · iexists _; iexact H12
          isplitl [H13]; · iexists _; iexact H13
          isplitl [H14]; · iexists _; iexact H14
          isplitl [H15]; · iexists _; iexact H15
          isplitl [HS0]; · iexact HS0
          isplitl [HS1]; · iexact HS1
          isplitl [HS2]; · iexact HS2
          isplitl [HS3]; · iexact HS3
          isplitl [HS4]; · iexact HS4
          iintro ⟨H0, H1, H2, H3, H4, H5, H6, H7, H8, H9, H10, H11, H12, H13, H14, H15, ⟨%es0, HS0⟩, ⟨%es1, HS1⟩, HS2, ⟨%es3, HS3⟩, HS4⟩
          isplitl [HS0 HS1 HS2 HS3 HS4 Hg]
          · isplitl [HS0 HS1 HS2 HS3 HS4]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _)
              isplitl [HS2]
              · iexact HS2
              isplitl [HS3]
              · unfold owns; iexists _; isplitr
                swap; · iexact HS3
                ipureintro; exact View.read_writes_of_cover _ _ _ _ _ (scover0_A_3 c _ _ _ _ _ _ _ _ _ _ _ _ _ _ _ _ _ _ _ _ _ _ _ _ _ _ _ _ _ _ _ _ _ _ _ _ _ _ _ _ _ _ _ _ _ _ _ _ _ _ _ _ _ _)
              iexact HS4
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          iexact H15
        · exfalso; have hN : t.val < 56 := lt_of_lt_of_eq t.isLt (show cfg0.N = 56 from N_0); omega
  · by_cases h1 : (1 ≤ t.val % 56 ∧ t.val % 56 ≤ 54)
    · by_cases h2 : t.val % 56 = 55
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        by_cases hz : t.val = 0
        · exfalso; have hN : t.val < 56 := lt_of_lt_of_eq t.isLt (show cfg0.N = 56 from N_0); omega
        · rw [PhiS_castSucc m c t, PhiS_pos m c _ _ hz]
          rw [outsAt0_B m c t h0 h1 h2]
          unfold sout0_B_0 sout0_B_1 sout0_B_3; (try dsimp only)
          iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
          iapply ((kernelRun0_B c (grid0.coords t) _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) _ _ _).2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexists _; iexact H8
          isplitl [H9]; · iexists _; iexact H9
          isplitl [H10]; · iexists _; iexact H10
          isplitl [H11]; · iexists _; iexact H11
          isplitl [H12]; · iexists _; iexact H12
          isplitl [H13]; · iexists _; iexact H13
          isplitl [H14]; · iexists _; iexact H14
          isplitl [H15]; · iexists _; iexact H15
          isplitl [HS0]; · iexact HS0
          isplitl [HS1]; · iexact HS1
          isplitl [HS2]; · iexact HS2
          isplitl [HS3]; · iexact HS3
          isplitl [HS4]; · iexact HS4
          iintro ⟨H0, H1, H2, H3, H4, H5, H6, H7, H8, H9, H10, H11, H12, H13, H14, H15, HS0, ⟨%es1, HS1⟩, HS2, ⟨%es3, HS3⟩, HS4⟩
          isplitl [HS0 HS1 HS2 HS3 HS4 Hg]
          · isplitl [HS0 HS1 HS2 HS3 HS4]
            · isplitl [HS0]
              · iexact HS0
              isplitl [HS1]
              · unfold owns; iexists _; isplitr
                swap; · iexact HS1
                ipureintro; exact View.read_writes_of_cover _ _ _ _ _ (scover0_B_1 c _ _ _ _ _ _ _ _ _ _ _ _ _ _ _ _ _ _ _ _ _ _ _ _ _ _ _ _ _ _ _ _ _ _ _ _ _ _ _ _ _ _ _ _ _ _ _ _ _ _ _ _ _ _ _ _ _)
              isplitl [HS2]
              · iexact HS2
              isplitl [HS3]
              · unfold owns; iexists _; isplitr
                swap; · iexact HS3
                ipureintro; exact View.read_writes_of_cover _ _ _ _ _ (scover0_B_3 c _ _ _ _ _ _ _ _ _ _ _ _ _ _ _ _ _ _ _ _ _ _ _ _ _ _ _ _ _ _ _ _ _ _ _ _ _ _ _ _ _ _ _ _ _ _ _ _ _ _ _ _ _ _ _ _ _)
              iexact HS4
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          iexact H15
    · by_cases h2 : t.val % 56 = 55
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        by_cases hz : t.val = 0
        · exfalso; have hN : t.val < 56 := lt_of_lt_of_eq t.isLt (show cfg0.N = 56 from N_0); omega
        · rw [PhiS_castSucc m c t, PhiS_pos m c _ _ hz]
          rw [outsAt0_C m c t h0 h1 h2]
          unfold sout0_C_0 sout0_C_1 sout0_C_3; (try dsimp only)
          iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
          iapply ((kernelRun0_C c (grid0.coords t) _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) _ _ _).2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexists _; iexact H8
          isplitl [H9]; · iexists _; iexact H9
          isplitl [H10]; · iexists _; iexact H10
          isplitl [H11]; · iexists _; iexact H11
          isplitl [H12]; · iexists _; iexact H12
          isplitl [H13]; · iexists _; iexact H13
          isplitl [H14]; · iexists _; iexact H14
          isplitl [H15]; · iexists _; iexact H15
          isplitl [HS0]; · iexact HS0
          isplitl [HS1]; · iexact HS1
          isplitl [HS2]; · iexact HS2
          isplitl [HS3]; · iexact HS3
          isplitl [HS4]; · iexact HS4
          iintro ⟨H0, H1, H2, H3, H4, H5, H6, H7, H8, H9, H10, H11, H12, H13, H14, H15, HS0, HS1, HS2, HS3, HS4⟩
          isplitl [HS0 HS1 HS2 HS3 HS4 Hg]
          · isplitl [HS0 HS1 HS2 HS3 HS4]
            · isplitl [HS0]
              · iexact HS0
              isplitl [HS1]
              · iexact HS1
              isplitl [HS2]
              · iexact HS2
              isplitl [HS3]
              · iexact HS3
              iexact HS4
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          iexact H15
      · exfalso; omega

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4⟩, Hg⟩
  isplitl [HS0 HS1 HS2 HS3 HS4]
  · isplitl [HS0]
    · iexists _; iexact HS0
    isplitl [HS1]
    · iexists _; iexact HS1
    isplitl [HS2]
    · iexact HS2
    isplitl [HS3]
    · iexists _; iexact HS3
    iexact HS4
  iexact Hg

theorem hout (c : Dev nD) : (dats m 0 c).Φ (Fin.last cfg0.N) ⊢ Pipeline.ΦA spec0 c :=
  Phi_out m c _ (by rw [Fin.val_last]; have : cfg0.N = 56 := N_0; omega)

set_option backward.isDefEq.respectTransparency.types false in
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (fun c => (dats m 0 c).toRForget forgets0) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Project.Gen

end
-- ==== Proof.Quant.lean ====
/- The arithmetic of the projection, one number at a time: the greatest of 128 numbers, a group's scale, sums taken apart. -/
module
public import Idealize.ShloMosaic.Lib.Pipeline.ValueKit
public import Idealize.ShloMosaic.PureOps.Ideal.Laws
@[expose] public section
noncomputable section
namespace Cert.Proof.Project
open Idealize.ShloMosaic

/-- The greatest of 128 numbers. -/
def top (f : Fin 128 → EReal) : EReal := (Finset.univ : Finset (Fin 128)).fold max (FloatOps.ofBits (F := Ideal) .f32 0xFF800000#32) f

theorem bottom : FloatOps.ofBits (F := Ideal) .f32 0xFF800000#32 = (⊥ : EReal) := by
  show Ideal.ofBits .f32 0xFF800000#32 = ⊥
  simp [Ideal.ofBits, Ideal.ieee]

theorem le_top (f : Fin 128 → EReal) (k : Fin 128) : f k ≤ top f :=
  (Finset.le_fold_max _).mpr (Or.inr ⟨k, Finset.mem_univ k, le_rfl⟩)

theorem width : Ideal.ofBits .f32 1168637952#32 = ((5376 : ℝ) : EReal) := by
  simp [Ideal.ofBits, Ideal.ieee, -EReal.coe_mul]; norm_num
theorem lanes : Ideal.ofBits .f32 1124073472#32 = ((128 : ℝ) : EReal) := by
  simp [Ideal.ofBits, Ideal.ieee, -EReal.coe_mul]; norm_num
theorem lanesInv : Ideal.ofBits .f32 1006632960#32 = ((128⁻¹ : ℝ) : EReal) := by
  simp [Ideal.ofBits, Ideal.ieee, -EReal.coe_mul]; norm_num
theorem greatest : Ideal.ofBits .f32 1138753536#32 = ((448 : ℝ) : EReal) := by
  simp [Ideal.ofBits, Ideal.ieee, -EReal.coe_mul]; norm_num
theorem two : Ideal.ofBits .f32 1073741824#32 = ((2 : ℝ) : EReal) := by
  simp [Ideal.ofBits, Ideal.ieee, -EReal.coe_mul]; norm_num
theorem tiny : Ideal.ofBits .f32 83886080#32 = ((2 ^ (-117 : ℤ) : ℝ) : EReal) := by
  simp [Ideal.ofBits, Ideal.ieee, -EReal.coe_mul]; norm_num
theorem low : Ideal.ofBits .f32 3286237184#32 = ((-448 : ℝ) : EReal) := by
  simp [Ideal.ofBits, Ideal.ieee, -EReal.coe_mul]; norm_num

/-- The reference's exponent of a group of greatest magnitude `a`. -/
def expo (a : EReal) : EReal :=
  if a = 0 then 0 else Ideal.liftRound Int.floor (Ideal.div (Ideal.log (Ideal.div (max a (Ideal.ofBits .f32 83886080#32)) (Ideal.ofBits .f32 1138753536#32))) (Ideal.log (Ideal.ofBits .f32 1073741824#32))) + 1

/-- The kernel's power of two, corrected downward. -/
def pow1 (m : EReal) : EReal :=
  if m < Ideal.exp2 (Ideal.liftRound Int.floor (Ideal.div (Ideal.log m) (Ideal.log (Ideal.ofBits .f32 1073741824#32))))
  then Ideal.exp2 (Ideal.liftRound Int.floor (Ideal.div (Ideal.log m) (Ideal.log (Ideal.ofBits .f32 1073741824#32)))) * Ideal.ofBits .f32 1056964608#32
  else Ideal.exp2 (Ideal.liftRound Int.floor (Ideal.div (Ideal.log m) (Ideal.log (Ideal.ofBits .f32 1073741824#32))))

/-- The kernel's scale, of the magnitude over 448: corrected upward and doubled. -/
def pow2 (m : EReal) : EReal :=
  (if pow1 m + pow1 m ≤ m then pow1 m + pow1 m else pow1 m) + (if pow1 m + pow1 m ≤ m then pow1 m + pow1 m else pow1 m)

/-- Of a positive magnitude neither correction applies: the scale is the power of two itself. -/
theorem pow2_eq (m : EReal) (hm : 0 < m) :
    pow2 m = Ideal.exp2 (Ideal.liftRound Int.floor (Ideal.div (Ideal.log m) (Ideal.log (Ideal.ofBits .f32 1073741824#32))) + 1) := by
  have hl2 : 0 < Real.log 2 := Real.log_pos (by norm_num)
  have hl : Ideal.log (Ideal.ofBits .f32 1073741824#32) = ((Real.log 2 : ℝ) : EReal) := by
    rw [two, Ideal.log_coe, if_neg (by norm_num)]
  unfold pow2 pow1
  rw [hl]
  induction m with
  | bot => simp at hm
  | top =>
    rw [Ideal.log_top, Ideal.div_coe hl2.ne', EReal.top_mul_coe_of_pos (by positivity)]
    simp [show (⊤ : EReal) + 1 = ⊤ from rfl]
  | coe r =>
    have hr : 0 < r := by exact_mod_cast hm
    rw [Ideal.log_coe, if_neg (not_le.mpr hr), Ideal.div_coe hl2.ne', ← EReal.coe_mul, Ideal.liftRound_coe]
    set n : ℤ := ⌊Real.log r * (1 / Real.log 2)⌋ with hn
    have e1 : Ideal.exp2 ((n : ℝ) : EReal) = (((2 : ℝ) ^ (n : ℝ) : ℝ) : EReal) := rfl
    have e2 : Ideal.exp2 (((n : ℝ) : EReal) + 1) = (((2 : ℝ) ^ (n : ℝ) + (2 : ℝ) ^ (n : ℝ) : ℝ) : EReal) := by
      rw [← EReal.coe_one, ← EReal.coe_add, Ideal.exp2_coe]
      congr 1
      show (2 : ℝ) ^ ((n : ℝ) + 1) = _
      rw [Real.rpow_add (by norm_num), Real.rpow_one]
      ring
    have hx : r = (2 : ℝ) ^ (Real.log r * (1 / Real.log 2)) := by
      rw [Real.rpow_def_of_pos (by norm_num), mul_one_div, mul_div_cancel₀ _ hl2.ne', Real.exp_log hr]
    have h1 : (2 : ℝ) ^ (n : ℝ) ≤ r := by
      conv_rhs => rw [hx]
      exact Real.rpow_le_rpow_of_exponent_le (by norm_num) (Int.floor_le _)
    have h2 : r < (2 : ℝ) ^ (n : ℝ) + (2 : ℝ) ^ (n : ℝ) := by
      have : r < (2 : ℝ) ^ ((n : ℝ) + 1) := by
        conv_lhs => rw [hx]
        exact Real.rpow_lt_rpow_of_exponent_lt (by norm_num) (Int.lt_floor_add_one _)
      rw [Real.rpow_add (by norm_num), Real.rpow_one] at this
      linarith
    rw [e1, e2, if_neg (not_lt.mpr (by exact_mod_cast h1)), if_neg (not_le.mpr ?_), ← EReal.coe_add]
    rw [← EReal.coe_add]
    exact_mod_cast h2

/-- A group's element, divided by its power of two, held to the codes' range, and widened again. -/
def grp (f : Fin 128 → EReal) (j : Fin 128) : EReal :=
  min (Ideal.ofBits .f32 1138753536#32) (max (Ideal.ofBits .f32 3286237184#32) (f j * Ideal.exp2 (0 - expo (top fun k => max (f k) (-f k))))) * Ideal.exp2 (expo (top fun k => max (f k) (-f k)))

/-- The same by the kernel's scale and its inverse. -/
theorem grp_eq (f : Fin 128 → EReal) (j : Fin 128) :
    min (Ideal.ofBits .f32 1138753536#32) (max (Ideal.ofBits .f32 3286237184#32) (f j * Ideal.div 1 (pow2 (max (top fun k => max (f k) (-f k)) (Ideal.ofBits .f32 83886080#32) * ((448⁻¹ : ℝ) : EReal)))))
      * pow2 (max (top fun k => max (f k) (-f k)) (Ideal.ofBits .f32 83886080#32) * ((448⁻¹ : ℝ) : EReal)) = grp f j := by
  unfold grp
  have hj : max (f j) (-f j) ≤ top fun k => max (f k) (-f k) := le_top (fun k => max (f k) (-f k)) j
  generalize (top fun k => max (f k) (-f k)) = a at hj ⊢
  by_cases ha : a = 0
  · have h0 : f j = 0 := by
      rw [ha] at hj
      exact le_antisymm ((le_max_left _ _).trans hj) (by simpa using EReal.neg_le_neg_iff.mpr ((le_max_right _ _).trans hj))
    rw [h0, zero_mul, zero_mul, low, greatest]
    have : min ((448 : ℝ) : EReal) (max ((-448 : ℝ) : EReal) 0) = 0 := by
      rw [max_eq_right (by exact_mod_cast (by norm_num : (-448 : ℝ) ≤ 0)), min_eq_right (by exact_mod_cast (by norm_num : (0 : ℝ) ≤ 448))]
    rw [this, zero_mul, zero_mul]
  · have hm : 0 < max a (Ideal.ofBits .f32 83886080#32) * ((448⁻¹ : ℝ) : EReal) := by
      refine EReal.mul_pos (lt_of_lt_of_le ?_ (le_max_right _ _)) (by exact_mod_cast (by norm_num : (0 : ℝ) < 448⁻¹))
      rw [tiny]
      exact_mod_cast (by positivity : (0 : ℝ) < 2 ^ (-117 : ℤ))
    have hs : pow2 (max a (Ideal.ofBits .f32 83886080#32) * ((448⁻¹ : ℝ) : EReal)) = Ideal.exp2 (expo a) := by
      rw [pow2_eq _ hm]
      unfold expo
      rw [if_neg ha, greatest, Ideal.div_coe (by norm_num : (448 : ℝ) ≠ 0), one_div]
    rw [hs]
    congr 4
    generalize expo a = e
    induction e with
    | bot => simp [Ideal.div]
    | top => simp [Ideal.div]
    | coe r =>
      rw [zero_sub, ← EReal.coe_neg, Ideal.exp2_coe, Ideal.exp2_coe, Ideal.div_coe (show Real.rpow 2 r ≠ 0 from (Real.rpow_pos_of_pos (by norm_num) r).ne'), one_mul, one_div]
      congr 1
      exact (Real.rpow_neg (by norm_num) r).symm

/-- A sum over a product of lengths, taken block by block. -/
theorem sum_blocks (f : ℕ → EReal) (a b : ℕ) : ∑ i ∈ Finset.range (a * b), f i = ∑ i ∈ Finset.range a, ∑ j ∈ Finset.range b, f (b * i + j) := by
  induction a with
  | zero => simp
  | succ n ih => rw [Finset.sum_range_succ, Nat.add_mul, one_mul, Finset.sum_range_add, ih, Nat.mul_comm b n]

theorem square_nonneg (x : EReal) : 0 ≤ x * x := by
  induction x with
  | bot => simp
  | top => simp
  | coe r => exact_mod_cast mul_self_nonneg r

end Cert.Proof.Project
end
-- ==== Proof.Vecs.lean ====
/- The vectors the projection kernel computes, each as one expression of the kernel's own operations. -/
module
public import proofs.«01_k».proof.Proof.Gen.ProjectIdeal.Skeleton
public import proofs.«01_k».proof.Proof.Quant
public import Idealize.ShloMosaic.Lib.Pipeline.ValueKit
public import Idealize.ShloMosaic.PureOps.Ideal.Laws
@[expose] public section
set_option maxRecDepth 16384
noncomputable section
namespace Cert.Proof.Project
open Cert.ProjectIdeal Cert.ProjectIdeal.Gen Idealize.ShloMosaic Idealize.ShloMosaic.TcCoe Idealize.SL.Sem

/-- The sums of a block's rows eight apart, added to a running total. -/
def tiles (a : FVec Ideal S8x256 .f32) (v : FVec Ideal S256x256 .f32) : FVec Ideal S8x256 .f32 :=
  (addf (addf (addf (addf (addf (addf (addf (addf (addf (addf (addf (addf (addf (addf (addf (addf (addf (addf (addf (addf (addf (addf (addf (addf (addf (addf (addf (addf (addf (addf (addf (addf a (extractStridedSlice S8x256 ![0, 0] v slices_S256x256_o0_0_S8x256)) (extractStridedSlice S8x256 ![8, 0] v slices_S256x256_o8_0_S8x256)) (extractStridedSlice S8x256 ![16, 0] v slices_S256x256_o16_0_S8x256)) (extractStridedSlice S8x256 ![24, 0] v slices_S256x256_o24_0_S8x256)) (extractStridedSlice S8x256 ![32, 0] v slices_S256x256_o32_0_S8x256)) (extractStridedSlice S8x256 ![40, 0] v slices_S256x256_o40_0_S8x256)) (extractStridedSlice S8x256 ![48, 0] v slices_S256x256_o48_0_S8x256)) (extractStridedSlice S8x256 ![56, 0] v slices_S256x256_o56_0_S8x256)) (extractStridedSlice S8x256 ![64, 0] v slices_S256x256_o64_0_S8x256)) (extractStridedSlice S8x256 ![72, 0] v slices_S256x256_o72_0_S8x256)) (extractStridedSlice S8x256 ![80, 0] v slices_S256x256_o80_0_S8x256)) (extractStridedSlice S8x256 ![88, 0] v slices_S256x256_o88_0_S8x256)) (extractStridedSlice S8x256 ![96, 0] v slices_S256x256_o96_0_S8x256)) (extractStridedSlice S8x256 ![104, 0] v slices_S256x256_o104_0_S8x256)) (extractStridedSlice S8x256 ![112, 0] v slices_S256x256_o112_0_S8x256)) (extractStridedSlice S8x256 ![120, 0] v slices_S256x256_o120_0_S8x256)) (extractStridedSlice S8x256 ![128, 0] v slices_S256x256_o128_0_S8x256)) (extractStridedSlice S8x256 ![136, 0] v slices_S256x256_o136_0_S8x256)) (extractStridedSlice S8x256 ![144, 0] v slices_S256x256_o144_0_S8x256)) (extractStridedSlice S8x256 ![152, 0] v slices_S256x256_o152_0_S8x256)) (extractStridedSlice S8x256 ![160, 0] v slices_S256x256_o160_0_S8x256)) (extractStridedSlice S8x256 ![168, 0] v slices_S256x256_o168_0_S8x256)) (extractStridedSlice S8x256 ![176, 0] v slices_S256x256_o176_0_S8x256)) (extractStridedSlice S8x256 ![184, 0] v slices_S256x256_o184_0_S8x256)) (extractStridedSlice S8x256 ![192, 0] v slices_S256x256_o192_0_S8x256)) (extractStridedSlice S8x256 ![200, 0] v slices_S256x256_o200_0_S8x256)) (extractStridedSlice S8x256 ![208, 0] v slices_S256x256_o208_0_S8x256)) (extractStridedSlice S8x256 ![216, 0] v slices_S256x256_o216_0_S8x256)) (extractStridedSlice S8x256 ![224, 0] v slices_S256x256_o224_0_S8x256)) (extractStridedSlice S8x256 ![232, 0] v slices_S256x256_o232_0_S8x256)) (extractStridedSlice S8x256 ![240, 0] v slices_S256x256_o240_0_S8x256)) (extractStridedSlice S8x256 ![248, 0] v slices_S256x256_o248_0_S8x256))

/-- The same without a running total. -/
def tiles0 (v : FVec Ideal S256x256 .f32) : FVec Ideal S8x256 .f32 :=
  (addf (addf (addf (addf (addf (addf (addf (addf (addf (addf (addf (addf (addf (addf (addf (addf (addf (addf (addf (addf (addf (addf (addf (addf (addf (addf (addf (addf (addf (addf (addf (extractStridedSlice S8x256 ![0, 0] v slices_S256x256_o0_0_S8x256) (extractStridedSlice S8x256 ![8, 0] v slices_S256x256_o8_0_S8x256)) (extractStridedSlice S8x256 ![16, 0] v slices_S256x256_o16_0_S8x256)) (extractStridedSlice S8x256 ![24, 0] v slices_S256x256_o24_0_S8x256)) (extractStridedSlice S8x256 ![32, 0] v slices_S256x256_o32_0_S8x256)) (extractStridedSlice S8x256 ![40, 0] v slices_S256x256_o40_0_S8x256)) (extractStridedSlice S8x256 ![48, 0] v slices_S256x256_o48_0_S8x256)) (extractStridedSlice S8x256 ![56, 0] v slices_S256x256_o56_0_S8x256)) (extractStridedSlice S8x256 ![64, 0] v slices_S256x256_o64_0_S8x256)) (extractStridedSlice S8x256 ![72, 0] v slices_S256x256_o72_0_S8x256)) (extractStridedSlice S8x256 ![80, 0] v slices_S256x256_o80_0_S8x256)) (extractStridedSlice S8x256 ![88, 0] v slices_S256x256_o88_0_S8x256)) (extractStridedSlice S8x256 ![96, 0] v slices_S256x256_o96_0_S8x256)) (extractStridedSlice S8x256 ![104, 0] v slices_S256x256_o104_0_S8x256)) (extractStridedSlice S8x256 ![112, 0] v slices_S256x256_o112_0_S8x256)) (extractStridedSlice S8x256 ![120, 0] v slices_S256x256_o120_0_S8x256)) (extractStridedSlice S8x256 ![128, 0] v slices_S256x256_o128_0_S8x256)) (extractStridedSlice S8x256 ![136, 0] v slices_S256x256_o136_0_S8x256)) (extractStridedSlice S8x256 ![144, 0] v slices_S256x256_o144_0_S8x256)) (extractStridedSlice S8x256 ![152, 0] v slices_S256x256_o152_0_S8x256)) (extractStridedSlice S8x256 ![160, 0] v slices_S256x256_o160_0_S8x256)) (extractStridedSlice S8x256 ![168, 0] v slices_S256x256_o168_0_S8x256)) (extractStridedSlice S8x256 ![176, 0] v slices_S256x256_o176_0_S8x256)) (extractStridedSlice S8x256 ![184, 0] v slices_S256x256_o184_0_S8x256)) (extractStridedSlice S8x256 ![192, 0] v slices_S256x256_o192_0_S8x256)) (extractStridedSlice S8x256 ![200, 0] v slices_S256x256_o200_0_S8x256)) (extractStridedSlice S8x256 ![208, 0] v slices_S256x256_o208_0_S8x256)) (extractStridedSlice S8x256 ![216, 0] v slices_S256x256_o216_0_S8x256)) (extractStridedSlice S8x256 ![224, 0] v slices_S256x256_o224_0_S8x256)) (extractStridedSlice S8x256 ![232, 0] v slices_S256x256_o232_0_S8x256)) (extractStridedSlice S8x256 ![240, 0] v slices_S256x256_o240_0_S8x256)) (extractStridedSlice S8x256 ![248, 0] v slices_S256x256_o248_0_S8x256))

/-- The same of one head. -/
def tilesH (v : FVec Ideal S128x256 .f32) : FVec Ideal S8x256 .f32 :=
  (addf (addf (addf (addf (addf (addf (addf (addf (addf (addf (addf (addf (addf (addf (addf (extractStridedSlice S8x256 ![0, 0] v slices_S128x256_o0_0_S8x256) (extractStridedSlice S8x256 ![8, 0] v slices_S128x256_o8_0_S8x256)) (extractStridedSlice S8x256 ![16, 0] v slices_S128x256_o16_0_S8x256)) (extractStridedSlice S8x256 ![24, 0] v slices_S128x256_o24_0_S8x256)) (extractStridedSlice S8x256 ![32, 0] v slices_S128x256_o32_0_S8x256)) (extractStridedSlice S8x256 ![40, 0] v slices_S128x256_o40_0_S8x256)) (extractStridedSlice S8x256 ![48, 0] v slices_S128x256_o48_0_S8x256)) (extractStridedSlice S8x256 ![56, 0] v slices_S128x256_o56_0_S8x256)) (extractStridedSlice S8x256 ![64, 0] v slices_S128x256_o64_0_S8x256)) (extractStridedSlice S8x256 ![72, 0] v slices_S128x256_o72_0_S8x256)) (extractStridedSlice S8x256 ![80, 0] v slices_S128x256_o80_0_S8x256)) (extractStridedSlice S8x256 ![88, 0] v slices_S128x256_o88_0_S8x256)) (extractStridedSlice S8x256 ![96, 0] v slices_S128x256_o96_0_S8x256)) (extractStridedSlice S8x256 ![104, 0] v slices_S128x256_o104_0_S8x256)) (extractStridedSlice S8x256 ![112, 0] v slices_S128x256_o112_0_S8x256)) (extractStridedSlice S8x256 ![120, 0] v slices_S128x256_o120_0_S8x256))

/-- The eight rows added up. -/
def eight (v : FVec Ideal S8x256 .f32) : FVec Ideal S1x256 .f32 :=
  let a := addf v (dynamicRotate 0 4#32 none v rotates_S8x256_d0)
  let b := addf a (dynamicRotate 0 2#32 none a rotates_S8x256_d0)
  extractStridedSlice S1x256 ![0, 0] (addf b (dynamicRotate 0 1#32 none b rotates_S8x256_d0)) slices_S8x256_o0_0_S1x256

/-- A block of the input turned over. -/
def turned (v : Vec Ideal S256x256 .bf16) : FVec Ideal S256x256 .bf16 := transpose S256x256 [1, 0] v transposes_S256x256_p1_0_S256x256

/-- The squares of a block turned over. -/
def squares (v : Vec Ideal S256x256 .bf16) : FVec Ideal S256x256 .f32 := mulf (extf .f32 (turned v) bitsLt_bf16_f32) (extf .f32 (turned v) bitsLt_bf16_f32)

/-- The root of the mean square from the sums of squares. -/
def rootOf (s : FVec Ideal S8x256 .f32) : FVec Ideal S1x256 .f32 :=
  sqrt (addf (mulf (eight s) (broadcast S1x256 (Named.named κ "inv_width" 0x39430C31#32))) (broadcast S1x256 (Scalar.ofBits .f32 0x358637BD#32)))

/-- A group of the input, divided by the root and scaled. -/
def normV (r : Vec Ideal S1x256 .f32) (x : Vec Ideal S128x256 .bf16) (g : Vec Ideal S128x128 .f32) : FVec Ideal S128x256 .f32 :=
  mulf (divf (extf .f32 x bitsLt_bf16_f32) (broadcastTo S128x256 r broadcasts_S1x256_S128x256))
    (concatenate S128x256 1 [⟨S128x128, shapeCast S128x128 g shapeCasts_S128x128_S128x128⟩, ⟨S128x128, shapeCast S128x128 g shapeCasts_S128x128_S128x128⟩] concatenates_S128x128_S128x128_S128x256_d1)

/-- The greatest magnitude of each column. -/
def magV (v : FVec Ideal S128x256 .f32) : FVec Ideal S1x256 .f32 :=
  shapeCast S1x256 (multiReduction .maximumf [0] S256 (absf v) 0xFF800000#32 reduces_S128x256_S256 (.inl rfl) rfl) shapeCasts_S256_S1x256

/-- The power of two a group is divided by, before doubling. -/
def powV (m : FVec Ideal S1x256 .f32) : FVec Ideal S1x256 .f32 :=
  exp2 (floor (divf (log m) (log (broadcast S1x256 (Scalar.ofBits .f32 0x40000000#32)))))

/-- The scale of a group. -/
def scaleV (a : FVec Ideal S1x256 .f32) : FVec Ideal S1x256 .f32 :=
  let m := mulf (maximumf a (broadcast S1x256 (Scalar.ofBits .f32 0x05000000#32))) (broadcast S1x256 (Named.named κ "inv_448" 0x3B124925#32))
  let p := powV m
  let q := select (cmpf .ogt p m) (mulf p (broadcast S1x256 (Scalar.ofBits .f32 0x3F000000#32))) p
  let s := select (cmpf .ole (addf q q) m) (addf q q) q
  addf s s

/-- Values held to the range of the codes. -/
def clipV (v : FVec Ideal S128x256 .f32) : FVec Ideal S128x256 .fp8e4m3 :=
  truncf .fp8e4m3 (minimumf (broadcast S128x256 (Scalar.ofBits .f32 0x43E00000#32)) (maximumf (broadcast S128x256 (Scalar.ofBits .f32 0xC3E00000#32)) v)) bitsLt_fp8e4m3_f32

/-- A group quantised and widened again. -/
def wideOf (v : FVec Ideal S128x256 .f32) : FVec Ideal S128x256 .bf16 :=
  mulf (extf .bf16 (clipV (mulf v (broadcastTo S128x256 (divf (broadcast S1x256 (Scalar.ofBits .f32 0x3F800000#32)) (scaleV (magV v))) broadcasts_S1x256_S128x256))) bitsLt_fp8e4m3_bf16)
    (broadcastTo S128x256 (truncf .bf16 (scaleV (magV v)) bitsLt_bf16_f32) broadcasts_S1x256_S128x256)

/-- The product of 256 columns of the weight with two groups. -/
def partV (w : FVec Ideal S1024x256 .bf16) (r : Vec Ideal S1x256 .f32) (x0 x1 : Vec Ideal S128x256 .bf16) (g0 g1 : Vec Ideal S128x128 .f32) : FVec Ideal S1024x256 .f32 :=
  matmul dot_S1024x256_S256x256_S1024x256_1_0_0_1_n_n none w
    (concatenate S256x256 0 [⟨S128x256, wideOf (normV r x0 g0)⟩, ⟨S128x256, wideOf (normV r x1 g1)⟩] concatenates_S128x256_S128x256_S256x256_d0) (constant S1024x256 .f32 0x00000000#32)

/-- The root of the mean square of a head. -/
def rootH (v : FVec Ideal S128x256 .f32) : FVec Ideal S1x256 .f32 :=
  sqrt (addf (mulf (eight (tilesH (mulf v v))) (broadcast S1x256 (Scalar.ofBits .f32 0x3C000000#32))) (broadcast S1x256 (Scalar.ofBits .f32 0x358637BD#32)))

/-- A head divided by its root and scaled. -/
def normH (v : Vec Ideal S128x256 .f32) (g : Vec Ideal S128x128 .f32) : FVec Ideal S128x256 .f32 :=
  mulf (divf v (broadcastTo S128x256 (rootH v) broadcasts_S1x256_S128x256))
    (concatenate S128x256 1 [⟨S128x128, shapeCast S128x128 g shapeCasts_S128x128_S128x128⟩, ⟨S128x128, shapeCast S128x128 g shapeCasts_S128x128_S128x128⟩] concatenates_S128x128_S128x128_S128x256_d1)

/-- A head turned by its position. -/
def ropeV (u : FVec Ideal S128x256 .f32) (cs sn : Vec Ideal S256x64 .f32) : FVec Ideal S128x256 .f32 :=
  let a := extractStridedSlice S64x256 ![0, 0] u slices_S128x256_o0_0_S64x256
  let b := extractStridedSlice S64x256 ![64, 0] u slices_S128x256_o64_0_S64x256
  let p := transpose S64x256 [1, 0] cs transposes_S256x64_p1_0_S64x256
  let q := transpose S64x256 [1, 0] sn transposes_S256x64_p1_0_S64x256
  concatenate S128x256 0 [⟨S64x256, subf (mulf a p) (mulf b q)⟩, ⟨S64x256, addf (mulf b p) (mulf a q)⟩] concatenates_S64x256_S64x256_S128x256_d0

/-- The scale of a row of codes. -/
def rowScale (v : FVec Ideal S128x256 .f32) : FVec Ideal S1x256 .f32 :=
  select (cmpf .oeq (magV v) (broadcast S1x256 (Scalar.ofBits .f32 0x00000000#32))) (broadcast S1x256 (Scalar.ofBits .f32 0x3F800000#32)) (mulf (magV v) (broadcast S1x256 (Named.named κ "inv_448" 0x3B124925#32)))

/-- The codes of a head. -/
def codesV (v : FVec Ideal S128x256 .f32) : FVec Ideal S128x256 .fp8e4m3 :=
  clipV (divf v (broadcastTo S128x256 (rowScale v) broadcasts_S1x256_S128x256))

/-- The codes, a token to a row. -/
def codesT (v : FVec Ideal S128x256 .f32) : FVec Ideal S256x128 .fp8e4m3 :=
  truncf .fp8e4m3 (transpose S256x128 [1, 0] (extf .bf16 (codesV v) bitsLt_fp8e4m3_bf16) transposes_S128x256_p1_0_S256x128) bitsLt_fp8e4m3_bf16

/-- The scales, turned over and repeated. -/
def scalesT (v : FVec Ideal S128x256 .f32) : FVec Ideal S256x8 .f32 :=
  transpose S256x8 [1, 0] (broadcastTo S8x256 (shapeCast S1x256 (rowScale v) shapeCasts_S1x256_S1x256) broadcasts_S1x256_S8x256) transposes_S8x256_p1_0_S256x8

end Cert.Proof.Project
end
-- ==== Proof.Tile.lean ====
/- The kernel's vectors of a tile, entry by entry: each is a function of one token. -/
module
public import proofs.«01_k».proof.Proof.Vecs
@[expose] public section
set_option maxRecDepth 16384
noncomputable section
namespace Cert.Proof.Project
open Cert.ProjectIdeal Cert.ProjectIdeal.Gen Idealize.ShloMosaic Idealize.ShloMosaic.TcCoe Idealize.SL.Sem

/-- The magnitude of the greatest of 128 numbers. -/
def mag (f : Fin 128 → EReal) : EReal := top fun k => max (f k) (-f k)

/-- A head over the root of its mean square, scaled. -/
def headR (z g : Fin 128 → EReal) (d : Fin 128) : EReal :=
  Ideal.div (z d) (Ideal.sqrt (Ideal.div (∑ k, z k * z k) (Ideal.ofBits .f32 1124073472#32) + Ideal.ofBits .f32 897988541#32)) * g d

/-- A head turned by its position. -/
def ropeR (u : Fin 128 → EReal) (cs sn : Fin 64 → EReal) (d : Fin 128) : EReal :=
  if h : d.val < 64 then u d * cs ⟨d.val, h⟩ - u ⟨64 + d.val, by omega⟩ * sn ⟨d.val, h⟩
  else u d * cs ⟨d.val - 64, by omega⟩ + u ⟨d.val - 64, by omega⟩ * sn ⟨d.val - 64, by omega⟩

/-- The scale of a row of codes. -/
def scaleR (v : Fin 128 → EReal) : EReal := if mag v = 0 then 1 else Ideal.div (mag v) (Ideal.ofBits .f32 1138753536#32)

/-- The codes of a row. -/
def codeR (v : Fin 128 → EReal) (d : Fin 128) : EReal :=
  min (Ideal.ofBits .f32 1138753536#32) (max (Ideal.ofBits .f32 3286237184#32) (Ideal.div (v d) (scaleR v)))

/-- The greatest of each column. -/
def colTop (v : FVec Ideal S128x256 .f32) : FVec Ideal S256 .f32 := fun j => top fun k => v (ix2 k (j 0))

theorem colTop_eq (v : FVec Ideal S128x256 .f32) (h hφ) (hacc : 0xFF800000#32 = FKind.maximumf.neutral .f32 hφ) :
    multiReduction .maximumf [0] S256 v 0xFF800000#32 h hφ hacc = colTop v := by
  funext j
  rw [Ideal.multiReduction_maximumf_single]
  unfold colTop top
  congr 1
  funext k
  show v _ = v _
  congr 1
  funext i
  apply Fin.ext
  fin_cases i <;> rfl

theorem magV_at (v : FVec Ideal S128x256 .f32) (t : Fin 256) : magV v (ix2 0 t) = mag fun k => v (ix2 k t) := by
  have e : magV v = shapeCast S1x256 (colTop (absf v)) shapeCasts_S256_S1x256 := by
    unfold magV
    exact congrArg (fun z => shapeCast S1x256 z shapeCasts_S256_S1x256) (colTop_eq (absf v) _ _ _)
  rw [e]
  pointwise
  unfold colTop mag
  rfl

theorem scaleV_at (a : FVec Ideal S1x256 .f32) (t : Fin 256) : scaleV a (ix2 0 t) = pow2 (max (a (ix2 0 t)) (Ideal.ofBits .f32 83886080#32) * ((448⁻¹ : ℝ) : EReal)) := by
  unfold scaleV powV
  pointwise
  unfold pow2 pow1
  rfl

theorem wideOf_at (v : FVec Ideal S128x256 .f32) (k : Fin 128) (t : Fin 256) : wideOf v (ix2 k t) = grp (fun j => v (ix2 j t)) k := by
  rw [← grp_eq]
  have h := scaleV_at (magV v) t
  rw [magV_at] at h
  unfold mag at h
  rw [← h]
  unfold wideOf clipV
  generalize scaleV (magV v) = z
  pointwise

theorem normV_at (r : Vec Ideal S1x256 .f32) (x : Vec Ideal S128x256 .bf16) (g : Vec Ideal S128x128 .f32) (G : Fin 128 → EReal) (hg : ∀ k l, g (ix2 k l) = G k) (k : Fin 128) (t : Fin 256) :
    normV r x g (ix2 k t) = Ideal.div (x (ix2 k t)) (r (ix2 0 t)) * G k := by
  unfold normV
  pointwise
  simp only [hg, dite_eq_ite, ite_self]

theorem tiles_at (a : FVec Ideal S8x256 .f32) (v : FVec Ideal S256x256 .f32) (k : Fin 8) (t : Fin 256) :
    tiles a v (ix2 k t) = a (ix2 k t) + ∑ q ∈ Finset.range 32, if h : 8 * q + k.val < 256 then v (ix2 ⟨8 * q + k.val, h⟩ t) else 0 := by
  unfold tiles
  pointwise
  have hk := k.isLt
  simp only [Finset.sum_range_succ, Finset.sum_range_zero, zero_add, ← add_assoc, Nat.reduceMul]
  simp only [dif_pos (show k.val < 256 by omega), dif_pos (show 8 + k.val < 256 by omega), dif_pos (show 16 + k.val < 256 by omega), dif_pos (show 24 + k.val < 256 by omega), dif_pos (show 32 + k.val < 256 by omega), dif_pos (show 40 + k.val < 256 by omega), dif_pos (show 48 + k.val < 256 by omega), dif_pos (show 56 + k.val < 256 by omega), dif_pos (show 64 + k.val < 256 by omega), dif_pos (show 72 + k.val < 256 by omega), dif_pos (show 80 + k.val < 256 by omega), dif_pos (show 88 + k.val < 256 by omega), dif_pos (show 96 + k.val < 256 by omega), dif_pos (show 104 + k.val < 256 by omega), dif_pos (show 112 + k.val < 256 by omega), dif_pos (show 120 + k.val < 256 by omega), dif_pos (show 128 + k.val < 256 by omega), dif_pos (show 136 + k.val < 256 by omega), dif_pos (show 144 + k.val < 256 by omega), dif_pos (show 152 + k.val < 256 by omega), dif_pos (show 160 + k.val < 256 by omega), dif_pos (show 168 + k.val < 256 by omega), dif_pos (show 176 + k.val < 256 by omega), dif_pos (show 184 + k.val < 256 by omega), dif_pos (show 192 + k.val < 256 by omega), dif_pos (show 200 + k.val < 256 by omega), dif_pos (show 208 + k.val < 256 by omega), dif_pos (show 216 + k.val < 256 by omega), dif_pos (show 224 + k.val < 256 by omega), dif_pos (show 232 + k.val < 256 by omega), dif_pos (show 240 + k.val < 256 by omega), dif_pos (show 248 + k.val < 256 by omega), zero_add]

/-- Adding to nothing is starting with the block. -/
theorem tiles0_eq (v : FVec Ideal S256x256 .f32) : tiles0 v = tiles (fun _ => 0) v := by
  unfold tiles0 tiles
  congr 31
  funext j
  exact (zero_add _).symm

theorem tilesH_at (v : FVec Ideal S128x256 .f32) (k : Fin 8) (t : Fin 256) :
    tilesH v (ix2 k t) = ∑ q ∈ Finset.range 16, if h : 8 * q + k.val < 128 then v (ix2 ⟨8 * q + k.val, h⟩ t) else 0 := by
  unfold tilesH
  pointwise
  have hk := k.isLt
  simp only [Finset.sum_range_succ, Finset.sum_range_zero, zero_add, ← add_assoc, Nat.reduceMul]
  simp only [dif_pos (show k.val < 128 by omega), dif_pos (show 8 + k.val < 128 by omega), dif_pos (show 16 + k.val < 128 by omega), dif_pos (show 24 + k.val < 128 by omega), dif_pos (show 32 + k.val < 128 by omega), dif_pos (show 40 + k.val < 128 by omega), dif_pos (show 48 + k.val < 128 by omega), dif_pos (show 56 + k.val < 128 by omega), dif_pos (show 64 + k.val < 128 by omega), dif_pos (show 72 + k.val < 128 by omega), dif_pos (show 80 + k.val < 128 by omega), dif_pos (show 88 + k.val < 128 by omega), dif_pos (show 96 + k.val < 128 by omega), dif_pos (show 104 + k.val < 128 by omega), dif_pos (show 112 + k.val < 128 by omega), dif_pos (show 120 + k.val < 128 by omega), zero_add]

theorem eight_at (v : FVec Ideal S8x256 .f32) (t : Fin 256) : eight v (ix2 0 t) = ∑ k : Fin 8, v (ix2 k t) := by
  unfold eight
  pointwise
  simp only [Fin.sum_univ_eight]
  abel

theorem partV_at (w : FVec Ideal S1024x256 .bf16) (r : Vec Ideal S1x256 .f32) (x0 x1 : Vec Ideal S128x256 .bf16) (g0 g1 : Vec Ideal S128x128 .f32) (o : Fin 1024) (t : Fin 256) :
    partV w r x0 x1 g0 g1 (ix2 o t) = (∑ k : Fin 128, w (ix2 o ⟨k.val, by omega⟩) * wideOf (normV r x0 g0) (ix2 k t)) + ∑ k : Fin 128, w (ix2 o ⟨128 + k.val, by omega⟩) * wideOf (normV r x1 g1) (ix2 k t) := by
  unfold partV
  generalize wideOf (normV r x0 g0) = A
  generalize wideOf (normV r x1 g1) = B
  pointwise

theorem rowScale_at (v : FVec Ideal S128x256 .f32) (t : Fin 256) : rowScale v (ix2 0 t) = scaleR fun k => v (ix2 k t) := by
  unfold scaleR
  rw [← magV_at, greatest, Ideal.div_coe (by norm_num : (448 : ℝ) ≠ 0), one_div]
  unfold rowScale
  generalize magV v = z
  pointwise
  rfl

theorem codesV_at (v : FVec Ideal S128x256 .f32) (d : Fin 128) (t : Fin 256) : codesV v (ix2 d t) = codeR (fun k => v (ix2 k t)) d := by
  unfold codeR
  rw [← rowScale_at]
  unfold codesV clipV
  generalize rowScale v = z
  pointwise

theorem codesT_at (v : FVec Ideal S128x256 .f32) (d : Fin 128) (t : Fin 256) : codesT v (ix2 t d) = codeR (fun k => v (ix2 k t)) d := by
  rw [← codesV_at]
  unfold codesT
  generalize codesV v = z
  pointwise

theorem scalesT_at (v : FVec Ideal S128x256 .f32) (d : Fin 8) (t : Fin 256) : scalesT v (ix2 t d) = scaleR fun k => v (ix2 k t) := by
  rw [← rowScale_at]
  unfold scalesT
  generalize rowScale v = z
  pointwise

theorem ropeV_at (u : FVec Ideal S128x256 .f32) (cs sn : Vec Ideal S256x64 .f32) (d : Fin 128) (t : Fin 256) :
    ropeV u cs sn (ix2 d t) = ropeR (fun k => u (ix2 k t)) (fun k => cs (ix2 t k)) (fun k => sn (ix2 t k)) d := by
  unfold ropeV
  pointwise
  unfold ropeR
  split
  · rfl
  · next h =>
    have e : (⟨64 + (d.val - 64), by omega⟩ : Fin 128) = d := Fin.ext (by show 64 + (d.val - 64) = d.val; omega)
    rw [e]

theorem rootH_at (v : FVec Ideal S128x256 .f32) (t : Fin 256) :
    rootH v (ix2 0 t) = Ideal.sqrt (Ideal.div (∑ k : Fin 128, v (ix2 k t) * v (ix2 k t)) (Ideal.ofBits .f32 1124073472#32) + Ideal.ofBits .f32 897988541#32) := by
  have hs : eight (tilesH (mulf v v)) (ix2 0 t) = ∑ k : Fin 128, v (ix2 k t) * v (ix2 k t) := by
    rw [eight_at]
    simp only [tilesH_at]
    have h := sum_blocks (fun i => if h : i < 128 then v (ix2 ⟨i, h⟩ t) * v (ix2 ⟨i, h⟩ t) else 0) 16 8
    rw [Finset.sum_comm] at h
    rw [Finset.sum_range, Finset.sum_range] at h
    refine Eq.trans ?_ (h.symm.trans (Finset.sum_congr rfl fun k _ => by rw [dif_pos k.isLt]))
    rfl
  rw [← hs, lanes, Ideal.div_coe (by norm_num : (128 : ℝ) ≠ 0), one_div, ← lanesInv]
  unfold rootH
  generalize eight (tilesH (mulf v v)) = z
  pointwise

theorem normH_at (v : Vec Ideal S128x256 .f32) (g : Vec Ideal S128x128 .f32) (G : Fin 128 → EReal) (hg : ∀ k l, g (ix2 k l) = G k) (d : Fin 128) (t : Fin 256) :
    normH v g (ix2 d t) = headR (fun k => v (ix2 k t)) G d := by
  unfold headR
  rw [← rootH_at]
  unfold normH
  generalize rootH v = z
  pointwise
  simp only [hg, dite_eq_ite, ite_self]

end Cert.Proof.Project
end
-- ==== Proof.Loads.lean ====
/- What one step of the projection computes from its buffers, element by element. -/
module
public import proofs.«01_k».proof.Proof.Tile
public import Idealize.ShloMosaic.Lib.WholeRead
@[expose] public section
set_option maxRecDepth 16384
noncomputable section
namespace Cert.Proof.Project
open Cert.ProjectIdeal Cert.ProjectIdeal.Gen Idealize.ShloMosaic Idealize.ShloMosaic.TcCoe Idealize.SL.Sem

variable {arg2 : Memref sig .tc .vmem S256x5376 .bf16} (harg2 : arg2.IsWhole) {arg3 : Memref sig .tc .vmem S5376x128 .f32} (harg3 : arg3.IsWhole) {arg17 : Memref sig .tc .vmem S1024x5376 .bf16} (harg17 : arg17.IsWhole) {arg18 : Memref sig .tc .vmem S5376x256 .bf16} (harg18 : arg18.IsWhole) {arg20 : Memref sig .tc .vmem S1x256 .f32} (harg20 : arg20.IsWhole)
  (x1 : Vec Ideal S256x5376 .bf16) (x2 : Vec Ideal S5376x128 .f32) (xs0 : Vec Ideal S1024x5376 .bf16) (xs1 : Vec Ideal S5376x256 .bf16) (xs3 : Vec Ideal S1x256 .f32)

theorem inbW {n : ℕ} (h : n < 21) : ∀ d, ![0, 256 * n] d + S1024x256.size d ≤ S1024x5376.size d := by
  intro d; fin_cases d <;> simp [Nat.le_refl] <;> omega
theorem inbX {o : ℕ} (h : o + 128 ≤ 5376) : ∀ d, ![o, 0] d + S128x256.size d ≤ S5376x256.size d := by
  intro d; fin_cases d <;> simp <;> omega
theorem inbG {o : ℕ} (h : o + 128 ≤ 5376) : ∀ d, ![o, 0] d + S128x128.size d ≤ S5376x128.size d := by
  intro d; fin_cases d <;> simp <;> omega
theorem inbC {n : ℕ} (h : n < 21) : ∀ d, ![0, 256 * n] d + S256x256.size d ≤ S256x5376.size d := by
  intro d; fin_cases d <;> simp <;> omega

/-- The product of one chunk, from the loads. -/
def partL (n : ℕ) (h : n < 21) : FVec Ideal S1024x256 .f32 :=
  partV (arg17.view.readAt (Elt Ideal) (Rect.unit (s := S1024x5376) ![0, 256 * n] S1024x256.size (inbW h)).toLoadRect (harg17.unread xs0))
    (arg20.view.readAt (Elt Ideal) (Rect.unit (s := S1x256) ![0, 0] S1x256.size inb_S1x256_S1x256_0_0).toLoadRect (harg20.unread xs3))
    (arg18.view.readAt (Elt Ideal) (Rect.unit (s := S5376x256) ![256 * n, 0] S128x256.size (inbX (by omega))).toLoadRect (harg18.unread xs1))
    (arg18.view.readAt (Elt Ideal) (Rect.unit (s := S5376x256) ![256 * n + 128, 0] S128x256.size (inbX (by omega))).toLoadRect (harg18.unread xs1))
    (arg3.view.readAt (Elt Ideal) (Rect.unit (s := S5376x128) ![256 * n, 0] S128x128.size (inbG (by omega))).toLoadRect (harg3.unread x2))
    (arg3.view.readAt (Elt Ideal) (Rect.unit (s := S5376x128) ![256 * n + 128, 0] S128x128.size (inbG (by omega))).toLoadRect (harg3.unread x2))

/-- The products of the chunks up to one, added. -/
def accL : (n : ℕ) → n < 21 → FVec Ideal S1024x256 .f32
  | 0, h => partL harg3 harg17 harg18 harg20 x2 xs0 xs1 xs3 0 h
  | n + 1, h => addf (accL n (by omega)) (partL harg3 harg17 harg18 harg20 x2 xs0 xs1 xs3 (n + 1) h)

/-- A block of the input, from its load. -/
def blockL (n : ℕ) (h : n < 21) : Vec Ideal S256x256 .bf16 :=
  arg2.view.readAt (Elt Ideal) (Rect.unit (s := S256x5376) ![0, 256 * n] S256x256.size (inbC h)).toLoadRect (harg2.unread x1)

/-- The sums of squares of the blocks up to one. -/
def sumL : (n : ℕ) → n < 21 → FVec Ideal S8x256 .f32
  | 0, h => tiles0 (squares (blockL harg2 x1 0 h))
  | n + 1, h => tiles (sumL n (by omega)) (squares (blockL harg2 x1 (n + 1) h))

/-- The group of width 128 that holds `k`: normalised, quantised, widened, at `k`. -/
def wideR (x : Fin 5376 → EReal) (r : EReal) (g : Fin 5376 → EReal) (k : Fin 5376) : EReal :=
  grp (fun j => Ideal.div (x ⟨128 * (k.val / 128) + j.val, by omega⟩) r * g ⟨128 * (k.val / 128) + j.val, by omega⟩) ⟨k.val % 128, by omega⟩

/-- One term of the projection's sum. -/
def term (w x : Fin 5376 → EReal) (r : EReal) (g : Fin 5376 → EReal) (k : ℕ) : EReal :=
  if h : k < 5376 then w ⟨k, h⟩ * wideR x r g ⟨k, h⟩ else 0

variable (g : Fin 5376 → EReal) (hg : ∀ k l, x2 (ix2 k l) = g k)

include hg in
theorem half_at (o : ℕ) (ho : o + 128 ≤ 5376) (hd : 128 ∣ o) (inb inb') (k : Fin 128) (t : Fin 256) :
    wideOf (normV (arg20.view.readAt (Elt Ideal) (Rect.unit (s := S1x256) ![0, 0] S1x256.size inb_S1x256_S1x256_0_0).toLoadRect (harg20.unread xs3))
      (arg18.view.readAt (Elt Ideal) (Rect.unit (s := S5376x256) ![o, 0] S128x256.size inb).toLoadRect (harg18.unread xs1))
      (arg3.view.readAt (Elt Ideal) (Rect.unit (s := S5376x128) ![o, 0] S128x128.size inb').toLoadRect (harg3.unread x2))) (ix2 k t)
    = wideR (fun k => xs1 (ix2 k t)) (xs3 (ix2 0 t)) g ⟨o + k.val, by omega⟩ := by
  rw [wideOf_at]
  obtain ⟨b, rfl⟩ := hd
  have e1 : (128 * b + k.val) / 128 = b := by omega
  have e2 : (128 * b + k.val) % 128 = k.val := by omega
  unfold wideR
  simp only [e1, e2]
  congr 1
  funext j
  rw [normV_at _ _ _ (fun k => g ⟨128 * b + k.val, by omega⟩)]
  · rw [harg20.readAt_unread, harg18.readAt_unread]
    congr 2
    · congr 1
      funext a; apply Fin.ext; fin_cases a <;> simp
    · congr 1
      funext a; apply Fin.ext; fin_cases a <;> simp
  · intro k l
    rw [harg3.readAt_unread, ← hg _ l]
    congr 1
    funext a; apply Fin.ext; fin_cases a <;> simp

include hg in
theorem partL_at (n : ℕ) (h : n < 21) (o : Fin 1024) (t : Fin 256) :
    partL harg3 harg17 harg18 harg20 x2 xs0 xs1 xs3 n h (ix2 o t)
      = ∑ k ∈ Finset.range 256, term (fun k => xs0 (ix2 o k)) (fun k => xs1 (ix2 k t)) (xs3 (ix2 0 t)) g (256 * n + k) := by
  unfold partL
  rw [partV_at]
  simp only [half_at harg3 harg18 harg20 x2 xs1 xs3 g hg (256 * n) (by omega) ⟨2 * n, by omega⟩,
    half_at harg3 harg18 harg20 x2 xs1 xs3 g hg (256 * n + 128) (by omega) ⟨2 * n + 1, by omega⟩, harg17.readAt_unread]
  rw [show Finset.range 256 = Finset.range (128 + 128) from rfl, Finset.sum_range_add, Finset.sum_range, Finset.sum_range]
  congr 1
  · refine Finset.sum_congr rfl fun k _ => ?_
    have hk := k.isLt
    unfold term
    rw [dif_pos (by omega)]
    congr 2
    funext a; apply Fin.ext; fin_cases a <;> simp
  · refine Finset.sum_congr rfl fun k _ => ?_
    have hk := k.isLt
    unfold term
    rw [dif_pos (by omega)]
    congr 1
    · congr 1
      funext a; apply Fin.ext; fin_cases a <;> simp
    · congr 1; apply Fin.ext; show 256 * n + 128 + k.val = 256 * n + (128 + k.val); omega

include hg in
theorem accL_at (n : ℕ) (h : n < 21) (o : Fin 1024) (t : Fin 256) :
    accL harg3 harg17 harg18 harg20 x2 xs0 xs1 xs3 n h (ix2 o t)
      = ∑ k ∈ Finset.range (256 * (n + 1)), term (fun k => xs0 (ix2 o k)) (fun k => xs1 (ix2 k t)) (xs3 (ix2 0 t)) g k := by
  induction n with
  | zero => unfold accL; rw [partL_at (hg := hg)]; simp
  | succ n ih =>
    unfold accL
    show _ + _ = _
    rw [ih, partL_at (hg := hg), show 256 * (n + 1 + 1) = 256 * (n + 1) + 256 from by omega, Finset.sum_range_add]

/-- The projection of a token: the sum over the width of weight times widened input. -/
def projR (w x : Fin 5376 → EReal) (r : EReal) (g : Fin 5376 → EReal) : EReal := ∑ k : Fin 5376, w k * wideR x r g k

include hg in
theorem accL_all (o : Fin 1024) (t : Fin 256) :
    accL harg3 harg17 harg18 harg20 x2 xs0 xs1 xs3 20 (by norm_num) (ix2 o t)
      = projR (fun k => xs0 (ix2 o k)) (fun k => xs1 (ix2 k t)) (xs3 (ix2 0 t)) g := by
  rw [accL_at (hg := hg), show 256 * (20 + 1) = 5376 from rfl, Finset.sum_range]
  refine Finset.sum_congr rfl fun k _ => ?_
  unfold term
  rw [dif_pos k.isLt]

/-- One term of a sum of squares. -/
def sq (x : Fin 5376 → EReal) (k : ℕ) : EReal := if h : k < 5376 then x ⟨k, h⟩ * x ⟨k, h⟩ else 0

theorem squares_at (n : ℕ) (h : n < 21) (k t : Fin 256) : squares (blockL harg2 x1 n h) (ix2 k t) = sq (fun k => x1 (ix2 t k)) (256 * n + k.val) := by
  unfold squares turned blockL sq
  have hk := k.isLt
  rw [dif_pos (by omega)]
  pointwise
  rw [harg2.readAt_unread]
  have e : x1 ((Rect.unit (s := S256x5376) ![0, 256 * n] S256x256.size (inbC h)).toLoadRect.idx (ix2 t k)) = x1 (ix2 t ⟨256 * n + k.val, by omega⟩) := by
    congr 1
    funext a; apply Fin.ext; fin_cases a <;> simp
  exact congrArg₂ (· * ·) e e

theorem sumL_at (n : ℕ) (h : n < 21) (k : Fin 8) (t : Fin 256) :
    sumL harg2 x1 n h (ix2 k t) = ∑ q ∈ Finset.range (32 * (n + 1)), sq (fun k => x1 (ix2 t k)) (8 * q + k.val) := by
  have step : ∀ (m : ℕ) (hm : m < 21) (a : FVec Ideal S8x256 .f32), tiles a (squares (blockL harg2 x1 m hm)) (ix2 k t) = a (ix2 k t) + ∑ q ∈ Finset.range 32, sq (fun k => x1 (ix2 t k)) (8 * (32 * m + q) + k.val) := by
    intro m hm a
    rw [tiles_at]
    congr 1
    refine Finset.sum_congr rfl fun q hq => ?_
    have hq := Finset.mem_range.mp hq
    have hk := k.isLt
    rw [dif_pos (by omega), squares_at]
    congr 1
    show 256 * m + (8 * q + k.val) = _
    omega
  induction n with
  | zero =>
    unfold sumL
    rw [tiles0_eq, step]
    show (0 : EReal) + _ = _
    simp
  | succ n ih =>
    unfold sumL
    rw [step, ih, show 32 * (n + 1 + 1) = 32 * (n + 1) + 32 from by omega, Finset.sum_range_add]

/-- The root of a token's mean square. -/
def rootR (x : Fin 5376 → EReal) : EReal :=
  Ideal.sqrt (Ideal.div (∑ k, x k * x k) (Ideal.ofBits .f32 1168637952#32) + Ideal.ofBits .f32 897988541#32)

theorem root_all (t : Fin 256) : rootOf (sumL harg2 x1 20 (by norm_num)) (ix2 0 t) = rootR fun k => x1 (ix2 t k) := by
  have hs : eight (sumL harg2 x1 20 (by norm_num)) (ix2 0 t) = ∑ k : Fin 5376, x1 (ix2 t k) * x1 (ix2 t k) := by
    rw [eight_at]
    simp only [sumL_at]
    rw [Finset.sum_comm]
    have e := sum_blocks (fun k => sq (fun k => x1 (ix2 t k)) k) (32 * (20 + 1)) 8
    simp only [Finset.sum_range (n := 8)] at e
    rw [← e, show 32 * (20 + 1) * 8 = 5376 from rfl, Finset.sum_range]
    refine Finset.sum_congr rfl fun k _ => ?_
    unfold sq
    rw [dif_pos k.isLt]
  unfold rootOf rootR
  rw [← hs, width, Ideal.div_coe (by norm_num : (5376 : ℝ) ≠ 0), one_div]
  generalize eight _ = z
  pointwise
  rfl

end Cert.Proof.Project
end
-- ==== Proof.Outs.lean ====
/- What one step of the projection stores of the heads, from the projections the step before left. -/
module
public import proofs.«01_k».proof.Proof.Loads
@[expose] public section
set_option maxRecDepth 16384
noncomputable section
namespace Cert.Proof.Project
open Cert.ProjectIdeal Cert.ProjectIdeal.Gen Idealize.ShloMosaic Idealize.ShloMosaic.TcCoe Idealize.SL.Sem

/-- One head of a token's projections. -/
def head (z : Fin 1024 → EReal) (h : Fin 8) : Fin 128 → EReal := fun d => z ⟨128 * h.val + d.val, by omega⟩

/-- A token's query: each head normalised and turned. -/
def qR (z : Fin 1024 → EReal) (g : Fin 128 → EReal) (cs sn : Fin 64 → EReal) (o : Fin 512) : EReal :=
  ropeR (headR (head z ⟨o.val / 128, by omega⟩) g) cs sn ⟨o.val % 128, by omega⟩

/-- A token's key of one head. -/
def kR (z : Fin 1024 → EReal) (g : Fin 128 → EReal) (cs sn : Fin 64 → EReal) (h : Fin 2) : Fin 128 → EReal :=
  ropeR (headR (head z ⟨4 + h.val, by omega⟩) g) cs sn

/-- A token's value of one head. -/
def vR (z : Fin 1024 → EReal) (h : Fin 2) : Fin 128 → EReal := head z ⟨6 + h.val, by omega⟩

/-- The codes of two heads side by side. -/
def codes2 (f : Fin 2 → Fin 128 → EReal) (o : Fin 256) : EReal := codeR (f ⟨o.val / 128, by omega⟩) ⟨o.val % 128, by omega⟩

/-- A token's projections. -/
def tok (Z : Vec Ideal S1024x256 .f32) (t : Fin 256) : Fin 1024 → EReal := fun o => Z (ix2 o t)
/-- A token's row of a table. -/
def row64 (x : Vec Ideal S256x64 .f32) (t : Fin 256) : Fin 64 → EReal := fun k => x (ix2 t k)

/-- The scales of two heads, a token to a row. -/
def scalesA (f : Fin 256 → Fin 2 → Fin 128 → EReal) : Vec Ideal S256x2 .f32 := fun j => scaleR (f (j 0) (j 1))

def qtA (Z : Vec Ideal S1024x256 .f32) (g : Fin 128 → EReal) (x6 x7 : Vec Ideal S256x64 .f32) : Vec Ideal S512x256 .bf16 :=
  fun j => qR (tok Z (j 1)) g (row64 x6 (j 1)) (row64 x7 (j 1)) (j 0)
def kcA (Z : Vec Ideal S1024x256 .f32) (g : Fin 128 → EReal) (x6 x7 : Vec Ideal S256x64 .f32) : Vec Ideal S256x256 .fp8e4m3 :=
  fun j => codes2 (kR (tok Z (j 0)) g (row64 x6 (j 0)) (row64 x7 (j 0))) (j 1)
def ksA (Z : Vec Ideal S1024x256 .f32) (g : Fin 128 → EReal) (x6 x7 : Vec Ideal S256x64 .f32) : Vec Ideal S256x2 .f32 :=
  scalesA fun t => kR (tok Z t) g (row64 x6 t) (row64 x7 t)
def vcA (Z : Vec Ideal S1024x256 .f32) : Vec Ideal S256x256 .fp8e4m3 := fun j => codes2 (vR (tok Z (j 0))) (j 1)
def vtA (Z : Vec Ideal S1024x256 .f32) : Vec Ideal S256x256 .fp8e4m3 := fun j => codes2 (vR (tok Z (j 1))) (j 0)
def vsA (Z : Vec Ideal S1024x256 .f32) : Vec Ideal S256x2 .f32 := scalesA fun t => vR (tok Z t)

variable {arg5 : Memref sig .tc .vmem S128x128 .f32} (harg5 : arg5.IsWhole) {arg7 : Memref sig .tc .vmem S256x64 .f32} (harg7 : arg7.IsWhole) {arg8 : Memref sig .tc .vmem S256x64 .f32} (harg8 : arg8.IsWhole) {arg19 : Memref sig .tc .vmem S1024x256 .f32} (harg19 : arg19.IsWhole)
  (x4 : Vec Ideal S128x128 .f32) (x6 x7 : Vec Ideal S256x64 .f32) (xs2 : Vec Ideal S1024x256 .f32)

theorem inbZ {h : ℕ} (hh : h < 8) : ∀ d, ![128 * h, 0] d + S128x256.size d ≤ S1024x256.size d := by
  intro d; fin_cases d <;> simp [Nat.le_refl] <;> omega

/-- The rows of one head, from their load. -/
def rowsL (h : ℕ) (hh : h < 8) : Vec Ideal S128x256 .f32 :=
  arg19.view.readAt (Elt Ideal) (Rect.unit (s := S1024x256) ![128 * h, 0] S128x256.size (inbZ hh)).toLoadRect (harg19.unread xs2)
/-- The gain, from its load. -/
def gainL : Vec Ideal S128x128 .f32 := arg5.view.readAt (Elt Ideal) (Rect.unit (s := S128x128) ![0, 0] S128x128.size inb_S128x128_S128x128_0_0).toLoadRect (harg5.unread x4)
/-- A table of positions, from its load. -/
def posL : Vec Ideal S256x64 .f32 := arg7.view.readAt (Elt Ideal) (Rect.unit (s := S256x64) ![0, 0] S256x64.size inb_S256x64_S256x64_0_0).toLoadRect (harg7.unread x6)

theorem rowsL_at (h : ℕ) (hh : h < 8) (t : Fin 256) : (fun d => rowsL harg19 xs2 h hh (ix2 d t)) = head (tok xs2 t) ⟨h, hh⟩ := by
  funext d
  unfold rowsL
  rw [harg19.readAt_unread]
  unfold head tok
  congr 1
  funext a; apply Fin.ext; fin_cases a <;> simp
theorem posL_eq : posL harg7 x6 = x6 := by
  funext j
  unfold posL
  rw [harg7.readAt_unread]
  congr 1
  funext a; apply Fin.ext; fin_cases a <;> simp
theorem gainL_eq : gainL harg5 x4 = x4 := by
  funext j
  unfold gainL
  rw [harg5.readAt_unread]
  congr 1
  funext a; apply Fin.ext; fin_cases a <;> simp

variable (g : Fin 128 → EReal) (hg : ∀ k l, x4 (ix2 k l) = g k)

/-- A head normalised and turned, from the loads. -/
def turnedL (h : ℕ) (hh : h < 8) : FVec Ideal S128x256 .f32 := ropeV (normH (rowsL harg19 xs2 h hh) (gainL harg5 x4)) (posL harg7 x6) (posL harg8 x7)

include hg in
theorem turnedL_at (h : ℕ) (hh : h < 8) (t : Fin 256) :
    (fun d => turnedL harg5 harg7 harg8 harg19 x4 x6 x7 xs2 h hh (ix2 d t)) = ropeR (headR (head (tok xs2 t) ⟨h, hh⟩) g) (row64 x6 t) (row64 x7 t) := by
  funext d
  unfold turnedL
  rw [ropeV_at, posL_eq, posL_eq, gainL_eq]
  have e : (fun k => normH (rowsL harg19 xs2 h hh) x4 (ix2 k t)) = headR (head (tok xs2 t) ⟨h, hh⟩) g := by
    funext k
    rw [normH_at _ _ g hg, rowsL_at]
  rw [e]
  rfl

include hg in
theorem q_piece (h : ℕ) (hh : h < 4) (inb) (x : S128x256.Idx) :
    truncf .bf16 (turnedL harg5 harg7 harg8 harg19 x4 x6 x7 xs2 h (by omega)) bitsLt_bf16_f32 x = qtA xs2 g x6 x7 ((Rect.unit (s := S512x256) ![128 * h, 0] S128x256.size inb).emb x) := by
  have e := congrFun (turnedL_at harg5 harg7 harg8 harg19 x4 x6 x7 xs2 g hg h (by omega) (x 1)) (x 0)
  have hx : x = ix2 (x 0) (x 1) := by funext a; fin_cases a <;> rfl
  have h0 : (x 0).val < 128 := (x 0).isLt
  have t : (((Rect.unit (s := S512x256) ![128 * h, 0] S128x256.size inb).emb x) 1 : Fin 256) = x 1 := by apply Fin.ext; simp
  have o : (((Rect.unit (s := S512x256) ![128 * h, 0] S128x256.size inb).emb x) 0 : Fin 512) = (⟨128 * h + (x 0).val, by omega⟩ : Fin 512) := by apply Fin.ext; simp
  unfold qtA qR
  rw [t, o]
  have e1 : (128 * h + (x 0).val) / 128 = h := by omega
  have e2 : (128 * h + (x 0).val) % 128 = (x 0).val := by omega
  simp only [e1, e2]
  refine Eq.trans ?_ e
  exact congrArg _ hx

/-- Codes stored a token to a row. -/
theorem codesT_piece (f : Fin 256 → Fin 2 → Fin 128 → EReal) (v : FVec Ideal S128x256 .f32) (h : ℕ) (hh : h < 2) (hv : ∀ t, (fun d => v (ix2 d t)) = f t ⟨h, hh⟩) (inb) (x : S256x128.Idx) :
    codesT v x = (fun j => codes2 (f (j 0)) (j 1) : Vec Ideal S256x256 .fp8e4m3) ((Rect.unit (s := S256x256) ![0, 128 * h] S256x128.size inb).emb x) := by
  have hx : x = ix2 (x 0) (x 1) := by funext a; fin_cases a <;> rfl
  have h1 : (x 1).val < 128 := (x 1).isLt
  have t : (((Rect.unit (s := S256x256) ![0, 128 * h] S256x128.size inb).emb x) 0 : Fin 256) = x 0 := by apply Fin.ext; simp
  have o : (((Rect.unit (s := S256x256) ![0, 128 * h] S256x128.size inb).emb x) 1 : Fin 256) = (⟨128 * h + (x 1).val, by omega⟩ : Fin 256) := by apply Fin.ext; simp
  have e := codesT_at v (x 1) (x 0)
  dsimp only
  unfold codes2
  rw [t, o]
  have e1 : (128 * h + (x 1).val) / 128 = h := by omega
  have e2 : (128 * h + (x 1).val) % 128 = (x 1).val := by omega
  simp only [e1, e2]
  exact (congrArg _ hx).trans (e.trans (congrArg (fun u => codeR u (x 1)) (hv (x 0))))

/-- Codes stored a token to a column. -/
theorem codesV_piece (f : Fin 256 → Fin 2 → Fin 128 → EReal) (v : FVec Ideal S128x256 .f32) (h : ℕ) (hh : h < 2) (hv : ∀ t, (fun d => v (ix2 d t)) = f t ⟨h, hh⟩) (inb) (x : S128x256.Idx) :
    codesV v x = (fun j => codes2 (f (j 1)) (j 0) : Vec Ideal S256x256 .fp8e4m3) ((Rect.unit (s := S256x256) ![128 * h, 0] S128x256.size inb).emb x) := by
  have hx : x = ix2 (x 0) (x 1) := by funext a; fin_cases a <;> rfl
  have h1 : (x 0).val < 128 := (x 0).isLt
  have t : (((Rect.unit (s := S256x256) ![128 * h, 0] S128x256.size inb).emb x) 1 : Fin 256) = x 1 := by apply Fin.ext; simp
  have o : (((Rect.unit (s := S256x256) ![128 * h, 0] S128x256.size inb).emb x) 0 : Fin 256) = (⟨128 * h + (x 0).val, by omega⟩ : Fin 256) := by apply Fin.ext; simp
  have e := codesV_at v (x 0) (x 1)
  dsimp only
  unfold codes2
  rw [t, o]
  have e1 : (128 * h + (x 0).val) / 128 = h := by omega
  have e2 : (128 * h + (x 0).val) % 128 = (x 0).val := by omega
  simp only [e1, e2]
  exact (congrArg _ hx).trans (e.trans (congrArg (fun u => codeR u (x 0)) (hv (x 1))))

/-- The scales of a head, in one column. -/
def scaleCol (h : ℕ) (sl : S256x8.Slices ![0, h] S256x1) (v : FVec Ideal S128x256 .f32) : FVec Ideal S256x1 .f32 := extractStridedSlice S256x1 ![0, h] (scalesT v) sl

/-- Scales stored a head to a column. -/
theorem scales_piece (f : Fin 256 → Fin 2 → Fin 128 → EReal) (v : FVec Ideal S128x256 .f32) (h : ℕ) (hh : h < 2) (hv : ∀ t, (fun d => v (ix2 d t)) = f t ⟨h, hh⟩) (sl) (inb) (x : S256x1.Idx) :
    scaleCol h sl v x = scalesA f ((Rect.unit (s := S256x2) ![0, h] S256x1.size inb).emb x) := by
  have hx : x = ix2 (x 0) (x 1) := by funext a; fin_cases a <;> rfl
  have h1 : (x 1).val < 1 := (x 1).isLt
  have t : (((Rect.unit (s := S256x2) ![0, h] S256x1.size inb).emb x) 0 : Fin 256) = x 0 := by apply Fin.ext; simp
  have o : (((Rect.unit (s := S256x2) ![0, h] S256x1.size inb).emb x) 1 : Fin 2) = (⟨h, hh⟩ : Fin 2) := by apply Fin.ext; simp
  have e := scalesT_at v ⟨h, by omega⟩ (x 0)
  unfold scalesA
  rw [t, o]
  refine Eq.trans ?_ (e.trans (congrArg scaleR (hv (x 0))))
  unfold scaleCol
  generalize scalesT v = w
  exact extractStridedSlice_apply ![0, h] w sl x (ix2 (x 0) (⟨h, by omega⟩ : Fin 8)) (by intro a; fin_cases a <;> simp [ix2])

end Cert.Proof.Project
end
-- ==== Proof.Spec.lean ====
/- The projection's six results, each an array of the arguments. -/
module
public import proofs.«01_k».proof.Proof.Outs
@[expose] public section
set_option maxRecDepth 16384
noncomputable section
namespace Cert.Proof.Project
open Cert.ProjectIdeal Cert.ProjectIdeal.Gen Idealize.ShloMosaic Idealize.ShloMosaic.TcCoe Idealize.SL.Sem

/-- A token's projections, of its row, the gains, the codes of the weight and their scales. -/
def projT (x : Vec Ideal S13824x5376 .bf16) (g : Vec Ideal S5376 .f32) (w : Vec Ideal S5376x1024 .fp8e4m3) (s : Vec Ideal S42x8 .f32) (T : Fin 13824) (o : Fin 1024) : EReal :=
  projR (fun k => w (ix2 k o) * s (ix2 ⟨k.val / 128, by omega⟩ ⟨o.val / 128, by omega⟩)) (fun k => x (ix2 T k)) (rootR fun k => x (ix2 T k)) (fun k => g (ix1 k))

/-- The gains of a head. -/
def headGains (g : Vec Ideal S128 .f32) : Fin 128 → EReal := fun k => g (ix1 k)
/-- A token's row of a table of positions. -/
def rowT (p : Vec Ideal S13824x64 .f32) (T : Fin 13824) : Fin 64 → EReal := fun k => p (ix2 T k)

variable (x : Vec Ideal S13824x5376 .bf16) (g : Vec Ideal S5376 .f32) (w : Vec Ideal S5376x1024 .fp8e4m3) (s : Vec Ideal S42x8 .f32) (gh : Vec Ideal S128 .f32) (p q : Vec Ideal S13824x64 .f32)

/-- The keys of a token. -/
def keysT (T : Fin 13824) : Fin 2 → Fin 128 → EReal := kR (projT x g w s T) (headGains gh) (rowT p T) (rowT q T)
/-- The values of a token. -/
def valuesT (T : Fin 13824) : Fin 2 → Fin 128 → EReal := vR (projT x g w s T)

def QT : Vec Ideal S512x13824 .bf16 := fun j => qR (projT x g w s (j 1)) (headGains gh) (rowT p (j 1)) (rowT q (j 1)) (j 0)
def KC : Vec Ideal S13824x256 .fp8e4m3 := fun j => codes2 (keysT x g w s gh p q (j 0)) (j 1)
def KS : Vec Ideal S13824x2 .f32 := fun j => scaleR (keysT x g w s gh p q (j 0) (j 1))
def VC : Vec Ideal S13824x256 .fp8e4m3 := fun j => codes2 (valuesT x g w s (j 0)) (j 1)
def VT : Vec Ideal S256x13824 .fp8e4m3 := fun j => codes2 (valuesT x g w s (j 1)) (j 0)
def VS : Vec Ideal S13824x2 .f32 := fun j => scaleR (valuesT x g w s (j 0) (j 1))

end Cert.Proof.Project
end
-- ==== Proof.IdealRuns.lean ====
module

public import proofs.«01_k».proof.Proof.Gen.ProjectIdeal.Frame
public import proofs.«01_k».proof.Proof.Gen.ProjectIdeal.Skeleton
public import proofs.«01_k».proof.Proof.Gen.ProjectIdeal.Loops
public import proofs.«01_k».proof.Proof.Gen.ProjectIdeal.Points
public import Idealize.ShloMosaic.Lib.Pipeline.FrameBody
public import Idealize.ShloMosaic.Lib.Ring
public import Idealize.ShloMosaic.Lib.Tactic
public import Idealize.ShloMosaic.Lib.WordCmp

/-! The projection kernel at the ideal floats: its windows, its conditions and its buffers. -/

@[expose] public section

set_option maxRecDepth 16384

noncomputable section

namespace Cert.ProjectIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

theorem frame_of_rounds (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(Pipeline.RDat.FramePost.arr_in h c 1 rfl).trans ((hA c 1).trans (V_main_arg0 m c)),
      ((h c).2 main_arg1 (Pipeline.mem_restRefs_of main_arg1 (by decide) (by decide))).trans (V_main_arg1 m c),
      (Pipeline.RDat.FramePost.arr_in h c 3 rfl).trans ((hA c 3).trans (V_main_arg2 m c)),
      (Pipeline.RDat.FramePost.arr_in h c 0 rfl).trans ((hA c 0).trans (V_main_arg3 m c)),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      (Pipeline.RDat.FramePost.arr_in h c 6 rfl).trans ((hA c 6).trans (V_main_arg6 m c)),
      (Pipeline.RDat.FramePost.arr_in h c 7 rfl).trans ((hA c 7).trans (V_main_arg7 m c))⟩) h

abbrev cond0_0 (i : grid0.Coords) : Prop := k0_cond1 i = 1#1
theorem hcond0_0 : ∀ t : Fin cfg0.N, cond0_0 (grid0.coords t) ↔ t.val % 56 = 0 :=
  (fun t => by
    have ht : t.val < 56 := Nat.lt_of_lt_of_eq t.isLt N_0
    have e0 : (grid0.coords t 0).val = t.val / 1 % 56 := Pipeline.Grid.coords_val t 0 (by decide) rfl
    simp only [cond0_0, k0_cond1, e0]
    word_cmp
   : ∀ t : Fin grid0.N, cond0_0 (grid0.coords t) ↔ t.val % 56 = 0)

abbrev cond0_1 (i : grid0.Coords) : Prop := k0_cond2 i = 1#1
theorem hcond0_1 : ∀ t : Fin cfg0.N, cond0_1 (grid0.coords t) ↔ (1 ≤ t.val % 56 ∧ t.val % 56 ≤ 54) :=
  (by decide +kernel : ∀ t : Fin grid0.N, cond0_1 (grid0.coords t) ↔ (1 ≤ t.val % 56 ∧ t.val % 56 ≤ 54))

abbrev cond0_2 (i : grid0.Coords) : Prop := k0_cond3 i = 1#1
theorem hcond0_2 : ∀ t : Fin cfg0.N, cond0_2 (grid0.coords t) ↔ t.val % 56 = 55 :=
  (by decide +kernel : ∀ t : Fin grid0.N, cond0_2 (grid0.coords t) ↔ t.val % 56 = 55)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem idleAt0_10_A : ∀ t : Fin cfg0.N, cond0_0 (grid0.coords t) → ¬cond0_1 (grid0.coords t) → ¬cond0_2 (grid0.coords t) → cfg0.idle 10 (grid0.coords t) = true := by decide +kernel
theorem noFlush0_10_A : ∀ t : Fin cfg0.N, cond0_0 (grid0.coords t) → ¬cond0_1 (grid0.coords t) → ¬cond0_2 (grid0.coords t) → (cfg0.win 10).flush t = false := by decide +kernel
theorem liveAt0_10_B : ∀ t : Fin cfg0.N, ¬cond0_0 (grid0.coords t) → cond0_1 (grid0.coords t) → ¬cond0_2 (grid0.coords t) → cfg0.idle 10 (grid0.coords t) = false := by decide +kernel
theorem liveAt0_10_C : ∀ t : Fin cfg0.N, ¬cond0_0 (grid0.coords t) → ¬cond0_1 (grid0.coords t) → cond0_2 (grid0.coords t) → cfg0.idle 10 (grid0.coords t) = false := by decide +kernel
theorem idleAt0_11_A : ∀ t : Fin cfg0.N, cond0_0 (grid0.coords t) → ¬cond0_1 (grid0.coords t) → ¬cond0_2 (grid0.coords t) → cfg0.idle 11 (grid0.coords t) = true := by decide +kernel
theorem noFlush0_11_A : ∀ t : Fin cfg0.N, cond0_0 (grid0.coords t) → ¬cond0_1 (grid0.coords t) → ¬cond0_2 (grid0.coords t) → (cfg0.win 11).flush t = false := by decide +kernel
theorem liveAt0_11_B : ∀ t : Fin cfg0.N, ¬cond0_0 (grid0.coords t) → cond0_1 (grid0.coords t) → ¬cond0_2 (grid0.coords t) → cfg0.idle 11 (grid0.coords t) = false := by decide +kernel
theorem liveAt0_11_C : ∀ t : Fin cfg0.N, ¬cond0_0 (grid0.coords t) → ¬cond0_1 (grid0.coords t) → cond0_2 (grid0.coords t) → cfg0.idle 11 (grid0.coords t) = false := by decide +kernel
theorem idleAt0_12_A : ∀ t : Fin cfg0.N, cond0_0 (grid0.coords t) → ¬cond0_1 (grid0.coords t) → ¬cond0_2 (grid0.coords t) → cfg0.idle 12 (grid0.coords t) = true := by decide +kernel
theorem noFlush0_12_A : ∀ t : Fin cfg0.N, cond0_0 (grid0.coords t) → ¬cond0_1 (grid0.coords t) → ¬cond0_2 (grid0.coords t) → (cfg0.win 12).flush t = false := by decide +kernel
theorem liveAt0_12_B : ∀ t : Fin cfg0.N, ¬cond0_0 (grid0.coords t) → cond0_1 (grid0.coords t) → ¬cond0_2 (grid0.coords t) → cfg0.idle 12 (grid0.coords t) = false := by decide +kernel
theorem liveAt0_12_C : ∀ t : Fin cfg0.N, ¬cond0_0 (grid0.coords t) → ¬cond0_1 (grid0.coords t) → cond0_2 (grid0.coords t) → cfg0.idle 12 (grid0.coords t) = false := by decide +kernel
theorem idleAt0_13_A : ∀ t : Fin cfg0.N, cond0_0 (grid0.coords t) → ¬cond0_1 (grid0.coords t) → ¬cond0_2 (grid0.coords t) → cfg0.idle 13 (grid0.coords t) = true := by decide +kernel
theorem noFlush0_13_A : ∀ t : Fin cfg0.N, cond0_0 (grid0.coords t) → ¬cond0_1 (grid0.coords t) → ¬cond0_2 (grid0.coords t) → (cfg0.win 13).flush t = false := by decide +kernel
theorem liveAt0_13_B : ∀ t : Fin cfg0.N, ¬cond0_0 (grid0.coords t) → cond0_1 (grid0.coords t) → ¬cond0_2 (grid0.coords t) → cfg0.idle 13 (grid0.coords t) = false := by decide +kernel
theorem liveAt0_13_C : ∀ t : Fin cfg0.N, ¬cond0_0 (grid0.coords t) → ¬cond0_1 (grid0.coords t) → cond0_2 (grid0.coords t) → cfg0.idle 13 (grid0.coords t) = false := by decide +kernel
theorem idleAt0_14_A : ∀ t : Fin cfg0.N, cond0_0 (grid0.coords t) → ¬cond0_1 (grid0.coords t) → ¬cond0_2 (grid0.coords t) → cfg0.idle 14 (grid0.coords t) = true := by decide +kernel
theorem noFlush0_14_A : ∀ t : Fin cfg0.N, cond0_0 (grid0.coords t) → ¬cond0_1 (grid0.coords t) → ¬cond0_2 (grid0.coords t) → (cfg0.win 14).flush t = false := by decide +kernel
theorem liveAt0_14_B : ∀ t : Fin cfg0.N, ¬cond0_0 (grid0.coords t) → cond0_1 (grid0.coords t) → ¬cond0_2 (grid0.coords t) → cfg0.idle 14 (grid0.coords t) = false := by decide +kernel
theorem liveAt0_14_C : ∀ t : Fin cfg0.N, ¬cond0_0 (grid0.coords t) → ¬cond0_1 (grid0.coords t) → cond0_2 (grid0.coords t) → cfg0.idle 14 (grid0.coords t) = false := by decide +kernel
theorem idleAt0_15_A : ∀ t : Fin cfg0.N, cond0_0 (grid0.coords t) → ¬cond0_1 (grid0.coords t) → ¬cond0_2 (grid0.coords t) → cfg0.idle 15 (grid0.coords t) = true := by decide +kernel
theorem noFlush0_15_A : ∀ t : Fin cfg0.N, cond0_0 (grid0.coords t) → ¬cond0_1 (grid0.coords t) → ¬cond0_2 (grid0.coords t) → (cfg0.win 15).flush t = false := by decide +kernel
theorem liveAt0_15_B : ∀ t : Fin cfg0.N, ¬cond0_0 (grid0.coords t) → cond0_1 (grid0.coords t) → ¬cond0_2 (grid0.coords t) → cfg0.idle 15 (grid0.coords t) = false := by decide +kernel
theorem liveAt0_15_C : ∀ t : Fin cfg0.N, ¬cond0_0 (grid0.coords t) → ¬cond0_1 (grid0.coords t) → cond0_2 (grid0.coords t) → cfg0.idle 15 (grid0.coords t) = false := by decide +kernel

abbrev VO0_10 : View sig .tc .vmem S512x256 .bf16 := (Memref.whole cc0_stg10_0 : Memref sig .tc .vmem S512x256 .bf16).view
abbrev VO0_11 : View sig .tc .vmem S256x256 .fp8e4m3 := (Memref.whole cc0_stg11_0 : Memref sig .tc .vmem S256x256 .fp8e4m3).view
abbrev VO0_12 : View sig .tc .vmem S256x2 .f32 := (Memref.whole cc0_stg12_0 : Memref sig .tc .vmem S256x2 .f32).view
abbrev VO0_13 : View sig .tc .vmem S256x256 .fp8e4m3 := (Memref.whole cc0_stg13_0 : Memref sig .tc .vmem S256x256 .fp8e4m3).view
abbrev VO0_14 : View sig .tc .vmem S256x256 .fp8e4m3 := (Memref.whole cc0_stg14_0 : Memref sig .tc .vmem S256x256 .fp8e4m3).view
abbrev VO0_15 : View sig .tc .vmem S256x2 .f32 := (Memref.whole cc0_stg15_0 : Memref sig .tc .vmem S256x2 .f32).view
abbrev ms0_0 (t : Fin cfg0.N) : Memref sig .tc .smem S42x8 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x5376 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S5376x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S5376x1024 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x64 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x5376 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x42 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512x256 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x256 .fp8e4m3 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S256x2 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S256x256 .fp8e4m3 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S256x256 .fp8e4m3 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S256x2 .f32 := win0_15.stage (cfg0.slots t 15)
abbrev hs0_15 (t : Fin cfg0.N) : (ms0_15 t).IsWhole := hstage0_15 ((cfg0.slots t 15).cast nbuf0_15)
abbrev scM0_0 : Memref sig .tc .vmem S1024x5376 .bf16 := Memref.whole cc0_scratch0
abbrev scM0_1 : Memref sig .tc .vmem S5376x256 .bf16 := Memref.whole cc0_scratch1
abbrev scM0_2 : Memref sig .tc .vmem S1024x256 .f32 := Memref.whole cc0_scratch2
abbrev scM0_3 : Memref sig .tc .vmem S1x256 .f32 := Memref.whole cc0_scratch3
abbrev scM0_4 : Memref sig .tc .vmem S48x256 .f32 := Memref.whole cc0_scratch4
abbrev VS0_0 : View sig .tc .vmem S1024x5376 .bf16 := scM0_0.view
abbrev VS0_1 : View sig .tc .vmem S5376x256 .bf16 := scM0_1.view
abbrev VS0_2 : View sig .tc .vmem S1024x256 .f32 := scM0_2.view
abbrev VS0_3 : View sig .tc .vmem S1x256 .f32 := scM0_3.view

theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.ProjectIdeal.Gen

end
-- ==== Proof.IdealRunA.lean ====
module

public import proofs.«01_k».proof.Proof.IdealRuns

/-! The first grid point: the body run on any buffers. -/

@[expose] public section

set_option maxRecDepth 16384

noncomputable section

namespace Cert.ProjectIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

set_option maxHeartbeats 1000000 in
noncomputable def kernelRun0_A (c : Dev nD) (i : grid0.Coords) (arg1 : Memref sig .tc .smem S42x8 .f32) (harg1 : arg1.IsWhole) (arg2 : Memref sig .tc .vmem S256x5376 .bf16) (harg2 : arg2.IsWhole) (arg3 : Memref sig .tc .vmem S5376x128 .f32) (harg3 : arg3.IsWhole) (arg4 : Memref sig .tc .vmem S5376x1024 .fp8e4m3) (harg4 : arg4.IsWhole) (arg5 : Memref sig .tc .vmem S128x128 .f32) (harg5 : arg5.IsWhole) (arg6 : Memref sig .tc .vmem S128x128 .f32) (harg6 : arg6.IsWhole) (arg7 : Memref sig .tc .vmem S256x64 .f32) (harg7 : arg7.IsWhole) (arg8 : Memref sig .tc .vmem S256x64 .f32) (harg8 : arg8.IsWhole) (arg9 : Memref sig .tc .vmem S256x5376 .fp8e4m3) (harg9 : arg9.IsWhole) (arg10 : Memref sig .tc .vmem S256x42 .f32) (harg10 : arg10.IsWhole) (arg11 : Memref sig .tc .vmem S512x256 .bf16) (harg11 : arg11.IsWhole) (arg12 : Memref sig .tc .vmem S256x256 .fp8e4m3) (harg12 : arg12.IsWhole) (arg13 : Memref sig .tc .vmem S256x2 .f32) (harg13 : arg13.IsWhole) (arg14 : Memref sig .tc .vmem S256x256 .fp8e4m3) (harg14 : arg14.IsWhole) (arg15 : Memref sig .tc .vmem S256x256 .fp8e4m3) (harg15 : arg15.IsWhole) (arg16 : Memref sig .tc .vmem S256x2 .f32) (harg16 : arg16.IsWhole) (arg17 : Memref sig .tc .vmem S1024x5376 .bf16) (harg17 : arg17.IsWhole) (arg18 : Memref sig .tc .vmem S5376x256 .bf16) (harg18 : arg18.IsWhole) (arg19 : Memref sig .tc .vmem S1024x256 .f32) (harg19 : arg19.IsWhole) (arg20 : Memref sig .tc .vmem S1x256 .f32) (harg20 : arg20.IsWhole) (arg21 : Memref sig .tc .vmem S48x256 .f32) (harg21 : arg21.IsWhole) (hc0 : cond0_0 i) (hc1 : ¬cond0_1 i) (hc2 : ¬cond0_2 i)
    (x0 : Vec F S42x8 .f32) (x1 : Vec F S256x5376 .bf16) (x2 : Vec F S5376x128 .f32) (x3 : Vec F S5376x1024 .fp8e4m3) (x4 : Vec F S128x128 .f32) (x5 : Vec F S128x128 .f32) (x6 : Vec F S256x64 .f32) (x7 : Vec F S256x64 .f32) :
    Σ' (L10 : List (View.Piece (Elt F) S512x256 .bf16)), Σ' (L11 : List (View.Piece (Elt F) S256x256 .fp8e4m3)), Σ' (L12 : List (View.Piece (Elt F) S256x2 .f32)), Σ' (L13 : List (View.Piece (Elt F) S256x256 .fp8e4m3)), Σ' (L14 : List (View.Piece (Elt F) S256x256 .fp8e4m3)), Σ' (L15 : List (View.Piece (Elt F) S256x2 .f32)), Σ' (LS0 : List (View.Piece (Elt F) S1024x5376 .bf16)), Σ' (LS1 : List (View.Piece (Elt F) S5376x256 .bf16)), Σ' (LS2 : List (View.Piece (Elt F) S1024x256 .f32)), { LS3 : List (View.Piece (Elt F) S1x256 .f32) //
      ∀ (xi10 : Vec F S512x256 .bf16) (xi11 : Vec F S256x256 .fp8e4m3) (xi12 : Vec F S256x2 .f32) (xi13 : Vec F S256x256 .fp8e4m3) (xi14 : Vec F S256x256 .fp8e4m3) (xi15 : Vec F S256x2 .f32) (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ owns (c : Thread nD τ) arg11 fullShare xi10 ∗ owns (c : Thread nD τ) arg12 fullShare xi11 ∗ owns (c : Thread nD τ) arg13 fullShare xi12 ∗ owns (c : Thread nD τ) arg14 fullShare xi13 ∗ owns (c : Thread nD τ) arg15 fullShare xi14 ∗ owns (c : Thread nD τ) arg16 fullShare xi15 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ owns (c : Thread nD τ) arg11 fullShare xi10 ∗ owns (c : Thread nD τ) arg12 fullShare xi11 ∗ owns (c : Thread nD τ) arg13 fullShare xi12 ∗ owns (c : Thread nD τ) arg14 fullShare xi13 ∗ owns (c : Thread nD τ) arg15 fullShare xi14 ∗ owns (c : Thread nD τ) arg16 fullShare xi15 ∗ (∃ f, arg17.view.loc (c : Thread nD τ) ↦[arg17.view.set]{fullShare} arg17.view.writes (Elt F) f LS0) ∗ (∃ f, arg18.view.loc (c : Thread nD τ) ↦[arg18.view.set]{fullShare} arg18.view.writes (Elt F) f LS1) ∗ (∃ f, arg19.view.loc (c : Thread nD τ) ↦[arg19.view.set]{fullShare} arg19.view.writes (Elt F) f LS2) ∗ (∃ f, arg20.view.loc (c : Thread nD τ) ↦[arg20.view.set]{fullShare} arg20.view.writes (Elt F) f LS3) ∗ (∃ d, owns (c : Thread nD τ) arg21 fullShare d)) -∗ K ⟨⟩))
          ⊢ wp frame (wpE (defs₀ (F := F)) Variants.none c none) E (cc0_project i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨[], [], [], [], [], [], ?_, ?_, ?_, ?_, fun xi10 xi11 xi12 xi13 xi14 xi15 E K => ?run⟩
  case run =>
    simp only [cc0_project_eq_skeleton]; unfold cc0_project_skel
    simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg11.eq_unread hf10; obtain rfl := harg12.eq_unread hf11; obtain rfl := harg13.eq_unread hf12; obtain rfl := harg14.eq_unread hf13; obtain rfl := harg15.eq_unread hf14; obtain rfl := harg16.eq_unread hf15
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _, _; isplitr; swap; · iexact H8
      ipureintro; rfl
    isplitl [H9]
    · iexists _, _; isplitr; swap; · iexact H9
      ipureintro; rfl
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [HS0]; · iexists _; iexact HS0
    isplitl [HS1]; · iexists _; iexact HS1
    isplitl [HS2]; · iexists _; iexact HS2
    isplitl [HS3]; · iexists _; iexact HS3
    iexists _, _; isplitr; swap; · iexact HS4
    ipureintro; rfl

end Cert.ProjectIdeal.Gen

end
-- ==== Proof.IdealRunB.lean ====
module

public import proofs.«01_k».proof.Proof.IdealRunA

/-! The middle grid points: the body run on any buffers. -/

@[expose] public section

set_option maxRecDepth 16384

noncomputable section

namespace Cert.ProjectIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

set_option maxHeartbeats 2920000 in
noncomputable def kernelRun0_B (c : Dev nD) (i : grid0.Coords) (arg1 : Memref sig .tc .smem S42x8 .f32) (harg1 : arg1.IsWhole) (arg2 : Memref sig .tc .vmem S256x5376 .bf16) (harg2 : arg2.IsWhole) (arg3 : Memref sig .tc .vmem S5376x128 .f32) (harg3 : arg3.IsWhole) (arg4 : Memref sig .tc .vmem S5376x1024 .fp8e4m3) (harg4 : arg4.IsWhole) (arg5 : Memref sig .tc .vmem S128x128 .f32) (harg5 : arg5.IsWhole) (arg6 : Memref sig .tc .vmem S128x128 .f32) (harg6 : arg6.IsWhole) (arg7 : Memref sig .tc .vmem S256x64 .f32) (harg7 : arg7.IsWhole) (arg8 : Memref sig .tc .vmem S256x64 .f32) (harg8 : arg8.IsWhole) (arg9 : Memref sig .tc .vmem S256x5376 .fp8e4m3) (harg9 : arg9.IsWhole) (arg10 : Memref sig .tc .vmem S256x42 .f32) (harg10 : arg10.IsWhole) (arg11 : Memref sig .tc .vmem S512x256 .bf16) (harg11 : arg11.IsWhole) (arg12 : Memref sig .tc .vmem S256x256 .fp8e4m3) (harg12 : arg12.IsWhole) (arg13 : Memref sig .tc .vmem S256x2 .f32) (harg13 : arg13.IsWhole) (arg14 : Memref sig .tc .vmem S256x256 .fp8e4m3) (harg14 : arg14.IsWhole) (arg15 : Memref sig .tc .vmem S256x256 .fp8e4m3) (harg15 : arg15.IsWhole) (arg16 : Memref sig .tc .vmem S256x2 .f32) (harg16 : arg16.IsWhole) (arg17 : Memref sig .tc .vmem S1024x5376 .bf16) (harg17 : arg17.IsWhole) (arg18 : Memref sig .tc .vmem S5376x256 .bf16) (harg18 : arg18.IsWhole) (arg19 : Memref sig .tc .vmem S1024x256 .f32) (harg19 : arg19.IsWhole) (arg20 : Memref sig .tc .vmem S1x256 .f32) (harg20 : arg20.IsWhole) (arg21 : Memref sig .tc .vmem S48x256 .f32) (harg21 : arg21.IsWhole) (hc0 : ¬cond0_0 i) (hc1 : cond0_1 i) (hc2 : ¬cond0_2 i)
    (x0 : Vec F S42x8 .f32) (x1 : Vec F S256x5376 .bf16) (x2 : Vec F S5376x128 .f32) (x3 : Vec F S5376x1024 .fp8e4m3) (x4 : Vec F S128x128 .f32) (x5 : Vec F S128x128 .f32) (x6 : Vec F S256x64 .f32) (x7 : Vec F S256x64 .f32) (xs0 : Vec F S1024x5376 .bf16) (xs1 : Vec F S5376x256 .bf16) (xs2 : Vec F S1024x256 .f32) (xs3 : Vec F S1x256 .f32) :
    Σ' (L10 : List (View.Piece (Elt F) S512x256 .bf16)), Σ' (L11 : List (View.Piece (Elt F) S256x256 .fp8e4m3)), Σ' (L12 : List (View.Piece (Elt F) S256x2 .f32)), Σ' (L13 : List (View.Piece (Elt F) S256x256 .fp8e4m3)), Σ' (L14 : List (View.Piece (Elt F) S256x256 .fp8e4m3)), Σ' (L15 : List (View.Piece (Elt F) S256x2 .f32)), Σ' (LS0 : List (View.Piece (Elt F) S1024x5376 .bf16)), Σ' (LS1 : List (View.Piece (Elt F) S5376x256 .bf16)), Σ' (LS2 : List (View.Piece (Elt F) S1024x256 .f32)), { LS3 : List (View.Piece (Elt F) S1x256 .f32) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xs0 ∗ owns (c : Thread nD τ) arg18 fullShare xs1 ∗ owns (c : Thread nD τ) arg19 fullShare xs2 ∗ owns (c : Thread nD τ) arg20 fullShare xs3 ∗ (∃ d, owns (c : Thread nD τ) arg21 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ owns (c : Thread nD τ) arg17 fullShare xs0 ∗ (∃ f, arg18.view.loc (c : Thread nD τ) ↦[arg18.view.set]{fullShare} arg18.view.writes (Elt F) f LS1) ∗ (∃ f, arg19.view.loc (c : Thread nD τ) ↦[arg19.view.set]{fullShare} arg19.view.writes (Elt F) f LS2) ∗ (∃ f, arg20.view.loc (c : Thread nD τ) ↦[arg20.view.set]{fullShare} arg20.view.writes (Elt F) f LS3) ∗ (∃ d, owns (c : Thread nD τ) arg21 fullShare d)) -∗ K ⟨⟩))
          ⊢ wp frame (wpE (defs₀ (F := F)) Variants.none c none) E (cc0_project i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, ?_, [], ?_, ?_, ?_, fun E K => ?run⟩
  case run =>
    simp only [cc0_project_eq_skeleton]; unfold cc0_project_skel
    simp only [k0_part121_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part122_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%fs0, %hfs0, HS0⟩, ⟨%fs1, %hfs1, HS1⟩, ⟨%fs2, %hfs2, HS2⟩, ⟨%fs3, %hfs3, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg17.eq_unread hfs0; obtain rfl := harg18.eq_unread hfs1; obtain rfl := harg19.eq_unread hfs2; obtain rfl := harg20.eq_unread hfs3
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _, _; isplitr; swap; · iexact H8
      ipureintro; rfl
    isplitl [H9]
    · iexists _, _; isplitr; swap; · iexact H9
      ipureintro; rfl
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [HS0]
    · iexists _; isplitr; · ipureintro; exact harg17.read_unread _
      iexact HS0
    isplitl [HS1]; · iexists _; iexact HS1
    isplitl [HS2]; · iexists _; iexact HS2
    isplitl [HS3]; · iexists _; iexact HS3
    iexists _, _; isplitr; swap; · iexact HS4
    ipureintro; rfl

end Cert.ProjectIdeal.Gen

end
-- ==== Proof.IdealRunC.lean ====
module

public import proofs.«01_k».proof.Proof.IdealRunB

/-! The last grid point: the body run on any buffers. -/

@[expose] public section

set_option maxRecDepth 16384

noncomputable section

namespace Cert.ProjectIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

set_option maxHeartbeats 2920000 in
noncomputable def kernelRun0_C (c : Dev nD) (i : grid0.Coords) (arg1 : Memref sig .tc .smem S42x8 .f32) (harg1 : arg1.IsWhole) (arg2 : Memref sig .tc .vmem S256x5376 .bf16) (harg2 : arg2.IsWhole) (arg3 : Memref sig .tc .vmem S5376x128 .f32) (harg3 : arg3.IsWhole) (arg4 : Memref sig .tc .vmem S5376x1024 .fp8e4m3) (harg4 : arg4.IsWhole) (arg5 : Memref sig .tc .vmem S128x128 .f32) (harg5 : arg5.IsWhole) (arg6 : Memref sig .tc .vmem S128x128 .f32) (harg6 : arg6.IsWhole) (arg7 : Memref sig .tc .vmem S256x64 .f32) (harg7 : arg7.IsWhole) (arg8 : Memref sig .tc .vmem S256x64 .f32) (harg8 : arg8.IsWhole) (arg9 : Memref sig .tc .vmem S256x5376 .fp8e4m3) (harg9 : arg9.IsWhole) (arg10 : Memref sig .tc .vmem S256x42 .f32) (harg10 : arg10.IsWhole) (arg11 : Memref sig .tc .vmem S512x256 .bf16) (harg11 : arg11.IsWhole) (arg12 : Memref sig .tc .vmem S256x256 .fp8e4m3) (harg12 : arg12.IsWhole) (arg13 : Memref sig .tc .vmem S256x2 .f32) (harg13 : arg13.IsWhole) (arg14 : Memref sig .tc .vmem S256x256 .fp8e4m3) (harg14 : arg14.IsWhole) (arg15 : Memref sig .tc .vmem S256x256 .fp8e4m3) (harg15 : arg15.IsWhole) (arg16 : Memref sig .tc .vmem S256x2 .f32) (harg16 : arg16.IsWhole) (arg17 : Memref sig .tc .vmem S1024x5376 .bf16) (harg17 : arg17.IsWhole) (arg18 : Memref sig .tc .vmem S5376x256 .bf16) (harg18 : arg18.IsWhole) (arg19 : Memref sig .tc .vmem S1024x256 .f32) (harg19 : arg19.IsWhole) (arg20 : Memref sig .tc .vmem S1x256 .f32) (harg20 : arg20.IsWhole) (arg21 : Memref sig .tc .vmem S48x256 .f32) (harg21 : arg21.IsWhole) (hc0 : ¬cond0_0 i) (hc1 : ¬cond0_1 i) (hc2 : cond0_2 i)
    (x0 : Vec F S42x8 .f32) (x1 : Vec F S256x5376 .bf16) (x2 : Vec F S5376x128 .f32) (x3 : Vec F S5376x1024 .fp8e4m3) (x4 : Vec F S128x128 .f32) (x5 : Vec F S128x128 .f32) (x6 : Vec F S256x64 .f32) (x7 : Vec F S256x64 .f32) (xs0 : Vec F S1024x5376 .bf16) (xs1 : Vec F S5376x256 .bf16) (xs2 : Vec F S1024x256 .f32) (xs3 : Vec F S1x256 .f32) :
    Σ' (L10 : List (View.Piece (Elt F) S512x256 .bf16)), Σ' (L11 : List (View.Piece (Elt F) S256x256 .fp8e4m3)), Σ' (L12 : List (View.Piece (Elt F) S256x2 .f32)), Σ' (L13 : List (View.Piece (Elt F) S256x256 .fp8e4m3)), Σ' (L14 : List (View.Piece (Elt F) S256x256 .fp8e4m3)), Σ' (L15 : List (View.Piece (Elt F) S256x2 .f32)), Σ' (LS0 : List (View.Piece (Elt F) S1024x5376 .bf16)), Σ' (LS1 : List (View.Piece (Elt F) S5376x256 .bf16)), Σ' (LS2 : List (View.Piece (Elt F) S1024x256 .f32)), { LS3 : List (View.Piece (Elt F) S1x256 .f32) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xs0 ∗ owns (c : Thread nD τ) arg18 fullShare xs1 ∗ owns (c : Thread nD τ) arg19 fullShare xs2 ∗ owns (c : Thread nD τ) arg20 fullShare xs3 ∗ (∃ d, owns (c : Thread nD τ) arg21 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ owns (c : Thread nD τ) arg17 fullShare xs0 ∗ owns (c : Thread nD τ) arg18 fullShare xs1 ∗ owns (c : Thread nD τ) arg19 fullShare xs2 ∗ owns (c : Thread nD τ) arg20 fullShare xs3 ∗ (∃ d, owns (c : Thread nD τ) arg21 fullShare d)) -∗ K ⟨⟩))
          ⊢ wp frame (wpE (defs₀ (F := F)) Variants.none c none) E (cc0_project i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, ?_, [], [], [], [], fun E K => ?run⟩
  case run =>
    rw [cc0_project_eq_skeleton]; unfold cc0_project_skel
    rw [dif_neg hc0, dif_neg hc1, dif_pos hc2]
    simp only [k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%fs0, %hfs0, HS0⟩, ⟨%fs1, %hfs1, HS1⟩, ⟨%fs2, %hfs2, HS2⟩, ⟨%fs3, %hfs3, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg17.eq_unread hfs0; obtain rfl := harg18.eq_unread hfs1; obtain rfl := harg19.eq_unread hfs2; obtain rfl := harg20.eq_unread hfs3
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _, _; isplitr; swap; · iexact H8
      ipureintro; rfl
    isplitl [H9]
    · iexists _, _; isplitr; swap; · iexact H9
      ipureintro; rfl
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [HS0]
    · iexists _; isplitr; · ipureintro; exact harg17.read_unread _
      iexact HS0
    isplitl [HS1]
    · iexists _; isplitr; · ipureintro; exact harg18.read_unread _
      iexact HS1
    isplitl [HS2]
    · iexists _; isplitr; · ipureintro; exact harg19.read_unread _
      iexact HS2
    isplitl [HS3]
    · iexists _; isplitr; · ipureintro; exact harg20.read_unread _
      iexact HS3
    iexists _, _; isplitr; swap; · iexact HS4
    ipureintro; rfl

end Cert.ProjectIdeal.Gen

end
-- ==== Proof.IdealOuts.lean ====
module

public import proofs.«01_k».proof.Proof.IdealRunC
public import Idealize.ShloMosaic.Lib.Claim

/-! What one grid point of the projection kernel leaves in each output and scratch buffer. -/

@[expose] public section

set_option maxRecDepth 16384

noncomputable section

namespace Cert.ProjectIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

section
variable (c : Dev nD) (i : grid0.Coords) (arg1 : Memref sig .tc .smem S42x8 .f32) (harg1 : arg1.IsWhole) (arg2 : Memref sig .tc .vmem S256x5376 .bf16) (harg2 : arg2.IsWhole) (arg3 : Memref sig .tc .vmem S5376x128 .f32) (harg3 : arg3.IsWhole) (arg4 : Memref sig .tc .vmem S5376x1024 .fp8e4m3) (harg4 : arg4.IsWhole) (arg5 : Memref sig .tc .vmem S128x128 .f32) (harg5 : arg5.IsWhole) (arg6 : Memref sig .tc .vmem S128x128 .f32) (harg6 : arg6.IsWhole) (arg7 : Memref sig .tc .vmem S256x64 .f32) (harg7 : arg7.IsWhole) (arg8 : Memref sig .tc .vmem S256x64 .f32) (harg8 : arg8.IsWhole) (arg9 : Memref sig .tc .vmem S256x5376 .fp8e4m3) (harg9 : arg9.IsWhole) (arg10 : Memref sig .tc .vmem S256x42 .f32) (harg10 : arg10.IsWhole) (arg11 : Memref sig .tc .vmem S512x256 .bf16) (harg11 : arg11.IsWhole) (arg12 : Memref sig .tc .vmem S256x256 .fp8e4m3) (harg12 : arg12.IsWhole) (arg13 : Memref sig .tc .vmem S256x2 .f32) (harg13 : arg13.IsWhole) (arg14 : Memref sig .tc .vmem S256x256 .fp8e4m3) (harg14 : arg14.IsWhole) (arg15 : Memref sig .tc .vmem S256x256 .fp8e4m3) (harg15 : arg15.IsWhole) (arg16 : Memref sig .tc .vmem S256x2 .f32) (harg16 : arg16.IsWhole) (arg17 : Memref sig .tc .vmem S1024x5376 .bf16) (harg17 : arg17.IsWhole) (arg18 : Memref sig .tc .vmem S5376x256 .bf16) (harg18 : arg18.IsWhole) (arg19 : Memref sig .tc .vmem S1024x256 .f32) (harg19 : arg19.IsWhole) (arg20 : Memref sig .tc .vmem S1x256 .f32) (harg20 : arg20.IsWhole) (arg21 : Memref sig .tc .vmem S48x256 .f32) (harg21 : arg21.IsWhole)

section
variable (hc0 : cond0_0 i) (hc1 : ¬cond0_1 i) (hc2 : ¬cond0_2 i)
    (x0 : Vec F S42x8 .f32) (x1 : Vec F S256x5376 .bf16) (x2 : Vec F S5376x128 .f32) (x3 : Vec F S5376x1024 .fp8e4m3) (x4 : Vec F S128x128 .f32) (x5 : Vec F S128x128 .f32) (x6 : Vec F S256x64 .f32) (x7 : Vec F S256x64 .f32)

def out0_A_10 : Vec F S512x256 .bf16 :=
  VO0_10.read (Elt F) (VO0_10.writes (Elt F) VO0_10.junk (kernelRun0_A c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 hc0 hc1 hc2 x0 x1 x2 x3 x4 x5 x6 x7).1)

def out0_A_11 : Vec F S256x256 .fp8e4m3 :=
  VO0_11.read (Elt F) (VO0_11.writes (Elt F) VO0_11.junk (kernelRun0_A c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 hc0 hc1 hc2 x0 x1 x2 x3 x4 x5 x6 x7).2.1)

def out0_A_12 : Vec F S256x2 .f32 :=
  VO0_12.read (Elt F) (VO0_12.writes (Elt F) VO0_12.junk (kernelRun0_A c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 hc0 hc1 hc2 x0 x1 x2 x3 x4 x5 x6 x7).2.2.1)

def out0_A_13 : Vec F S256x256 .fp8e4m3 :=
  VO0_13.read (Elt F) (VO0_13.writes (Elt F) VO0_13.junk (kernelRun0_A c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 hc0 hc1 hc2 x0 x1 x2 x3 x4 x5 x6 x7).2.2.2.1)

def out0_A_14 : Vec F S256x256 .fp8e4m3 :=
  VO0_14.read (Elt F) (VO0_14.writes (Elt F) VO0_14.junk (kernelRun0_A c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 hc0 hc1 hc2 x0 x1 x2 x3 x4 x5 x6 x7).2.2.2.2.1)

def out0_A_15 : Vec F S256x2 .f32 :=
  VO0_15.read (Elt F) (VO0_15.writes (Elt F) VO0_15.junk (kernelRun0_A c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 hc0 hc1 hc2 x0 x1 x2 x3 x4 x5 x6 x7).2.2.2.2.2.1)

theorem scover0_A_0 (y : S1024x5376.Idx) :
    ∃ pc ∈ (kernelRun0_A c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 hc0 hc1 hc2 x0 x1 x2 x3 x4 x5 x6 x7).2.2.2.2.2.2.1, y ∈ pc.1.set :=
  View.cover_of_tiledL (kernelRun0_A c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 hc0 hc1 hc2 x0 x1 x2 x3 x4 x5 x6 x7).2.2.2.2.2.2.1 S128x128.size (by sl_kernel_rfl) y

def sout0_A_0 : Vec F S1024x5376 .bf16 :=
  VS0_0.read (Elt F) (VS0_0.writes (Elt F) VS0_0.junk (kernelRun0_A c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 hc0 hc1 hc2 x0 x1 x2 x3 x4 x5 x6 x7).2.2.2.2.2.2.1)

theorem scover0_A_1 (y : S5376x256.Idx) :
    ∃ pc ∈ (kernelRun0_A c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 hc0 hc1 hc2 x0 x1 x2 x3 x4 x5 x6 x7).2.2.2.2.2.2.2.1, y ∈ pc.1.set :=
  View.cover_of_tiledL (kernelRun0_A c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 hc0 hc1 hc2 x0 x1 x2 x3 x4 x5 x6 x7).2.2.2.2.2.2.2.1 S256x256.size (by sl_kernel_rfl) y

def sout0_A_1 : Vec F S5376x256 .bf16 :=
  VS0_1.read (Elt F) (VS0_1.writes (Elt F) VS0_1.junk (kernelRun0_A c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 hc0 hc1 hc2 x0 x1 x2 x3 x4 x5 x6 x7).2.2.2.2.2.2.2.1)

theorem scover0_A_2 (y : S1024x256.Idx) :
    ∃ pc ∈ (kernelRun0_A c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 hc0 hc1 hc2 x0 x1 x2 x3 x4 x5 x6 x7).2.2.2.2.2.2.2.2.1, y ∈ pc.1.set :=
  View.cover_of_tiledL (kernelRun0_A c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 hc0 hc1 hc2 x0 x1 x2 x3 x4 x5 x6 x7).2.2.2.2.2.2.2.2.1 S1024x256.size (by sl_kernel_rfl) y

def sout0_A_2 : Vec F S1024x256 .f32 :=
  VS0_2.read (Elt F) (VS0_2.writes (Elt F) VS0_2.junk (kernelRun0_A c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 hc0 hc1 hc2 x0 x1 x2 x3 x4 x5 x6 x7).2.2.2.2.2.2.2.2.1)

theorem scover0_A_3 (y : S1x256.Idx) :
    ∃ pc ∈ (kernelRun0_A c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 hc0 hc1 hc2 x0 x1 x2 x3 x4 x5 x6 x7).2.2.2.2.2.2.2.2.2.1, y ∈ pc.1.set :=
  View.cover_of_tiledL (kernelRun0_A c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 hc0 hc1 hc2 x0 x1 x2 x3 x4 x5 x6 x7).2.2.2.2.2.2.2.2.2.1 S1x256.size (by sl_kernel_rfl) y

def sout0_A_3 : Vec F S1x256 .f32 :=
  VS0_3.read (Elt F) (VS0_3.writes (Elt F) VS0_3.junk (kernelRun0_A c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 hc0 hc1 hc2 x0 x1 x2 x3 x4 x5 x6 x7).2.2.2.2.2.2.2.2.2.1)

end

section
variable (hc0 : ¬cond0_0 i) (hc1 : cond0_1 i) (hc2 : ¬cond0_2 i)
    (x0 : Vec F S42x8 .f32) (x1 : Vec F S256x5376 .bf16) (x2 : Vec F S5376x128 .f32) (x3 : Vec F S5376x1024 .fp8e4m3) (x4 : Vec F S128x128 .f32) (x5 : Vec F S128x128 .f32) (x6 : Vec F S256x64 .f32) (x7 : Vec F S256x64 .f32) (xs0 : Vec F S1024x5376 .bf16) (xs1 : Vec F S5376x256 .bf16) (xs2 : Vec F S1024x256 .f32) (xs3 : Vec F S1x256 .f32)

theorem cover0_B_10 (y : S512x256.Idx) :
    ∃ pc ∈ (kernelRun0_B c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 hc0 hc1 hc2 x0 x1 x2 x3 x4 x5 x6 x7 xs0 xs1 xs2 xs3).1, y ∈ pc.1.set :=
  View.cover_of_tiledL (kernelRun0_B c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 hc0 hc1 hc2 x0 x1 x2 x3 x4 x5 x6 x7 xs0 xs1 xs2 xs3).1 S128x256.size (by sl_kernel_rfl) y

def out0_B_10 : Vec F S512x256 .bf16 :=
  VO0_10.read (Elt F) (VO0_10.writes (Elt F) VO0_10.junk (kernelRun0_B c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 hc0 hc1 hc2 x0 x1 x2 x3 x4 x5 x6 x7 xs0 xs1 xs2 xs3).1)

theorem cover0_B_11 (y : S256x256.Idx) :
    ∃ pc ∈ (kernelRun0_B c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 hc0 hc1 hc2 x0 x1 x2 x3 x4 x5 x6 x7 xs0 xs1 xs2 xs3).2.1, y ∈ pc.1.set :=
  View.cover_of_tiledL (kernelRun0_B c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 hc0 hc1 hc2 x0 x1 x2 x3 x4 x5 x6 x7 xs0 xs1 xs2 xs3).2.1 S256x128.size (by sl_kernel_rfl) y

def out0_B_11 : Vec F S256x256 .fp8e4m3 :=
  VO0_11.read (Elt F) (VO0_11.writes (Elt F) VO0_11.junk (kernelRun0_B c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 hc0 hc1 hc2 x0 x1 x2 x3 x4 x5 x6 x7 xs0 xs1 xs2 xs3).2.1)

theorem cover0_B_12 (y : S256x2.Idx) :
    ∃ pc ∈ (kernelRun0_B c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 hc0 hc1 hc2 x0 x1 x2 x3 x4 x5 x6 x7 xs0 xs1 xs2 xs3).2.2.1, y ∈ pc.1.set :=
  View.cover_of_tiledL (kernelRun0_B c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 hc0 hc1 hc2 x0 x1 x2 x3 x4 x5 x6 x7 xs0 xs1 xs2 xs3).2.2.1 S256x1.size (by sl_kernel_rfl) y

def out0_B_12 : Vec F S256x2 .f32 :=
  VO0_12.read (Elt F) (VO0_12.writes (Elt F) VO0_12.junk (kernelRun0_B c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 hc0 hc1 hc2 x0 x1 x2 x3 x4 x5 x6 x7 xs0 xs1 xs2 xs3).2.2.1)

theorem cover0_B_13 (y : S256x256.Idx) :
    ∃ pc ∈ (kernelRun0_B c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 hc0 hc1 hc2 x0 x1 x2 x3 x4 x5 x6 x7 xs0 xs1 xs2 xs3).2.2.2.1, y ∈ pc.1.set :=
  View.cover_of_tiledL (kernelRun0_B c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 hc0 hc1 hc2 x0 x1 x2 x3 x4 x5 x6 x7 xs0 xs1 xs2 xs3).2.2.2.1 S256x128.size (by sl_kernel_rfl) y

def out0_B_13 : Vec F S256x256 .fp8e4m3 :=
  VO0_13.read (Elt F) (VO0_13.writes (Elt F) VO0_13.junk (kernelRun0_B c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 hc0 hc1 hc2 x0 x1 x2 x3 x4 x5 x6 x7 xs0 xs1 xs2 xs3).2.2.2.1)

theorem cover0_B_14 (y : S256x256.Idx) :
    ∃ pc ∈ (kernelRun0_B c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 hc0 hc1 hc2 x0 x1 x2 x3 x4 x5 x6 x7 xs0 xs1 xs2 xs3).2.2.2.2.1, y ∈ pc.1.set :=
  View.cover_of_tiledL (kernelRun0_B c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 hc0 hc1 hc2 x0 x1 x2 x3 x4 x5 x6 x7 xs0 xs1 xs2 xs3).2.2.2.2.1 S128x256.size (by sl_kernel_rfl) y

def out0_B_14 : Vec F S256x256 .fp8e4m3 :=
  VO0_14.read (Elt F) (VO0_14.writes (Elt F) VO0_14.junk (kernelRun0_B c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 hc0 hc1 hc2 x0 x1 x2 x3 x4 x5 x6 x7 xs0 xs1 xs2 xs3).2.2.2.2.1)

theorem cover0_B_15 (y : S256x2.Idx) :
    ∃ pc ∈ (kernelRun0_B c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 hc0 hc1 hc2 x0 x1 x2 x3 x4 x5 x6 x7 xs0 xs1 xs2 xs3).2.2.2.2.2.1, y ∈ pc.1.set :=
  View.cover_of_tiledL (kernelRun0_B c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 hc0 hc1 hc2 x0 x1 x2 x3 x4 x5 x6 x7 xs0 xs1 xs2 xs3).2.2.2.2.2.1 S256x1.size (by sl_kernel_rfl) y

def out0_B_15 : Vec F S256x2 .f32 :=
  VO0_15.read (Elt F) (VO0_15.writes (Elt F) VO0_15.junk (kernelRun0_B c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 hc0 hc1 hc2 x0 x1 x2 x3 x4 x5 x6 x7 xs0 xs1 xs2 xs3).2.2.2.2.2.1)

end

def sout0_B_0 (c : Dev nD) (i : grid0.Coords) (arg1 : Memref sig .tc .smem S42x8 .f32) (harg1 : arg1.IsWhole) (arg2 : Memref sig .tc .vmem S256x5376 .bf16) (harg2 : arg2.IsWhole) (arg3 : Memref sig .tc .vmem S5376x128 .f32) (harg3 : arg3.IsWhole) (arg4 : Memref sig .tc .vmem S5376x1024 .fp8e4m3) (harg4 : arg4.IsWhole) (arg5 : Memref sig .tc .vmem S128x128 .f32) (harg5 : arg5.IsWhole) (arg6 : Memref sig .tc .vmem S128x128 .f32) (harg6 : arg6.IsWhole) (arg7 : Memref sig .tc .vmem S256x64 .f32) (harg7 : arg7.IsWhole) (arg8 : Memref sig .tc .vmem S256x64 .f32) (harg8 : arg8.IsWhole) (arg9 : Memref sig .tc .vmem S256x5376 .fp8e4m3) (harg9 : arg9.IsWhole) (arg10 : Memref sig .tc .vmem S256x42 .f32) (harg10 : arg10.IsWhole) (arg11 : Memref sig .tc .vmem S512x256 .bf16) (harg11 : arg11.IsWhole) (arg12 : Memref sig .tc .vmem S256x256 .fp8e4m3) (harg12 : arg12.IsWhole) (arg13 : Memref sig .tc .vmem S256x2 .f32) (harg13 : arg13.IsWhole) (arg14 : Memref sig .tc .vmem S256x256 .fp8e4m3) (harg14 : arg14.IsWhole) (arg15 : Memref sig .tc .vmem S256x256 .fp8e4m3) (harg15 : arg15.IsWhole) (arg16 : Memref sig .tc .vmem S256x2 .f32) (harg16 : arg16.IsWhole) (arg17 : Memref sig .tc .vmem S1024x5376 .bf16) (harg17 : arg17.IsWhole) (arg18 : Memref sig .tc .vmem S5376x256 .bf16) (harg18 : arg18.IsWhole) (arg19 : Memref sig .tc .vmem S1024x256 .f32) (harg19 : arg19.IsWhole) (arg20 : Memref sig .tc .vmem S1x256 .f32) (harg20 : arg20.IsWhole) (arg21 : Memref sig .tc .vmem S48x256 .f32) (harg21 : arg21.IsWhole) (hc0 : ¬cond0_0 i) (hc1 : cond0_1 i) (hc2 : ¬cond0_2 i)
    (x0 : Vec F S42x8 .f32) (x1 : Vec F S256x5376 .bf16) (x2 : Vec F S5376x128 .f32) (x3 : Vec F S5376x1024 .fp8e4m3) (x4 : Vec F S128x128 .f32) (x5 : Vec F S128x128 .f32) (x6 : Vec F S256x64 .f32) (x7 : Vec F S256x64 .f32) (xs0 : Vec F S1024x5376 .bf16) (xs1 : Vec F S5376x256 .bf16) (xs2 : Vec F S1024x256 .f32) (xs3 : Vec F S1x256 .f32) : Vec F S1024x5376 .bf16 := xs0

section
variable (hc0 : ¬cond0_0 i) (hc1 : cond0_1 i) (hc2 : ¬cond0_2 i)
    (x0 : Vec F S42x8 .f32) (x1 : Vec F S256x5376 .bf16) (x2 : Vec F S5376x128 .f32) (x3 : Vec F S5376x1024 .fp8e4m3) (x4 : Vec F S128x128 .f32) (x5 : Vec F S128x128 .f32) (x6 : Vec F S256x64 .f32) (x7 : Vec F S256x64 .f32) (xs0 : Vec F S1024x5376 .bf16) (xs1 : Vec F S5376x256 .bf16) (xs2 : Vec F S1024x256 .f32) (xs3 : Vec F S1x256 .f32)

theorem scover0_B_1 (y : S5376x256.Idx) :
    ∃ pc ∈ (kernelRun0_B c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 hc0 hc1 hc2 x0 x1 x2 x3 x4 x5 x6 x7 xs0 xs1 xs2 xs3).2.2.2.2.2.2.2.1, y ∈ pc.1.set :=
  View.cover_of_tiledL (kernelRun0_B c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 hc0 hc1 hc2 x0 x1 x2 x3 x4 x5 x6 x7 xs0 xs1 xs2 xs3).2.2.2.2.2.2.2.1 S256x256.size (by sl_kernel_rfl) y

def sout0_B_1 : Vec F S5376x256 .bf16 :=
  VS0_1.read (Elt F) (VS0_1.writes (Elt F) VS0_1.junk (kernelRun0_B c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 hc0 hc1 hc2 x0 x1 x2 x3 x4 x5 x6 x7 xs0 xs1 xs2 xs3).2.2.2.2.2.2.2.1)

theorem scover0_B_2 (y : S1024x256.Idx) :
    ∃ pc ∈ (kernelRun0_B c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 hc0 hc1 hc2 x0 x1 x2 x3 x4 x5 x6 x7 xs0 xs1 xs2 xs3).2.2.2.2.2.2.2.2.1, y ∈ pc.1.set :=
  View.cover_of_tiledL (kernelRun0_B c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 hc0 hc1 hc2 x0 x1 x2 x3 x4 x5 x6 x7 xs0 xs1 xs2 xs3).2.2.2.2.2.2.2.2.1 S1024x256.size (by sl_kernel_rfl) y

def sout0_B_2 : Vec F S1024x256 .f32 :=
  VS0_2.read (Elt F) (VS0_2.writes (Elt F) VS0_2.junk (kernelRun0_B c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 hc0 hc1 hc2 x0 x1 x2 x3 x4 x5 x6 x7 xs0 xs1 xs2 xs3).2.2.2.2.2.2.2.2.1)

theorem scover0_B_3 (y : S1x256.Idx) :
    ∃ pc ∈ (kernelRun0_B c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 hc0 hc1 hc2 x0 x1 x2 x3 x4 x5 x6 x7 xs0 xs1 xs2 xs3).2.2.2.2.2.2.2.2.2.1, y ∈ pc.1.set :=
  View.cover_of_tiledL (kernelRun0_B c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 hc0 hc1 hc2 x0 x1 x2 x3 x4 x5 x6 x7 xs0 xs1 xs2 xs3).2.2.2.2.2.2.2.2.2.1 S1x256.size (by sl_kernel_rfl) y

def sout0_B_3 : Vec F S1x256 .f32 :=
  VS0_3.read (Elt F) (VS0_3.writes (Elt F) VS0_3.junk (kernelRun0_B c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 hc0 hc1 hc2 x0 x1 x2 x3 x4 x5 x6 x7 xs0 xs1 xs2 xs3).2.2.2.2.2.2.2.2.2.1)

end

section
variable (hc0 : ¬cond0_0 i) (hc1 : ¬cond0_1 i) (hc2 : cond0_2 i)
    (x0 : Vec F S42x8 .f32) (x1 : Vec F S256x5376 .bf16) (x2 : Vec F S5376x128 .f32) (x3 : Vec F S5376x1024 .fp8e4m3) (x4 : Vec F S128x128 .f32) (x5 : Vec F S128x128 .f32) (x6 : Vec F S256x64 .f32) (x7 : Vec F S256x64 .f32) (xs0 : Vec F S1024x5376 .bf16) (xs1 : Vec F S5376x256 .bf16) (xs2 : Vec F S1024x256 .f32) (xs3 : Vec F S1x256 .f32)

theorem cover0_C_10 (y : S512x256.Idx) :
    ∃ pc ∈ (kernelRun0_C c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 hc0 hc1 hc2 x0 x1 x2 x3 x4 x5 x6 x7 xs0 xs1 xs2 xs3).1, y ∈ pc.1.set :=
  View.cover_of_tiledL (kernelRun0_C c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 hc0 hc1 hc2 x0 x1 x2 x3 x4 x5 x6 x7 xs0 xs1 xs2 xs3).1 S128x256.size (by sl_kernel_rfl) y

def out0_C_10 : Vec F S512x256 .bf16 :=
  VO0_10.read (Elt F) (VO0_10.writes (Elt F) VO0_10.junk (kernelRun0_C c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 hc0 hc1 hc2 x0 x1 x2 x3 x4 x5 x6 x7 xs0 xs1 xs2 xs3).1)

theorem cover0_C_11 (y : S256x256.Idx) :
    ∃ pc ∈ (kernelRun0_C c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 hc0 hc1 hc2 x0 x1 x2 x3 x4 x5 x6 x7 xs0 xs1 xs2 xs3).2.1, y ∈ pc.1.set :=
  View.cover_of_tiledL (kernelRun0_C c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 hc0 hc1 hc2 x0 x1 x2 x3 x4 x5 x6 x7 xs0 xs1 xs2 xs3).2.1 S256x128.size (by sl_kernel_rfl) y

def out0_C_11 : Vec F S256x256 .fp8e4m3 :=
  VO0_11.read (Elt F) (VO0_11.writes (Elt F) VO0_11.junk (kernelRun0_C c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 hc0 hc1 hc2 x0 x1 x2 x3 x4 x5 x6 x7 xs0 xs1 xs2 xs3).2.1)

theorem cover0_C_12 (y : S256x2.Idx) :
    ∃ pc ∈ (kernelRun0_C c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 hc0 hc1 hc2 x0 x1 x2 x3 x4 x5 x6 x7 xs0 xs1 xs2 xs3).2.2.1, y ∈ pc.1.set :=
  View.cover_of_tiledL (kernelRun0_C c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 hc0 hc1 hc2 x0 x1 x2 x3 x4 x5 x6 x7 xs0 xs1 xs2 xs3).2.2.1 S256x1.size (by sl_kernel_rfl) y

def out0_C_12 : Vec F S256x2 .f32 :=
  VO0_12.read (Elt F) (VO0_12.writes (Elt F) VO0_12.junk (kernelRun0_C c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 hc0 hc1 hc2 x0 x1 x2 x3 x4 x5 x6 x7 xs0 xs1 xs2 xs3).2.2.1)

theorem cover0_C_13 (y : S256x256.Idx) :
    ∃ pc ∈ (kernelRun0_C c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 hc0 hc1 hc2 x0 x1 x2 x3 x4 x5 x6 x7 xs0 xs1 xs2 xs3).2.2.2.1, y ∈ pc.1.set :=
  View.cover_of_tiledL (kernelRun0_C c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 hc0 hc1 hc2 x0 x1 x2 x3 x4 x5 x6 x7 xs0 xs1 xs2 xs3).2.2.2.1 S256x128.size (by sl_kernel_rfl) y

def out0_C_13 : Vec F S256x256 .fp8e4m3 :=
  VO0_13.read (Elt F) (VO0_13.writes (Elt F) VO0_13.junk (kernelRun0_C c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 hc0 hc1 hc2 x0 x1 x2 x3 x4 x5 x6 x7 xs0 xs1 xs2 xs3).2.2.2.1)

theorem cover0_C_14 (y : S256x256.Idx) :
    ∃ pc ∈ (kernelRun0_C c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 hc0 hc1 hc2 x0 x1 x2 x3 x4 x5 x6 x7 xs0 xs1 xs2 xs3).2.2.2.2.1, y ∈ pc.1.set :=
  View.cover_of_tiledL (kernelRun0_C c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 hc0 hc1 hc2 x0 x1 x2 x3 x4 x5 x6 x7 xs0 xs1 xs2 xs3).2.2.2.2.1 S128x256.size (by sl_kernel_rfl) y

def out0_C_14 : Vec F S256x256 .fp8e4m3 :=
  VO0_14.read (Elt F) (VO0_14.writes (Elt F) VO0_14.junk (kernelRun0_C c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 hc0 hc1 hc2 x0 x1 x2 x3 x4 x5 x6 x7 xs0 xs1 xs2 xs3).2.2.2.2.1)

theorem cover0_C_15 (y : S256x2.Idx) :
    ∃ pc ∈ (kernelRun0_C c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 hc0 hc1 hc2 x0 x1 x2 x3 x4 x5 x6 x7 xs0 xs1 xs2 xs3).2.2.2.2.2.1, y ∈ pc.1.set :=
  View.cover_of_tiledL (kernelRun0_C c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 hc0 hc1 hc2 x0 x1 x2 x3 x4 x5 x6 x7 xs0 xs1 xs2 xs3).2.2.2.2.2.1 S256x1.size (by sl_kernel_rfl) y

def out0_C_15 : Vec F S256x2 .f32 :=
  VO0_15.read (Elt F) (VO0_15.writes (Elt F) VO0_15.junk (kernelRun0_C c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 hc0 hc1 hc2 x0 x1 x2 x3 x4 x5 x6 x7 xs0 xs1 xs2 xs3).2.2.2.2.2.1)

end

def sout0_C_0 (c : Dev nD) (i : grid0.Coords) (arg1 : Memref sig .tc .smem S42x8 .f32) (harg1 : arg1.IsWhole) (arg2 : Memref sig .tc .vmem S256x5376 .bf16) (harg2 : arg2.IsWhole) (arg3 : Memref sig .tc .vmem S5376x128 .f32) (harg3 : arg3.IsWhole) (arg4 : Memref sig .tc .vmem S5376x1024 .fp8e4m3) (harg4 : arg4.IsWhole) (arg5 : Memref sig .tc .vmem S128x128 .f32) (harg5 : arg5.IsWhole) (arg6 : Memref sig .tc .vmem S128x128 .f32) (harg6 : arg6.IsWhole) (arg7 : Memref sig .tc .vmem S256x64 .f32) (harg7 : arg7.IsWhole) (arg8 : Memref sig .tc .vmem S256x64 .f32) (harg8 : arg8.IsWhole) (arg9 : Memref sig .tc .vmem S256x5376 .fp8e4m3) (harg9 : arg9.IsWhole) (arg10 : Memref sig .tc .vmem S256x42 .f32) (harg10 : arg10.IsWhole) (arg11 : Memref sig .tc .vmem S512x256 .bf16) (harg11 : arg11.IsWhole) (arg12 : Memref sig .tc .vmem S256x256 .fp8e4m3) (harg12 : arg12.IsWhole) (arg13 : Memref sig .tc .vmem S256x2 .f32) (harg13 : arg13.IsWhole) (arg14 : Memref sig .tc .vmem S256x256 .fp8e4m3) (harg14 : arg14.IsWhole) (arg15 : Memref sig .tc .vmem S256x256 .fp8e4m3) (harg15 : arg15.IsWhole) (arg16 : Memref sig .tc .vmem S256x2 .f32) (harg16 : arg16.IsWhole) (arg17 : Memref sig .tc .vmem S1024x5376 .bf16) (harg17 : arg17.IsWhole) (arg18 : Memref sig .tc .vmem S5376x256 .bf16) (harg18 : arg18.IsWhole) (arg19 : Memref sig .tc .vmem S1024x256 .f32) (harg19 : arg19.IsWhole) (arg20 : Memref sig .tc .vmem S1x256 .f32) (harg20 : arg20.IsWhole) (arg21 : Memref sig .tc .vmem S48x256 .f32) (harg21 : arg21.IsWhole) (hc0 : ¬cond0_0 i) (hc1 : ¬cond0_1 i) (hc2 : cond0_2 i)
    (x0 : Vec F S42x8 .f32) (x1 : Vec F S256x5376 .bf16) (x2 : Vec F S5376x128 .f32) (x3 : Vec F S5376x1024 .fp8e4m3) (x4 : Vec F S128x128 .f32) (x5 : Vec F S128x128 .f32) (x6 : Vec F S256x64 .f32) (x7 : Vec F S256x64 .f32) (xs0 : Vec F S1024x5376 .bf16) (xs1 : Vec F S5376x256 .bf16) (xs2 : Vec F S1024x256 .f32) (xs3 : Vec F S1x256 .f32) : Vec F S1024x5376 .bf16 := xs0

def sout0_C_1 (c : Dev nD) (i : grid0.Coords) (arg1 : Memref sig .tc .smem S42x8 .f32) (harg1 : arg1.IsWhole) (arg2 : Memref sig .tc .vmem S256x5376 .bf16) (harg2 : arg2.IsWhole) (arg3 : Memref sig .tc .vmem S5376x128 .f32) (harg3 : arg3.IsWhole) (arg4 : Memref sig .tc .vmem S5376x1024 .fp8e4m3) (harg4 : arg4.IsWhole) (arg5 : Memref sig .tc .vmem S128x128 .f32) (harg5 : arg5.IsWhole) (arg6 : Memref sig .tc .vmem S128x128 .f32) (harg6 : arg6.IsWhole) (arg7 : Memref sig .tc .vmem S256x64 .f32) (harg7 : arg7.IsWhole) (arg8 : Memref sig .tc .vmem S256x64 .f32) (harg8 : arg8.IsWhole) (arg9 : Memref sig .tc .vmem S256x5376 .fp8e4m3) (harg9 : arg9.IsWhole) (arg10 : Memref sig .tc .vmem S256x42 .f32) (harg10 : arg10.IsWhole) (arg11 : Memref sig .tc .vmem S512x256 .bf16) (harg11 : arg11.IsWhole) (arg12 : Memref sig .tc .vmem S256x256 .fp8e4m3) (harg12 : arg12.IsWhole) (arg13 : Memref sig .tc .vmem S256x2 .f32) (harg13 : arg13.IsWhole) (arg14 : Memref sig .tc .vmem S256x256 .fp8e4m3) (harg14 : arg14.IsWhole) (arg15 : Memref sig .tc .vmem S256x256 .fp8e4m3) (harg15 : arg15.IsWhole) (arg16 : Memref sig .tc .vmem S256x2 .f32) (harg16 : arg16.IsWhole) (arg17 : Memref sig .tc .vmem S1024x5376 .bf16) (harg17 : arg17.IsWhole) (arg18 : Memref sig .tc .vmem S5376x256 .bf16) (harg18 : arg18.IsWhole) (arg19 : Memref sig .tc .vmem S1024x256 .f32) (harg19 : arg19.IsWhole) (arg20 : Memref sig .tc .vmem S1x256 .f32) (harg20 : arg20.IsWhole) (arg21 : Memref sig .tc .vmem S48x256 .f32) (harg21 : arg21.IsWhole) (hc0 : ¬cond0_0 i) (hc1 : ¬cond0_1 i) (hc2 : cond0_2 i)
    (x0 : Vec F S42x8 .f32) (x1 : Vec F S256x5376 .bf16) (x2 : Vec F S5376x128 .f32) (x3 : Vec F S5376x1024 .fp8e4m3) (x4 : Vec F S128x128 .f32) (x5 : Vec F S128x128 .f32) (x6 : Vec F S256x64 .f32) (x7 : Vec F S256x64 .f32) (xs0 : Vec F S1024x5376 .bf16) (xs1 : Vec F S5376x256 .bf16) (xs2 : Vec F S1024x256 .f32) (xs3 : Vec F S1x256 .f32) : Vec F S5376x256 .bf16 := xs1

def sout0_C_2 (c : Dev nD) (i : grid0.Coords) (arg1 : Memref sig .tc .smem S42x8 .f32) (harg1 : arg1.IsWhole) (arg2 : Memref sig .tc .vmem S256x5376 .bf16) (harg2 : arg2.IsWhole) (arg3 : Memref sig .tc .vmem S5376x128 .f32) (harg3 : arg3.IsWhole) (arg4 : Memref sig .tc .vmem S5376x1024 .fp8e4m3) (harg4 : arg4.IsWhole) (arg5 : Memref sig .tc .vmem S128x128 .f32) (harg5 : arg5.IsWhole) (arg6 : Memref sig .tc .vmem S128x128 .f32) (harg6 : arg6.IsWhole) (arg7 : Memref sig .tc .vmem S256x64 .f32) (harg7 : arg7.IsWhole) (arg8 : Memref sig .tc .vmem S256x64 .f32) (harg8 : arg8.IsWhole) (arg9 : Memref sig .tc .vmem S256x5376 .fp8e4m3) (harg9 : arg9.IsWhole) (arg10 : Memref sig .tc .vmem S256x42 .f32) (harg10 : arg10.IsWhole) (arg11 : Memref sig .tc .vmem S512x256 .bf16) (harg11 : arg11.IsWhole) (arg12 : Memref sig .tc .vmem S256x256 .fp8e4m3) (harg12 : arg12.IsWhole) (arg13 : Memref sig .tc .vmem S256x2 .f32) (harg13 : arg13.IsWhole) (arg14 : Memref sig .tc .vmem S256x256 .fp8e4m3) (harg14 : arg14.IsWhole) (arg15 : Memref sig .tc .vmem S256x256 .fp8e4m3) (harg15 : arg15.IsWhole) (arg16 : Memref sig .tc .vmem S256x2 .f32) (harg16 : arg16.IsWhole) (arg17 : Memref sig .tc .vmem S1024x5376 .bf16) (harg17 : arg17.IsWhole) (arg18 : Memref sig .tc .vmem S5376x256 .bf16) (harg18 : arg18.IsWhole) (arg19 : Memref sig .tc .vmem S1024x256 .f32) (harg19 : arg19.IsWhole) (arg20 : Memref sig .tc .vmem S1x256 .f32) (harg20 : arg20.IsWhole) (arg21 : Memref sig .tc .vmem S48x256 .f32) (harg21 : arg21.IsWhole) (hc0 : ¬cond0_0 i) (hc1 : ¬cond0_1 i) (hc2 : cond0_2 i)
    (x0 : Vec F S42x8 .f32) (x1 : Vec F S256x5376 .bf16) (x2 : Vec F S5376x128 .f32) (x3 : Vec F S5376x1024 .fp8e4m3) (x4 : Vec F S128x128 .f32) (x5 : Vec F S128x128 .f32) (x6 : Vec F S256x64 .f32) (x7 : Vec F S256x64 .f32) (xs0 : Vec F S1024x5376 .bf16) (xs1 : Vec F S5376x256 .bf16) (xs2 : Vec F S1024x256 .f32) (xs3 : Vec F S1x256 .f32) : Vec F S1024x256 .f32 := xs2

def sout0_C_3 (c : Dev nD) (i : grid0.Coords) (arg1 : Memref sig .tc .smem S42x8 .f32) (harg1 : arg1.IsWhole) (arg2 : Memref sig .tc .vmem S256x5376 .bf16) (harg2 : arg2.IsWhole) (arg3 : Memref sig .tc .vmem S5376x128 .f32) (harg3 : arg3.IsWhole) (arg4 : Memref sig .tc .vmem S5376x1024 .fp8e4m3) (harg4 : arg4.IsWhole) (arg5 : Memref sig .tc .vmem S128x128 .f32) (harg5 : arg5.IsWhole) (arg6 : Memref sig .tc .vmem S128x128 .f32) (harg6 : arg6.IsWhole) (arg7 : Memref sig .tc .vmem S256x64 .f32) (harg7 : arg7.IsWhole) (arg8 : Memref sig .tc .vmem S256x64 .f32) (harg8 : arg8.IsWhole) (arg9 : Memref sig .tc .vmem S256x5376 .fp8e4m3) (harg9 : arg9.IsWhole) (arg10 : Memref sig .tc .vmem S256x42 .f32) (harg10 : arg10.IsWhole) (arg11 : Memref sig .tc .vmem S512x256 .bf16) (harg11 : arg11.IsWhole) (arg12 : Memref sig .tc .vmem S256x256 .fp8e4m3) (harg12 : arg12.IsWhole) (arg13 : Memref sig .tc .vmem S256x2 .f32) (harg13 : arg13.IsWhole) (arg14 : Memref sig .tc .vmem S256x256 .fp8e4m3) (harg14 : arg14.IsWhole) (arg15 : Memref sig .tc .vmem S256x256 .fp8e4m3) (harg15 : arg15.IsWhole) (arg16 : Memref sig .tc .vmem S256x2 .f32) (harg16 : arg16.IsWhole) (arg17 : Memref sig .tc .vmem S1024x5376 .bf16) (harg17 : arg17.IsWhole) (arg18 : Memref sig .tc .vmem S5376x256 .bf16) (harg18 : arg18.IsWhole) (arg19 : Memref sig .tc .vmem S1024x256 .f32) (harg19 : arg19.IsWhole) (arg20 : Memref sig .tc .vmem S1x256 .f32) (harg20 : arg20.IsWhole) (arg21 : Memref sig .tc .vmem S48x256 .f32) (harg21 : arg21.IsWhole) (hc0 : ¬cond0_0 i) (hc1 : ¬cond0_1 i) (hc2 : cond0_2 i)
    (x0 : Vec F S42x8 .f32) (x1 : Vec F S256x5376 .bf16) (x2 : Vec F S5376x128 .f32) (x3 : Vec F S5376x1024 .fp8e4m3) (x4 : Vec F S128x128 .f32) (x5 : Vec F S128x128 .f32) (x6 : Vec F S256x64 .f32) (x7 : Vec F S256x64 .f32) (xs0 : Vec F S1024x5376 .bf16) (xs1 : Vec F S5376x256 .bf16) (xs2 : Vec F S1024x256 .f32) (xs3 : Vec F S1x256 .f32) : Vec F S1x256 .f32 := xs3

end

end Cert.ProjectIdeal.Gen

end
-- ==== Proof.IdealFrame.lean ====
module

public import proofs.«01_k».proof.Proof.IdealOuts

/-! The projection kernel at the ideal floats, grid point by grid point: the run and the frame. -/

@[expose] public section

set_option maxRecDepth 16384

noncomputable section

namespace Cert.ProjectIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

def outsAt0 (c : Dev nD) : (n : ℕ) → n < cfg0.N → Vec F S512x256 .bf16 × Vec F S256x256 .fp8e4m3 × Vec F S256x2 .f32 × Vec F S256x256 .fp8e4m3 × Vec F S256x256 .fp8e4m3 × Vec F S256x2 .f32 × Vec F S1024x5376 .bf16 × Vec F S5376x256 .bf16 × Vec F S1024x256 .f32 × Vec F S1x256 .f32
  | 0, hn => (out0_A_10 c (grid0.coords ⟨0, hn⟩) _ (hs0_0 ⟨0, hn⟩) _ (hs0_1 ⟨0, hn⟩) _ (hs0_2 ⟨0, hn⟩) _ (hs0_3 ⟨0, hn⟩) _ (hs0_4 ⟨0, hn⟩) _ (hs0_5 ⟨0, hn⟩) _ (hs0_6 ⟨0, hn⟩) _ (hs0_7 ⟨0, hn⟩) _ (hs0_8 ⟨0, hn⟩) _ (hs0_9 ⟨0, hn⟩) _ (hs0_10 ⟨0, hn⟩) _ (hs0_11 ⟨0, hn⟩) _ (hs0_12 ⟨0, hn⟩) _ (hs0_13 ⟨0, hn⟩) _ (hs0_14 ⟨0, hn⟩) _ (hs0_15 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out0_A_11 c (grid0.coords ⟨0, hn⟩) _ (hs0_0 ⟨0, hn⟩) _ (hs0_1 ⟨0, hn⟩) _ (hs0_2 ⟨0, hn⟩) _ (hs0_3 ⟨0, hn⟩) _ (hs0_4 ⟨0, hn⟩) _ (hs0_5 ⟨0, hn⟩) _ (hs0_6 ⟨0, hn⟩) _ (hs0_7 ⟨0, hn⟩) _ (hs0_8 ⟨0, hn⟩) _ (hs0_9 ⟨0, hn⟩) _ (hs0_10 ⟨0, hn⟩) _ (hs0_11 ⟨0, hn⟩) _ (hs0_12 ⟨0, hn⟩) _ (hs0_13 ⟨0, hn⟩) _ (hs0_14 ⟨0, hn⟩) _ (hs0_15 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out0_A_12 c (grid0.coords ⟨0, hn⟩) _ (hs0_0 ⟨0, hn⟩) _ (hs0_1 ⟨0, hn⟩) _ (hs0_2 ⟨0, hn⟩) _ (hs0_3 ⟨0, hn⟩) _ (hs0_4 ⟨0, hn⟩) _ (hs0_5 ⟨0, hn⟩) _ (hs0_6 ⟨0, hn⟩) _ (hs0_7 ⟨0, hn⟩) _ (hs0_8 ⟨0, hn⟩) _ (hs0_9 ⟨0, hn⟩) _ (hs0_10 ⟨0, hn⟩) _ (hs0_11 ⟨0, hn⟩) _ (hs0_12 ⟨0, hn⟩) _ (hs0_13 ⟨0, hn⟩) _ (hs0_14 ⟨0, hn⟩) _ (hs0_15 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out0_A_13 c (grid0.coords ⟨0, hn⟩) _ (hs0_0 ⟨0, hn⟩) _ (hs0_1 ⟨0, hn⟩) _ (hs0_2 ⟨0, hn⟩) _ (hs0_3 ⟨0, hn⟩) _ (hs0_4 ⟨0, hn⟩) _ (hs0_5 ⟨0, hn⟩) _ (hs0_6 ⟨0, hn⟩) _ (hs0_7 ⟨0, hn⟩) _ (hs0_8 ⟨0, hn⟩) _ (hs0_9 ⟨0, hn⟩) _ (hs0_10 ⟨0, hn⟩) _ (hs0_11 ⟨0, hn⟩) _ (hs0_12 ⟨0, hn⟩) _ (hs0_13 ⟨0, hn⟩) _ (hs0_14 ⟨0, hn⟩) _ (hs0_15 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out0_A_14 c (grid0.coords ⟨0, hn⟩) _ (hs0_0 ⟨0, hn⟩) _ (hs0_1 ⟨0, hn⟩) _ (hs0_2 ⟨0, hn⟩) _ (hs0_3 ⟨0, hn⟩) _ (hs0_4 ⟨0, hn⟩) _ (hs0_5 ⟨0, hn⟩) _ (hs0_6 ⟨0, hn⟩) _ (hs0_7 ⟨0, hn⟩) _ (hs0_8 ⟨0, hn⟩) _ (hs0_9 ⟨0, hn⟩) _ (hs0_10 ⟨0, hn⟩) _ (hs0_11 ⟨0, hn⟩) _ (hs0_12 ⟨0, hn⟩) _ (hs0_13 ⟨0, hn⟩) _ (hs0_14 ⟨0, hn⟩) _ (hs0_15 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out0_A_15 c (grid0.coords ⟨0, hn⟩) _ (hs0_0 ⟨0, hn⟩) _ (hs0_1 ⟨0, hn⟩) _ (hs0_2 ⟨0, hn⟩) _ (hs0_3 ⟨0, hn⟩) _ (hs0_4 ⟨0, hn⟩) _ (hs0_5 ⟨0, hn⟩) _ (hs0_6 ⟨0, hn⟩) _ (hs0_7 ⟨0, hn⟩) _ (hs0_8 ⟨0, hn⟩) _ (hs0_9 ⟨0, hn⟩) _ (hs0_10 ⟨0, hn⟩) _ (hs0_11 ⟨0, hn⟩) _ (hs0_12 ⟨0, hn⟩) _ (hs0_13 ⟨0, hn⟩) _ (hs0_14 ⟨0, hn⟩) _ (hs0_15 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), sout0_A_0 c (grid0.coords ⟨0, hn⟩) _ (hs0_0 ⟨0, hn⟩) _ (hs0_1 ⟨0, hn⟩) _ (hs0_2 ⟨0, hn⟩) _ (hs0_3 ⟨0, hn⟩) _ (hs0_4 ⟨0, hn⟩) _ (hs0_5 ⟨0, hn⟩) _ (hs0_6 ⟨0, hn⟩) _ (hs0_7 ⟨0, hn⟩) _ (hs0_8 ⟨0, hn⟩) _ (hs0_9 ⟨0, hn⟩) _ (hs0_10 ⟨0, hn⟩) _ (hs0_11 ⟨0, hn⟩) _ (hs0_12 ⟨0, hn⟩) _ (hs0_13 ⟨0, hn⟩) _ (hs0_14 ⟨0, hn⟩) _ (hs0_15 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), sout0_A_1 c (grid0.coords ⟨0, hn⟩) _ (hs0_0 ⟨0, hn⟩) _ (hs0_1 ⟨0, hn⟩) _ (hs0_2 ⟨0, hn⟩) _ (hs0_3 ⟨0, hn⟩) _ (hs0_4 ⟨0, hn⟩) _ (hs0_5 ⟨0, hn⟩) _ (hs0_6 ⟨0, hn⟩) _ (hs0_7 ⟨0, hn⟩) _ (hs0_8 ⟨0, hn⟩) _ (hs0_9 ⟨0, hn⟩) _ (hs0_10 ⟨0, hn⟩) _ (hs0_11 ⟨0, hn⟩) _ (hs0_12 ⟨0, hn⟩) _ (hs0_13 ⟨0, hn⟩) _ (hs0_14 ⟨0, hn⟩) _ (hs0_15 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), sout0_A_2 c (grid0.coords ⟨0, hn⟩) _ (hs0_0 ⟨0, hn⟩) _ (hs0_1 ⟨0, hn⟩) _ (hs0_2 ⟨0, hn⟩) _ (hs0_3 ⟨0, hn⟩) _ (hs0_4 ⟨0, hn⟩) _ (hs0_5 ⟨0, hn⟩) _ (hs0_6 ⟨0, hn⟩) _ (hs0_7 ⟨0, hn⟩) _ (hs0_8 ⟨0, hn⟩) _ (hs0_9 ⟨0, hn⟩) _ (hs0_10 ⟨0, hn⟩) _ (hs0_11 ⟨0, hn⟩) _ (hs0_12 ⟨0, hn⟩) _ (hs0_13 ⟨0, hn⟩) _ (hs0_14 ⟨0, hn⟩) _ (hs0_15 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), sout0_A_3 c (grid0.coords ⟨0, hn⟩) _ (hs0_0 ⟨0, hn⟩) _ (hs0_1 ⟨0, hn⟩) _ (hs0_2 ⟨0, hn⟩) _ (hs0_3 ⟨0, hn⟩) _ (hs0_4 ⟨0, hn⟩) _ (hs0_5 ⟨0, hn⟩) _ (hs0_6 ⟨0, hn⟩) _ (hs0_7 ⟨0, hn⟩) _ (hs0_8 ⟨0, hn⟩) _ (hs0_9 ⟨0, hn⟩) _ (hs0_10 ⟨0, hn⟩) _ (hs0_11 ⟨0, hn⟩) _ (hs0_12 ⟨0, hn⟩) _ (hs0_13 ⟨0, hn⟩) _ (hs0_14 ⟨0, hn⟩) _ (hs0_15 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩))
  | n + 1, hn =>
    if h0 : (n + 1) % 56 = 0 then
      if h1 : (1 ≤ (n + 1) % 56 ∧ (n + 1) % 56 ≤ 54) then
        False.elim (by have hN : n + 1 < 56 := lt_of_lt_of_eq hn (show cfg0.N = 56 from N_0); omega)
      else
        if h2 : (n + 1) % 56 = 55 then
          False.elim (by have hN : n + 1 < 56 := lt_of_lt_of_eq hn (show cfg0.N = 56 from N_0); omega)
        else
          (out0_A_10 c (grid0.coords ⟨n + 1, hn⟩) _ (hs0_0 ⟨n + 1, hn⟩) _ (hs0_1 ⟨n + 1, hn⟩) _ (hs0_2 ⟨n + 1, hn⟩) _ (hs0_3 ⟨n + 1, hn⟩) _ (hs0_4 ⟨n + 1, hn⟩) _ (hs0_5 ⟨n + 1, hn⟩) _ (hs0_6 ⟨n + 1, hn⟩) _ (hs0_7 ⟨n + 1, hn⟩) _ (hs0_8 ⟨n + 1, hn⟩) _ (hs0_9 ⟨n + 1, hn⟩) _ (hs0_10 ⟨n + 1, hn⟩) _ (hs0_11 ⟨n + 1, hn⟩) _ (hs0_12 ⟨n + 1, hn⟩) _ (hs0_13 ⟨n + 1, hn⟩) _ (hs0_14 ⟨n + 1, hn⟩) _ (hs0_15 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out0_A_11 c (grid0.coords ⟨n + 1, hn⟩) _ (hs0_0 ⟨n + 1, hn⟩) _ (hs0_1 ⟨n + 1, hn⟩) _ (hs0_2 ⟨n + 1, hn⟩) _ (hs0_3 ⟨n + 1, hn⟩) _ (hs0_4 ⟨n + 1, hn⟩) _ (hs0_5 ⟨n + 1, hn⟩) _ (hs0_6 ⟨n + 1, hn⟩) _ (hs0_7 ⟨n + 1, hn⟩) _ (hs0_8 ⟨n + 1, hn⟩) _ (hs0_9 ⟨n + 1, hn⟩) _ (hs0_10 ⟨n + 1, hn⟩) _ (hs0_11 ⟨n + 1, hn⟩) _ (hs0_12 ⟨n + 1, hn⟩) _ (hs0_13 ⟨n + 1, hn⟩) _ (hs0_14 ⟨n + 1, hn⟩) _ (hs0_15 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out0_A_12 c (grid0.coords ⟨n + 1, hn⟩) _ (hs0_0 ⟨n + 1, hn⟩) _ (hs0_1 ⟨n + 1, hn⟩) _ (hs0_2 ⟨n + 1, hn⟩) _ (hs0_3 ⟨n + 1, hn⟩) _ (hs0_4 ⟨n + 1, hn⟩) _ (hs0_5 ⟨n + 1, hn⟩) _ (hs0_6 ⟨n + 1, hn⟩) _ (hs0_7 ⟨n + 1, hn⟩) _ (hs0_8 ⟨n + 1, hn⟩) _ (hs0_9 ⟨n + 1, hn⟩) _ (hs0_10 ⟨n + 1, hn⟩) _ (hs0_11 ⟨n + 1, hn⟩) _ (hs0_12 ⟨n + 1, hn⟩) _ (hs0_13 ⟨n + 1, hn⟩) _ (hs0_14 ⟨n + 1, hn⟩) _ (hs0_15 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out0_A_13 c (grid0.coords ⟨n + 1, hn⟩) _ (hs0_0 ⟨n + 1, hn⟩) _ (hs0_1 ⟨n + 1, hn⟩) _ (hs0_2 ⟨n + 1, hn⟩) _ (hs0_3 ⟨n + 1, hn⟩) _ (hs0_4 ⟨n + 1, hn⟩) _ (hs0_5 ⟨n + 1, hn⟩) _ (hs0_6 ⟨n + 1, hn⟩) _ (hs0_7 ⟨n + 1, hn⟩) _ (hs0_8 ⟨n + 1, hn⟩) _ (hs0_9 ⟨n + 1, hn⟩) _ (hs0_10 ⟨n + 1, hn⟩) _ (hs0_11 ⟨n + 1, hn⟩) _ (hs0_12 ⟨n + 1, hn⟩) _ (hs0_13 ⟨n + 1, hn⟩) _ (hs0_14 ⟨n + 1, hn⟩) _ (hs0_15 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out0_A_14 c (grid0.coords ⟨n + 1, hn⟩) _ (hs0_0 ⟨n + 1, hn⟩) _ (hs0_1 ⟨n + 1, hn⟩) _ (hs0_2 ⟨n + 1, hn⟩) _ (hs0_3 ⟨n + 1, hn⟩) _ (hs0_4 ⟨n + 1, hn⟩) _ (hs0_5 ⟨n + 1, hn⟩) _ (hs0_6 ⟨n + 1, hn⟩) _ (hs0_7 ⟨n + 1, hn⟩) _ (hs0_8 ⟨n + 1, hn⟩) _ (hs0_9 ⟨n + 1, hn⟩) _ (hs0_10 ⟨n + 1, hn⟩) _ (hs0_11 ⟨n + 1, hn⟩) _ (hs0_12 ⟨n + 1, hn⟩) _ (hs0_13 ⟨n + 1, hn⟩) _ (hs0_14 ⟨n + 1, hn⟩) _ (hs0_15 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out0_A_15 c (grid0.coords ⟨n + 1, hn⟩) _ (hs0_0 ⟨n + 1, hn⟩) _ (hs0_1 ⟨n + 1, hn⟩) _ (hs0_2 ⟨n + 1, hn⟩) _ (hs0_3 ⟨n + 1, hn⟩) _ (hs0_4 ⟨n + 1, hn⟩) _ (hs0_5 ⟨n + 1, hn⟩) _ (hs0_6 ⟨n + 1, hn⟩) _ (hs0_7 ⟨n + 1, hn⟩) _ (hs0_8 ⟨n + 1, hn⟩) _ (hs0_9 ⟨n + 1, hn⟩) _ (hs0_10 ⟨n + 1, hn⟩) _ (hs0_11 ⟨n + 1, hn⟩) _ (hs0_12 ⟨n + 1, hn⟩) _ (hs0_13 ⟨n + 1, hn⟩) _ (hs0_14 ⟨n + 1, hn⟩) _ (hs0_15 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), sout0_A_0 c (grid0.coords ⟨n + 1, hn⟩) _ (hs0_0 ⟨n + 1, hn⟩) _ (hs0_1 ⟨n + 1, hn⟩) _ (hs0_2 ⟨n + 1, hn⟩) _ (hs0_3 ⟨n + 1, hn⟩) _ (hs0_4 ⟨n + 1, hn⟩) _ (hs0_5 ⟨n + 1, hn⟩) _ (hs0_6 ⟨n + 1, hn⟩) _ (hs0_7 ⟨n + 1, hn⟩) _ (hs0_8 ⟨n + 1, hn⟩) _ (hs0_9 ⟨n + 1, hn⟩) _ (hs0_10 ⟨n + 1, hn⟩) _ (hs0_11 ⟨n + 1, hn⟩) _ (hs0_12 ⟨n + 1, hn⟩) _ (hs0_13 ⟨n + 1, hn⟩) _ (hs0_14 ⟨n + 1, hn⟩) _ (hs0_15 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), sout0_A_1 c (grid0.coords ⟨n + 1, hn⟩) _ (hs0_0 ⟨n + 1, hn⟩) _ (hs0_1 ⟨n + 1, hn⟩) _ (hs0_2 ⟨n + 1, hn⟩) _ (hs0_3 ⟨n + 1, hn⟩) _ (hs0_4 ⟨n + 1, hn⟩) _ (hs0_5 ⟨n + 1, hn⟩) _ (hs0_6 ⟨n + 1, hn⟩) _ (hs0_7 ⟨n + 1, hn⟩) _ (hs0_8 ⟨n + 1, hn⟩) _ (hs0_9 ⟨n + 1, hn⟩) _ (hs0_10 ⟨n + 1, hn⟩) _ (hs0_11 ⟨n + 1, hn⟩) _ (hs0_12 ⟨n + 1, hn⟩) _ (hs0_13 ⟨n + 1, hn⟩) _ (hs0_14 ⟨n + 1, hn⟩) _ (hs0_15 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), sout0_A_2 c (grid0.coords ⟨n + 1, hn⟩) _ (hs0_0 ⟨n + 1, hn⟩) _ (hs0_1 ⟨n + 1, hn⟩) _ (hs0_2 ⟨n + 1, hn⟩) _ (hs0_3 ⟨n + 1, hn⟩) _ (hs0_4 ⟨n + 1, hn⟩) _ (hs0_5 ⟨n + 1, hn⟩) _ (hs0_6 ⟨n + 1, hn⟩) _ (hs0_7 ⟨n + 1, hn⟩) _ (hs0_8 ⟨n + 1, hn⟩) _ (hs0_9 ⟨n + 1, hn⟩) _ (hs0_10 ⟨n + 1, hn⟩) _ (hs0_11 ⟨n + 1, hn⟩) _ (hs0_12 ⟨n + 1, hn⟩) _ (hs0_13 ⟨n + 1, hn⟩) _ (hs0_14 ⟨n + 1, hn⟩) _ (hs0_15 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), sout0_A_3 c (grid0.coords ⟨n + 1, hn⟩) _ (hs0_0 ⟨n + 1, hn⟩) _ (hs0_1 ⟨n + 1, hn⟩) _ (hs0_2 ⟨n + 1, hn⟩) _ (hs0_3 ⟨n + 1, hn⟩) _ (hs0_4 ⟨n + 1, hn⟩) _ (hs0_5 ⟨n + 1, hn⟩) _ (hs0_6 ⟨n + 1, hn⟩) _ (hs0_7 ⟨n + 1, hn⟩) _ (hs0_8 ⟨n + 1, hn⟩) _ (hs0_9 ⟨n + 1, hn⟩) _ (hs0_10 ⟨n + 1, hn⟩) _ (hs0_11 ⟨n + 1, hn⟩) _ (hs0_12 ⟨n + 1, hn⟩) _ (hs0_13 ⟨n + 1, hn⟩) _ (hs0_14 ⟨n + 1, hn⟩) _ (hs0_15 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩))
    else
      if h1 : (1 ≤ (n + 1) % 56 ∧ (n + 1) % 56 ≤ 54) then
        if h2 : (n + 1) % 56 = 55 then
          False.elim (by have hN : n + 1 < 56 := lt_of_lt_of_eq hn (show cfg0.N = 56 from N_0); omega)
        else
          (out0_B_10 c (grid0.coords ⟨n + 1, hn⟩) _ (hs0_0 ⟨n + 1, hn⟩) _ (hs0_1 ⟨n + 1, hn⟩) _ (hs0_2 ⟨n + 1, hn⟩) _ (hs0_3 ⟨n + 1, hn⟩) _ (hs0_4 ⟨n + 1, hn⟩) _ (hs0_5 ⟨n + 1, hn⟩) _ (hs0_6 ⟨n + 1, hn⟩) _ (hs0_7 ⟨n + 1, hn⟩) _ (hs0_8 ⟨n + 1, hn⟩) _ (hs0_9 ⟨n + 1, hn⟩) _ (hs0_10 ⟨n + 1, hn⟩) _ (hs0_11 ⟨n + 1, hn⟩) _ (hs0_12 ⟨n + 1, hn⟩) _ (hs0_13 ⟨n + 1, hn⟩) _ (hs0_14 ⟨n + 1, hn⟩) _ (hs0_15 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2, out0_B_11 c (grid0.coords ⟨n + 1, hn⟩) _ (hs0_0 ⟨n + 1, hn⟩) _ (hs0_1 ⟨n + 1, hn⟩) _ (hs0_2 ⟨n + 1, hn⟩) _ (hs0_3 ⟨n + 1, hn⟩) _ (hs0_4 ⟨n + 1, hn⟩) _ (hs0_5 ⟨n + 1, hn⟩) _ (hs0_6 ⟨n + 1, hn⟩) _ (hs0_7 ⟨n + 1, hn⟩) _ (hs0_8 ⟨n + 1, hn⟩) _ (hs0_9 ⟨n + 1, hn⟩) _ (hs0_10 ⟨n + 1, hn⟩) _ (hs0_11 ⟨n + 1, hn⟩) _ (hs0_12 ⟨n + 1, hn⟩) _ (hs0_13 ⟨n + 1, hn⟩) _ (hs0_14 ⟨n + 1, hn⟩) _ (hs0_15 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2, out0_B_12 c (grid0.coords ⟨n + 1, hn⟩) _ (hs0_0 ⟨n + 1, hn⟩) _ (hs0_1 ⟨n + 1, hn⟩) _ (hs0_2 ⟨n + 1, hn⟩) _ (hs0_3 ⟨n + 1, hn⟩) _ (hs0_4 ⟨n + 1, hn⟩) _ (hs0_5 ⟨n + 1, hn⟩) _ (hs0_6 ⟨n + 1, hn⟩) _ (hs0_7 ⟨n + 1, hn⟩) _ (hs0_8 ⟨n + 1, hn⟩) _ (hs0_9 ⟨n + 1, hn⟩) _ (hs0_10 ⟨n + 1, hn⟩) _ (hs0_11 ⟨n + 1, hn⟩) _ (hs0_12 ⟨n + 1, hn⟩) _ (hs0_13 ⟨n + 1, hn⟩) _ (hs0_14 ⟨n + 1, hn⟩) _ (hs0_15 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2, out0_B_13 c (grid0.coords ⟨n + 1, hn⟩) _ (hs0_0 ⟨n + 1, hn⟩) _ (hs0_1 ⟨n + 1, hn⟩) _ (hs0_2 ⟨n + 1, hn⟩) _ (hs0_3 ⟨n + 1, hn⟩) _ (hs0_4 ⟨n + 1, hn⟩) _ (hs0_5 ⟨n + 1, hn⟩) _ (hs0_6 ⟨n + 1, hn⟩) _ (hs0_7 ⟨n + 1, hn⟩) _ (hs0_8 ⟨n + 1, hn⟩) _ (hs0_9 ⟨n + 1, hn⟩) _ (hs0_10 ⟨n + 1, hn⟩) _ (hs0_11 ⟨n + 1, hn⟩) _ (hs0_12 ⟨n + 1, hn⟩) _ (hs0_13 ⟨n + 1, hn⟩) _ (hs0_14 ⟨n + 1, hn⟩) _ (hs0_15 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2, out0_B_14 c (grid0.coords ⟨n + 1, hn⟩) _ (hs0_0 ⟨n + 1, hn⟩) _ (hs0_1 ⟨n + 1, hn⟩) _ (hs0_2 ⟨n + 1, hn⟩) _ (hs0_3 ⟨n + 1, hn⟩) _ (hs0_4 ⟨n + 1, hn⟩) _ (hs0_5 ⟨n + 1, hn⟩) _ (hs0_6 ⟨n + 1, hn⟩) _ (hs0_7 ⟨n + 1, hn⟩) _ (hs0_8 ⟨n + 1, hn⟩) _ (hs0_9 ⟨n + 1, hn⟩) _ (hs0_10 ⟨n + 1, hn⟩) _ (hs0_11 ⟨n + 1, hn⟩) _ (hs0_12 ⟨n + 1, hn⟩) _ (hs0_13 ⟨n + 1, hn⟩) _ (hs0_14 ⟨n + 1, hn⟩) _ (hs0_15 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2, out0_B_15 c (grid0.coords ⟨n + 1, hn⟩) _ (hs0_0 ⟨n + 1, hn⟩) _ (hs0_1 ⟨n + 1, hn⟩) _ (hs0_2 ⟨n + 1, hn⟩) _ (hs0_3 ⟨n + 1, hn⟩) _ (hs0_4 ⟨n + 1, hn⟩) _ (hs0_5 ⟨n + 1, hn⟩) _ (hs0_6 ⟨n + 1, hn⟩) _ (hs0_7 ⟨n + 1, hn⟩) _ (hs0_8 ⟨n + 1, hn⟩) _ (hs0_9 ⟨n + 1, hn⟩) _ (hs0_10 ⟨n + 1, hn⟩) _ (hs0_11 ⟨n + 1, hn⟩) _ (hs0_12 ⟨n + 1, hn⟩) _ (hs0_13 ⟨n + 1, hn⟩) _ (hs0_14 ⟨n + 1, hn⟩) _ (hs0_15 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2, sout0_B_0 c (grid0.coords ⟨n + 1, hn⟩) _ (hs0_0 ⟨n + 1, hn⟩) _ (hs0_1 ⟨n + 1, hn⟩) _ (hs0_2 ⟨n + 1, hn⟩) _ (hs0_3 ⟨n + 1, hn⟩) _ (hs0_4 ⟨n + 1, hn⟩) _ (hs0_5 ⟨n + 1, hn⟩) _ (hs0_6 ⟨n + 1, hn⟩) _ (hs0_7 ⟨n + 1, hn⟩) _ (hs0_8 ⟨n + 1, hn⟩) _ (hs0_9 ⟨n + 1, hn⟩) _ (hs0_10 ⟨n + 1, hn⟩) _ (hs0_11 ⟨n + 1, hn⟩) _ (hs0_12 ⟨n + 1, hn⟩) _ (hs0_13 ⟨n + 1, hn⟩) _ (hs0_14 ⟨n + 1, hn⟩) _ (hs0_15 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2, sout0_B_1 c (grid0.coords ⟨n + 1, hn⟩) _ (hs0_0 ⟨n + 1, hn⟩) _ (hs0_1 ⟨n + 1, hn⟩) _ (hs0_2 ⟨n + 1, hn⟩) _ (hs0_3 ⟨n + 1, hn⟩) _ (hs0_4 ⟨n + 1, hn⟩) _ (hs0_5 ⟨n + 1, hn⟩) _ (hs0_6 ⟨n + 1, hn⟩) _ (hs0_7 ⟨n + 1, hn⟩) _ (hs0_8 ⟨n + 1, hn⟩) _ (hs0_9 ⟨n + 1, hn⟩) _ (hs0_10 ⟨n + 1, hn⟩) _ (hs0_11 ⟨n + 1, hn⟩) _ (hs0_12 ⟨n + 1, hn⟩) _ (hs0_13 ⟨n + 1, hn⟩) _ (hs0_14 ⟨n + 1, hn⟩) _ (hs0_15 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2, sout0_B_2 c (grid0.coords ⟨n + 1, hn⟩) _ (hs0_0 ⟨n + 1, hn⟩) _ (hs0_1 ⟨n + 1, hn⟩) _ (hs0_2 ⟨n + 1, hn⟩) _ (hs0_3 ⟨n + 1, hn⟩) _ (hs0_4 ⟨n + 1, hn⟩) _ (hs0_5 ⟨n + 1, hn⟩) _ (hs0_6 ⟨n + 1, hn⟩) _ (hs0_7 ⟨n + 1, hn⟩) _ (hs0_8 ⟨n + 1, hn⟩) _ (hs0_9 ⟨n + 1, hn⟩) _ (hs0_10 ⟨n + 1, hn⟩) _ (hs0_11 ⟨n + 1, hn⟩) _ (hs0_12 ⟨n + 1, hn⟩) _ (hs0_13 ⟨n + 1, hn⟩) _ (hs0_14 ⟨n + 1, hn⟩) _ (hs0_15 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2, sout0_B_3 c (grid0.coords ⟨n + 1, hn⟩) _ (hs0_0 ⟨n + 1, hn⟩) _ (hs0_1 ⟨n + 1, hn⟩) _ (hs0_2 ⟨n + 1, hn⟩) _ (hs0_3 ⟨n + 1, hn⟩) _ (hs0_4 ⟨n + 1, hn⟩) _ (hs0_5 ⟨n + 1, hn⟩) _ (hs0_6 ⟨n + 1, hn⟩) _ (hs0_7 ⟨n + 1, hn⟩) _ (hs0_8 ⟨n + 1, hn⟩) _ (hs0_9 ⟨n + 1, hn⟩) _ (hs0_10 ⟨n + 1, hn⟩) _ (hs0_11 ⟨n + 1, hn⟩) _ (hs0_12 ⟨n + 1, hn⟩) _ (hs0_13 ⟨n + 1, hn⟩) _ (hs0_14 ⟨n + 1, hn⟩) _ (hs0_15 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2)
      else
        if h2 : (n + 1) % 56 = 55 then
          (out0_C_10 c (grid0.coords ⟨n + 1, hn⟩) _ (hs0_0 ⟨n + 1, hn⟩) _ (hs0_1 ⟨n + 1, hn⟩) _ (hs0_2 ⟨n + 1, hn⟩) _ (hs0_3 ⟨n + 1, hn⟩) _ (hs0_4 ⟨n + 1, hn⟩) _ (hs0_5 ⟨n + 1, hn⟩) _ (hs0_6 ⟨n + 1, hn⟩) _ (hs0_7 ⟨n + 1, hn⟩) _ (hs0_8 ⟨n + 1, hn⟩) _ (hs0_9 ⟨n + 1, hn⟩) _ (hs0_10 ⟨n + 1, hn⟩) _ (hs0_11 ⟨n + 1, hn⟩) _ (hs0_12 ⟨n + 1, hn⟩) _ (hs0_13 ⟨n + 1, hn⟩) _ (hs0_14 ⟨n + 1, hn⟩) _ (hs0_15 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2, out0_C_11 c (grid0.coords ⟨n + 1, hn⟩) _ (hs0_0 ⟨n + 1, hn⟩) _ (hs0_1 ⟨n + 1, hn⟩) _ (hs0_2 ⟨n + 1, hn⟩) _ (hs0_3 ⟨n + 1, hn⟩) _ (hs0_4 ⟨n + 1, hn⟩) _ (hs0_5 ⟨n + 1, hn⟩) _ (hs0_6 ⟨n + 1, hn⟩) _ (hs0_7 ⟨n + 1, hn⟩) _ (hs0_8 ⟨n + 1, hn⟩) _ (hs0_9 ⟨n + 1, hn⟩) _ (hs0_10 ⟨n + 1, hn⟩) _ (hs0_11 ⟨n + 1, hn⟩) _ (hs0_12 ⟨n + 1, hn⟩) _ (hs0_13 ⟨n + 1, hn⟩) _ (hs0_14 ⟨n + 1, hn⟩) _ (hs0_15 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2, out0_C_12 c (grid0.coords ⟨n + 1, hn⟩) _ (hs0_0 ⟨n + 1, hn⟩) _ (hs0_1 ⟨n + 1, hn⟩) _ (hs0_2 ⟨n + 1, hn⟩) _ (hs0_3 ⟨n + 1, hn⟩) _ (hs0_4 ⟨n + 1, hn⟩) _ (hs0_5 ⟨n + 1, hn⟩) _ (hs0_6 ⟨n + 1, hn⟩) _ (hs0_7 ⟨n + 1, hn⟩) _ (hs0_8 ⟨n + 1, hn⟩) _ (hs0_9 ⟨n + 1, hn⟩) _ (hs0_10 ⟨n + 1, hn⟩) _ (hs0_11 ⟨n + 1, hn⟩) _ (hs0_12 ⟨n + 1, hn⟩) _ (hs0_13 ⟨n + 1, hn⟩) _ (hs0_14 ⟨n + 1, hn⟩) _ (hs0_15 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2, out0_C_13 c (grid0.coords ⟨n + 1, hn⟩) _ (hs0_0 ⟨n + 1, hn⟩) _ (hs0_1 ⟨n + 1, hn⟩) _ (hs0_2 ⟨n + 1, hn⟩) _ (hs0_3 ⟨n + 1, hn⟩) _ (hs0_4 ⟨n + 1, hn⟩) _ (hs0_5 ⟨n + 1, hn⟩) _ (hs0_6 ⟨n + 1, hn⟩) _ (hs0_7 ⟨n + 1, hn⟩) _ (hs0_8 ⟨n + 1, hn⟩) _ (hs0_9 ⟨n + 1, hn⟩) _ (hs0_10 ⟨n + 1, hn⟩) _ (hs0_11 ⟨n + 1, hn⟩) _ (hs0_12 ⟨n + 1, hn⟩) _ (hs0_13 ⟨n + 1, hn⟩) _ (hs0_14 ⟨n + 1, hn⟩) _ (hs0_15 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2, out0_C_14 c (grid0.coords ⟨n + 1, hn⟩) _ (hs0_0 ⟨n + 1, hn⟩) _ (hs0_1 ⟨n + 1, hn⟩) _ (hs0_2 ⟨n + 1, hn⟩) _ (hs0_3 ⟨n + 1, hn⟩) _ (hs0_4 ⟨n + 1, hn⟩) _ (hs0_5 ⟨n + 1, hn⟩) _ (hs0_6 ⟨n + 1, hn⟩) _ (hs0_7 ⟨n + 1, hn⟩) _ (hs0_8 ⟨n + 1, hn⟩) _ (hs0_9 ⟨n + 1, hn⟩) _ (hs0_10 ⟨n + 1, hn⟩) _ (hs0_11 ⟨n + 1, hn⟩) _ (hs0_12 ⟨n + 1, hn⟩) _ (hs0_13 ⟨n + 1, hn⟩) _ (hs0_14 ⟨n + 1, hn⟩) _ (hs0_15 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2, out0_C_15 c (grid0.coords ⟨n + 1, hn⟩) _ (hs0_0 ⟨n + 1, hn⟩) _ (hs0_1 ⟨n + 1, hn⟩) _ (hs0_2 ⟨n + 1, hn⟩) _ (hs0_3 ⟨n + 1, hn⟩) _ (hs0_4 ⟨n + 1, hn⟩) _ (hs0_5 ⟨n + 1, hn⟩) _ (hs0_6 ⟨n + 1, hn⟩) _ (hs0_7 ⟨n + 1, hn⟩) _ (hs0_8 ⟨n + 1, hn⟩) _ (hs0_9 ⟨n + 1, hn⟩) _ (hs0_10 ⟨n + 1, hn⟩) _ (hs0_11 ⟨n + 1, hn⟩) _ (hs0_12 ⟨n + 1, hn⟩) _ (hs0_13 ⟨n + 1, hn⟩) _ (hs0_14 ⟨n + 1, hn⟩) _ (hs0_15 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2, sout0_C_0 c (grid0.coords ⟨n + 1, hn⟩) _ (hs0_0 ⟨n + 1, hn⟩) _ (hs0_1 ⟨n + 1, hn⟩) _ (hs0_2 ⟨n + 1, hn⟩) _ (hs0_3 ⟨n + 1, hn⟩) _ (hs0_4 ⟨n + 1, hn⟩) _ (hs0_5 ⟨n + 1, hn⟩) _ (hs0_6 ⟨n + 1, hn⟩) _ (hs0_7 ⟨n + 1, hn⟩) _ (hs0_8 ⟨n + 1, hn⟩) _ (hs0_9 ⟨n + 1, hn⟩) _ (hs0_10 ⟨n + 1, hn⟩) _ (hs0_11 ⟨n + 1, hn⟩) _ (hs0_12 ⟨n + 1, hn⟩) _ (hs0_13 ⟨n + 1, hn⟩) _ (hs0_14 ⟨n + 1, hn⟩) _ (hs0_15 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2, sout0_C_1 c (grid0.coords ⟨n + 1, hn⟩) _ (hs0_0 ⟨n + 1, hn⟩) _ (hs0_1 ⟨n + 1, hn⟩) _ (hs0_2 ⟨n + 1, hn⟩) _ (hs0_3 ⟨n + 1, hn⟩) _ (hs0_4 ⟨n + 1, hn⟩) _ (hs0_5 ⟨n + 1, hn⟩) _ (hs0_6 ⟨n + 1, hn⟩) _ (hs0_7 ⟨n + 1, hn⟩) _ (hs0_8 ⟨n + 1, hn⟩) _ (hs0_9 ⟨n + 1, hn⟩) _ (hs0_10 ⟨n + 1, hn⟩) _ (hs0_11 ⟨n + 1, hn⟩) _ (hs0_12 ⟨n + 1, hn⟩) _ (hs0_13 ⟨n + 1, hn⟩) _ (hs0_14 ⟨n + 1, hn⟩) _ (hs0_15 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2, sout0_C_2 c (grid0.coords ⟨n + 1, hn⟩) _ (hs0_0 ⟨n + 1, hn⟩) _ (hs0_1 ⟨n + 1, hn⟩) _ (hs0_2 ⟨n + 1, hn⟩) _ (hs0_3 ⟨n + 1, hn⟩) _ (hs0_4 ⟨n + 1, hn⟩) _ (hs0_5 ⟨n + 1, hn⟩) _ (hs0_6 ⟨n + 1, hn⟩) _ (hs0_7 ⟨n + 1, hn⟩) _ (hs0_8 ⟨n + 1, hn⟩) _ (hs0_9 ⟨n + 1, hn⟩) _ (hs0_10 ⟨n + 1, hn⟩) _ (hs0_11 ⟨n + 1, hn⟩) _ (hs0_12 ⟨n + 1, hn⟩) _ (hs0_13 ⟨n + 1, hn⟩) _ (hs0_14 ⟨n + 1, hn⟩) _ (hs0_15 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2, sout0_C_3 c (grid0.coords ⟨n + 1, hn⟩) _ (hs0_0 ⟨n + 1, hn⟩) _ (hs0_1 ⟨n + 1, hn⟩) _ (hs0_2 ⟨n + 1, hn⟩) _ (hs0_3 ⟨n + 1, hn⟩) _ (hs0_4 ⟨n + 1, hn⟩) _ (hs0_5 ⟨n + 1, hn⟩) _ (hs0_6 ⟨n + 1, hn⟩) _ (hs0_7 ⟨n + 1, hn⟩) _ (hs0_8 ⟨n + 1, hn⟩) _ (hs0_9 ⟨n + 1, hn⟩) _ (hs0_10 ⟨n + 1, hn⟩) _ (hs0_11 ⟨n + 1, hn⟩) _ (hs0_12 ⟨n + 1, hn⟩) _ (hs0_13 ⟨n + 1, hn⟩) _ (hs0_14 ⟨n + 1, hn⟩) _ (hs0_15 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2)
        else
          False.elim (by have hN : n + 1 < 56 := lt_of_lt_of_eq hn (show cfg0.N = 56 from N_0); omega)

theorem outsAt0_A (c : Dev nD) (t : Fin cfg0.N) (h0 : t.val % 56 = 0) (h1 : ¬(1 ≤ t.val % 56 ∧ t.val % 56 ≤ 54)) (h2 : ¬t.val % 56 = 55) :
    outsAt0 m c t.val t.isLt = (out0_A_10 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t), out0_A_11 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t), out0_A_12 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t), out0_A_13 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t), out0_A_14 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t), out0_A_15 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t), sout0_A_0 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t), sout0_A_1 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t), sout0_A_2 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t), sout0_A_3 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t)) := by
  obtain ⟨n, hn⟩ := t
  cases n with
  | zero => exact rfl
  | succ n => exact absurd h0 (by have hN : n + 1 < 56 := lt_of_lt_of_eq hn (show cfg0.N = 56 from N_0); change ¬ (n + 1) % 56 = 0; omega)

theorem outsAt0_B (c : Dev nD) (t : Fin cfg0.N) (h0 : ¬t.val % 56 = 0) (h1 : (1 ≤ t.val % 56 ∧ t.val % 56 ≤ 54)) (h2 : ¬t.val % 56 = 55) :
    outsAt0 m c t.val t.isLt = (out0_B_10 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, out0_B_11 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, out0_B_12 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, out0_B_13 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, out0_B_14 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, out0_B_15 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, sout0_B_0 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, sout0_B_1 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, sout0_B_2 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, sout0_B_3 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2) := by
  obtain ⟨n, hn⟩ := t
  cases n with
  | zero => exact (by exfalso; (try dsimp only at h0); exact absurd (Nat.zero_mod _) h0)
  | succ n => exact (dif_neg h0).trans ((dif_pos h1).trans ((dif_neg h2).trans rfl))

theorem outsAt0_C (c : Dev nD) (t : Fin cfg0.N) (h0 : ¬t.val % 56 = 0) (h1 : ¬(1 ≤ t.val % 56 ∧ t.val % 56 ≤ 54)) (h2 : t.val % 56 = 55) :
    outsAt0 m c t.val t.isLt = (out0_C_10 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, out0_C_11 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, out0_C_12 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, out0_C_13 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, out0_C_14 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, out0_C_15 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, sout0_C_0 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, sout0_C_1 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, sout0_C_2 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, sout0_C_3 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2) := by
  obtain ⟨n, hn⟩ := t
  cases n with
  | zero => exact (by exfalso; (try dsimp only at h0); exact absurd (Nat.zero_mod _) h0)
  | succ n => exact (dif_neg h0).trans ((dif_neg h1).trans ((dif_pos h2).trans rfl))

def PhiS (c : Dev nD) : (n : ℕ) → n ≤ cfg0.N → sProp (MT nD τ sig Unit (Elt F) ℕ (UR sig nD τ) ℕ)
  | 0, _ => Pipeline.ΦA spec0 c
  | n + 1, hn => iprop(iprop(owns (c : Thread nD τ) scM0_0 fullShare ((outsAt0 m c n hn).2.2.2.2.2.2.1) ∗ owns (c : Thread nD τ) scM0_1 fullShare ((outsAt0 m c n hn).2.2.2.2.2.2.2.1) ∗ owns (c : Thread nD τ) scM0_2 fullShare ((outsAt0 m c n hn).2.2.2.2.2.2.2.2.1) ∗ owns (c : Thread nD τ) scM0_3 fullShare ((outsAt0 m c n hn).2.2.2.2.2.2.2.2.2) ∗ (∃ d, owns (c : Thread nD τ) scM0_4 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.2.2.2.2.1) ∗ owns (c : Thread nD τ) scM0_1 fullShare ((outsAt0 m c n hn).2.2.2.2.2.2.2.1) ∗ owns (c : Thread nD τ) scM0_2 fullShare ((outsAt0 m c n hn).2.2.2.2.2.2.2.2.1) ∗ owns (c : Thread nD τ) scM0_3 fullShare ((outsAt0 m c n hn).2.2.2.2.2.2.2.2.2) ∗ (∃ d, owns (c : Thread nD τ) scM0_4 fullShare d)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.1) ∗ owns (c : Thread nD τ) scM0_1 fullShare ((outsAt0 m c (n - 1) (by omega)).2.2.2.2.2.2.2.1) ∗ owns (c : Thread nD τ) scM0_2 fullShare ((outsAt0 m c (n - 1) (by omega)).2.2.2.2.2.2.2.2.1) ∗ owns (c : Thread nD τ) scM0_3 fullShare ((outsAt0 m c (n - 1) (by omega)).2.2.2.2.2.2.2.2.2) ∗ (∃ d, owns (c : Thread nD τ) scM0_4 fullShare d)) ∗ (∃ r, prngReg c r)) := by
  cases n with
  | zero => exact absurd rfl hz
  | succ n => rfl

def forgets0 : Fin 16 → Bool := fun w => w.val == 8 || w.val == 9
theorem forgets0_10 : forgets0 (10 : Fin 16) = false := by decide
theorem forgets0_11 : forgets0 (11 : Fin 16) = false := by decide
theorem forgets0_12 : forgets0 (12 : Fin 16) = false := by decide
theorem forgets0_13 : forgets0 (13 : Fin 16) = false := by decide
theorem forgets0_14 : forgets0 (14 : Fin 16) = false := by decide
theorem forgets0_15 : forgets0 (15 : Fin 16) = false := by decide

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
    | ⟨10, _⟩ => (outsAt0 m c t.val t.isLt).1
    | ⟨11, _⟩ => (outsAt0 m c t.val t.isLt).2.1
    | ⟨12, _⟩ => (outsAt0 m c t.val t.isLt).2.2.1
    | ⟨13, _⟩ => (outsAt0 m c t.val t.isLt).2.2.2.1
    | ⟨14, _⟩ => (outsAt0 m c t.val t.isLt).2.2.2.2.1
    | ⟨15, _⟩ => (outsAt0 m c t.val t.isLt).2.2.2.2.2.1
    | ⟨_ + 16, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_10 (c : Dev nD) (t : Fin cfg0.N) : (dats m 0 c).after 10 t = (outsAt0 m c t.val t.isLt).1 := by dsimp only [dats]
theorem after0_11 (c : Dev nD) (t : Fin cfg0.N) : (dats m 0 c).after 11 t = (outsAt0 m c t.val t.isLt).2.1 := by dsimp only [dats]
theorem after0_12 (c : Dev nD) (t : Fin cfg0.N) : (dats m 0 c).after 12 t = (outsAt0 m c t.val t.isLt).2.2.1 := by dsimp only [dats]
theorem after0_13 (c : Dev nD) (t : Fin cfg0.N) : (dats m 0 c).after 13 t = (outsAt0 m c t.val t.isLt).2.2.2.1 := by dsimp only [dats]
theorem after0_14 (c : Dev nD) (t : Fin cfg0.N) : (dats m 0 c).after 14 t = (outsAt0 m c t.val t.isLt).2.2.2.2.1 := by dsimp only [dats]
theorem after0_15 (c : Dev nD) (t : Fin cfg0.N) : (dats m 0 c).after 15 t = (outsAt0 m c t.val t.isLt).2.2.2.2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare d)
    ∗ (∃ d, owns (c : Thread nD τ) (ms0_9 t) fullShare d)
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d)))

def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (∃ d, owns (c : Thread nD τ) (ms0_8 t) fullShare d)
    ∗ (∃ d, owns (c : Thread nD τ) (ms0_9 t) fullShare d)
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t)

set_option maxHeartbeats 24000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  have hN : t.val < 56 := lt_of_lt_of_eq t.isLt (show cfg0.N = 56 from N_0)
  by_cases h0 : t.val % 56 = 0
  · by_cases h1 : (1 ≤ t.val % 56 ∧ t.val % 56 ≤ 54)
    · exfalso; omega
    · by_cases h2 : t.val % 56 = 55
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [Dat.leavesExact_idle (dats m 0 c) 10 t (idleAt0_10_A t ((hcond0_0 t).mpr h0) (fun h => h1 ((hcond0_1 t).mp h)) (fun h => h2 ((hcond0_2 t).mp h))) (noFlush0_10_A t ((hcond0_0 t).mpr h0) (fun h => h1 ((hcond0_1 t).mp h)) (fun h => h2 ((hcond0_2 t).mp h)))]
        rw [Dat.leavesExact_idle (dats m 0 c) 11 t (idleAt0_11_A t ((hcond0_0 t).mpr h0) (fun h => h1 ((hcond0_1 t).mp h)) (fun h => h2 ((hcond0_2 t).mp h))) (noFlush0_11_A t ((hcond0_0 t).mpr h0) (fun h => h1 ((hcond0_1 t).mp h)) (fun h => h2 ((hcond0_2 t).mp h)))]
        rw [Dat.leavesExact_idle (dats m 0 c) 12 t (idleAt0_12_A t ((hcond0_0 t).mpr h0) (fun h => h1 ((hcond0_1 t).mp h)) (fun h => h2 ((hcond0_2 t).mp h))) (noFlush0_12_A t ((hcond0_0 t).mpr h0) (fun h => h1 ((hcond0_1 t).mp h)) (fun h => h2 ((hcond0_2 t).mp h)))]
        rw [Dat.leavesExact_idle (dats m 0 c) 13 t (idleAt0_13_A t ((hcond0_0 t).mpr h0) (fun h => h1 ((hcond0_1 t).mp h)) (fun h => h2 ((hcond0_2 t).mp h))) (noFlush0_13_A t ((hcond0_0 t).mpr h0) (fun h => h1 ((hcond0_1 t).mp h)) (fun h => h2 ((hcond0_2 t).mp h)))]
        rw [Dat.leavesExact_idle (dats m 0 c) 14 t (idleAt0_14_A t ((hcond0_0 t).mpr h0) (fun h => h1 ((hcond0_1 t).mp h)) (fun h => h2 ((hcond0_2 t).mp h))) (noFlush0_14_A t ((hcond0_0 t).mpr h0) (fun h => h1 ((hcond0_1 t).mp h)) (fun h => h2 ((hcond0_2 t).mp h)))]
        rw [Dat.leavesExact_idle (dats m 0 c) 15 t (idleAt0_15_A t ((hcond0_0 t).mpr h0) (fun h => h1 ((hcond0_1 t).mp h)) (fun h => h2 ((hcond0_2 t).mp h))) (noFlush0_15_A t ((hcond0_0 t).mpr h0) (fun h => h1 ((hcond0_1 t).mp h)) (fun h => h2 ((hcond0_2 t).mp h)))]
        by_cases hz : t.val = 0
        · rw [PhiS_castSucc m c t, PhiS_zero m c _ _ hz, PhiA0_eq]
          rw [outsAt0_A m c t h0 h1 h2]
          unfold sout0_A_0 sout0_A_1 sout0_A_2 sout0_A_3; (try dsimp only)
          iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
          iapply ((kernelRun0_A c (grid0.coords t) _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t)).2.2.2.2.2.2.2.2.2.2 _ _ _ _ _ _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexists _; iexact H8
          isplitl [H9]; · iexists _; iexact H9
          isplitl [H10]; · iexact H10
          isplitl [H11]; · iexact H11
          isplitl [H12]; · iexact H12
          isplitl [H13]; · iexact H13
          isplitl [H14]; · iexact H14
          isplitl [H15]; · iexact H15
          isplitl [HS0]; · iexact HS0
          isplitl [HS1]; · iexact HS1
          isplitl [HS2]; · iexact HS2
          isplitl [HS3]; · iexact HS3
          isplitl [HS4]; · iexact HS4
          iintro ⟨H0, H1, H2, H3, H4, H5, H6, H7, H8, H9, H10, H11, H12, H13, H14, H15, ⟨%es0, HS0⟩, ⟨%es1, HS1⟩, ⟨%es2, HS2⟩, ⟨%es3, HS3⟩, HS4⟩
          isplitl [HS0 HS1 HS2 HS3 HS4 Hg]
          · isplitl [HS0 HS1 HS2 HS3 HS4]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _)
              isplitl [HS2]
              · unfold owns; iexists _; isplitr
                swap; · iexact HS2
                ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _ _ _ _ _ _ _ _ _ _)
              isplitl [HS3]
              · unfold owns; iexists _; isplitr
                swap; · iexact HS3
                ipureintro; exact View.read_writes_of_cover _ _ _ _ _ (scover0_A_3 c _ _ _ _ _ _ _ _ _ _ _ _ _ _ _ _ _ _ _ _ _ _ _ _ _ _ _ _ _ _ _ _ _ _ _ _ _ _ _ _ _ _ _ _ _ _ _ _ _ _ _ _ _ _)
              iexact HS4
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexists _; iexact H10
          isplitl [H11]; · iexists _; iexact H11
          isplitl [H12]; · iexists _; iexact H12
          isplitl [H13]; · iexists _; iexact H13
          isplitl [H14]; · iexists _; iexact H14
          iexists _; iexact H15
        · exfalso; have hN : t.val < 56 := lt_of_lt_of_eq t.isLt (show cfg0.N = 56 from N_0); omega
  · by_cases h1 : (1 ≤ t.val % 56 ∧ t.val % 56 ≤ 54)
    · by_cases h2 : t.val % 56 = 55
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 10 t = owns (c : Thread nD τ) (ms0_10 t) fullShare ((dats m 0 c).after 10 t) from by
      unfold Dat.leavesExact; rw [liveAt0_10_B t (fun h => h0 ((hcond0_0 t).mp h)) ((hcond0_1 t).mpr h1) (fun h => h2 ((hcond0_2 t).mp h))], after0_10]
        rw [show (dats m 0 c).leavesExact 11 t = owns (c : Thread nD τ) (ms0_11 t) fullShare ((dats m 0 c).after 11 t) from by
      unfold Dat.leavesExact; rw [liveAt0_11_B t (fun h => h0 ((hcond0_0 t).mp h)) ((hcond0_1 t).mpr h1) (fun h => h2 ((hcond0_2 t).mp h))], after0_11]
        rw [show (dats m 0 c).leavesExact 12 t = owns (c : Thread nD τ) (ms0_12 t) fullShare ((dats m 0 c).after 12 t) from by
      unfold Dat.leavesExact; rw [liveAt0_12_B t (fun h => h0 ((hcond0_0 t).mp h)) ((hcond0_1 t).mpr h1) (fun h => h2 ((hcond0_2 t).mp h))], after0_12]
        rw [show (dats m 0 c).leavesExact 13 t = owns (c : Thread nD τ) (ms0_13 t) fullShare ((dats m 0 c).after 13 t) from by
      unfold Dat.leavesExact; rw [liveAt0_13_B t (fun h => h0 ((hcond0_0 t).mp h)) ((hcond0_1 t).mpr h1) (fun h => h2 ((hcond0_2 t).mp h))], after0_13]
        rw [show (dats m 0 c).leavesExact 14 t = owns (c : Thread nD τ) (ms0_14 t) fullShare ((dats m 0 c).after 14 t) from by
      unfold Dat.leavesExact; rw [liveAt0_14_B t (fun h => h0 ((hcond0_0 t).mp h)) ((hcond0_1 t).mpr h1) (fun h => h2 ((hcond0_2 t).mp h))], after0_14]
        rw [show (dats m 0 c).leavesExact 15 t = owns (c : Thread nD τ) (ms0_15 t) fullShare ((dats m 0 c).after 15 t) from by
      unfold Dat.leavesExact; rw [liveAt0_15_B t (fun h => h0 ((hcond0_0 t).mp h)) ((hcond0_1 t).mpr h1) (fun h => h2 ((hcond0_2 t).mp h))], after0_15]
        by_cases hz : t.val = 0
        · exfalso; have hN : t.val < 56 := lt_of_lt_of_eq t.isLt (show cfg0.N = 56 from N_0); omega
        · rw [PhiS_castSucc m c t, PhiS_pos m c _ _ hz]
          rw [outsAt0_B m c t h0 h1 h2]
          unfold out0_B_10 out0_B_11 out0_B_12 out0_B_13 out0_B_14 out0_B_15 sout0_B_0 sout0_B_1 sout0_B_2 sout0_B_3; (try dsimp only)
          iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
          iapply ((kernelRun0_B c (grid0.coords t) _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) _ _ _ _).2.2.2.2.2.2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexists _; iexact H8
          isplitl [H9]; · iexists _; iexact H9
          isplitl [H10]; · iexists _; iexact H10
          isplitl [H11]; · iexists _; iexact H11
          isplitl [H12]; · iexists _; iexact H12
          isplitl [H13]; · iexists _; iexact H13
          isplitl [H14]; · iexists _; iexact H14
          isplitl [H15]; · iexists _; iexact H15
          isplitl [HS0]; · iexact HS0
          isplitl [HS1]; · iexact HS1
          isplitl [HS2]; · iexact HS2
          isplitl [HS3]; · iexact HS3
          isplitl [HS4]; · iexact HS4
          iintro ⟨H0, H1, H2, H3, H4, H5, H6, H7, H8, H9, ⟨%e10, H10⟩, ⟨%e11, H11⟩, ⟨%e12, H12⟩, ⟨%e13, H13⟩, ⟨%e14, H14⟩, ⟨%e15, H15⟩, HS0, ⟨%es1, HS1⟩, ⟨%es2, HS2⟩, ⟨%es3, HS3⟩, HS4⟩
          isplitl [HS0 HS1 HS2 HS3 HS4 Hg]
          · isplitl [HS0 HS1 HS2 HS3 HS4]
            · isplitl [HS0]
              · iexact HS0
              isplitl [HS1]
              · unfold owns; iexists _; isplitr
                swap; · iexact HS1
                ipureintro; exact View.read_writes_of_cover _ _ _ _ _ (scover0_B_1 c _ _ _ _ _ _ _ _ _ _ _ _ _ _ _ _ _ _ _ _ _ _ _ _ _ _ _ _ _ _ _ _ _ _ _ _ _ _ _ _ _ _ _ _ _ _ _ _ _ _ _ _ _ _ _ _ _ _)
              isplitl [HS2]
              · unfold owns; iexists _; isplitr
                swap; · iexact HS2
                ipureintro; exact View.read_writes_of_cover _ _ _ _ _ (scover0_B_2 c _ _ _ _ _ _ _ _ _ _ _ _ _ _ _ _ _ _ _ _ _ _ _ _ _ _ _ _ _ _ _ _ _ _ _ _ _ _ _ _ _ _ _ _ _ _ _ _ _ _ _ _ _ _ _ _ _ _)
              isplitl [HS3]
              · unfold owns; iexists _; isplitr
                swap; · iexact HS3
                ipureintro; exact View.read_writes_of_cover _ _ _ _ _ (scover0_B_3 c _ _ _ _ _ _ _ _ _ _ _ _ _ _ _ _ _ _ _ _ _ _ _ _ _ _ _ _ _ _ _ _ _ _ _ _ _ _ _ _ _ _ _ _ _ _ _ _ _ _ _ _ _ _ _ _ _ _)
              iexact HS4
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]
          · unfold owns; iexists _; isplitr
            swap; · iexact H10
            ipureintro; exact View.read_writes_of_cover _ _ _ _ _ (cover0_B_10 c _ _ _ _ _ _ _ _ _ _ _ _ _ _ _ _ _ _ _ _ _ _ _ _ _ _ _ _ _ _ _ _ _ _ _ _ _ _ _ _ _ _ _ _ _ _ _ _ _ _ _ _ _ _ _ _ _ _)
          isplitl [H11]
          · unfold owns; iexists _; isplitr
            swap; · iexact H11
            ipureintro; exact View.read_writes_of_cover _ _ _ _ _ (cover0_B_11 c _ _ _ _ _ _ _ _ _ _ _ _ _ _ _ _ _ _ _ _ _ _ _ _ _ _ _ _ _ _ _ _ _ _ _ _ _ _ _ _ _ _ _ _ _ _ _ _ _ _ _ _ _ _ _ _ _ _)
          isplitl [H12]
          · unfold owns; iexists _; isplitr
            swap; · iexact H12
            ipureintro; exact View.read_writes_of_cover _ _ _ _ _ (cover0_B_12 c _ _ _ _ _ _ _ _ _ _ _ _ _ _ _ _ _ _ _ _ _ _ _ _ _ _ _ _ _ _ _ _ _ _ _ _ _ _ _ _ _ _ _ _ _ _ _ _ _ _ _ _ _ _ _ _ _ _)
          isplitl [H13]
          · unfold owns; iexists _; isplitr
            swap; · iexact H13
            ipureintro; exact View.read_writes_of_cover _ _ _ _ _ (cover0_B_13 c _ _ _ _ _ _ _ _ _ _ _ _ _ _ _ _ _ _ _ _ _ _ _ _ _ _ _ _ _ _ _ _ _ _ _ _ _ _ _ _ _ _ _ _ _ _ _ _ _ _ _ _ _ _ _ _ _ _)
          isplitl [H14]
          · unfold owns; iexists _; isplitr
            swap; · iexact H14
            ipureintro; exact View.read_writes_of_cover _ _ _ _ _ (cover0_B_14 c _ _ _ _ _ _ _ _ _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact H15
          ipureintro; exact View.read_writes_of_cover _ _ _ _ _ (cover0_B_15 c _ _ _ _ _ _ _ _ _ _ _ _ _ _ _ _ _ _ _ _ _ _ _ _ _ _ _ _ _ _ _ _ _ _ _ _ _ _ _ _ _ _ _ _ _ _ _ _ _ _ _ _ _ _ _ _ _ _)
    · by_cases h2 : t.val % 56 = 55
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 10 t = owns (c : Thread nD τ) (ms0_10 t) fullShare ((dats m 0 c).after 10 t) from by
      unfold Dat.leavesExact; rw [liveAt0_10_C t (fun h => h0 ((hcond0_0 t).mp h)) (fun h => h1 ((hcond0_1 t).mp h)) ((hcond0_2 t).mpr h2)], after0_10]
        rw [show (dats m 0 c).leavesExact 11 t = owns (c : Thread nD τ) (ms0_11 t) fullShare ((dats m 0 c).after 11 t) from by
      unfold Dat.leavesExact; rw [liveAt0_11_C t (fun h => h0 ((hcond0_0 t).mp h)) (fun h => h1 ((hcond0_1 t).mp h)) ((hcond0_2 t).mpr h2)], after0_11]
        rw [show (dats m 0 c).leavesExact 12 t = owns (c : Thread nD τ) (ms0_12 t) fullShare ((dats m 0 c).after 12 t) from by
      unfold Dat.leavesExact; rw [liveAt0_12_C t (fun h => h0 ((hcond0_0 t).mp h)) (fun h => h1 ((hcond0_1 t).mp h)) ((hcond0_2 t).mpr h2)], after0_12]
        rw [show (dats m 0 c).leavesExact 13 t = owns (c : Thread nD τ) (ms0_13 t) fullShare ((dats m 0 c).after 13 t) from by
      unfold Dat.leavesExact; rw [liveAt0_13_C t (fun h => h0 ((hcond0_0 t).mp h)) (fun h => h1 ((hcond0_1 t).mp h)) ((hcond0_2 t).mpr h2)], after0_13]
        rw [show (dats m 0 c).leavesExact 14 t = owns (c : Thread nD τ) (ms0_14 t) fullShare ((dats m 0 c).after 14 t) from by
      unfold Dat.leavesExact; rw [liveAt0_14_C t (fun h => h0 ((hcond0_0 t).mp h)) (fun h => h1 ((hcond0_1 t).mp h)) ((hcond0_2 t).mpr h2)], after0_14]
        rw [show (dats m 0 c).leavesExact 15 t = owns (c : Thread nD τ) (ms0_15 t) fullShare ((dats m 0 c).after 15 t) from by
      unfold Dat.leavesExact; rw [liveAt0_15_C t (fun h => h0 ((hcond0_0 t).mp h)) (fun h => h1 ((hcond0_1 t).mp h)) ((hcond0_2 t).mpr h2)], after0_15]
        by_cases hz : t.val = 0
        · exfalso; have hN : t.val < 56 := lt_of_lt_of_eq t.isLt (show cfg0.N = 56 from N_0); omega
        · rw [PhiS_castSucc m c t, PhiS_pos m c _ _ hz]
          rw [outsAt0_C m c t h0 h1 h2]
          unfold out0_C_10 out0_C_11 out0_C_12 out0_C_13 out0_C_14 out0_C_15 sout0_C_0 sout0_C_1 sout0_C_2 sout0_C_3; (try dsimp only)
          iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
          iapply ((kernelRun0_C c (grid0.coords t) _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) _ _ _ _).2.2.2.2.2.2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexists _; iexact H8
          isplitl [H9]; · iexists _; iexact H9
          isplitl [H10]; · iexists _; iexact H10
          isplitl [H11]; · iexists _; iexact H11
          isplitl [H12]; · iexists _; iexact H12
          isplitl [H13]; · iexists _; iexact H13
          isplitl [H14]; · iexists _; iexact H14
          isplitl [H15]; · iexists _; iexact H15
          isplitl [HS0]; · iexact HS0
          isplitl [HS1]; · iexact HS1
          isplitl [HS2]; · iexact HS2
          isplitl [HS3]; · iexact HS3
          isplitl [HS4]; · iexact HS4
          iintro ⟨H0, H1, H2, H3, H4, H5, H6, H7, H8, H9, ⟨%e10, H10⟩, ⟨%e11, H11⟩, ⟨%e12, H12⟩, ⟨%e13, H13⟩, ⟨%e14, H14⟩, ⟨%e15, H15⟩, HS0, HS1, HS2, HS3, HS4⟩
          isplitl [HS0 HS1 HS2 HS3 HS4 Hg]
          · isplitl [HS0 HS1 HS2 HS3 HS4]
            · isplitl [HS0]
              · iexact HS0
              isplitl [HS1]
              · iexact HS1
              isplitl [HS2]
              · iexact HS2
              isplitl [HS3]
              · iexact HS3
              iexact HS4
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]
          · unfold owns; iexists _; isplitr
            swap; · iexact H10
            ipureintro; exact View.read_writes_of_cover _ _ _ _ _ (cover0_C_10 c _ _ _ _ _ _ _ _ _ _ _ _ _ _ _ _ _ _ _ _ _ _ _ _ _ _ _ _ _ _ _ _ _ _ _ _ _ _ _ _ _ _ _ _ _ _ _ _ _ _ _ _ _ _ _ _ _ _)
          isplitl [H11]
          · unfold owns; iexists _; isplitr
            swap; · iexact H11
            ipureintro; exact View.read_writes_of_cover _ _ _ _ _ (cover0_C_11 c _ _ _ _ _ _ _ _ _ _ _ _ _ _ _ _ _ _ _ _ _ _ _ _ _ _ _ _ _ _ _ _ _ _ _ _ _ _ _ _ _ _ _ _ _ _ _ _ _ _ _ _ _ _ _ _ _ _)
          isplitl [H12]
          · unfold owns; iexists _; isplitr
            swap; · iexact H12
            ipureintro; exact View.read_writes_of_cover _ _ _ _ _ (cover0_C_12 c _ _ _ _ _ _ _ _ _ _ _ _ _ _ _ _ _ _ _ _ _ _ _ _ _ _ _ _ _ _ _ _ _ _ _ _ _ _ _ _ _ _ _ _ _ _ _ _ _ _ _ _ _ _ _ _ _ _)
          isplitl [H13]
          · unfold owns; iexists _; isplitr
            swap; · iexact H13
            ipureintro; exact View.read_writes_of_cover _ _ _ _ _ (cover0_C_13 c _ _ _ _ _ _ _ _ _ _ _ _ _ _ _ _ _ _ _ _ _ _ _ _ _ _ _ _ _ _ _ _ _ _ _ _ _ _ _ _ _ _ _ _ _ _ _ _ _ _ _ _ _ _ _ _ _ _)
          isplitl [H14]
          · unfold owns; iexists _; isplitr
            swap; · iexact H14
            ipureintro; exact View.read_writes_of_cover _ _ _ _ _ (cover0_C_14 c _ _ _ _ _ _ _ _ _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact H15
          ipureintro; exact View.read_writes_of_cover _ _ _ _ _ (cover0_C_15 c _ _ _ _ _ _ _ _ _ _ _ _ _ _ _ _ _ _ _ _ _ _ _ _ _ _ _ _ _ _ _ _ _ _ _ _ _ _ _ _ _ _ _ _ _ _ _ _ _ _ _ _ _ _ _ _ _ _)
      · exfalso; omega

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4⟩, Hg⟩
  isplitl [HS0 HS1 HS2 HS3 HS4]
  · isplitl [HS0]
    · iexists _; iexact HS0
    isplitl [HS1]
    · iexists _; iexact HS1
    isplitl [HS2]
    · iexists _; iexact HS2
    isplitl [HS3]
    · iexists _; iexact HS3
    iexact HS4
  iexact Hg

theorem hout (c : Dev nD) : (dats m 0 c).Φ (Fin.last cfg0.N) ⊢ Pipeline.ΦA spec0 c :=
  Phi_out m c _ (by rw [Fin.val_last]; have : cfg0.N = 56 := N_0; omega)

set_option backward.isDefEq.respectTransparency.types false in
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of_rounds m ρ (fun c => (dats m 0 c).toRForget forgets0) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.ProjectIdeal.Gen

end
-- ==== Proof.IdealValue.lean ====
module

public import proofs.«01_k».proof.Proof.IdealFrame
public import Idealize.ShloMosaic.Lib.Pipeline.Value

/-! What the projection kernel writes back, and its run in terms of the arrays it leaves. -/

@[expose] public section

noncomputable section

namespace Cert.ProjectIdeal.Value

open Cert.ProjectIdeal Cert.ProjectIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

theorem flushed10 (c : Dev nD) (t : Fin cfg0.N) :
    (dats m 0 c).flushed 10 t = (cfg0.win 10).cut (grid0.coords t) ((outsAt0 m c t.val t.isLt).1) := by
  show (cfg0.win 10).cut (grid0.coords t) ((dats m 0 c).after 10 t) = _
  rw [after0_10]

theorem flushed11 (c : Dev nD) (t : Fin cfg0.N) :
    (dats m 0 c).flushed 11 t = (cfg0.win 11).cut (grid0.coords t) ((outsAt0 m c t.val t.isLt).2.1) := by
  show (cfg0.win 11).cut (grid0.coords t) ((dats m 0 c).after 11 t) = _
  rw [after0_11]

theorem flushed12 (c : Dev nD) (t : Fin cfg0.N) :
    (dats m 0 c).flushed 12 t = (cfg0.win 12).cut (grid0.coords t) ((outsAt0 m c t.val t.isLt).2.2.1) := by
  show (cfg0.win 12).cut (grid0.coords t) ((dats m 0 c).after 12 t) = _
  rw [after0_12]

theorem flushed13 (c : Dev nD) (t : Fin cfg0.N) :
    (dats m 0 c).flushed 13 t = (cfg0.win 13).cut (grid0.coords t) ((outsAt0 m c t.val t.isLt).2.2.2.1) := by
  show (cfg0.win 13).cut (grid0.coords t) ((dats m 0 c).after 13 t) = _
  rw [after0_13]

theorem flushed14 (c : Dev nD) (t : Fin cfg0.N) :
    (dats m 0 c).flushed 14 t = (cfg0.win 14).cut (grid0.coords t) ((outsAt0 m c t.val t.isLt).2.2.2.2.1) := by
  show (cfg0.win 14).cut (grid0.coords t) ((dats m 0 c).after 14 t) = _
  rw [after0_14]

theorem flushed15 (c : Dev nD) (t : Fin cfg0.N) :
    (dats m 0 c).flushed 15 t = (cfg0.win 15).cut (grid0.coords t) ((outsAt0 m c t.val t.isLt).2.2.2.2.2.1) := by
  show (cfg0.win 15).cut (grid0.coords t) ((dats m 0 c).after 15 t) = _
  rw [after0_15]

theorem finalR_out0 (r : PUnit × MemSt nD τ sig (Elt F)) (h : Pipeline.RDat.FramePost (cfgs 0) (fun c => (dats m 0 c).toRForget forgets0) (V m) r) (c : Dev nD) (w : Fin 16) (hw : forgets0 w = false) :
    r.2.mem ((cfg0.spec w).arr.view.loc (c : Thread nD τ)) = (dats m 0 c).arrAt w cfg0.N :=
  ((dats m 0 c).toRForget_arrAt_iff hw _ _).mp ((h c).1 w)

theorem post10 (r : PUnit × MemSt nD τ sig (Elt F)) (h : Pipeline.RDat.FramePost (cfgs 0) (fun c => (dats m 0 c).toRForget forgets0) (V m) r) (c : Dev nD) :
    r.2.mem ((c : Thread nD τ).loc main_v6_2) = (dats m 0 c).arrAt 10 cfg0.N :=
  finalR_out0 m r h c 10 forgets0_10

theorem post11 (r : PUnit × MemSt nD τ sig (Elt F)) (h : Pipeline.RDat.FramePost (cfgs 0) (fun c => (dats m 0 c).toRForget forgets0) (V m) r) (c : Dev nD) :
    r.2.mem ((c : Thread nD τ).loc main_v6_3) = (dats m 0 c).arrAt 11 cfg0.N :=
  finalR_out0 m r h c 11 forgets0_11

theorem post12 (r : PUnit × MemSt nD τ sig (Elt F)) (h : Pipeline.RDat.FramePost (cfgs 0) (fun c => (dats m 0 c).toRForget forgets0) (V m) r) (c : Dev nD) :
    r.2.mem ((c : Thread nD τ).loc main_v6_4) = (dats m 0 c).arrAt 12 cfg0.N :=
  finalR_out0 m r h c 12 forgets0_12

theorem post13 (r : PUnit × MemSt nD τ sig (Elt F)) (h : Pipeline.RDat.FramePost (cfgs 0) (fun c => (dats m 0 c).toRForget forgets0) (V m) r) (c : Dev nD) :
    r.2.mem ((c : Thread nD τ).loc main_v6_5) = (dats m 0 c).arrAt 13 cfg0.N :=
  finalR_out0 m r h c 13 forgets0_13

theorem post14 (r : PUnit × MemSt nD τ sig (Elt F)) (h : Pipeline.RDat.FramePost (cfgs 0) (fun c => (dats m 0 c).toRForget forgets0) (V m) r) (c : Dev nD) :
    r.2.mem ((c : Thread nD τ).loc main_v6_6) = (dats m 0 c).arrAt 14 cfg0.N :=
  finalR_out0 m r h c 14 forgets0_14

theorem post15 (r : PUnit × MemSt nD τ sig (Elt F)) (h : Pipeline.RDat.FramePost (cfgs 0) (fun c => (dats m 0 c).toRForget forgets0) (V m) r) (c : Dev nD) :
    r.2.mem ((c : Thread nD τ).loc main_v6_7) = (dats m 0 c).arrAt 15 cfg0.N :=
  finalR_out0 m r h c 15 forgets0_15

theorem kept_main_arg0 (r : PUnit × MemSt nD τ sig (Elt F)) (h : Pipeline.RDat.FramePost (cfgs 0) (fun c => (dats m 0 c).toRForget forgets0) (V m) r) (c : Dev nD) :
    r.2.mem ((c : Thread nD τ).loc main_arg0) = m ((c : Thread nD τ).loc main_arg0) :=
  (Pipeline.RDat.FramePost.arr_in h c 1 rfl).trans ((A_eq m c 1).trans (V_main_arg0 m c))

theorem kept_main_arg1 (r : PUnit × MemSt nD τ sig (Elt F)) (h : Pipeline.RDat.FramePost (cfgs 0) (fun c => (dats m 0 c).toRForget forgets0) (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

theorem kept_main_arg2 (r : PUnit × MemSt nD τ sig (Elt F)) (h : Pipeline.RDat.FramePost (cfgs 0) (fun c => (dats m 0 c).toRForget forgets0) (V m) r) (c : Dev nD) :
    r.2.mem ((c : Thread nD τ).loc main_arg2) = m ((c : Thread nD τ).loc main_arg2) :=
  (Pipeline.RDat.FramePost.arr_in h c 3 rfl).trans ((A_eq m c 3).trans (V_main_arg2 m c))

theorem kept_main_arg3 (r : PUnit × MemSt nD τ sig (Elt F)) (h : Pipeline.RDat.FramePost (cfgs 0) (fun c => (dats m 0 c).toRForget forgets0) (V m) r) (c : Dev nD) :
    r.2.mem ((c : Thread nD τ).loc main_arg3) = m ((c : Thread nD τ).loc main_arg3) :=
  (Pipeline.RDat.FramePost.arr_in h c 0 rfl).trans ((A_eq m c 0).trans (V_main_arg3 m c))

theorem kept_main_arg4 (r : PUnit × MemSt nD τ sig (Elt F)) (h : Pipeline.RDat.FramePost (cfgs 0) (fun c => (dats m 0 c).toRForget forgets0) (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

theorem kept_main_arg5 (r : PUnit × MemSt nD τ sig (Elt F)) (h : Pipeline.RDat.FramePost (cfgs 0) (fun c => (dats m 0 c).toRForget forgets0) (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

theorem kept_main_arg6 (r : PUnit × MemSt nD τ sig (Elt F)) (h : Pipeline.RDat.FramePost (cfgs 0) (fun c => (dats m 0 c).toRForget forgets0) (V m) r) (c : Dev nD) :
    r.2.mem ((c : Thread nD τ).loc main_arg6) = m ((c : Thread nD τ).loc main_arg6) :=
  (Pipeline.RDat.FramePost.arr_in h c 6 rfl).trans ((A_eq m c 6).trans (V_main_arg6 m c))

theorem kept_main_arg7 (r : PUnit × MemSt nD τ sig (Elt F)) (h : Pipeline.RDat.FramePost (cfgs 0) (fun c => (dats m 0 c).toRForget forgets0) (V m) r) (c : Dev nD) :
    r.2.mem ((c : Thread nD τ).loc main_arg7) = m ((c : Thread nD τ).loc main_arg7) :=
  (Pipeline.RDat.FramePost.arr_in h c 7 rfl).trans ((A_eq m c 7).trans (V_main_arg7 m c))

theorem run_blocks : θ_run defs (onTc (τ := τ) (main (F := F))) ⟨m, fun _ => 0, ρ⟩ fun r => ∀ c : Dev nD,
      r.2.mem ((c : Thread nD τ).loc main_v6_2) = (dats m 0 c).arrAt 10 cfg0.N
      ∧ r.2.mem ((c : Thread nD τ).loc main_v6_3) = (dats m 0 c).arrAt 11 cfg0.N
      ∧ r.2.mem ((c : Thread nD τ).loc main_v6_4) = (dats m 0 c).arrAt 12 cfg0.N
      ∧ r.2.mem ((c : Thread nD τ).loc main_v6_5) = (dats m 0 c).arrAt 13 cfg0.N
      ∧ r.2.mem ((c : Thread nD τ).loc main_v6_6) = (dats m 0 c).arrAt 14 cfg0.N
      ∧ r.2.mem ((c : Thread nD τ).loc main_v6_7) = (dats m 0 c).arrAt 15 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨post10 m r h c,
      post11 m r h c,
      post12 m r h c,
      post13 m r h c,
      post14 m r h c,
      post15 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c⟩)
    (run_main m ρ)

end Cert.ProjectIdeal.Value

end
-- ==== Proof.Carried.lean ====
/- What a step stores for later steps: the turned block, the roots and the products. -/
module
public import proofs.«01_k».proof.Proof.Outs
public import proofs.«01_k».proof.Proof.IdealValue
public import Idealize.ShloMosaic.Lib.Tactic.RunNames
@[expose] public section
set_option maxRecDepth 16384
noncomputable section
namespace Cert.Proof.Project
open Cert.ProjectIdeal Cert.ProjectIdeal.Gen Idealize.ShloMosaic Idealize.ShloMosaic.TcCoe Idealize.SL.Sem

/-- The block of the input, turned. -/
def turnX (x1 : Vec Ideal S256x5376 .bf16) : Vec Ideal S5376x256 .bf16 := fun j => x1 (ix2 (j 1) (j 0))

/-- The root of the mean square of every row of the block. -/
def rootX (x1 : Vec Ideal S256x5376 .bf16) : Vec Ideal S1x256 .f32 := fun j => rootR fun k => x1 (ix2 (j 1) k)

/-- The projection of every token. -/
def accX (w : Vec Ideal S1024x5376 .bf16) (xt : Vec Ideal S5376x256 .bf16) (r : Vec Ideal S1x256 .f32) (g : Fin 5376 → EReal) : Vec Ideal S1024x256 .f32 :=
  fun j => projR (fun k => w (ix2 (j 0) k)) (fun k => xt (ix2 k (j 1))) (r (ix2 0 (j 1))) g

/-- One turned block stored. -/
theorem turn_piece {arg2 : Memref sig .tc .vmem S256x5376 .bf16} (harg2 : arg2.IsWhole) (x1 : Vec Ideal S256x5376 .bf16) (n : ℕ) (h : n < 21) (inb) (x : S256x256.Idx) :
    shapeCast S256x256 (turned (blockL harg2 x1 n h)) rfl x = turnX x1 ((Rect.unit (s := S5376x256) ![256 * n, 0] S256x256.size inb).emb x) := by
  unfold turned blockL turnX
  pointwise
  rw [harg2.readAt_unread]
  congr 1
  funext a
  apply Fin.ext
  fin_cases a <;> simp

/-- The roots stored. -/
theorem root_piece {arg2 : Memref sig .tc .vmem S256x5376 .bf16} (harg2 : arg2.IsWhole) (x1 : Vec Ideal S256x5376 .bf16) (inb) (x : S1x256.Idx) :
    shapeCast S1x256 (rootOf (sumL harg2 x1 20 (by norm_num))) rfl x = rootX x1 ((Rect.unit (s := S1x256) ![0, 0] S1x256.size inb).emb x) := by
  have e := root_all harg2 x1 (x 1)
  have hx : x = ix2 0 (x 1) := by funext a; fin_cases a <;> [exact Fin.ext (by have := (x 0).isLt; change _ < 1 at this; show (x 0).val = 0; omega); rfl]
  have t : (((Rect.unit (s := S1x256) ![0, 0] S1x256.size inb).emb x) 1 : Fin 256) = x 1 := by apply Fin.ext; simp
  unfold rootX
  rw [t, ← e]
  have s : shapeCast S1x256 (rootOf (sumL harg2 x1 20 (by norm_num))) rfl = rootOf (sumL harg2 x1 20 (by norm_num)) := by
    funext j
    pointwise
  rw [s]
  exact congrArg _ hx

/-- The roots stored, without the cast. -/
theorem root_piece_flat {arg2 : Memref sig .tc .vmem S256x5376 .bf16} (harg2 : arg2.IsWhole) (x1 : Vec Ideal S256x5376 .bf16) (inb) (x : S1x256.Idx) :
    rootOf (sumL harg2 x1 20 (by norm_num)) x = rootX x1 ((Rect.unit (s := S1x256) ![0, 0] S1x256.size inb).emb x) := by
  rw [← root_piece harg2 x1 inb x]
  pointwise

/-- The products stored. -/
theorem acc_piece {arg3 : Memref sig .tc .vmem S5376x128 .f32} (harg3 : arg3.IsWhole) {arg17 : Memref sig .tc .vmem S1024x5376 .bf16} (harg17 : arg17.IsWhole) {arg18 : Memref sig .tc .vmem S5376x256 .bf16} (harg18 : arg18.IsWhole) {arg20 : Memref sig .tc .vmem S1x256 .f32} (harg20 : arg20.IsWhole)
    (x2 : Vec Ideal S5376x128 .f32) (xs0 : Vec Ideal S1024x5376 .bf16) (xs1 : Vec Ideal S5376x256 .bf16) (xs3 : Vec Ideal S1x256 .f32) (g : Fin 5376 → EReal) (hg : ∀ k l, x2 (ix2 k l) = g k) (inb) (x : S1024x256.Idx) :
    shapeCast S1024x256 (accL harg3 harg17 harg18 harg20 x2 xs0 xs1 xs3 20 (by norm_num)) rfl x = accX xs0 xs1 xs3 g ((Rect.unit (s := S1024x256) ![0, 0] S1024x256.size inb).emb x) := by
  have e := accL_all harg3 harg17 harg18 harg20 x2 xs0 xs1 xs3 g hg (x 0) (x 1)
  have hx : x = ix2 (x 0) (x 1) := by funext a; fin_cases a <;> rfl
  have t : (((Rect.unit (s := S1024x256) ![0, 0] S1024x256.size inb).emb x) 1 : Fin 256) = x 1 := by apply Fin.ext; simp
  have o : (((Rect.unit (s := S1024x256) ![0, 0] S1024x256.size inb).emb x) 0 : Fin 1024) = x 0 := by apply Fin.ext; simp
  unfold accX
  rw [t, o, ← e]
  have s : shapeCast S1024x256 (accL harg3 harg17 harg18 harg20 x2 xs0 xs1 xs3 20 (by norm_num)) rfl = accL harg3 harg17 harg18 harg20 x2 xs0 xs1 xs3 20 (by norm_num) := by
    funext j
    pointwise
  rw [s]
  exact congrArg _ hx

end Cert.Proof.Project
end
-- ==== Proof.Blocks.lean ====
/- The blocks the steps of the projection read, as entries of the arguments. -/
module
public import proofs.«01_k».proof.Proof.Carried
public import Idealize.ShloMosaic.Lib.Pointwise
@[expose] public section
set_option maxRecDepth 16384
noncomputable section
namespace Cert.Proof.Project
open Cert.ProjectIdeal Cert.ProjectIdeal.Gen Cert.ProjectIdeal.Value Idealize.ShloMosaic Idealize.ShloMosaic.TcCoe Idealize.SL.Sem

variable (m : (ℓ : Loc nD τ sig) → Buf (Elt Ideal) ℓ) (c : Dev nD)

theorem idx0 : ∀ t : Fin cfg0.N, win0_0.index t = ![0, 0] := (by decide +kernel : ∀ t : Fin grid0.N, win0_0.index t = ![0, 0])
theorem idx1 : ∀ t : Fin cfg0.N, win0_1.index t = ![min t.val 53, 0] := (by decide +kernel : ∀ t : Fin grid0.N, win0_1.index t = ![min t.val 53, 0])
theorem idx2 : ∀ t : Fin cfg0.N, win0_2.index t = ![0, 0] := (by decide +kernel : ∀ t : Fin grid0.N, win0_2.index t = ![0, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx5 : ∀ t : Fin cfg0.N, win0_5.index t = ![0, 0] := (by decide +kernel : ∀ t : Fin grid0.N, win0_5.index t = ![0, 0])
theorem idx6 : ∀ t : Fin cfg0.N, win0_6.index t = ![t.val - 2, 0] := (by decide +kernel : ∀ t : Fin grid0.N, win0_6.index t = ![t.val - 2, 0])
theorem idx7 : ∀ t : Fin cfg0.N, win0_7.index t = ![t.val - 2, 0] := (by decide +kernel : ∀ t : Fin grid0.N, win0_7.index t = ![t.val - 2, 0])

/-- Row `r` of tile `n`. -/
def row (n : ℕ) (hn : n < 54) (r : Fin 256) : Fin 13824 := ⟨256 * n + r.val, by omega⟩

theorem blk0 (t : Fin cfg0.N) (r : Fin 42) (k : Fin 8) : iblk m c 0 t (ix2 r k) = m ((c : Thread nD τ).loc main_arg3) (ix2 r k) := by
  rw [← V_main_arg3 m c]
  blk_ext [iblk, idx0 t]
theorem blk1 (t : Fin cfg0.N) (ht : t.val < 54) (r : Fin 256) (k : Fin 5376) : iblk m c 1 t (ix2 r k) = m ((c : Thread nD τ).loc main_arg0) (ix2 (row t.val ht r) k) := by
  unfold row
  rw [← V_main_arg0 m c]
  have e := idx1 t
  rw [Nat.min_eq_left (by omega)] at e
  blk_ext [iblk, e]
theorem blk3 (t : Fin cfg0.N) (r : Fin 5376) (k : Fin 1024) : iblk m c 3 t (ix2 r k) = m ((c : Thread nD τ).loc main_arg2) (ix2 r k) := by
  rw [← V_main_arg2 m c]
  blk_ext [iblk, idx3 t]
theorem blk6 (t : Fin cfg0.N) (r : Fin 256) (k : Fin 64) : iblk m c 6 t (ix2 r k) = m ((c : Thread nD τ).loc main_arg6) (ix2 (row (t.val - 2) (by have := lt_of_lt_of_eq t.isLt N_0; omega) r) k) := by
  unfold row
  rw [← V_main_arg6 m c]
  blk_ext [iblk, idx6 t]
theorem blk7 (t : Fin cfg0.N) (r : Fin 256) (k : Fin 64) : iblk m c 7 t (ix2 r k) = m ((c : Thread nD τ).loc main_arg7) (ix2 (row (t.val - 2) (by have := lt_of_lt_of_eq t.isLt N_0; omega) r) k) := by
  unfold row
  rw [← V_main_arg7 m c]
  blk_ext [iblk, idx7 t]

theorem gains (k : Fin 5376) (l : Fin 128) : V m c main_v1 (ix2 k l) = m ((c : Thread nD τ).loc main_arg1) (ix1 k) := by
  have e : V m c main_v1 = broadcastInDim S5376x128 ![0, 1] bcast_S5376x1_S5376x128_0_1 (broadcastInDim S5376x1 ![0] bcast_S5376_S5376x1_0 (m ((c : Thread nD τ).loc main_arg1))) := by
    unfold V
    after_results
  rw [e]
  pointwise
theorem gainsQ (k : Fin 128) (l : Fin 128) : V m c main_v3 (ix2 k l) = m ((c : Thread nD τ).loc main_arg4) (ix1 k) := by
  have e : V m c main_v3 = broadcastInDim S128x128 ![0, 1] bcast_S128x1_S128x128_0_1 (broadcastInDim S128x1 ![0] bcast_S128_S128x1_0 (m ((c : Thread nD τ).loc main_arg4))) := by
    unfold V
    after_results
  rw [e]
  pointwise
theorem gainsK (k : Fin 128) (l : Fin 128) : V m c main_v5 (ix2 k l) = m ((c : Thread nD τ).loc main_arg5) (ix1 k) := by
  have e : V m c main_v5 = broadcastInDim S128x128 ![0, 1] bcast_S128x1_S128x128_0_1 (broadcastInDim S128x1 ![0] bcast_S128_S128x1_0 (m ((c : Thread nD τ).loc main_arg5))) := by
    unfold V
    after_results
  rw [e]
  pointwise

theorem blk2 (t : Fin cfg0.N) (k : Fin 5376) (l : Fin 128) : iblk m c 2 t (ix2 k l) = m ((c : Thread nD τ).loc main_arg1) (ix1 k) := by
  rw [← gains m c k l]
  blk_ext [iblk, idx2 t]
theorem blk4 (t : Fin cfg0.N) (k : Fin 128) (l : Fin 128) : iblk m c 4 t (ix2 k l) = m ((c : Thread nD τ).loc main_arg4) (ix1 k) := by
  rw [← gainsQ m c k l]
  blk_ext [iblk, idx4 t]
theorem blk5 (t : Fin cfg0.N) (k : Fin 128) (l : Fin 128) : iblk m c 5 t (ix2 k l) = m ((c : Thread nD τ).loc main_arg5) (ix1 k) := by
  rw [← gainsK m c k l]
  blk_ext [iblk, idx5 t]

end Cert.Proof.Project
end
-- ==== Proof.FirstWide.lean ====
/- The first step of the projection: the widened weight, the first turned block and its roots. -/
module
public import proofs.«01_k».proof.Proof.Carried
@[expose] public section
set_option maxRecDepth 16384
noncomputable section
namespace Cert.Proof.Project
open Cert.ProjectIdeal Cert.ProjectIdeal.Gen Idealize.ShloMosaic Idealize.ShloMosaic.TcCoe Idealize.SL.Sem

/-- The widened weight, turned: code times the scale of its 128 by 128 block. -/
def WideT (x3 : Vec Ideal S5376x1024 .fp8e4m3) (x0 : Vec Ideal S42x8 .f32) : Vec Ideal S1024x5376 .bf16 :=
  fun j => x3 (ix2 (j 1) (j 0)) * x0 (ix2 ⟨(j 1).val / 128, by have := (j 1).isLt; change _ < 5376 at this; show _ < 42; omega⟩ ⟨(j 0).val / 128, by have := (j 0).isLt; change _ < 1024 at this; show _ < 8; omega⟩)

/-- One stored tile is the matching tile of the widened weight. -/
theorem wide_piece {arg1 : Memref sig .tc .smem S42x8 .f32} (harg1 : arg1.IsWhole) {arg4 : Memref sig .tc .vmem S5376x1024 .fp8e4m3} (harg4 : arg4.IsWhole)
  (x0 : Vec Ideal S42x8 .f32) (x3 : Vec Ideal S5376x1024 .fp8e4m3) {off soff doff : Fin 2 → ℕ} (h0 : off 0 = 128 * soff 0) (h1 : off 1 = 128 * soff 1) (d0 : doff 0 = off 1) (d1 : doff 1 = off 0)
  (inb) (inb') (inb'') (hf) (x : S128x128.Idx) (y : S128x128.Idx) (hy0 : (y 0).val = (x 1).val) (hy1 : (y 1).val = (x 0).val) :
  View.readAt (Elt Ideal) arg4.view (Rect.unit (s := S5376x1024) off ![128, 128] inb).toLoadRect (harg4.unread x3) y * View.readAt (Elt Ideal) arg1.view (Rect.unit (s := S42x8) soff ![1, 1] inb').toLoadRect (harg1.unread x0) (Shape.Idx.first hf) = WideT x3 x0 ((Rect.unit (s := S1024x5376) doff ![128, 128] inb'').emb x) := by
  rw [harg4.readAt_unread, harg1.readAt_unread]
  unfold WideT
  have e0 := (x 0).isLt
  have e1 := (x 1).isLt
  have f0 : (Shape.Idx.first hf 0).val = 0 := rfl
  have f1 : (Shape.Idx.first hf 1).val = 0 := rfl
  change (x 0).val < 128 at e0
  change (x 1).val < 128 at e1
  congr 1
  · congr 1
    funext a
    apply Fin.ext
    fin_cases a
    · simp
      omega
    · simp
      omega
  · congr 1
    funext a
    apply Fin.ext
    fin_cases a
    · simp
      omega
    · simp
      omega

variable (c : Dev nD) (i : grid0.Coords) (arg1 : Memref sig .tc .smem S42x8 .f32) (harg1 : arg1.IsWhole) (arg2 : Memref sig .tc .vmem S256x5376 .bf16) (harg2 : arg2.IsWhole) (arg3 : Memref sig .tc .vmem S5376x128 .f32) (harg3 : arg3.IsWhole) (arg4 : Memref sig .tc .vmem S5376x1024 .fp8e4m3) (harg4 : arg4.IsWhole) (arg5 : Memref sig .tc .vmem S128x128 .f32) (harg5 : arg5.IsWhole) (arg6 : Memref sig .tc .vmem S128x128 .f32) (harg6 : arg6.IsWhole) (arg7 : Memref sig .tc .vmem S256x64 .f32) (harg7 : arg7.IsWhole) (arg8 : Memref sig .tc .vmem S256x64 .f32) (harg8 : arg8.IsWhole) (arg9 : Memref sig .tc .vmem S256x5376 .fp8e4m3) (harg9 : arg9.IsWhole) (arg10 : Memref sig .tc .vmem S256x42 .f32) (harg10 : arg10.IsWhole) (arg11 : Memref sig .tc .vmem S512x256 .bf16) (harg11 : arg11.IsWhole) (arg12 : Memref sig .tc .vmem S256x256 .fp8e4m3) (harg12 : arg12.IsWhole) (arg13 : Memref sig .tc .vmem S256x2 .f32) (harg13 : arg13.IsWhole) (arg14 : Memref sig .tc .vmem S256x256 .fp8e4m3) (harg14 : arg14.IsWhole) (arg15 : Memref sig .tc .vmem S256x256 .fp8e4m3) (harg15 : arg15.IsWhole) (arg16 : Memref sig .tc .vmem S256x2 .f32) (harg16 : arg16.IsWhole) (arg17 : Memref sig .tc .vmem S1024x5376 .bf16) (harg17 : arg17.IsWhole) (arg18 : Memref sig .tc .vmem S5376x256 .bf16) (harg18 : arg18.IsWhole) (arg19 : Memref sig .tc .vmem S1024x256 .f32) (harg19 : arg19.IsWhole) (arg20 : Memref sig .tc .vmem S1x256 .f32) (harg20 : arg20.IsWhole) (arg21 : Memref sig .tc .vmem S48x256 .f32) (harg21 : arg21.IsWhole)
  (x0 : Vec Ideal S42x8 .f32) (x1 : Vec Ideal S256x5376 .bf16) (x2 : Vec Ideal S5376x128 .f32) (x3 : Vec Ideal S5376x1024 .fp8e4m3) (x4 : Vec Ideal S128x128 .f32) (x5 : Vec Ideal S128x128 .f32) (x6 : Vec Ideal S256x64 .f32) (x7 : Vec Ideal S256x64 .f32)

/-- Every tile of one trip of the loop. -/
theorem trip_pieces (hk : k0_cond1 i = 1#1) (k : Fin k0_t1_loop.trips) :
  ∀ p ∈ tripL_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hk (harg1.unread x0) (harg4.unread x3) k, ∀ x, p.2 x = WideT x3 x0 (p.1.emb x) := by
  unfold tripL_k0_t1 trip_k0_t1
  dsimp only
  simp only [List.forall_mem_cons]
  iterate 8
    refine ⟨?_, ?_⟩
    · intro x
      sl_unfold_run_names
      simp only [k0_pay7, k0_pay8, k0_pay9, k0_pay10, k0_pay11, k0_pay12, k0_pay13, k0_pay14, k0_pay15, k0_pay16]
      pointwise
      refine wide_piece harg1 harg4 x0 x3 ?_ ?_ ?_ ?_ _ _ _ _ x _ ?_ ?_
      iterate 4
        simp only [Gen.k0_off1_eq, Gen.k0_off2_eq, Gen.k0_off3_eq, Gen.k0_off4_eq, Gen.k0_off5_eq, Gen.k0_off6_eq, Gen.k0_off7_eq, Gen.k0_off8_eq, Gen.k0_off9_eq, Gen.k0_off10_eq, Gen.k0_off11_eq, Gen.k0_off12_eq, Gen.k0_off13_eq, Gen.k0_off14_eq, Gen.k0_off15_eq, Gen.k0_off16_eq, Gen.k0_off17_eq, Gen.k0_off18_eq, Gen.k0_off19_eq, Gen.k0_off20_eq, Gen.k0_off21_eq, Gen.k0_off22_eq, Gen.k0_off23_eq, Gen.k0_off24_eq]
        simp
      iterate 2
        simp
  intro p hp
  cases hp

/-- Every tile of the trips run so far. -/
theorem loop_pieces (hk : k0_cond1 i = 1#1) : ∀ n : ℕ, n ≤ k0_t1_loop.trips → ∀ p ∈ pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hk (harg1.unread x0) (harg4.unread x3) n, ∀ x, p.2 x = WideT x3 x0 (p.1.emb x)
  | 0, _ => by
    intro p hp
    unfold pb_k0_t1 at hp
    cases hp
  | n + 1, h => by
    intro p hp
    have e := pb_k0_t1_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hk (harg1.unread x0) (harg4.unread x3) ⟨n, h⟩
    dsimp only at e
    rw [e, List.mem_append] at hp
    rcases hp with hp | hp
    · exact trip_pieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x3 hk ⟨n, h⟩ p hp
    · exact loop_pieces hk n (Nat.le_of_succ_le h) p hp

/-- What the first step leaves in the weight's buffer. -/
theorem widened (hc0 : cond0_0 i) (hc1 : ¬cond0_1 i) (hc2 : ¬cond0_2 i) : sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 = WideT x3 x0 := by
  funext y
  unfold sout0_A_0
  exact View.read_writes_apply_of_pieces _ _ _ _ (loop_pieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x3 hc0 _ le_rfl) y (scover0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 y)

end Cert.Proof.Project
end
-- ==== Proof.FirstTurn.lean ====
/- The first step of the projection: its turned block. -/
module
public import proofs.«01_k».proof.Proof.Carried
@[expose] public section
set_option maxRecDepth 16384
noncomputable section
namespace Cert.Proof.Project
open Cert.ProjectIdeal Cert.ProjectIdeal.Gen Idealize.ShloMosaic Idealize.ShloMosaic.TcCoe Idealize.SL.Sem

variable (c : Dev nD) (i : grid0.Coords) (arg1 : Memref sig .tc .smem S42x8 .f32) (harg1 : arg1.IsWhole) (arg2 : Memref sig .tc .vmem S256x5376 .bf16) (harg2 : arg2.IsWhole) (arg3 : Memref sig .tc .vmem S5376x128 .f32) (harg3 : arg3.IsWhole) (arg4 : Memref sig .tc .vmem S5376x1024 .fp8e4m3) (harg4 : arg4.IsWhole) (arg5 : Memref sig .tc .vmem S128x128 .f32) (harg5 : arg5.IsWhole) (arg6 : Memref sig .tc .vmem S128x128 .f32) (harg6 : arg6.IsWhole) (arg7 : Memref sig .tc .vmem S256x64 .f32) (harg7 : arg7.IsWhole) (arg8 : Memref sig .tc .vmem S256x64 .f32) (harg8 : arg8.IsWhole) (arg9 : Memref sig .tc .vmem S256x5376 .fp8e4m3) (harg9 : arg9.IsWhole) (arg10 : Memref sig .tc .vmem S256x42 .f32) (harg10 : arg10.IsWhole) (arg11 : Memref sig .tc .vmem S512x256 .bf16) (harg11 : arg11.IsWhole) (arg12 : Memref sig .tc .vmem S256x256 .fp8e4m3) (harg12 : arg12.IsWhole) (arg13 : Memref sig .tc .vmem S256x2 .f32) (harg13 : arg13.IsWhole) (arg14 : Memref sig .tc .vmem S256x256 .fp8e4m3) (harg14 : arg14.IsWhole) (arg15 : Memref sig .tc .vmem S256x256 .fp8e4m3) (harg15 : arg15.IsWhole) (arg16 : Memref sig .tc .vmem S256x2 .f32) (harg16 : arg16.IsWhole) (arg17 : Memref sig .tc .vmem S1024x5376 .bf16) (harg17 : arg17.IsWhole) (arg18 : Memref sig .tc .vmem S5376x256 .bf16) (harg18 : arg18.IsWhole) (arg19 : Memref sig .tc .vmem S1024x256 .f32) (harg19 : arg19.IsWhole) (arg20 : Memref sig .tc .vmem S1x256 .f32) (harg20 : arg20.IsWhole) (arg21 : Memref sig .tc .vmem S48x256 .f32) (harg21 : arg21.IsWhole)
  (x0 : Vec Ideal S42x8 .f32) (x1 : Vec Ideal S256x5376 .bf16) (x2 : Vec Ideal S5376x128 .f32) (x3 : Vec Ideal S5376x1024 .fp8e4m3) (x4 : Vec Ideal S128x128 .f32) (x5 : Vec Ideal S128x128 .f32) (x6 : Vec Ideal S256x64 .f32) (x7 : Vec Ideal S256x64 .f32)

set_option maxHeartbeats 2000000 in
/-- The block of the input, turned: what later steps load. -/
theorem xt_A (hc0 : cond0_0 i) (hc1 : ¬cond0_1 i) (hc2 : ¬cond0_2 i) : sout0_A_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 = turnX x1 := by
  funext y
  unfold sout0_A_1
  refine View.read_writes_apply_of_pieces _ _ _ _ ?_ y (scover0_A_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 y)
  have e : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7).2.2.2.2.2.2.2.1 = [⟨Rect.unit (s := S5376x256) ![5120, 0] S256x256.size inb_S5376x256_S256x256_5120_0, shapeCast S256x256 (turned (blockL harg2 x1 20 (by norm_num))) rfl⟩, ⟨Rect.unit (s := S5376x256) ![4864, 0] S256x256.size inb_S5376x256_S256x256_4864_0, shapeCast S256x256 (turned (blockL harg2 x1 19 (by norm_num))) rfl⟩, ⟨Rect.unit (s := S5376x256) ![4608, 0] S256x256.size inb_S5376x256_S256x256_4608_0, shapeCast S256x256 (turned (blockL harg2 x1 18 (by norm_num))) rfl⟩, ⟨Rect.unit (s := S5376x256) ![4352, 0] S256x256.size inb_S5376x256_S256x256_4352_0, shapeCast S256x256 (turned (blockL harg2 x1 17 (by norm_num))) rfl⟩, ⟨Rect.unit (s := S5376x256) ![4096, 0] S256x256.size inb_S5376x256_S256x256_4096_0, shapeCast S256x256 (turned (blockL harg2 x1 16 (by norm_num))) rfl⟩, ⟨Rect.unit (s := S5376x256) ![3840, 0] S256x256.size inb_S5376x256_S256x256_3840_0, shapeCast S256x256 (turned (blockL harg2 x1 15 (by norm_num))) rfl⟩, ⟨Rect.unit (s := S5376x256) ![3584, 0] S256x256.size inb_S5376x256_S256x256_3584_0, shapeCast S256x256 (turned (blockL harg2 x1 14 (by norm_num))) rfl⟩, ⟨Rect.unit (s := S5376x256) ![3328, 0] S256x256.size inb_S5376x256_S256x256_3328_0, shapeCast S256x256 (turned (blockL harg2 x1 13 (by norm_num))) rfl⟩, ⟨Rect.unit (s := S5376x256) ![3072, 0] S256x256.size inb_S5376x256_S256x256_3072_0, shapeCast S256x256 (turned (blockL harg2 x1 12 (by norm_num))) rfl⟩, ⟨Rect.unit (s := S5376x256) ![2816, 0] S256x256.size inb_S5376x256_S256x256_2816_0, shapeCast S256x256 (turned (blockL harg2 x1 11 (by norm_num))) rfl⟩, ⟨Rect.unit (s := S5376x256) ![2560, 0] S256x256.size inb_S5376x256_S256x256_2560_0, shapeCast S256x256 (turned (blockL harg2 x1 10 (by norm_num))) rfl⟩, ⟨Rect.unit (s := S5376x256) ![2304, 0] S256x256.size inb_S5376x256_S256x256_2304_0, shapeCast S256x256 (turned (blockL harg2 x1 9 (by norm_num))) rfl⟩, ⟨Rect.unit (s := S5376x256) ![2048, 0] S256x256.size inb_S5376x256_S256x256_2048_0, shapeCast S256x256 (turned (blockL harg2 x1 8 (by norm_num))) rfl⟩, ⟨Rect.unit (s := S5376x256) ![1792, 0] S256x256.size inb_S5376x256_S256x256_1792_0, shapeCast S256x256 (turned (blockL harg2 x1 7 (by norm_num))) rfl⟩, ⟨Rect.unit (s := S5376x256) ![1536, 0] S256x256.size inb_S5376x256_S256x256_1536_0, shapeCast S256x256 (turned (blockL harg2 x1 6 (by norm_num))) rfl⟩, ⟨Rect.unit (s := S5376x256) ![1280, 0] S256x256.size inb_S5376x256_S256x256_1280_0, shapeCast S256x256 (turned (blockL harg2 x1 5 (by norm_num))) rfl⟩, ⟨Rect.unit (s := S5376x256) ![1024, 0] S256x256.size inb_S5376x256_S256x256_1024_0, shapeCast S256x256 (turned (blockL harg2 x1 4 (by norm_num))) rfl⟩, ⟨Rect.unit (s := S5376x256) ![768, 0] S256x256.size inb_S5376x256_S256x256_768_0, shapeCast S256x256 (turned (blockL harg2 x1 3 (by norm_num))) rfl⟩, ⟨Rect.unit (s := S5376x256) ![512, 0] S256x256.size inb_S5376x256_S256x256_512_0, shapeCast S256x256 (turned (blockL harg2 x1 2 (by norm_num))) rfl⟩, ⟨Rect.unit (s := S5376x256) ![256, 0] S256x256.size inb_S5376x256_S256x256_256_0, shapeCast S256x256 (turned (blockL harg2 x1 1 (by norm_num))) rfl⟩, ⟨Rect.unit (s := S5376x256) ![0, 0] S256x256.size inb_S5376x256_S256x256_0_0, shapeCast S256x256 (turned (blockL harg2 x1 0 (by norm_num))) rfl⟩] := by sl_kernel_rfl
  rw [e]
  refine List.forall_mem_cons.mpr ⟨fun x => turn_piece harg2 x1 20 (by norm_num) inb_S5376x256_S256x256_5120_0 x, ?_⟩
  refine List.forall_mem_cons.mpr ⟨fun x => turn_piece harg2 x1 19 (by norm_num) inb_S5376x256_S256x256_4864_0 x, ?_⟩
  refine List.forall_mem_cons.mpr ⟨fun x => turn_piece harg2 x1 18 (by norm_num) inb_S5376x256_S256x256_4608_0 x, ?_⟩
  refine List.forall_mem_cons.mpr ⟨fun x => turn_piece harg2 x1 17 (by norm_num) inb_S5376x256_S256x256_4352_0 x, ?_⟩
  refine List.forall_mem_cons.mpr ⟨fun x => turn_piece harg2 x1 16 (by norm_num) inb_S5376x256_S256x256_4096_0 x, ?_⟩
  refine List.forall_mem_cons.mpr ⟨fun x => turn_piece harg2 x1 15 (by norm_num) inb_S5376x256_S256x256_3840_0 x, ?_⟩
  refine List.forall_mem_cons.mpr ⟨fun x => turn_piece harg2 x1 14 (by norm_num) inb_S5376x256_S256x256_3584_0 x, ?_⟩
  refine List.forall_mem_cons.mpr ⟨fun x => turn_piece harg2 x1 13 (by norm_num) inb_S5376x256_S256x256_3328_0 x, ?_⟩
  refine List.forall_mem_cons.mpr ⟨fun x => turn_piece harg2 x1 12 (by norm_num) inb_S5376x256_S256x256_3072_0 x, ?_⟩
  refine List.forall_mem_cons.mpr ⟨fun x => turn_piece harg2 x1 11 (by norm_num) inb_S5376x256_S256x256_2816_0 x, ?_⟩
  refine List.forall_mem_cons.mpr ⟨fun x => turn_piece harg2 x1 10 (by norm_num) inb_S5376x256_S256x256_2560_0 x, ?_⟩
  refine List.forall_mem_cons.mpr ⟨fun x => turn_piece harg2 x1 9 (by norm_num) inb_S5376x256_S256x256_2304_0 x, ?_⟩
  refine List.forall_mem_cons.mpr ⟨fun x => turn_piece harg2 x1 8 (by norm_num) inb_S5376x256_S256x256_2048_0 x, ?_⟩
  refine List.forall_mem_cons.mpr ⟨fun x => turn_piece harg2 x1 7 (by norm_num) inb_S5376x256_S256x256_1792_0 x, ?_⟩
  refine List.forall_mem_cons.mpr ⟨fun x => turn_piece harg2 x1 6 (by norm_num) inb_S5376x256_S256x256_1536_0 x, ?_⟩
  refine List.forall_mem_cons.mpr ⟨fun x => turn_piece harg2 x1 5 (by norm_num) inb_S5376x256_S256x256_1280_0 x, ?_⟩
  refine List.forall_mem_cons.mpr ⟨fun x => turn_piece harg2 x1 4 (by norm_num) inb_S5376x256_S256x256_1024_0 x, ?_⟩
  refine List.forall_mem_cons.mpr ⟨fun x => turn_piece harg2 x1 3 (by norm_num) inb_S5376x256_S256x256_768_0 x, ?_⟩
  refine List.forall_mem_cons.mpr ⟨fun x => turn_piece harg2 x1 2 (by norm_num) inb_S5376x256_S256x256_512_0 x, ?_⟩
  refine List.forall_mem_cons.mpr ⟨fun x => turn_piece harg2 x1 1 (by norm_num) inb_S5376x256_S256x256_256_0 x, ?_⟩
  refine List.forall_mem_cons.mpr ⟨fun x => turn_piece harg2 x1 0 (by norm_num) inb_S5376x256_S256x256_0_0 x, ?_⟩
  intro p hp
  cases hp

end Cert.Proof.Project
end
-- ==== Proof.FirstStep.lean ====
/- The first step of the projection: its turned block and its roots. -/
module
public import proofs.«01_k».proof.Proof.Carried
@[expose] public section
set_option maxRecDepth 16384
noncomputable section
namespace Cert.Proof.Project
open Cert.ProjectIdeal Cert.ProjectIdeal.Gen Idealize.ShloMosaic Idealize.ShloMosaic.TcCoe Idealize.SL.Sem

variable (c : Dev nD) (i : grid0.Coords) (arg1 : Memref sig .tc .smem S42x8 .f32) (harg1 : arg1.IsWhole) (arg2 : Memref sig .tc .vmem S256x5376 .bf16) (harg2 : arg2.IsWhole) (arg3 : Memref sig .tc .vmem S5376x128 .f32) (harg3 : arg3.IsWhole) (arg4 : Memref sig .tc .vmem S5376x1024 .fp8e4m3) (harg4 : arg4.IsWhole) (arg5 : Memref sig .tc .vmem S128x128 .f32) (harg5 : arg5.IsWhole) (arg6 : Memref sig .tc .vmem S128x128 .f32) (harg6 : arg6.IsWhole) (arg7 : Memref sig .tc .vmem S256x64 .f32) (harg7 : arg7.IsWhole) (arg8 : Memref sig .tc .vmem S256x64 .f32) (harg8 : arg8.IsWhole) (arg9 : Memref sig .tc .vmem S256x5376 .fp8e4m3) (harg9 : arg9.IsWhole) (arg10 : Memref sig .tc .vmem S256x42 .f32) (harg10 : arg10.IsWhole) (arg11 : Memref sig .tc .vmem S512x256 .bf16) (harg11 : arg11.IsWhole) (arg12 : Memref sig .tc .vmem S256x256 .fp8e4m3) (harg12 : arg12.IsWhole) (arg13 : Memref sig .tc .vmem S256x2 .f32) (harg13 : arg13.IsWhole) (arg14 : Memref sig .tc .vmem S256x256 .fp8e4m3) (harg14 : arg14.IsWhole) (arg15 : Memref sig .tc .vmem S256x256 .fp8e4m3) (harg15 : arg15.IsWhole) (arg16 : Memref sig .tc .vmem S256x2 .f32) (harg16 : arg16.IsWhole) (arg17 : Memref sig .tc .vmem S1024x5376 .bf16) (harg17 : arg17.IsWhole) (arg18 : Memref sig .tc .vmem S5376x256 .bf16) (harg18 : arg18.IsWhole) (arg19 : Memref sig .tc .vmem S1024x256 .f32) (harg19 : arg19.IsWhole) (arg20 : Memref sig .tc .vmem S1x256 .f32) (harg20 : arg20.IsWhole) (arg21 : Memref sig .tc .vmem S48x256 .f32) (harg21 : arg21.IsWhole)
  (x0 : Vec Ideal S42x8 .f32) (x1 : Vec Ideal S256x5376 .bf16) (x2 : Vec Ideal S5376x128 .f32) (x3 : Vec Ideal S5376x1024 .fp8e4m3) (x4 : Vec Ideal S128x128 .f32) (x5 : Vec Ideal S128x128 .f32) (x6 : Vec Ideal S256x64 .f32) (x7 : Vec Ideal S256x64 .f32)

theorem sum1_A : kernelRun0_A.sl.r_6 (F := Ideal) c arg2 harg2 x1 = sumL harg2 x1 1 (by norm_num) := by sl_kernel_rfl
theorem sum5_A : kernelRun0_A.sl.r_20 (F := Ideal) c arg2 harg2 x1 = sumL harg2 x1 5 (by norm_num) := by
  have r : kernelRun0_A.sl.r_20 (F := Ideal) c arg2 harg2 x1 = (tiles (tiles (tiles (tiles (kernelRun0_A.sl.r_6 (F := Ideal) c arg2 harg2 x1) (squares (blockL harg2 x1 2 (by norm_num)))) (squares (blockL harg2 x1 3 (by norm_num)))) (squares (blockL harg2 x1 4 (by norm_num)))) (squares (blockL harg2 x1 5 (by norm_num)))) := by sl_kernel_rfl
  rw [r, sum1_A]
  rfl
theorem sum12_A : kernelRun0_A.sl.r_45 (F := Ideal) c arg2 harg2 x1 = sumL harg2 x1 12 (by norm_num) := by
  have r : kernelRun0_A.sl.r_45 (F := Ideal) c arg2 harg2 x1 = (tiles (tiles (tiles (tiles (tiles (tiles (tiles (kernelRun0_A.sl.r_20 (F := Ideal) c arg2 harg2 x1) (squares (blockL harg2 x1 6 (by norm_num)))) (squares (blockL harg2 x1 7 (by norm_num)))) (squares (blockL harg2 x1 8 (by norm_num)))) (squares (blockL harg2 x1 9 (by norm_num)))) (squares (blockL harg2 x1 10 (by norm_num)))) (squares (blockL harg2 x1 11 (by norm_num)))) (squares (blockL harg2 x1 12 (by norm_num)))) := by sl_kernel_rfl
  rw [r, sum5_A]
  rfl
theorem sum16_A : kernelRun0_A.sl.r_59 (F := Ideal) c arg2 harg2 x1 = sumL harg2 x1 16 (by norm_num) := by
  have r : kernelRun0_A.sl.r_59 (F := Ideal) c arg2 harg2 x1 = (tiles (tiles (tiles (tiles (kernelRun0_A.sl.r_45 (F := Ideal) c arg2 harg2 x1) (squares (blockL harg2 x1 13 (by norm_num)))) (squares (blockL harg2 x1 14 (by norm_num)))) (squares (blockL harg2 x1 15 (by norm_num)))) (squares (blockL harg2 x1 16 (by norm_num)))) := by sl_kernel_rfl
  rw [r, sum12_A]
  rfl
theorem roots_A : k0_pay1 (kernelRun0_A.sl.r_73 (F := Ideal) c arg2 harg2 x1) = shapeCast S1x256 (rootOf (sumL harg2 x1 20 (by norm_num))) rfl := by
  have r : k0_pay1 (kernelRun0_A.sl.r_73 (F := Ideal) c arg2 harg2 x1) = shapeCast S1x256 (rootOf (tiles (tiles (tiles (tiles (kernelRun0_A.sl.r_59 (F := Ideal) c arg2 harg2 x1) (squares (blockL harg2 x1 17 (by norm_num)))) (squares (blockL harg2 x1 18 (by norm_num)))) (squares (blockL harg2 x1 19 (by norm_num)))) (squares (blockL harg2 x1 20 (by norm_num))))) rfl := by sl_kernel_rfl
  rw [r, sum16_A]
  rfl

/-- The root of the mean square of each row of the block. -/
theorem root_A (hc0 : cond0_0 i) (hc1 : ¬cond0_1 i) (hc2 : ¬cond0_2 i) : sout0_A_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 = rootX x1 := by
  funext y
  unfold sout0_A_3
  refine View.read_writes_apply_of_pieces _ _ _ _ ?_ y (scover0_A_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 y)
  have e : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7).2.2.2.2.2.2.2.2.2.1 = [⟨Rect.unit (s := S1x256) ![0, 0] S1x256.size inb_S1x256_S1x256_0_0, k0_pay1 (kernelRun0_A.sl.r_73 (F := Ideal) c arg2 harg2 x1)⟩] := by sl_kernel_rfl
  rw [e, roots_A]
  refine List.forall_mem_cons.mpr ⟨fun x => root_piece harg2 x1 inb_S1x256_S1x256_0_0 x, ?_⟩
  intro p hp
  cases hp

end Cert.Proof.Project
end
-- ==== Proof.StepTurn.lean ====
/- A step of the projection between the first and the last: its turned block. -/
module
public import proofs.«01_k».proof.Proof.Carried
@[expose] public section
set_option maxRecDepth 16384
noncomputable section
namespace Cert.Proof.Project
open Cert.ProjectIdeal Cert.ProjectIdeal.Gen Idealize.ShloMosaic Idealize.ShloMosaic.TcCoe Idealize.SL.Sem

variable (c : Dev nD) (i : grid0.Coords) (arg1 : Memref sig .tc .smem S42x8 .f32) (harg1 : arg1.IsWhole) (arg2 : Memref sig .tc .vmem S256x5376 .bf16) (harg2 : arg2.IsWhole) (arg3 : Memref sig .tc .vmem S5376x128 .f32) (harg3 : arg3.IsWhole) (arg4 : Memref sig .tc .vmem S5376x1024 .fp8e4m3) (harg4 : arg4.IsWhole) (arg5 : Memref sig .tc .vmem S128x128 .f32) (harg5 : arg5.IsWhole) (arg6 : Memref sig .tc .vmem S128x128 .f32) (harg6 : arg6.IsWhole) (arg7 : Memref sig .tc .vmem S256x64 .f32) (harg7 : arg7.IsWhole) (arg8 : Memref sig .tc .vmem S256x64 .f32) (harg8 : arg8.IsWhole) (arg9 : Memref sig .tc .vmem S256x5376 .fp8e4m3) (harg9 : arg9.IsWhole) (arg10 : Memref sig .tc .vmem S256x42 .f32) (harg10 : arg10.IsWhole) (arg11 : Memref sig .tc .vmem S512x256 .bf16) (harg11 : arg11.IsWhole) (arg12 : Memref sig .tc .vmem S256x256 .fp8e4m3) (harg12 : arg12.IsWhole) (arg13 : Memref sig .tc .vmem S256x2 .f32) (harg13 : arg13.IsWhole) (arg14 : Memref sig .tc .vmem S256x256 .fp8e4m3) (harg14 : arg14.IsWhole) (arg15 : Memref sig .tc .vmem S256x256 .fp8e4m3) (harg15 : arg15.IsWhole) (arg16 : Memref sig .tc .vmem S256x2 .f32) (harg16 : arg16.IsWhole) (arg17 : Memref sig .tc .vmem S1024x5376 .bf16) (harg17 : arg17.IsWhole) (arg18 : Memref sig .tc .vmem S5376x256 .bf16) (harg18 : arg18.IsWhole) (arg19 : Memref sig .tc .vmem S1024x256 .f32) (harg19 : arg19.IsWhole) (arg20 : Memref sig .tc .vmem S1x256 .f32) (harg20 : arg20.IsWhole) (arg21 : Memref sig .tc .vmem S48x256 .f32) (harg21 : arg21.IsWhole)
  (x0 : Vec Ideal S42x8 .f32) (x1 : Vec Ideal S256x5376 .bf16) (x2 : Vec Ideal S5376x128 .f32) (x3 : Vec Ideal S5376x1024 .fp8e4m3) (x4 : Vec Ideal S128x128 .f32) (x5 : Vec Ideal S128x128 .f32) (x6 : Vec Ideal S256x64 .f32) (x7 : Vec Ideal S256x64 .f32) (xs0 : Vec Ideal S1024x5376 .bf16) (xs1 : Vec Ideal S5376x256 .bf16) (xs2 : Vec Ideal S1024x256 .f32) (xs3 : Vec Ideal S1x256 .f32)

set_option maxHeartbeats 2000000 in
/-- The block of the input, turned: what later steps load. -/
theorem xt_B (hc0 : ¬cond0_0 i) (hc1 : cond0_1 i) (hc2 : ¬cond0_2 i) : sout0_B_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 xs0 xs1 xs2 xs3 = turnX x1 := by
  funext y
  unfold sout0_B_1
  refine View.read_writes_apply_of_pieces _ _ _ _ ?_ y (scover0_B_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 xs0 xs1 xs2 xs3 y)
  have e : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 xs0 xs1 xs2 xs3).2.2.2.2.2.2.2.1 = [⟨Rect.unit (s := S5376x256) ![5120, 0] S256x256.size inb_S5376x256_S256x256_5120_0, shapeCast S256x256 (turned (blockL harg2 x1 20 (by norm_num))) rfl⟩, ⟨Rect.unit (s := S5376x256) ![4864, 0] S256x256.size inb_S5376x256_S256x256_4864_0, shapeCast S256x256 (turned (blockL harg2 x1 19 (by norm_num))) rfl⟩, ⟨Rect.unit (s := S5376x256) ![4608, 0] S256x256.size inb_S5376x256_S256x256_4608_0, shapeCast S256x256 (turned (blockL harg2 x1 18 (by norm_num))) rfl⟩, ⟨Rect.unit (s := S5376x256) ![4352, 0] S256x256.size inb_S5376x256_S256x256_4352_0, shapeCast S256x256 (turned (blockL harg2 x1 17 (by norm_num))) rfl⟩, ⟨Rect.unit (s := S5376x256) ![4096, 0] S256x256.size inb_S5376x256_S256x256_4096_0, shapeCast S256x256 (turned (blockL harg2 x1 16 (by norm_num))) rfl⟩, ⟨Rect.unit (s := S5376x256) ![3840, 0] S256x256.size inb_S5376x256_S256x256_3840_0, shapeCast S256x256 (turned (blockL harg2 x1 15 (by norm_num))) rfl⟩, ⟨Rect.unit (s := S5376x256) ![3584, 0] S256x256.size inb_S5376x256_S256x256_3584_0, shapeCast S256x256 (turned (blockL harg2 x1 14 (by norm_num))) rfl⟩, ⟨Rect.unit (s := S5376x256) ![3328, 0] S256x256.size inb_S5376x256_S256x256_3328_0, shapeCast S256x256 (turned (blockL harg2 x1 13 (by norm_num))) rfl⟩, ⟨Rect.unit (s := S5376x256) ![3072, 0] S256x256.size inb_S5376x256_S256x256_3072_0, shapeCast S256x256 (turned (blockL harg2 x1 12 (by norm_num))) rfl⟩, ⟨Rect.unit (s := S5376x256) ![2816, 0] S256x256.size inb_S5376x256_S256x256_2816_0, shapeCast S256x256 (turned (blockL harg2 x1 11 (by norm_num))) rfl⟩, ⟨Rect.unit (s := S5376x256) ![2560, 0] S256x256.size inb_S5376x256_S256x256_2560_0, shapeCast S256x256 (turned (blockL harg2 x1 10 (by norm_num))) rfl⟩, ⟨Rect.unit (s := S5376x256) ![2304, 0] S256x256.size inb_S5376x256_S256x256_2304_0, shapeCast S256x256 (turned (blockL harg2 x1 9 (by norm_num))) rfl⟩, ⟨Rect.unit (s := S5376x256) ![2048, 0] S256x256.size inb_S5376x256_S256x256_2048_0, shapeCast S256x256 (turned (blockL harg2 x1 8 (by norm_num))) rfl⟩, ⟨Rect.unit (s := S5376x256) ![1792, 0] S256x256.size inb_S5376x256_S256x256_1792_0, shapeCast S256x256 (turned (blockL harg2 x1 7 (by norm_num))) rfl⟩, ⟨Rect.unit (s := S5376x256) ![1536, 0] S256x256.size inb_S5376x256_S256x256_1536_0, shapeCast S256x256 (turned (blockL harg2 x1 6 (by norm_num))) rfl⟩, ⟨Rect.unit (s := S5376x256) ![1280, 0] S256x256.size inb_S5376x256_S256x256_1280_0, shapeCast S256x256 (turned (blockL harg2 x1 5 (by norm_num))) rfl⟩, ⟨Rect.unit (s := S5376x256) ![1024, 0] S256x256.size inb_S5376x256_S256x256_1024_0, shapeCast S256x256 (turned (blockL harg2 x1 4 (by norm_num))) rfl⟩, ⟨Rect.unit (s := S5376x256) ![768, 0] S256x256.size inb_S5376x256_S256x256_768_0, shapeCast S256x256 (turned (blockL harg2 x1 3 (by norm_num))) rfl⟩, ⟨Rect.unit (s := S5376x256) ![512, 0] S256x256.size inb_S5376x256_S256x256_512_0, shapeCast S256x256 (turned (blockL harg2 x1 2 (by norm_num))) rfl⟩, ⟨Rect.unit (s := S5376x256) ![256, 0] S256x256.size inb_S5376x256_S256x256_256_0, shapeCast S256x256 (turned (blockL harg2 x1 1 (by norm_num))) rfl⟩, ⟨Rect.unit (s := S5376x256) ![0, 0] S256x256.size inb_S5376x256_S256x256_0_0, shapeCast S256x256 (turned (blockL harg2 x1 0 (by norm_num))) rfl⟩] := by sl_kernel_rfl
  rw [e]
  refine List.forall_mem_cons.mpr ⟨fun x => turn_piece harg2 x1 20 (by norm_num) inb_S5376x256_S256x256_5120_0 x, ?_⟩
  refine List.forall_mem_cons.mpr ⟨fun x => turn_piece harg2 x1 19 (by norm_num) inb_S5376x256_S256x256_4864_0 x, ?_⟩
  refine List.forall_mem_cons.mpr ⟨fun x => turn_piece harg2 x1 18 (by norm_num) inb_S5376x256_S256x256_4608_0 x, ?_⟩
  refine List.forall_mem_cons.mpr ⟨fun x => turn_piece harg2 x1 17 (by norm_num) inb_S5376x256_S256x256_4352_0 x, ?_⟩
  refine List.forall_mem_cons.mpr ⟨fun x => turn_piece harg2 x1 16 (by norm_num) inb_S5376x256_S256x256_4096_0 x, ?_⟩
  refine List.forall_mem_cons.mpr ⟨fun x => turn_piece harg2 x1 15 (by norm_num) inb_S5376x256_S256x256_3840_0 x, ?_⟩
  refine List.forall_mem_cons.mpr ⟨fun x => turn_piece harg2 x1 14 (by norm_num) inb_S5376x256_S256x256_3584_0 x, ?_⟩
  refine List.forall_mem_cons.mpr ⟨fun x => turn_piece harg2 x1 13 (by norm_num) inb_S5376x256_S256x256_3328_0 x, ?_⟩
  refine List.forall_mem_cons.mpr ⟨fun x => turn_piece harg2 x1 12 (by norm_num) inb_S5376x256_S256x256_3072_0 x, ?_⟩
  refine List.forall_mem_cons.mpr ⟨fun x => turn_piece harg2 x1 11 (by norm_num) inb_S5376x256_S256x256_2816_0 x, ?_⟩
  refine List.forall_mem_cons.mpr ⟨fun x => turn_piece harg2 x1 10 (by norm_num) inb_S5376x256_S256x256_2560_0 x, ?_⟩
  refine List.forall_mem_cons.mpr ⟨fun x => turn_piece harg2 x1 9 (by norm_num) inb_S5376x256_S256x256_2304_0 x, ?_⟩
  refine List.forall_mem_cons.mpr ⟨fun x => turn_piece harg2 x1 8 (by norm_num) inb_S5376x256_S256x256_2048_0 x, ?_⟩
  refine List.forall_mem_cons.mpr ⟨fun x => turn_piece harg2 x1 7 (by norm_num) inb_S5376x256_S256x256_1792_0 x, ?_⟩
  refine List.forall_mem_cons.mpr ⟨fun x => turn_piece harg2 x1 6 (by norm_num) inb_S5376x256_S256x256_1536_0 x, ?_⟩
  refine List.forall_mem_cons.mpr ⟨fun x => turn_piece harg2 x1 5 (by norm_num) inb_S5376x256_S256x256_1280_0 x, ?_⟩
  refine List.forall_mem_cons.mpr ⟨fun x => turn_piece harg2 x1 4 (by norm_num) inb_S5376x256_S256x256_1024_0 x, ?_⟩
  refine List.forall_mem_cons.mpr ⟨fun x => turn_piece harg2 x1 3 (by norm_num) inb_S5376x256_S256x256_768_0 x, ?_⟩
  refine List.forall_mem_cons.mpr ⟨fun x => turn_piece harg2 x1 2 (by norm_num) inb_S5376x256_S256x256_512_0 x, ?_⟩
  refine List.forall_mem_cons.mpr ⟨fun x => turn_piece harg2 x1 1 (by norm_num) inb_S5376x256_S256x256_256_0 x, ?_⟩
  refine List.forall_mem_cons.mpr ⟨fun x => turn_piece harg2 x1 0 (by norm_num) inb_S5376x256_S256x256_0_0 x, ?_⟩
  intro p hp
  cases hp

end Cert.Proof.Project
end
-- ==== Proof.StepSums.lean ====
/- A step of the projection between the first and the last: the products and the sums of squares it leaves. -/
module
public import proofs.«01_k».proof.Proof.Outs
public import proofs.«01_k».proof.Proof.IdealValue
public import Idealize.ShloMosaic.Lib.Tactic.RunNames
@[expose] public section
set_option maxRecDepth 16384
noncomputable section
namespace Cert.Proof.Project
open Cert.ProjectIdeal Cert.ProjectIdeal.Gen Idealize.ShloMosaic Idealize.ShloMosaic.TcCoe Idealize.SL.Sem

variable (c : Dev nD) (i : grid0.Coords) (arg1 : Memref sig .tc .smem S42x8 .f32) (harg1 : arg1.IsWhole) (arg2 : Memref sig .tc .vmem S256x5376 .bf16) (harg2 : arg2.IsWhole) (arg3 : Memref sig .tc .vmem S5376x128 .f32) (harg3 : arg3.IsWhole) (arg4 : Memref sig .tc .vmem S5376x1024 .fp8e4m3) (harg4 : arg4.IsWhole) (arg5 : Memref sig .tc .vmem S128x128 .f32) (harg5 : arg5.IsWhole) (arg6 : Memref sig .tc .vmem S128x128 .f32) (harg6 : arg6.IsWhole) (arg7 : Memref sig .tc .vmem S256x64 .f32) (harg7 : arg7.IsWhole) (arg8 : Memref sig .tc .vmem S256x64 .f32) (harg8 : arg8.IsWhole) (arg9 : Memref sig .tc .vmem S256x5376 .fp8e4m3) (harg9 : arg9.IsWhole) (arg10 : Memref sig .tc .vmem S256x42 .f32) (harg10 : arg10.IsWhole) (arg11 : Memref sig .tc .vmem S512x256 .bf16) (harg11 : arg11.IsWhole) (arg12 : Memref sig .tc .vmem S256x256 .fp8e4m3) (harg12 : arg12.IsWhole) (arg13 : Memref sig .tc .vmem S256x2 .f32) (harg13 : arg13.IsWhole) (arg14 : Memref sig .tc .vmem S256x256 .fp8e4m3) (harg14 : arg14.IsWhole) (arg15 : Memref sig .tc .vmem S256x256 .fp8e4m3) (harg15 : arg15.IsWhole) (arg16 : Memref sig .tc .vmem S256x2 .f32) (harg16 : arg16.IsWhole) (arg17 : Memref sig .tc .vmem S1024x5376 .bf16) (harg17 : arg17.IsWhole) (arg18 : Memref sig .tc .vmem S5376x256 .bf16) (harg18 : arg18.IsWhole) (arg19 : Memref sig .tc .vmem S1024x256 .f32) (harg19 : arg19.IsWhole) (arg20 : Memref sig .tc .vmem S1x256 .f32) (harg20 : arg20.IsWhole) (arg21 : Memref sig .tc .vmem S48x256 .f32) (harg21 : arg21.IsWhole)
  (x0 : Vec Ideal S42x8 .f32) (x1 : Vec Ideal S256x5376 .bf16) (x2 : Vec Ideal S5376x128 .f32) (x3 : Vec Ideal S5376x1024 .fp8e4m3) (x4 : Vec Ideal S128x128 .f32) (x5 : Vec Ideal S128x128 .f32) (x6 : Vec Ideal S256x64 .f32) (x7 : Vec Ideal S256x64 .f32) (xs0 : Vec Ideal S1024x5376 .bf16) (xs1 : Vec Ideal S5376x256 .bf16) (xs2 : Vec Ideal S1024x256 .f32) (xs3 : Vec Ideal S1x256 .f32)
  (gq gk : Fin 128 → EReal) (hgq : ∀ k l, x4 (ix2 k l) = gq k) (hgk : ∀ k l, x5 (ix2 k l) = gk k)

theorem acc0_B : kernelRun0_B.sl.v120 (F := Ideal) c arg3 harg3 arg17 harg17 arg18 harg18 arg20 harg20 x2 xs0 xs1 xs3 = accL harg3 harg17 harg18 harg20 x2 xs0 xs1 xs3 0 (by norm_num) := by sl_kernel_rfl
theorem acc1_B : kernelRun0_B.sl.v300 (F := Ideal) c arg3 harg3 arg17 harg17 arg18 harg18 arg20 harg20 x2 xs0 xs1 xs3 = accL harg3 harg17 harg18 harg20 x2 xs0 xs1 xs3 1 (by norm_num) := by
  have e : kernelRun0_B.sl.v299 (F := Ideal) c arg3 harg3 arg17 harg17 arg18 harg18 arg20 harg20 x2 xs0 xs1 xs3 = partL harg3 harg17 harg18 harg20 x2 xs0 xs1 xs3 1 (by norm_num) := by sl_kernel_rfl
  have r : kernelRun0_B.sl.v300 (F := Ideal) c arg3 harg3 arg17 harg17 arg18 harg18 arg20 harg20 x2 xs0 xs1 xs3 = addf (kernelRun0_B.sl.v120 (F := Ideal) c arg3 harg3 arg17 harg17 arg18 harg18 arg20 harg20 x2 xs0 xs1 xs3) (kernelRun0_B.sl.v299 (F := Ideal) c arg3 harg3 arg17 harg17 arg18 harg18 arg20 harg20 x2 xs0 xs1 xs3) := rfl
  rw [r, e, acc0_B]
  rfl
theorem acc2_B : kernelRun0_B.sl.v547 (F := Ideal) c arg3 harg3 arg17 harg17 arg18 harg18 arg20 harg20 x2 xs0 xs1 xs3 = accL harg3 harg17 harg18 harg20 x2 xs0 xs1 xs3 2 (by norm_num) := by
  have e : kernelRun0_B.sl.v546 (F := Ideal) c arg3 harg3 arg17 harg17 arg18 harg18 arg20 harg20 x2 xs0 xs1 xs3 = partL harg3 harg17 harg18 harg20 x2 xs0 xs1 xs3 2 (by norm_num) := by sl_kernel_rfl
  have r : kernelRun0_B.sl.v547 (F := Ideal) c arg3 harg3 arg17 harg17 arg18 harg18 arg20 harg20 x2 xs0 xs1 xs3 = addf (kernelRun0_B.sl.v300 (F := Ideal) c arg3 harg3 arg17 harg17 arg18 harg18 arg20 harg20 x2 xs0 xs1 xs3) (kernelRun0_B.sl.v546 (F := Ideal) c arg3 harg3 arg17 harg17 arg18 harg18 arg20 harg20 x2 xs0 xs1 xs3) := rfl
  rw [r, e, acc1_B]
  rfl
theorem acc3_B : kernelRun0_B.sl.v728 (F := Ideal) c arg3 harg3 arg17 harg17 arg18 harg18 arg20 harg20 x2 xs0 xs1 xs3 = accL harg3 harg17 harg18 harg20 x2 xs0 xs1 xs3 3 (by norm_num) := by
  have e : kernelRun0_B.sl.v727 (F := Ideal) c arg3 harg3 arg17 harg17 arg18 harg18 arg20 harg20 x2 xs0 xs1 xs3 = partL harg3 harg17 harg18 harg20 x2 xs0 xs1 xs3 3 (by norm_num) := by sl_kernel_rfl
  have r : kernelRun0_B.sl.v728 (F := Ideal) c arg3 harg3 arg17 harg17 arg18 harg18 arg20 harg20 x2 xs0 xs1 xs3 = addf (kernelRun0_B.sl.v547 (F := Ideal) c arg3 harg3 arg17 harg17 arg18 harg18 arg20 harg20 x2 xs0 xs1 xs3) (kernelRun0_B.sl.v727 (F := Ideal) c arg3 harg3 arg17 harg17 arg18 harg18 arg20 harg20 x2 xs0 xs1 xs3) := rfl
  rw [r, e, acc2_B]
  rfl
theorem acc4_B : kernelRun0_B.sl.v975 (F := Ideal) c arg3 harg3 arg17 harg17 arg18 harg18 arg20 harg20 x2 xs0 xs1 xs3 = accL harg3 harg17 harg18 harg20 x2 xs0 xs1 xs3 4 (by norm_num) := by
  have e : kernelRun0_B.sl.v974 (F := Ideal) c arg3 harg3 arg17 harg17 arg18 harg18 arg20 harg20 x2 xs0 xs1 xs3 = partL harg3 harg17 harg18 harg20 x2 xs0 xs1 xs3 4 (by norm_num) := by sl_kernel_rfl
  have r : kernelRun0_B.sl.v975 (F := Ideal) c arg3 harg3 arg17 harg17 arg18 harg18 arg20 harg20 x2 xs0 xs1 xs3 = addf (kernelRun0_B.sl.v728 (F := Ideal) c arg3 harg3 arg17 harg17 arg18 harg18 arg20 harg20 x2 xs0 xs1 xs3) (kernelRun0_B.sl.v974 (F := Ideal) c arg3 harg3 arg17 harg17 arg18 harg18 arg20 harg20 x2 xs0 xs1 xs3) := rfl
  rw [r, e, acc3_B]
  rfl
theorem acc5_B : kernelRun0_B.sl.v1156 (F := Ideal) c arg3 harg3 arg17 harg17 arg18 harg18 arg20 harg20 x2 xs0 xs1 xs3 = accL harg3 harg17 harg18 harg20 x2 xs0 xs1 xs3 5 (by norm_num) := by
  have e : kernelRun0_B.sl.v1155 (F := Ideal) c arg3 harg3 arg17 harg17 arg18 harg18 arg20 harg20 x2 xs0 xs1 xs3 = partL harg3 harg17 harg18 harg20 x2 xs0 xs1 xs3 5 (by norm_num) := by sl_kernel_rfl
  have r : kernelRun0_B.sl.v1156 (F := Ideal) c arg3 harg3 arg17 harg17 arg18 harg18 arg20 harg20 x2 xs0 xs1 xs3 = addf (kernelRun0_B.sl.v975 (F := Ideal) c arg3 harg3 arg17 harg17 arg18 harg18 arg20 harg20 x2 xs0 xs1 xs3) (kernelRun0_B.sl.v1155 (F := Ideal) c arg3 harg3 arg17 harg17 arg18 harg18 arg20 harg20 x2 xs0 xs1 xs3) := rfl
  rw [r, e, acc4_B]
  rfl
theorem acc6_B : kernelRun0_B.sl.v1403 (F := Ideal) c arg3 harg3 arg17 harg17 arg18 harg18 arg20 harg20 x2 xs0 xs1 xs3 = accL harg3 harg17 harg18 harg20 x2 xs0 xs1 xs3 6 (by norm_num) := by
  have e : kernelRun0_B.sl.v1402 (F := Ideal) c arg3 harg3 arg17 harg17 arg18 harg18 arg20 harg20 x2 xs0 xs1 xs3 = partL harg3 harg17 harg18 harg20 x2 xs0 xs1 xs3 6 (by norm_num) := by sl_kernel_rfl
  have r : kernelRun0_B.sl.v1403 (F := Ideal) c arg3 harg3 arg17 harg17 arg18 harg18 arg20 harg20 x2 xs0 xs1 xs3 = addf (kernelRun0_B.sl.v1156 (F := Ideal) c arg3 harg3 arg17 harg17 arg18 harg18 arg20 harg20 x2 xs0 xs1 xs3) (kernelRun0_B.sl.v1402 (F := Ideal) c arg3 harg3 arg17 harg17 arg18 harg18 arg20 harg20 x2 xs0 xs1 xs3) := rfl
  rw [r, e, acc5_B]
  rfl
theorem acc7_B : kernelRun0_B.sl.v1584 (F := Ideal) c arg3 harg3 arg17 harg17 arg18 harg18 arg20 harg20 x2 xs0 xs1 xs3 = accL harg3 harg17 harg18 harg20 x2 xs0 xs1 xs3 7 (by norm_num) := by
  have e : kernelRun0_B.sl.v1583 (F := Ideal) c arg3 harg3 arg17 harg17 arg18 harg18 arg20 harg20 x2 xs0 xs1 xs3 = partL harg3 harg17 harg18 harg20 x2 xs0 xs1 xs3 7 (by norm_num) := by sl_kernel_rfl
  have r : kernelRun0_B.sl.v1584 (F := Ideal) c arg3 harg3 arg17 harg17 arg18 harg18 arg20 harg20 x2 xs0 xs1 xs3 = addf (kernelRun0_B.sl.v1403 (F := Ideal) c arg3 harg3 arg17 harg17 arg18 harg18 arg20 harg20 x2 xs0 xs1 xs3) (kernelRun0_B.sl.v1583 (F := Ideal) c arg3 harg3 arg17 harg17 arg18 harg18 arg20 harg20 x2 xs0 xs1 xs3) := rfl
  rw [r, e, acc6_B]
  rfl
theorem acc8_B : kernelRun0_B.sl.v1831 (F := Ideal) c arg3 harg3 arg17 harg17 arg18 harg18 arg20 harg20 x2 xs0 xs1 xs3 = accL harg3 harg17 harg18 harg20 x2 xs0 xs1 xs3 8 (by norm_num) := by
  have e : kernelRun0_B.sl.v1830 (F := Ideal) c arg3 harg3 arg17 harg17 arg18 harg18 arg20 harg20 x2 xs0 xs1 xs3 = partL harg3 harg17 harg18 harg20 x2 xs0 xs1 xs3 8 (by norm_num) := by sl_kernel_rfl
  have r : kernelRun0_B.sl.v1831 (F := Ideal) c arg3 harg3 arg17 harg17 arg18 harg18 arg20 harg20 x2 xs0 xs1 xs3 = addf (kernelRun0_B.sl.v1584 (F := Ideal) c arg3 harg3 arg17 harg17 arg18 harg18 arg20 harg20 x2 xs0 xs1 xs3) (kernelRun0_B.sl.v1830 (F := Ideal) c arg3 harg3 arg17 harg17 arg18 harg18 arg20 harg20 x2 xs0 xs1 xs3) := rfl
  rw [r, e, acc7_B]
  rfl
theorem acc9_B : kernelRun0_B.sl.v2012 (F := Ideal) c arg3 harg3 arg17 harg17 arg18 harg18 arg20 harg20 x2 xs0 xs1 xs3 = accL harg3 harg17 harg18 harg20 x2 xs0 xs1 xs3 9 (by norm_num) := by
  have e : kernelRun0_B.sl.v2011 (F := Ideal) c arg3 harg3 arg17 harg17 arg18 harg18 arg20 harg20 x2 xs0 xs1 xs3 = partL harg3 harg17 harg18 harg20 x2 xs0 xs1 xs3 9 (by norm_num) := by sl_kernel_rfl
  have r : kernelRun0_B.sl.v2012 (F := Ideal) c arg3 harg3 arg17 harg17 arg18 harg18 arg20 harg20 x2 xs0 xs1 xs3 = addf (kernelRun0_B.sl.v1831 (F := Ideal) c arg3 harg3 arg17 harg17 arg18 harg18 arg20 harg20 x2 xs0 xs1 xs3) (kernelRun0_B.sl.v2011 (F := Ideal) c arg3 harg3 arg17 harg17 arg18 harg18 arg20 harg20 x2 xs0 xs1 xs3) := rfl
  rw [r, e, acc8_B]
  rfl
theorem acc10_B : kernelRun0_B.sl.v2282 (F := Ideal) c arg3 harg3 arg17 harg17 arg18 harg18 arg20 harg20 x2 xs0 xs1 xs3 = accL harg3 harg17 harg18 harg20 x2 xs0 xs1 xs3 10 (by norm_num) := by
  have e : kernelRun0_B.sl.v2281 (F := Ideal) c arg3 harg3 arg17 harg17 arg18 harg18 arg20 harg20 x2 xs0 xs1 xs3 = partL harg3 harg17 harg18 harg20 x2 xs0 xs1 xs3 10 (by norm_num) := by sl_kernel_rfl
  have r : kernelRun0_B.sl.v2282 (F := Ideal) c arg3 harg3 arg17 harg17 arg18 harg18 arg20 harg20 x2 xs0 xs1 xs3 = addf (kernelRun0_B.sl.v2012 (F := Ideal) c arg3 harg3 arg17 harg17 arg18 harg18 arg20 harg20 x2 xs0 xs1 xs3) (kernelRun0_B.sl.v2281 (F := Ideal) c arg3 harg3 arg17 harg17 arg18 harg18 arg20 harg20 x2 xs0 xs1 xs3) := rfl
  rw [r, e, acc9_B]
  rfl
theorem acc11_B : kernelRun0_B.sl.v2463 (F := Ideal) c arg3 harg3 arg17 harg17 arg18 harg18 arg20 harg20 x2 xs0 xs1 xs3 = accL harg3 harg17 harg18 harg20 x2 xs0 xs1 xs3 11 (by norm_num) := by
  have e : kernelRun0_B.sl.v2462 (F := Ideal) c arg3 harg3 arg17 harg17 arg18 harg18 arg20 harg20 x2 xs0 xs1 xs3 = partL harg3 harg17 harg18 harg20 x2 xs0 xs1 xs3 11 (by norm_num) := by sl_kernel_rfl
  have r : kernelRun0_B.sl.v2463 (F := Ideal) c arg3 harg3 arg17 harg17 arg18 harg18 arg20 harg20 x2 xs0 xs1 xs3 = addf (kernelRun0_B.sl.v2282 (F := Ideal) c arg3 harg3 arg17 harg17 arg18 harg18 arg20 harg20 x2 xs0 xs1 xs3) (kernelRun0_B.sl.v2462 (F := Ideal) c arg3 harg3 arg17 harg17 arg18 harg18 arg20 harg20 x2 xs0 xs1 xs3) := rfl
  rw [r, e, acc10_B]
  rfl
theorem acc12_B : kernelRun0_B.sl.v2733 (F := Ideal) c arg3 harg3 arg17 harg17 arg18 harg18 arg20 harg20 x2 xs0 xs1 xs3 = accL harg3 harg17 harg18 harg20 x2 xs0 xs1 xs3 12 (by norm_num) := by
  have e : kernelRun0_B.sl.v2732 (F := Ideal) c arg3 harg3 arg17 harg17 arg18 harg18 arg20 harg20 x2 xs0 xs1 xs3 = partL harg3 harg17 harg18 harg20 x2 xs0 xs1 xs3 12 (by norm_num) := by sl_kernel_rfl
  have r : kernelRun0_B.sl.v2733 (F := Ideal) c arg3 harg3 arg17 harg17 arg18 harg18 arg20 harg20 x2 xs0 xs1 xs3 = addf (kernelRun0_B.sl.v2463 (F := Ideal) c arg3 harg3 arg17 harg17 arg18 harg18 arg20 harg20 x2 xs0 xs1 xs3) (kernelRun0_B.sl.v2732 (F := Ideal) c arg3 harg3 arg17 harg17 arg18 harg18 arg20 harg20 x2 xs0 xs1 xs3) := rfl
  rw [r, e, acc11_B]
  rfl
theorem acc13_B : kernelRun0_B.sl.v2914 (F := Ideal) c arg3 harg3 arg17 harg17 arg18 harg18 arg20 harg20 x2 xs0 xs1 xs3 = accL harg3 harg17 harg18 harg20 x2 xs0 xs1 xs3 13 (by norm_num) := by
  have e : kernelRun0_B.sl.v2913 (F := Ideal) c arg3 harg3 arg17 harg17 arg18 harg18 arg20 harg20 x2 xs0 xs1 xs3 = partL harg3 harg17 harg18 harg20 x2 xs0 xs1 xs3 13 (by norm_num) := by sl_kernel_rfl
  have r : kernelRun0_B.sl.v2914 (F := Ideal) c arg3 harg3 arg17 harg17 arg18 harg18 arg20 harg20 x2 xs0 xs1 xs3 = addf (kernelRun0_B.sl.v2733 (F := Ideal) c arg3 harg3 arg17 harg17 arg18 harg18 arg20 harg20 x2 xs0 xs1 xs3) (kernelRun0_B.sl.v2913 (F := Ideal) c arg3 harg3 arg17 harg17 arg18 harg18 arg20 harg20 x2 xs0 xs1 xs3) := rfl
  rw [r, e, acc12_B]
  rfl
theorem acc14_B : kernelRun0_B.sl.v3122 (F := Ideal) c arg3 harg3 arg17 harg17 arg18 harg18 arg20 harg20 x2 xs0 xs1 xs3 = accL harg3 harg17 harg18 harg20 x2 xs0 xs1 xs3 14 (by norm_num) := by
  have e : kernelRun0_B.sl.v3121 (F := Ideal) c arg3 harg3 arg17 harg17 arg18 harg18 arg20 harg20 x2 xs0 xs1 xs3 = partL harg3 harg17 harg18 harg20 x2 xs0 xs1 xs3 14 (by norm_num) := by sl_kernel_rfl
  have r : kernelRun0_B.sl.v3122 (F := Ideal) c arg3 harg3 arg17 harg17 arg18 harg18 arg20 harg20 x2 xs0 xs1 xs3 = addf (kernelRun0_B.sl.v2914 (F := Ideal) c arg3 harg3 arg17 harg17 arg18 harg18 arg20 harg20 x2 xs0 xs1 xs3) (kernelRun0_B.sl.v3121 (F := Ideal) c arg3 harg3 arg17 harg17 arg18 harg18 arg20 harg20 x2 xs0 xs1 xs3) := rfl
  rw [r, e, acc13_B]
  rfl
theorem acc15_B : kernelRun0_B.sl.v3303 (F := Ideal) c arg3 harg3 arg17 harg17 arg18 harg18 arg20 harg20 x2 xs0 xs1 xs3 = accL harg3 harg17 harg18 harg20 x2 xs0 xs1 xs3 15 (by norm_num) := by
  have e : kernelRun0_B.sl.v3302 (F := Ideal) c arg3 harg3 arg17 harg17 arg18 harg18 arg20 harg20 x2 xs0 xs1 xs3 = partL harg3 harg17 harg18 harg20 x2 xs0 xs1 xs3 15 (by norm_num) := by sl_kernel_rfl
  have r : kernelRun0_B.sl.v3303 (F := Ideal) c arg3 harg3 arg17 harg17 arg18 harg18 arg20 harg20 x2 xs0 xs1 xs3 = addf (kernelRun0_B.sl.v3122 (F := Ideal) c arg3 harg3 arg17 harg17 arg18 harg18 arg20 harg20 x2 xs0 xs1 xs3) (kernelRun0_B.sl.v3302 (F := Ideal) c arg3 harg3 arg17 harg17 arg18 harg18 arg20 harg20 x2 xs0 xs1 xs3) := rfl
  rw [r, e, acc14_B]
  rfl
theorem acc16_B : kernelRun0_B.sl.v3511 (F := Ideal) c arg3 harg3 arg17 harg17 arg18 harg18 arg20 harg20 x2 xs0 xs1 xs3 = accL harg3 harg17 harg18 harg20 x2 xs0 xs1 xs3 16 (by norm_num) := by
  have e : kernelRun0_B.sl.v3510 (F := Ideal) c arg3 harg3 arg17 harg17 arg18 harg18 arg20 harg20 x2 xs0 xs1 xs3 = partL harg3 harg17 harg18 harg20 x2 xs0 xs1 xs3 16 (by norm_num) := by sl_kernel_rfl
  have r : kernelRun0_B.sl.v3511 (F := Ideal) c arg3 harg3 arg17 harg17 arg18 harg18 arg20 harg20 x2 xs0 xs1 xs3 = addf (kernelRun0_B.sl.v3303 (F := Ideal) c arg3 harg3 arg17 harg17 arg18 harg18 arg20 harg20 x2 xs0 xs1 xs3) (kernelRun0_B.sl.v3510 (F := Ideal) c arg3 harg3 arg17 harg17 arg18 harg18 arg20 harg20 x2 xs0 xs1 xs3) := rfl
  rw [r, e, acc15_B]
  rfl
theorem acc17_B : kernelRun0_B.sl.v3692 (F := Ideal) c arg3 harg3 arg17 harg17 arg18 harg18 arg20 harg20 x2 xs0 xs1 xs3 = accL harg3 harg17 harg18 harg20 x2 xs0 xs1 xs3 17 (by norm_num) := by
  have e : kernelRun0_B.sl.v3691 (F := Ideal) c arg3 harg3 arg17 harg17 arg18 harg18 arg20 harg20 x2 xs0 xs1 xs3 = partL harg3 harg17 harg18 harg20 x2 xs0 xs1 xs3 17 (by norm_num) := by sl_kernel_rfl
  have r : kernelRun0_B.sl.v3692 (F := Ideal) c arg3 harg3 arg17 harg17 arg18 harg18 arg20 harg20 x2 xs0 xs1 xs3 = addf (kernelRun0_B.sl.v3511 (F := Ideal) c arg3 harg3 arg17 harg17 arg18 harg18 arg20 harg20 x2 xs0 xs1 xs3) (kernelRun0_B.sl.v3691 (F := Ideal) c arg3 harg3 arg17 harg17 arg18 harg18 arg20 harg20 x2 xs0 xs1 xs3) := rfl
  rw [r, e, acc16_B]
  rfl
theorem acc18_B : kernelRun0_B.sl.v3873 (F := Ideal) c arg3 harg3 arg17 harg17 arg18 harg18 arg20 harg20 x2 xs0 xs1 xs3 = accL harg3 harg17 harg18 harg20 x2 xs0 xs1 xs3 18 (by norm_num) := by
  have e : kernelRun0_B.sl.v3872 (F := Ideal) c arg3 harg3 arg17 harg17 arg18 harg18 arg20 harg20 x2 xs0 xs1 xs3 = partL harg3 harg17 harg18 harg20 x2 xs0 xs1 xs3 18 (by norm_num) := by sl_kernel_rfl
  have r : kernelRun0_B.sl.v3873 (F := Ideal) c arg3 harg3 arg17 harg17 arg18 harg18 arg20 harg20 x2 xs0 xs1 xs3 = addf (kernelRun0_B.sl.v3692 (F := Ideal) c arg3 harg3 arg17 harg17 arg18 harg18 arg20 harg20 x2 xs0 xs1 xs3) (kernelRun0_B.sl.v3872 (F := Ideal) c arg3 harg3 arg17 harg17 arg18 harg18 arg20 harg20 x2 xs0 xs1 xs3) := rfl
  rw [r, e, acc17_B]
  rfl
theorem acc19_B : kernelRun0_B.sl.v4054 (F := Ideal) c arg3 harg3 arg17 harg17 arg18 harg18 arg20 harg20 x2 xs0 xs1 xs3 = accL harg3 harg17 harg18 harg20 x2 xs0 xs1 xs3 19 (by norm_num) := by
  have e : kernelRun0_B.sl.v4053 (F := Ideal) c arg3 harg3 arg17 harg17 arg18 harg18 arg20 harg20 x2 xs0 xs1 xs3 = partL harg3 harg17 harg18 harg20 x2 xs0 xs1 xs3 19 (by norm_num) := by sl_kernel_rfl
  have r : kernelRun0_B.sl.v4054 (F := Ideal) c arg3 harg3 arg17 harg17 arg18 harg18 arg20 harg20 x2 xs0 xs1 xs3 = addf (kernelRun0_B.sl.v3873 (F := Ideal) c arg3 harg3 arg17 harg17 arg18 harg18 arg20 harg20 x2 xs0 xs1 xs3) (kernelRun0_B.sl.v4053 (F := Ideal) c arg3 harg3 arg17 harg17 arg18 harg18 arg20 harg20 x2 xs0 xs1 xs3) := rfl
  rw [r, e, acc18_B]
  rfl
theorem acc20_B : kernelRun0_B.sl.v4235 (F := Ideal) c arg3 harg3 arg17 harg17 arg18 harg18 arg20 harg20 x2 xs0 xs1 xs3 = accL harg3 harg17 harg18 harg20 x2 xs0 xs1 xs3 20 (by norm_num) := by
  have e : kernelRun0_B.sl.v4234 (F := Ideal) c arg3 harg3 arg17 harg17 arg18 harg18 arg20 harg20 x2 xs0 xs1 xs3 = partL harg3 harg17 harg18 harg20 x2 xs0 xs1 xs3 20 (by norm_num) := by sl_kernel_rfl
  have r : kernelRun0_B.sl.v4235 (F := Ideal) c arg3 harg3 arg17 harg17 arg18 harg18 arg20 harg20 x2 xs0 xs1 xs3 = addf (kernelRun0_B.sl.v4054 (F := Ideal) c arg3 harg3 arg17 harg17 arg18 harg18 arg20 harg20 x2 xs0 xs1 xs3) (kernelRun0_B.sl.v4234 (F := Ideal) c arg3 harg3 arg17 harg17 arg18 harg18 arg20 harg20 x2 xs0 xs1 xs3) := rfl
  rw [r, e, acc19_B]
  rfl
theorem sum0_B : kernelRun0_B.sl.v190 (F := Ideal) c arg2 harg2 x1 = sumL harg2 x1 0 (by norm_num) := by sl_kernel_rfl
theorem sum1_B : kernelRun0_B.sl.v371 (F := Ideal) c arg2 harg2 x1 = sumL harg2 x1 1 (by norm_num) := by
  have r : kernelRun0_B.sl.v371 (F := Ideal) c arg2 harg2 x1 = tiles (kernelRun0_B.sl.v190 (F := Ideal) c arg2 harg2 x1) (squares (blockL harg2 x1 1 (by norm_num))) := by sl_kernel_rfl
  rw [r, sum0_B]
  rfl
theorem sum2_B : kernelRun0_B.sl.v618 (F := Ideal) c arg2 harg2 x1 = sumL harg2 x1 2 (by norm_num) := by
  have r : kernelRun0_B.sl.v618 (F := Ideal) c arg2 harg2 x1 = tiles (kernelRun0_B.sl.v371 (F := Ideal) c arg2 harg2 x1) (squares (blockL harg2 x1 2 (by norm_num))) := by sl_kernel_rfl
  rw [r, sum1_B]
  rfl
theorem sum3_B : kernelRun0_B.sl.v799 (F := Ideal) c arg2 harg2 x1 = sumL harg2 x1 3 (by norm_num) := by
  have r : kernelRun0_B.sl.v799 (F := Ideal) c arg2 harg2 x1 = tiles (kernelRun0_B.sl.v618 (F := Ideal) c arg2 harg2 x1) (squares (blockL harg2 x1 3 (by norm_num))) := by sl_kernel_rfl
  rw [r, sum2_B]
  rfl
theorem sum4_B : kernelRun0_B.sl.v1046 (F := Ideal) c arg2 harg2 x1 = sumL harg2 x1 4 (by norm_num) := by
  have r : kernelRun0_B.sl.v1046 (F := Ideal) c arg2 harg2 x1 = tiles (kernelRun0_B.sl.v799 (F := Ideal) c arg2 harg2 x1) (squares (blockL harg2 x1 4 (by norm_num))) := by sl_kernel_rfl
  rw [r, sum3_B]
  rfl
theorem sum5_B : kernelRun0_B.sl.v1227 (F := Ideal) c arg2 harg2 x1 = sumL harg2 x1 5 (by norm_num) := by
  have r : kernelRun0_B.sl.v1227 (F := Ideal) c arg2 harg2 x1 = tiles (kernelRun0_B.sl.v1046 (F := Ideal) c arg2 harg2 x1) (squares (blockL harg2 x1 5 (by norm_num))) := by sl_kernel_rfl
  rw [r, sum4_B]
  rfl
theorem sum6_B : kernelRun0_B.sl.v1474 (F := Ideal) c arg2 harg2 x1 = sumL harg2 x1 6 (by norm_num) := by
  have r : kernelRun0_B.sl.v1474 (F := Ideal) c arg2 harg2 x1 = tiles (kernelRun0_B.sl.v1227 (F := Ideal) c arg2 harg2 x1) (squares (blockL harg2 x1 6 (by norm_num))) := by sl_kernel_rfl
  rw [r, sum5_B]
  rfl
theorem sum7_B : kernelRun0_B.sl.v1655 (F := Ideal) c arg2 harg2 x1 = sumL harg2 x1 7 (by norm_num) := by
  have r : kernelRun0_B.sl.v1655 (F := Ideal) c arg2 harg2 x1 = tiles (kernelRun0_B.sl.v1474 (F := Ideal) c arg2 harg2 x1) (squares (blockL harg2 x1 7 (by norm_num))) := by sl_kernel_rfl
  rw [r, sum6_B]
  rfl
theorem sum8_B : kernelRun0_B.sl.v1902 (F := Ideal) c arg2 harg2 x1 = sumL harg2 x1 8 (by norm_num) := by
  have r : kernelRun0_B.sl.v1902 (F := Ideal) c arg2 harg2 x1 = tiles (kernelRun0_B.sl.v1655 (F := Ideal) c arg2 harg2 x1) (squares (blockL harg2 x1 8 (by norm_num))) := by sl_kernel_rfl
  rw [r, sum7_B]
  rfl
theorem sum9_B : kernelRun0_B.sl.v2083 (F := Ideal) c arg2 harg2 x1 = sumL harg2 x1 9 (by norm_num) := by
  have r : kernelRun0_B.sl.v2083 (F := Ideal) c arg2 harg2 x1 = tiles (kernelRun0_B.sl.v1902 (F := Ideal) c arg2 harg2 x1) (squares (blockL harg2 x1 9 (by norm_num))) := by sl_kernel_rfl
  rw [r, sum8_B]
  rfl
theorem sum10_B : kernelRun0_B.sl.r_82 (F := Ideal) c arg2 harg2 x1 = sumL harg2 x1 10 (by norm_num) := by
  have r : kernelRun0_B.sl.r_82 (F := Ideal) c arg2 harg2 x1 = tiles (kernelRun0_B.sl.v2083 (F := Ideal) c arg2 harg2 x1) (squares (blockL harg2 x1 10 (by norm_num))) := by sl_kernel_rfl
  rw [r, sum9_B]
  rfl
theorem sum11_B : kernelRun0_B.sl.v2534 (F := Ideal) c arg2 harg2 x1 = sumL harg2 x1 11 (by norm_num) := by
  have r : kernelRun0_B.sl.v2534 (F := Ideal) c arg2 harg2 x1 = tiles (kernelRun0_B.sl.r_82 (F := Ideal) c arg2 harg2 x1) (squares (blockL harg2 x1 11 (by norm_num))) := by sl_kernel_rfl
  rw [r, sum10_B]
  rfl
theorem sum12_B : kernelRun0_B.sl.v2804 (F := Ideal) c arg2 harg2 x1 = sumL harg2 x1 12 (by norm_num) := by
  have r : kernelRun0_B.sl.v2804 (F := Ideal) c arg2 harg2 x1 = tiles (kernelRun0_B.sl.v2534 (F := Ideal) c arg2 harg2 x1) (squares (blockL harg2 x1 12 (by norm_num))) := by sl_kernel_rfl
  rw [r, sum11_B]
  rfl
theorem sum13_B : kernelRun0_B.sl.r_110 (F := Ideal) c arg2 harg2 x1 = sumL harg2 x1 13 (by norm_num) := by
  have r : kernelRun0_B.sl.r_110 (F := Ideal) c arg2 harg2 x1 = tiles (kernelRun0_B.sl.v2804 (F := Ideal) c arg2 harg2 x1) (squares (blockL harg2 x1 13 (by norm_num))) := by sl_kernel_rfl
  rw [r, sum12_B]
  rfl
theorem sum14_B : kernelRun0_B.sl.r_124 (F := Ideal) c arg2 harg2 x1 = sumL harg2 x1 14 (by norm_num) := by
  have r : kernelRun0_B.sl.r_124 (F := Ideal) c arg2 harg2 x1 = tiles (kernelRun0_B.sl.r_110 (F := Ideal) c arg2 harg2 x1) (squares (blockL harg2 x1 14 (by norm_num))) := by sl_kernel_rfl
  rw [r, sum13_B]
  rfl
theorem sum15_B : kernelRun0_B.sl.r_134 (F := Ideal) c arg2 harg2 x1 = sumL harg2 x1 15 (by norm_num) := by
  have r : kernelRun0_B.sl.r_134 (F := Ideal) c arg2 harg2 x1 = tiles (kernelRun0_B.sl.r_124 (F := Ideal) c arg2 harg2 x1) (squares (blockL harg2 x1 15 (by norm_num))) := by sl_kernel_rfl
  rw [r, sum14_B]
  rfl
theorem sum16_B : kernelRun0_B.sl.r_143 (F := Ideal) c arg2 harg2 x1 = sumL harg2 x1 16 (by norm_num) := by
  have r : kernelRun0_B.sl.r_143 (F := Ideal) c arg2 harg2 x1 = tiles (kernelRun0_B.sl.r_134 (F := Ideal) c arg2 harg2 x1) (squares (blockL harg2 x1 16 (by norm_num))) := by sl_kernel_rfl
  rw [r, sum15_B]
  rfl
theorem sum17_B : kernelRun0_B.sl.r_151 (F := Ideal) c arg2 harg2 x1 = sumL harg2 x1 17 (by norm_num) := by
  have r : kernelRun0_B.sl.r_151 (F := Ideal) c arg2 harg2 x1 = tiles (kernelRun0_B.sl.r_143 (F := Ideal) c arg2 harg2 x1) (squares (blockL harg2 x1 17 (by norm_num))) := by sl_kernel_rfl
  rw [r, sum16_B]
  rfl
theorem sum18_B : kernelRun0_B.sl.r_162 (F := Ideal) c arg2 harg2 x1 = sumL harg2 x1 18 (by norm_num) := by
  have r : kernelRun0_B.sl.r_162 (F := Ideal) c arg2 harg2 x1 = tiles (kernelRun0_B.sl.r_151 (F := Ideal) c arg2 harg2 x1) (squares (blockL harg2 x1 18 (by norm_num))) := by sl_kernel_rfl
  rw [r, sum17_B]
  rfl
theorem sum19_B : kernelRun0_B.sl.r_172 (F := Ideal) c arg2 harg2 x1 = sumL harg2 x1 19 (by norm_num) := by
  have r : kernelRun0_B.sl.r_172 (F := Ideal) c arg2 harg2 x1 = tiles (kernelRun0_B.sl.r_162 (F := Ideal) c arg2 harg2 x1) (squares (blockL harg2 x1 19 (by norm_num))) := by sl_kernel_rfl
  rw [r, sum18_B]
  rfl
theorem sum20_B : kernelRun0_B.sl.v4306 (F := Ideal) c arg2 harg2 x1 = sumL harg2 x1 20 (by norm_num) := by
  have r : kernelRun0_B.sl.v4306 (F := Ideal) c arg2 harg2 x1 = tiles (kernelRun0_B.sl.r_172 (F := Ideal) c arg2 harg2 x1) (squares (blockL harg2 x1 20 (by norm_num))) := by sl_kernel_rfl
  rw [r, sum19_B]
  rfl
end Cert.Proof.Project
end
-- ==== Proof.StepScratch.lean ====
/- A step of the projection between the first and the last: what it leaves for the next steps. -/
module
public import proofs.«01_k».proof.Proof.Carried
public import proofs.«01_k».proof.Proof.StepSums
@[expose] public section
set_option maxRecDepth 16384
noncomputable section
namespace Cert.Proof.Project
open Cert.ProjectIdeal Cert.ProjectIdeal.Gen Idealize.ShloMosaic Idealize.ShloMosaic.TcCoe Idealize.SL.Sem

variable (c : Dev nD) (i : grid0.Coords) (arg1 : Memref sig .tc .smem S42x8 .f32) (harg1 : arg1.IsWhole) (arg2 : Memref sig .tc .vmem S256x5376 .bf16) (harg2 : arg2.IsWhole) (arg3 : Memref sig .tc .vmem S5376x128 .f32) (harg3 : arg3.IsWhole) (arg4 : Memref sig .tc .vmem S5376x1024 .fp8e4m3) (harg4 : arg4.IsWhole) (arg5 : Memref sig .tc .vmem S128x128 .f32) (harg5 : arg5.IsWhole) (arg6 : Memref sig .tc .vmem S128x128 .f32) (harg6 : arg6.IsWhole) (arg7 : Memref sig .tc .vmem S256x64 .f32) (harg7 : arg7.IsWhole) (arg8 : Memref sig .tc .vmem S256x64 .f32) (harg8 : arg8.IsWhole) (arg9 : Memref sig .tc .vmem S256x5376 .fp8e4m3) (harg9 : arg9.IsWhole) (arg10 : Memref sig .tc .vmem S256x42 .f32) (harg10 : arg10.IsWhole) (arg11 : Memref sig .tc .vmem S512x256 .bf16) (harg11 : arg11.IsWhole) (arg12 : Memref sig .tc .vmem S256x256 .fp8e4m3) (harg12 : arg12.IsWhole) (arg13 : Memref sig .tc .vmem S256x2 .f32) (harg13 : arg13.IsWhole) (arg14 : Memref sig .tc .vmem S256x256 .fp8e4m3) (harg14 : arg14.IsWhole) (arg15 : Memref sig .tc .vmem S256x256 .fp8e4m3) (harg15 : arg15.IsWhole) (arg16 : Memref sig .tc .vmem S256x2 .f32) (harg16 : arg16.IsWhole) (arg17 : Memref sig .tc .vmem S1024x5376 .bf16) (harg17 : arg17.IsWhole) (arg18 : Memref sig .tc .vmem S5376x256 .bf16) (harg18 : arg18.IsWhole) (arg19 : Memref sig .tc .vmem S1024x256 .f32) (harg19 : arg19.IsWhole) (arg20 : Memref sig .tc .vmem S1x256 .f32) (harg20 : arg20.IsWhole) (arg21 : Memref sig .tc .vmem S48x256 .f32) (harg21 : arg21.IsWhole)
  (x0 : Vec Ideal S42x8 .f32) (x1 : Vec Ideal S256x5376 .bf16) (x2 : Vec Ideal S5376x128 .f32) (x3 : Vec Ideal S5376x1024 .fp8e4m3) (x4 : Vec Ideal S128x128 .f32) (x5 : Vec Ideal S128x128 .f32) (x6 : Vec Ideal S256x64 .f32) (x7 : Vec Ideal S256x64 .f32) (xs0 : Vec Ideal S1024x5376 .bf16) (xs1 : Vec Ideal S5376x256 .bf16) (xs2 : Vec Ideal S1024x256 .f32) (xs3 : Vec Ideal S1x256 .f32)

/-- The root of the mean square of each row of the block. -/
theorem root_B (hc0 : ¬cond0_0 i) (hc1 : cond0_1 i) (hc2 : ¬cond0_2 i) : sout0_B_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 xs0 xs1 xs2 xs3 = rootX x1 := by
  funext y
  unfold sout0_B_3
  refine View.read_writes_apply_of_pieces _ _ _ _ ?_ y (scover0_B_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 xs0 xs1 xs2 xs3 y)
  have e : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 xs0 xs1 xs2 xs3).2.2.2.2.2.2.2.2.2.1 = [⟨Rect.unit (s := S1x256) ![0, 0] S1x256.size inb_S1x256_S1x256_0_0, shapeCast S1x256 (rootOf (kernelRun0_B.sl.v4306 (F := Ideal) c arg2 harg2 x1)) rfl⟩] := by sl_kernel_rfl
  rw [e, sum20_B]
  refine List.forall_mem_cons.mpr ⟨fun x => root_piece harg2 x1 inb_S1x256_S1x256_0_0 x, ?_⟩
  intro p hp
  cases hp

/-- The products of the tile the step before turned. -/
theorem acc_B (hc0 : ¬cond0_0 i) (hc1 : cond0_1 i) (hc2 : ¬cond0_2 i) (g : Fin 5376 → EReal) (hg : ∀ k l, x2 (ix2 k l) = g k) : sout0_B_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 xs0 xs1 xs2 xs3 = accX xs0 xs1 xs3 g := by
  funext y
  unfold sout0_B_2
  refine View.read_writes_apply_of_pieces _ _ _ _ ?_ y (scover0_B_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 xs0 xs1 xs2 xs3 y)
  have e : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 xs0 xs1 xs2 xs3).2.2.2.2.2.2.2.2.1 = [⟨Rect.unit (s := S1024x256) ![0, 0] S1024x256.size inb_S1024x256_S1024x256_0_0, shapeCast S1024x256 (kernelRun0_B.sl.v4235 (F := Ideal) c arg3 harg3 arg17 harg17 arg18 harg18 arg20 harg20 x2 xs0 xs1 xs3) rfl⟩] := by sl_kernel_rfl
  rw [e, acc20_B]
  refine List.forall_mem_cons.mpr ⟨fun x => acc_piece harg3 harg17 harg18 harg20 x2 xs0 xs1 xs3 g hg inb_S1024x256_S1024x256_0_0 x, ?_⟩
  intro p hp
  cases hp

end Cert.Proof.Project
end
-- ==== Proof.StepOuts.lean ====
/- A step of the projection between the first and the last: the heads it finishes. -/
module
public import proofs.«01_k».proof.Proof.Outs
public import proofs.«01_k».proof.Proof.IdealValue
public import Idealize.ShloMosaic.Lib.Tactic.RunNames
@[expose] public section
set_option maxRecDepth 16384
noncomputable section
namespace Cert.Proof.Project
open Cert.ProjectIdeal Cert.ProjectIdeal.Gen Idealize.ShloMosaic Idealize.ShloMosaic.TcCoe Idealize.SL.Sem

variable (c : Dev nD) (i : grid0.Coords) (arg1 : Memref sig .tc .smem S42x8 .f32) (harg1 : arg1.IsWhole) (arg2 : Memref sig .tc .vmem S256x5376 .bf16) (harg2 : arg2.IsWhole) (arg3 : Memref sig .tc .vmem S5376x128 .f32) (harg3 : arg3.IsWhole) (arg4 : Memref sig .tc .vmem S5376x1024 .fp8e4m3) (harg4 : arg4.IsWhole) (arg5 : Memref sig .tc .vmem S128x128 .f32) (harg5 : arg5.IsWhole) (arg6 : Memref sig .tc .vmem S128x128 .f32) (harg6 : arg6.IsWhole) (arg7 : Memref sig .tc .vmem S256x64 .f32) (harg7 : arg7.IsWhole) (arg8 : Memref sig .tc .vmem S256x64 .f32) (harg8 : arg8.IsWhole) (arg9 : Memref sig .tc .vmem S256x5376 .fp8e4m3) (harg9 : arg9.IsWhole) (arg10 : Memref sig .tc .vmem S256x42 .f32) (harg10 : arg10.IsWhole) (arg11 : Memref sig .tc .vmem S512x256 .bf16) (harg11 : arg11.IsWhole) (arg12 : Memref sig .tc .vmem S256x256 .fp8e4m3) (harg12 : arg12.IsWhole) (arg13 : Memref sig .tc .vmem S256x2 .f32) (harg13 : arg13.IsWhole) (arg14 : Memref sig .tc .vmem S256x256 .fp8e4m3) (harg14 : arg14.IsWhole) (arg15 : Memref sig .tc .vmem S256x256 .fp8e4m3) (harg15 : arg15.IsWhole) (arg16 : Memref sig .tc .vmem S256x2 .f32) (harg16 : arg16.IsWhole) (arg17 : Memref sig .tc .vmem S1024x5376 .bf16) (harg17 : arg17.IsWhole) (arg18 : Memref sig .tc .vmem S5376x256 .bf16) (harg18 : arg18.IsWhole) (arg19 : Memref sig .tc .vmem S1024x256 .f32) (harg19 : arg19.IsWhole) (arg20 : Memref sig .tc .vmem S1x256 .f32) (harg20 : arg20.IsWhole) (arg21 : Memref sig .tc .vmem S48x256 .f32) (harg21 : arg21.IsWhole)
  (x0 : Vec Ideal S42x8 .f32) (x1 : Vec Ideal S256x5376 .bf16) (x2 : Vec Ideal S5376x128 .f32) (x3 : Vec Ideal S5376x1024 .fp8e4m3) (x4 : Vec Ideal S128x128 .f32) (x5 : Vec Ideal S128x128 .f32) (x6 : Vec Ideal S256x64 .f32) (x7 : Vec Ideal S256x64 .f32) (xs0 : Vec Ideal S1024x5376 .bf16) (xs1 : Vec Ideal S5376x256 .bf16) (xs2 : Vec Ideal S1024x256 .f32) (xs3 : Vec Ideal S1x256 .f32)
  (gq gk : Fin 128 → EReal) (hgq : ∀ k l, x4 (ix2 k l) = gq k) (hgk : ∀ k l, x5 (ix2 k l) = gk k)

include hgq in
/-- The queries stored. -/
theorem qt_B (hc0 : ¬cond0_0 i) (hc1 : cond0_1 i) (hc2 : ¬cond0_2 i) : out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 xs0 xs1 xs2 xs3 = qtA xs2 gq x6 x7 := by
  funext y
  unfold out0_B_10
  refine View.read_writes_apply_of_pieces _ _ _ _ ?_ y (cover0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 xs0 xs1 xs2 xs3 y)
  have e : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 xs0 xs1 xs2 xs3).1 = [⟨Rect.unit (s := S512x256) ![384, 0] S128x256.size inb_S512x256_S128x256_384_0, truncf .bf16 (turnedL harg5 harg7 harg8 harg19 x4 x6 x7 xs2 3 (by norm_num)) bitsLt_bf16_f32⟩, ⟨Rect.unit (s := S512x256) ![256, 0] S128x256.size inb_S512x256_S128x256_256_0, truncf .bf16 (turnedL harg5 harg7 harg8 harg19 x4 x6 x7 xs2 2 (by norm_num)) bitsLt_bf16_f32⟩, ⟨Rect.unit (s := S512x256) ![128, 0] S128x256.size inb_S512x256_S128x256_128_0, truncf .bf16 (turnedL harg5 harg7 harg8 harg19 x4 x6 x7 xs2 1 (by norm_num)) bitsLt_bf16_f32⟩, ⟨Rect.unit (s := S512x256) ![0, 0] S128x256.size inb_S512x256_S128x256_0_0, truncf .bf16 (turnedL harg5 harg7 harg8 harg19 x4 x6 x7 xs2 0 (by norm_num)) bitsLt_bf16_f32⟩] := by sl_kernel_rfl
  rw [e]
  refine List.forall_mem_cons.mpr ⟨fun x => q_piece harg5 harg7 harg8 harg19 x4 x6 x7 xs2 gq hgq 3 (by norm_num) inb_S512x256_S128x256_384_0 x, ?_⟩
  refine List.forall_mem_cons.mpr ⟨fun x => q_piece harg5 harg7 harg8 harg19 x4 x6 x7 xs2 gq hgq 2 (by norm_num) inb_S512x256_S128x256_256_0 x, ?_⟩
  refine List.forall_mem_cons.mpr ⟨fun x => q_piece harg5 harg7 harg8 harg19 x4 x6 x7 xs2 gq hgq 1 (by norm_num) inb_S512x256_S128x256_128_0 x, ?_⟩
  refine List.forall_mem_cons.mpr ⟨fun x => q_piece harg5 harg7 harg8 harg19 x4 x6 x7 xs2 gq hgq 0 (by norm_num) inb_S512x256_S128x256_0_0 x, ?_⟩
  intro p hp
  cases hp

include hgk in
/-- The codes of the keys stored. -/
theorem kc_B (hc0 : ¬cond0_0 i) (hc1 : cond0_1 i) (hc2 : ¬cond0_2 i) : out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 xs0 xs1 xs2 xs3 = kcA xs2 gk x6 x7 := by
  funext y
  unfold out0_B_11
  refine View.read_writes_apply_of_pieces _ _ _ _ ?_ y (cover0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 xs0 xs1 xs2 xs3 y)
  have e : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 xs0 xs1 xs2 xs3).2.1 = [⟨Rect.unit (s := S256x256) ![0, 128] S256x128.size inb_S256x256_S256x128_0_128, codesT (turnedL harg6 harg7 harg8 harg19 x5 x6 x7 xs2 5 (by norm_num))⟩, ⟨Rect.unit (s := S256x256) ![0, 0] S256x128.size inb_S256x256_S256x128_0_0, codesT (turnedL harg6 harg7 harg8 harg19 x5 x6 x7 xs2 4 (by norm_num))⟩] := by sl_kernel_rfl
  rw [e]
  refine List.forall_mem_cons.mpr ⟨fun x => codesT_piece (fun t => kR (tok xs2 t) gk (row64 x6 t) (row64 x7 t)) (turnedL harg6 harg7 harg8 harg19 x5 x6 x7 xs2 5 (by norm_num)) 1 (by norm_num) (fun t => turnedL_at harg6 harg7 harg8 harg19 x5 x6 x7 xs2 gk hgk 5 (by norm_num) t) inb_S256x256_S256x128_0_128 x, ?_⟩
  refine List.forall_mem_cons.mpr ⟨fun x => codesT_piece (fun t => kR (tok xs2 t) gk (row64 x6 t) (row64 x7 t)) (turnedL harg6 harg7 harg8 harg19 x5 x6 x7 xs2 4 (by norm_num)) 0 (by norm_num) (fun t => turnedL_at harg6 harg7 harg8 harg19 x5 x6 x7 xs2 gk hgk 4 (by norm_num) t) inb_S256x256_S256x128_0_0 x, ?_⟩
  intro p hp
  cases hp

include hgk in
/-- The scales of the keys stored. -/
theorem ks_B (hc0 : ¬cond0_0 i) (hc1 : cond0_1 i) (hc2 : ¬cond0_2 i) : out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 xs0 xs1 xs2 xs3 = ksA xs2 gk x6 x7 := by
  funext y
  unfold out0_B_12
  refine View.read_writes_apply_of_pieces _ _ _ _ ?_ y (cover0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 xs0 xs1 xs2 xs3 y)
  have e : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 xs0 xs1 xs2 xs3).2.2.1 = [⟨Rect.unit (s := S256x2) ![0, 1] S256x1.size inb_S256x2_S256x1_0_1, scaleCol 1 slices_S256x8_o0_1_S256x1 (turnedL harg6 harg7 harg8 harg19 x5 x6 x7 xs2 5 (by norm_num))⟩, ⟨Rect.unit (s := S256x2) ![0, 0] S256x1.size inb_S256x2_S256x1_0_0, scaleCol 0 slices_S256x8_o0_0_S256x1 (turnedL harg6 harg7 harg8 harg19 x5 x6 x7 xs2 4 (by norm_num))⟩] := by sl_kernel_rfl
  rw [e]
  refine List.forall_mem_cons.mpr ⟨fun x => by dsimp only; exact scales_piece (fun t => kR (tok xs2 t) gk (row64 x6 t) (row64 x7 t)) (turnedL harg6 harg7 harg8 harg19 x5 x6 x7 xs2 5 (by norm_num)) 1 (by norm_num) (fun t => turnedL_at harg6 harg7 harg8 harg19 x5 x6 x7 xs2 gk hgk 5 (by norm_num) t) slices_S256x8_o0_1_S256x1 inb_S256x2_S256x1_0_1 x, ?_⟩
  refine List.forall_mem_cons.mpr ⟨fun x => by dsimp only; exact scales_piece (fun t => kR (tok xs2 t) gk (row64 x6 t) (row64 x7 t)) (turnedL harg6 harg7 harg8 harg19 x5 x6 x7 xs2 4 (by norm_num)) 0 (by norm_num) (fun t => turnedL_at harg6 harg7 harg8 harg19 x5 x6 x7 xs2 gk hgk 4 (by norm_num) t) slices_S256x8_o0_0_S256x1 inb_S256x2_S256x1_0_0 x, ?_⟩
  intro p hp
  cases hp

/-- The codes of the values stored. -/
theorem vc_B (hc0 : ¬cond0_0 i) (hc1 : cond0_1 i) (hc2 : ¬cond0_2 i) : out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 xs0 xs1 xs2 xs3 = vcA xs2 := by
  funext y
  unfold out0_B_13
  refine View.read_writes_apply_of_pieces _ _ _ _ ?_ y (cover0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 xs0 xs1 xs2 xs3 y)
  have e : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 xs0 xs1 xs2 xs3).2.2.2.1 = [⟨Rect.unit (s := S256x256) ![0, 128] S256x128.size inb_S256x256_S256x128_0_128, codesT (rowsL harg19 xs2 7 (by norm_num))⟩, ⟨Rect.unit (s := S256x256) ![0, 0] S256x128.size inb_S256x256_S256x128_0_0, codesT (rowsL harg19 xs2 6 (by norm_num))⟩] := by sl_kernel_rfl
  rw [e]
  refine List.forall_mem_cons.mpr ⟨fun x => codesT_piece (fun t => vR (tok xs2 t)) (rowsL harg19 xs2 7 (by norm_num)) 1 (by norm_num) (fun t => rowsL_at harg19 xs2 7 (by norm_num) t) inb_S256x256_S256x128_0_128 x, ?_⟩
  refine List.forall_mem_cons.mpr ⟨fun x => codesT_piece (fun t => vR (tok xs2 t)) (rowsL harg19 xs2 6 (by norm_num)) 0 (by norm_num) (fun t => rowsL_at harg19 xs2 6 (by norm_num) t) inb_S256x256_S256x128_0_0 x, ?_⟩
  intro p hp
  cases hp

/-- The codes of the values stored the other way. -/
theorem vt_B (hc0 : ¬cond0_0 i) (hc1 : cond0_1 i) (hc2 : ¬cond0_2 i) : out0_B_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 xs0 xs1 xs2 xs3 = vtA xs2 := by
  funext y
  unfold out0_B_14
  refine View.read_writes_apply_of_pieces _ _ _ _ ?_ y (cover0_B_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 xs0 xs1 xs2 xs3 y)
  have e : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 xs0 xs1 xs2 xs3).2.2.2.2.1 = [⟨Rect.unit (s := S256x256) ![128, 0] S128x256.size inb_S256x256_S128x256_128_0, codesV (rowsL harg19 xs2 7 (by norm_num))⟩, ⟨Rect.unit (s := S256x256) ![0, 0] S128x256.size inb_S256x256_S128x256_0_0, codesV (rowsL harg19 xs2 6 (by norm_num))⟩] := by sl_kernel_rfl
  rw [e]
  refine List.forall_mem_cons.mpr ⟨fun x => codesV_piece (fun t => vR (tok xs2 t)) (rowsL harg19 xs2 7 (by norm_num)) 1 (by norm_num) (fun t => rowsL_at harg19 xs2 7 (by norm_num) t) inb_S256x256_S128x256_128_0 x, ?_⟩
  refine List.forall_mem_cons.mpr ⟨fun x => codesV_piece (fun t => vR (tok xs2 t)) (rowsL harg19 xs2 6 (by norm_num)) 0 (by norm_num) (fun t => rowsL_at harg19 xs2 6 (by norm_num) t) inb_S256x256_S128x256_0_0 x, ?_⟩
  intro p hp
  cases hp

/-- The scales of the values stored. -/
theorem vs_B (hc0 : ¬cond0_0 i) (hc1 : cond0_1 i) (hc2 : ¬cond0_2 i) : out0_B_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 xs0 xs1 xs2 xs3 = vsA xs2 := by
  funext y
  unfold out0_B_15
  refine View.read_writes_apply_of_pieces _ _ _ _ ?_ y (cover0_B_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 xs0 xs1 xs2 xs3 y)
  have e : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 xs0 xs1 xs2 xs3).2.2.2.2.2.1 = [⟨Rect.unit (s := S256x2) ![0, 1] S256x1.size inb_S256x2_S256x1_0_1, scaleCol 1 slices_S256x8_o0_1_S256x1 (rowsL harg19 xs2 7 (by norm_num))⟩, ⟨Rect.unit (s := S256x2) ![0, 0] S256x1.size inb_S256x2_S256x1_0_0, scaleCol 0 slices_S256x8_o0_0_S256x1 (rowsL harg19 xs2 6 (by norm_num))⟩] := by sl_kernel_rfl
  rw [e]
  refine List.forall_mem_cons.mpr ⟨fun x => by dsimp only; exact scales_piece (fun t => vR (tok xs2 t)) (rowsL harg19 xs2 7 (by norm_num)) 1 (by norm_num) (fun t => rowsL_at harg19 xs2 7 (by norm_num) t) slices_S256x8_o0_1_S256x1 inb_S256x2_S256x1_0_1 x, ?_⟩
  refine List.forall_mem_cons.mpr ⟨fun x => by dsimp only; exact scales_piece (fun t => vR (tok xs2 t)) (rowsL harg19 xs2 6 (by norm_num)) 0 (by norm_num) (fun t => rowsL_at harg19 xs2 6 (by norm_num) t) slices_S256x8_o0_0_S256x1 inb_S256x2_S256x1_0_0 x, ?_⟩
  intro p hp
  cases hp

end Cert.Proof.Project
end
-- ==== Proof.LastStep.lean ====
/- The last step of the projection, which only finishes the heads. -/
module
public import proofs.«01_k».proof.Proof.Outs
public import proofs.«01_k».proof.Proof.IdealValue
public import Idealize.ShloMosaic.Lib.Tactic.RunNames
@[expose] public section
set_option maxRecDepth 16384
noncomputable section
namespace Cert.Proof.Project
open Cert.ProjectIdeal Cert.ProjectIdeal.Gen Idealize.ShloMosaic Idealize.ShloMosaic.TcCoe Idealize.SL.Sem

variable (c : Dev nD) (i : grid0.Coords) (arg1 : Memref sig .tc .smem S42x8 .f32) (harg1 : arg1.IsWhole) (arg2 : Memref sig .tc .vmem S256x5376 .bf16) (harg2 : arg2.IsWhole) (arg3 : Memref sig .tc .vmem S5376x128 .f32) (harg3 : arg3.IsWhole) (arg4 : Memref sig .tc .vmem S5376x1024 .fp8e4m3) (harg4 : arg4.IsWhole) (arg5 : Memref sig .tc .vmem S128x128 .f32) (harg5 : arg5.IsWhole) (arg6 : Memref sig .tc .vmem S128x128 .f32) (harg6 : arg6.IsWhole) (arg7 : Memref sig .tc .vmem S256x64 .f32) (harg7 : arg7.IsWhole) (arg8 : Memref sig .tc .vmem S256x64 .f32) (harg8 : arg8.IsWhole) (arg9 : Memref sig .tc .vmem S256x5376 .fp8e4m3) (harg9 : arg9.IsWhole) (arg10 : Memref sig .tc .vmem S256x42 .f32) (harg10 : arg10.IsWhole) (arg11 : Memref sig .tc .vmem S512x256 .bf16) (harg11 : arg11.IsWhole) (arg12 : Memref sig .tc .vmem S256x256 .fp8e4m3) (harg12 : arg12.IsWhole) (arg13 : Memref sig .tc .vmem S256x2 .f32) (harg13 : arg13.IsWhole) (arg14 : Memref sig .tc .vmem S256x256 .fp8e4m3) (harg14 : arg14.IsWhole) (arg15 : Memref sig .tc .vmem S256x256 .fp8e4m3) (harg15 : arg15.IsWhole) (arg16 : Memref sig .tc .vmem S256x2 .f32) (harg16 : arg16.IsWhole) (arg17 : Memref sig .tc .vmem S1024x5376 .bf16) (harg17 : arg17.IsWhole) (arg18 : Memref sig .tc .vmem S5376x256 .bf16) (harg18 : arg18.IsWhole) (arg19 : Memref sig .tc .vmem S1024x256 .f32) (harg19 : arg19.IsWhole) (arg20 : Memref sig .tc .vmem S1x256 .f32) (harg20 : arg20.IsWhole) (arg21 : Memref sig .tc .vmem S48x256 .f32) (harg21 : arg21.IsWhole)
  (x0 : Vec Ideal S42x8 .f32) (x1 : Vec Ideal S256x5376 .bf16) (x2 : Vec Ideal S5376x128 .f32) (x3 : Vec Ideal S5376x1024 .fp8e4m3) (x4 : Vec Ideal S128x128 .f32) (x5 : Vec Ideal S128x128 .f32) (x6 : Vec Ideal S256x64 .f32) (x7 : Vec Ideal S256x64 .f32) (xs0 : Vec Ideal S1024x5376 .bf16) (xs1 : Vec Ideal S5376x256 .bf16) (xs2 : Vec Ideal S1024x256 .f32) (xs3 : Vec Ideal S1x256 .f32)
  (gq gk : Fin 128 → EReal) (hgq : ∀ k l, x4 (ix2 k l) = gq k) (hgk : ∀ k l, x5 (ix2 k l) = gk k)

include hgq in
/-- The queries stored. -/
theorem qt_C (hc0 : ¬cond0_0 i) (hc1 : ¬cond0_1 i) (hc2 : cond0_2 i) : out0_C_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 xs0 xs1 xs2 xs3 = qtA xs2 gq x6 x7 := by
  funext y
  unfold out0_C_10
  refine View.read_writes_apply_of_pieces _ _ _ _ ?_ y (cover0_C_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 xs0 xs1 xs2 xs3 y)
  have e : (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 xs0 xs1 xs2 xs3).1 = [⟨Rect.unit (s := S512x256) ![384, 0] S128x256.size inb_S512x256_S128x256_384_0, truncf .bf16 (turnedL harg5 harg7 harg8 harg19 x4 x6 x7 xs2 3 (by norm_num)) bitsLt_bf16_f32⟩, ⟨Rect.unit (s := S512x256) ![256, 0] S128x256.size inb_S512x256_S128x256_256_0, truncf .bf16 (turnedL harg5 harg7 harg8 harg19 x4 x6 x7 xs2 2 (by norm_num)) bitsLt_bf16_f32⟩, ⟨Rect.unit (s := S512x256) ![128, 0] S128x256.size inb_S512x256_S128x256_128_0, truncf .bf16 (turnedL harg5 harg7 harg8 harg19 x4 x6 x7 xs2 1 (by norm_num)) bitsLt_bf16_f32⟩, ⟨Rect.unit (s := S512x256) ![0, 0] S128x256.size inb_S512x256_S128x256_0_0, truncf .bf16 (turnedL harg5 harg7 harg8 harg19 x4 x6 x7 xs2 0 (by norm_num)) bitsLt_bf16_f32⟩] := by sl_kernel_rfl
  rw [e]
  refine List.forall_mem_cons.mpr ⟨fun x => q_piece harg5 harg7 harg8 harg19 x4 x6 x7 xs2 gq hgq 3 (by norm_num) inb_S512x256_S128x256_384_0 x, ?_⟩
  refine List.forall_mem_cons.mpr ⟨fun x => q_piece harg5 harg7 harg8 harg19 x4 x6 x7 xs2 gq hgq 2 (by norm_num) inb_S512x256_S128x256_256_0 x, ?_⟩
  refine List.forall_mem_cons.mpr ⟨fun x => q_piece harg5 harg7 harg8 harg19 x4 x6 x7 xs2 gq hgq 1 (by norm_num) inb_S512x256_S128x256_128_0 x, ?_⟩
  refine List.forall_mem_cons.mpr ⟨fun x => q_piece harg5 harg7 harg8 harg19 x4 x6 x7 xs2 gq hgq 0 (by norm_num) inb_S512x256_S128x256_0_0 x, ?_⟩
  intro p hp
  cases hp

include hgk in
/-- The codes of the keys stored. -/
theorem kc_C (hc0 : ¬cond0_0 i) (hc1 : ¬cond0_1 i) (hc2 : cond0_2 i) : out0_C_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 xs0 xs1 xs2 xs3 = kcA xs2 gk x6 x7 := by
  funext y
  unfold out0_C_11
  refine View.read_writes_apply_of_pieces _ _ _ _ ?_ y (cover0_C_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 xs0 xs1 xs2 xs3 y)
  have e : (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 xs0 xs1 xs2 xs3).2.1 = [⟨Rect.unit (s := S256x256) ![0, 128] S256x128.size inb_S256x256_S256x128_0_128, codesT (turnedL harg6 harg7 harg8 harg19 x5 x6 x7 xs2 5 (by norm_num))⟩, ⟨Rect.unit (s := S256x256) ![0, 0] S256x128.size inb_S256x256_S256x128_0_0, codesT (turnedL harg6 harg7 harg8 harg19 x5 x6 x7 xs2 4 (by norm_num))⟩] := by sl_kernel_rfl
  rw [e]
  refine List.forall_mem_cons.mpr ⟨fun x => codesT_piece (fun t => kR (tok xs2 t) gk (row64 x6 t) (row64 x7 t)) (turnedL harg6 harg7 harg8 harg19 x5 x6 x7 xs2 5 (by norm_num)) 1 (by norm_num) (fun t => turnedL_at harg6 harg7 harg8 harg19 x5 x6 x7 xs2 gk hgk 5 (by norm_num) t) inb_S256x256_S256x128_0_128 x, ?_⟩
  refine List.forall_mem_cons.mpr ⟨fun x => codesT_piece (fun t => kR (tok xs2 t) gk (row64 x6 t) (row64 x7 t)) (turnedL harg6 harg7 harg8 harg19 x5 x6 x7 xs2 4 (by norm_num)) 0 (by norm_num) (fun t => turnedL_at harg6 harg7 harg8 harg19 x5 x6 x7 xs2 gk hgk 4 (by norm_num) t) inb_S256x256_S256x128_0_0 x, ?_⟩
  intro p hp
  cases hp

include hgk in
/-- The scales of the keys stored. -/
theorem ks_C (hc0 : ¬cond0_0 i) (hc1 : ¬cond0_1 i) (hc2 : cond0_2 i) : out0_C_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 xs0 xs1 xs2 xs3 = ksA xs2 gk x6 x7 := by
  funext y
  unfold out0_C_12
  refine View.read_writes_apply_of_pieces _ _ _ _ ?_ y (cover0_C_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 xs0 xs1 xs2 xs3 y)
  have e : (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 xs0 xs1 xs2 xs3).2.2.1 = [⟨Rect.unit (s := S256x2) ![0, 1] S256x1.size inb_S256x2_S256x1_0_1, scaleCol 1 slices_S256x8_o0_1_S256x1 (turnedL harg6 harg7 harg8 harg19 x5 x6 x7 xs2 5 (by norm_num))⟩, ⟨Rect.unit (s := S256x2) ![0, 0] S256x1.size inb_S256x2_S256x1_0_0, scaleCol 0 slices_S256x8_o0_0_S256x1 (turnedL harg6 harg7 harg8 harg19 x5 x6 x7 xs2 4 (by norm_num))⟩] := by sl_kernel_rfl
  rw [e]
  refine List.forall_mem_cons.mpr ⟨fun x => by dsimp only; exact scales_piece (fun t => kR (tok xs2 t) gk (row64 x6 t) (row64 x7 t)) (turnedL harg6 harg7 harg8 harg19 x5 x6 x7 xs2 5 (by norm_num)) 1 (by norm_num) (fun t => turnedL_at harg6 harg7 harg8 harg19 x5 x6 x7 xs2 gk hgk 5 (by norm_num) t) slices_S256x8_o0_1_S256x1 inb_S256x2_S256x1_0_1 x, ?_⟩
  refine List.forall_mem_cons.mpr ⟨fun x => by dsimp only; exact scales_piece (fun t => kR (tok xs2 t) gk (row64 x6 t) (row64 x7 t)) (turnedL harg6 harg7 harg8 harg19 x5 x6 x7 xs2 4 (by norm_num)) 0 (by norm_num) (fun t => turnedL_at harg6 harg7 harg8 harg19 x5 x6 x7 xs2 gk hgk 4 (by norm_num) t) slices_S256x8_o0_0_S256x1 inb_S256x2_S256x1_0_0 x, ?_⟩
  intro p hp
  cases hp

/-- The codes of the values stored. -/
theorem vc_C (hc0 : ¬cond0_0 i) (hc1 : ¬cond0_1 i) (hc2 : cond0_2 i) : out0_C_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 xs0 xs1 xs2 xs3 = vcA xs2 := by
  funext y
  unfold out0_C_13
  refine View.read_writes_apply_of_pieces _ _ _ _ ?_ y (cover0_C_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 xs0 xs1 xs2 xs3 y)
  have e : (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 xs0 xs1 xs2 xs3).2.2.2.1 = [⟨Rect.unit (s := S256x256) ![0, 128] S256x128.size inb_S256x256_S256x128_0_128, codesT (rowsL harg19 xs2 7 (by norm_num))⟩, ⟨Rect.unit (s := S256x256) ![0, 0] S256x128.size inb_S256x256_S256x128_0_0, codesT (rowsL harg19 xs2 6 (by norm_num))⟩] := by sl_kernel_rfl
  rw [e]
  refine List.forall_mem_cons.mpr ⟨fun x => codesT_piece (fun t => vR (tok xs2 t)) (rowsL harg19 xs2 7 (by norm_num)) 1 (by norm_num) (fun t => rowsL_at harg19 xs2 7 (by norm_num) t) inb_S256x256_S256x128_0_128 x, ?_⟩
  refine List.forall_mem_cons.mpr ⟨fun x => codesT_piece (fun t => vR (tok xs2 t)) (rowsL harg19 xs2 6 (by norm_num)) 0 (by norm_num) (fun t => rowsL_at harg19 xs2 6 (by norm_num) t) inb_S256x256_S256x128_0_0 x, ?_⟩
  intro p hp
  cases hp

/-- The codes of the values stored the other way. -/
theorem vt_C (hc0 : ¬cond0_0 i) (hc1 : ¬cond0_1 i) (hc2 : cond0_2 i) : out0_C_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 xs0 xs1 xs2 xs3 = vtA xs2 := by
  funext y
  unfold out0_C_14
  refine View.read_writes_apply_of_pieces _ _ _ _ ?_ y (cover0_C_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 xs0 xs1 xs2 xs3 y)
  have e : (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 xs0 xs1 xs2 xs3).2.2.2.2.1 = [⟨Rect.unit (s := S256x256) ![128, 0] S128x256.size inb_S256x256_S128x256_128_0, codesV (rowsL harg19 xs2 7 (by norm_num))⟩, ⟨Rect.unit (s := S256x256) ![0, 0] S128x256.size inb_S256x256_S128x256_0_0, codesV (rowsL harg19 xs2 6 (by norm_num))⟩] := by sl_kernel_rfl
  rw [e]
  refine List.forall_mem_cons.mpr ⟨fun x => codesV_piece (fun t => vR (tok xs2 t)) (rowsL harg19 xs2 7 (by norm_num)) 1 (by norm_num) (fun t => rowsL_at harg19 xs2 7 (by norm_num) t) inb_S256x256_S128x256_128_0 x, ?_⟩
  refine List.forall_mem_cons.mpr ⟨fun x => codesV_piece (fun t => vR (tok xs2 t)) (rowsL harg19 xs2 6 (by norm_num)) 0 (by norm_num) (fun t => rowsL_at harg19 xs2 6 (by norm_num) t) inb_S256x256_S128x256_0_0 x, ?_⟩
  intro p hp
  cases hp

/-- The scales of the values stored. -/
theorem vs_C (hc0 : ¬cond0_0 i) (hc1 : ¬cond0_1 i) (hc2 : cond0_2 i) : out0_C_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 xs0 xs1 xs2 xs3 = vsA xs2 := by
  funext y
  unfold out0_C_15
  refine View.read_writes_apply_of_pieces _ _ _ _ ?_ y (cover0_C_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 xs0 xs1 xs2 xs3 y)
  have e : (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 xs0 xs1 xs2 xs3).2.2.2.2.2.1 = [⟨Rect.unit (s := S256x2) ![0, 1] S256x1.size inb_S256x2_S256x1_0_1, scaleCol 1 slices_S256x8_o0_1_S256x1 (rowsL harg19 xs2 7 (by norm_num))⟩, ⟨Rect.unit (s := S256x2) ![0, 0] S256x1.size inb_S256x2_S256x1_0_0, scaleCol 0 slices_S256x8_o0_0_S256x1 (rowsL harg19 xs2 6 (by norm_num))⟩] := by sl_kernel_rfl
  rw [e]
  refine List.forall_mem_cons.mpr ⟨fun x => by dsimp only; exact scales_piece (fun t => vR (tok xs2 t)) (rowsL harg19 xs2 7 (by norm_num)) 1 (by norm_num) (fun t => rowsL_at harg19 xs2 7 (by norm_num) t) slices_S256x8_o0_1_S256x1 inb_S256x2_S256x1_0_1 x, ?_⟩
  refine List.forall_mem_cons.mpr ⟨fun x => by dsimp only; exact scales_piece (fun t => vR (tok xs2 t)) (rowsL harg19 xs2 6 (by norm_num)) 0 (by norm_num) (fun t => rowsL_at harg19 xs2 6 (by norm_num) t) slices_S256x8_o0_0_S256x1 inb_S256x2_S256x1_0_0 x, ?_⟩
  intro p hp
  cases hp

end Cert.Proof.Project
end
-- ==== Proof.Lag.lean ====
/- What each step of the projection holds: the weight, the tile turned a step before, the products a step after. -/
module
public import proofs.«01_k».proof.Proof.Spec
public import proofs.«01_k».proof.Proof.Blocks
public import proofs.«01_k».proof.Proof.FirstWide
public import proofs.«01_k».proof.Proof.FirstTurn
public import proofs.«01_k».proof.Proof.FirstStep
public import proofs.«01_k».proof.Proof.StepTurn
public import proofs.«01_k».proof.Proof.StepScratch
public import proofs.«01_k».proof.Proof.StepOuts
public import proofs.«01_k».proof.Proof.LastStep
@[expose] public section
set_option maxRecDepth 16384
noncomputable section
namespace Cert.Proof.Project
open Cert.ProjectIdeal Cert.ProjectIdeal.Gen Cert.ProjectIdeal.Value Idealize.ShloMosaic Idealize.ShloMosaic.TcCoe Idealize.SL.Sem

variable (m : (ℓ : Loc nD τ sig) → Buf (Elt Ideal) ℓ) (c : Dev nD)

/-- The widened weight. -/
def weight : Vec Ideal S1024x5376 .bf16 := WideT (m ((c : Thread nD τ).loc main_arg2)) (m ((c : Thread nD τ).loc main_arg3))

theorem weight_eq (t : Fin cfg0.N) : WideT (iblk m c 3 t) (iblk m c 0 t) = weight m c := by
  funext j
  idx_vars j
  unfold weight WideT
  exact congrArg₂ (fun a b : EReal => a * b) (blk3 m c t j1 j0) (blk0 m c t ⟨j1.val / 128, by omega⟩ ⟨j0.val / 128, by omega⟩)

/-- The gains of the input's normalisation. -/
def gain (k : Fin 5376) : EReal := m ((c : Thread nD τ).loc main_arg1) (ix1 k)

theorem zeroMid : ¬ (1 ≤ 0 % 56 ∧ 0 % 56 ≤ 54) := by decide
theorem zeroLast : ¬ 0 % 56 = 55 := by decide
theorem ne0 {n : ℕ} (h : n + 1 ≤ 54) : ¬ (n + 1) % 56 = 0 := by omega
theorem mid {n : ℕ} (h : n + 1 ≤ 54) : 1 ≤ (n + 1) % 56 ∧ (n + 1) % 56 ≤ 54 := by omega
theorem ne55 {n : ℕ} (h : n + 1 ≤ 54) : ¬ (n + 1) % 56 = 55 := by omega

theorem held : ∀ (n : ℕ) (hn : n < cfg0.N), n ≤ 54 → (outsAt0 m c n hn).2.2.2.2.2.2.1 = weight m c
  | 0, hn, _ => by
    rw [outsAt0_A m c ⟨0, hn⟩ rfl zeroMid zeroLast, ← weight_eq m c ⟨0, hn⟩]
    dsimp only
    exact widened ..
  | n + 1, hn, h => by
    rw [outsAt0_B m c ⟨n + 1, hn⟩ (ne0 h) (mid h) (ne55 h)]
    exact held n (Nat.lt_of_succ_lt hn) (by omega)

theorem turnedAt : ∀ (n : ℕ) (hn : n < cfg0.N), n ≤ 54 → (outsAt0 m c n hn).2.2.2.2.2.2.2.1 = turnX (iblk m c 1 ⟨n, hn⟩)
  | 0, hn, _ => by
    rw [outsAt0_A m c ⟨0, hn⟩ rfl zeroMid zeroLast]
    dsimp only
    exact xt_A ..
  | n + 1, hn, h => by
    rw [outsAt0_B m c ⟨n + 1, hn⟩ (ne0 h) (mid h) (ne55 h)]
    dsimp only
    exact xt_B ..

theorem rootAt : ∀ (n : ℕ) (hn : n < cfg0.N), n ≤ 54 → (outsAt0 m c n hn).2.2.2.2.2.2.2.2.2 = rootX (iblk m c 1 ⟨n, hn⟩)
  | 0, hn, _ => by
    rw [outsAt0_A m c ⟨0, hn⟩ rfl zeroMid zeroLast]
    dsimp only
    exact root_A ..
  | n + 1, hn, h => by
    rw [outsAt0_B m c ⟨n + 1, hn⟩ (ne0 h) (mid h) (ne55 h)]
    dsimp only
    exact root_B ..

/-- The products of a tile, from its block of the input. -/
theorem productsAt (n : ℕ) (hn : n + 1 < cfg0.N) (h : n + 1 ≤ 54) :
    (outsAt0 m c (n + 1) hn).2.2.2.2.2.2.2.2.1 = accX (weight m c) (turnX (iblk m c 1 ⟨n, Nat.lt_of_succ_lt hn⟩)) (rootX (iblk m c 1 ⟨n, Nat.lt_of_succ_lt hn⟩)) (gain m c) := by
  have e1 := held m c n (Nat.lt_of_succ_lt hn) (by omega)
  have e2 := turnedAt m c n (Nat.lt_of_succ_lt hn) (by omega)
  have e3 := rootAt m c n (Nat.lt_of_succ_lt hn) (by omega)
  rw [← e1, ← e2, ← e3, outsAt0_B m c ⟨n + 1, hn⟩ (ne0 h) (mid h) (ne55 h)]
  dsimp only
  exact acc_B (hg := fun k l => blk2 m c ⟨n + 1, hn⟩ k l) ..

/-- A token's projections, read from the products. -/
theorem tok_eq (n : ℕ) (hn : n + 1 < cfg0.N) (h : n < 54) (t : Fin 256) :
    tok (outsAt0 m c (n + 1) hn).2.2.2.2.2.2.2.2.1 t = projT (m ((c : Thread nD τ).loc main_arg0)) (m ((c : Thread nD τ).loc main_arg1)) (m ((c : Thread nD τ).loc main_arg2)) (m ((c : Thread nD τ).loc main_arg3)) (row n h t) := by
  rw [productsAt m c n hn (by omega)]
  funext o
  unfold tok accX projT turnX rootX
  have e : (fun k => iblk m c 1 ⟨n, Nat.lt_of_succ_lt hn⟩ (ix2 t k)) = fun k => m ((c : Thread nD τ).loc main_arg0) (ix2 (row n h t) k) := by
    funext k
    exact blk1 m c ⟨n, Nat.lt_of_succ_lt hn⟩ h t k
  show projR _ (fun k => iblk m c 1 ⟨n, Nat.lt_of_succ_lt hn⟩ (ix2 t k)) (rootR fun k => iblk m c 1 ⟨n, Nat.lt_of_succ_lt hn⟩ (ix2 t k)) _ = _
  rw [e]
  rfl

end Cert.Proof.Project
end
-- ==== Proof.Stored.lean ====
/- What each step of the projection stores in its blocks of the results. -/
module
public import proofs.«01_k».proof.Proof.Blocks
public import proofs.«01_k».proof.Proof.StepOuts
public import proofs.«01_k».proof.Proof.LastStep
@[expose] public section
set_option maxRecDepth 16384
noncomputable section
namespace Cert.Proof.Project
open Cert.ProjectIdeal Cert.ProjectIdeal.Gen Cert.ProjectIdeal.Value Idealize.ShloMosaic Idealize.ShloMosaic.TcCoe Idealize.SL.Sem

variable (m : (ℓ : Loc nD τ sig) → Buf (Elt Ideal) ℓ) (c : Dev nD)

/-- The gains of the queries. -/
def gainQ (k : Fin 128) : EReal := m ((c : Thread nD τ).loc main_arg4) (ix1 k)
/-- The gains of the keys. -/
def gainK (k : Fin 128) : EReal := m ((c : Thread nD τ).loc main_arg5) (ix1 k)

theorem nz {n : ℕ} (h : n < 54) : ¬ (n + 2) % 56 = 0 := by omega
theorem inner {n : ℕ} (h : n < 53) : 1 ≤ (n + 2) % 56 ∧ (n + 2) % 56 ≤ 54 := by omega
theorem notLast {n : ℕ} (h : n < 53) : ¬ (n + 2) % 56 = 55 := by omega
theorem notInner {n : ℕ} (h : n = 53) : ¬ (1 ≤ (n + 2) % 56 ∧ (n + 2) % 56 ≤ 54) := by omega
theorem last {n : ℕ} (h : n = 53) : (n + 2) % 56 = 55 := by omega

theorem qtAt (n : ℕ) (hn : n + 2 < cfg0.N) (h : n < 54) : (outsAt0 m c (n + 2) hn).1 = qtA (outsAt0 m c (n + 1) (Nat.lt_of_succ_lt hn)).2.2.2.2.2.2.2.2.1 (gainQ m c) (iblk m c 6 ⟨n + 2, hn⟩) (iblk m c 7 ⟨n + 2, hn⟩) := by
  by_cases l : n < 53
  · rw [outsAt0_B m c ⟨n + 2, hn⟩ (nz h) (inner l) (notLast l)]
    dsimp only
    exact qt_B (hgq := fun k l => blk4 m c ⟨n + 2, hn⟩ k l) ..
  · rw [outsAt0_C m c ⟨n + 2, hn⟩ (nz h) (notInner (by omega)) (last (by omega))]
    dsimp only
    exact qt_C (hgq := fun k l => blk4 m c ⟨n + 2, hn⟩ k l) ..

theorem kcAt (n : ℕ) (hn : n + 2 < cfg0.N) (h : n < 54) : (outsAt0 m c (n + 2) hn).2.1 = kcA (outsAt0 m c (n + 1) (Nat.lt_of_succ_lt hn)).2.2.2.2.2.2.2.2.1 (gainK m c) (iblk m c 6 ⟨n + 2, hn⟩) (iblk m c 7 ⟨n + 2, hn⟩) := by
  by_cases l : n < 53
  · rw [outsAt0_B m c ⟨n + 2, hn⟩ (nz h) (inner l) (notLast l)]
    dsimp only
    exact kc_B (hgk := fun k l => blk5 m c ⟨n + 2, hn⟩ k l) ..
  · rw [outsAt0_C m c ⟨n + 2, hn⟩ (nz h) (notInner (by omega)) (last (by omega))]
    dsimp only
    exact kc_C (hgk := fun k l => blk5 m c ⟨n + 2, hn⟩ k l) ..

theorem ksAt (n : ℕ) (hn : n + 2 < cfg0.N) (h : n < 54) : (outsAt0 m c (n + 2) hn).2.2.1 = ksA (outsAt0 m c (n + 1) (Nat.lt_of_succ_lt hn)).2.2.2.2.2.2.2.2.1 (gainK m c) (iblk m c 6 ⟨n + 2, hn⟩) (iblk m c 7 ⟨n + 2, hn⟩) := by
  by_cases l : n < 53
  · rw [outsAt0_B m c ⟨n + 2, hn⟩ (nz h) (inner l) (notLast l)]
    dsimp only
    exact ks_B (hgk := fun k l => blk5 m c ⟨n + 2, hn⟩ k l) ..
  · rw [outsAt0_C m c ⟨n + 2, hn⟩ (nz h) (notInner (by omega)) (last (by omega))]
    dsimp only
    exact ks_C (hgk := fun k l => blk5 m c ⟨n + 2, hn⟩ k l) ..

theorem vcAt (n : ℕ) (hn : n + 2 < cfg0.N) (h : n < 54) : (outsAt0 m c (n + 2) hn).2.2.2.1 = vcA (outsAt0 m c (n + 1) (Nat.lt_of_succ_lt hn)).2.2.2.2.2.2.2.2.1 := by
  by_cases l : n < 53
  · rw [outsAt0_B m c ⟨n + 2, hn⟩ (nz h) (inner l) (notLast l)]
    dsimp only
    exact vc_B ..
  · rw [outsAt0_C m c ⟨n + 2, hn⟩ (nz h) (notInner (by omega)) (last (by omega))]
    dsimp only
    exact vc_C ..

theorem vtAt (n : ℕ) (hn : n + 2 < cfg0.N) (h : n < 54) : (outsAt0 m c (n + 2) hn).2.2.2.2.1 = vtA (outsAt0 m c (n + 1) (Nat.lt_of_succ_lt hn)).2.2.2.2.2.2.2.2.1 := by
  by_cases l : n < 53
  · rw [outsAt0_B m c ⟨n + 2, hn⟩ (nz h) (inner l) (notLast l)]
    dsimp only
    exact vt_B ..
  · rw [outsAt0_C m c ⟨n + 2, hn⟩ (nz h) (notInner (by omega)) (last (by omega))]
    dsimp only
    exact vt_C ..

theorem vsAt (n : ℕ) (hn : n + 2 < cfg0.N) (h : n < 54) : (outsAt0 m c (n + 2) hn).2.2.2.2.2.1 = vsA (outsAt0 m c (n + 1) (Nat.lt_of_succ_lt hn)).2.2.2.2.2.2.2.2.1 := by
  by_cases l : n < 53
  · rw [outsAt0_B m c ⟨n + 2, hn⟩ (nz h) (inner l) (notLast l)]
    dsimp only
    exact vs_B ..
  · rw [outsAt0_C m c ⟨n + 2, hn⟩ (nz h) (notInner (by omega)) (last (by omega))]
    dsimp only
    exact vs_C ..

end Cert.Proof.Project
end
-- ==== Proof.Tiles.lean ====
/- What each step stores, of the arguments: the results' entries of one tile of tokens. -/
module
public import proofs.«01_k».proof.Proof.Lag
public import proofs.«01_k».proof.Proof.Stored
@[expose] public section
set_option maxRecDepth 16384
noncomputable section
namespace Cert.Proof.Project
open Cert.ProjectIdeal Cert.ProjectIdeal.Gen Cert.ProjectIdeal.Value Idealize.ShloMosaic Idealize.ShloMosaic.TcCoe Idealize.SL.Sem

variable (m : (ℓ : Loc nD τ sig) → Buf (Elt Ideal) ℓ) (c : Dev nD)

/-- The six results of the arguments held. -/
def finQT : Vec Ideal S512x13824 .bf16 := QT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7))
def finKC : Vec Ideal S13824x256 .fp8e4m3 := KC (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7))
def finKS : Vec Ideal S13824x2 .f32 := KS (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7))
def finVC : Vec Ideal S13824x256 .fp8e4m3 := VC (m ((c : Thread nD τ).loc main_arg0)) (m ((c : Thread nD τ).loc main_arg1)) (m ((c : Thread nD τ).loc main_arg2)) (m ((c : Thread nD τ).loc main_arg3))
def finVT : Vec Ideal S256x13824 .fp8e4m3 := VT (m ((c : Thread nD τ).loc main_arg0)) (m ((c : Thread nD τ).loc main_arg1)) (m ((c : Thread nD τ).loc main_arg2)) (m ((c : Thread nD τ).loc main_arg3))
def finVS : Vec Ideal S13824x2 .f32 := VS (m ((c : Thread nD τ).loc main_arg0)) (m ((c : Thread nD τ).loc main_arg1)) (m ((c : Thread nD τ).loc main_arg2)) (m ((c : Thread nD τ).loc main_arg3))

variable (n : ℕ) (hn : n + 2 < cfg0.N) (h : n < 54)

theorem row6 (r : Fin 256) : row64 (iblk m c 6 ⟨n + 2, hn⟩) r = rowT (m ((c : Thread nD τ).loc main_arg6)) (row n h r) := by
  funext k
  exact blk6 m c ⟨n + 2, hn⟩ r k
theorem row7 (r : Fin 256) : row64 (iblk m c 7 ⟨n + 2, hn⟩) r = rowT (m ((c : Thread nD τ).loc main_arg7)) (row n h r) := by
  funext k
  exact blk7 m c ⟨n + 2, hn⟩ r k

theorem qtTile (o : Fin 512) (r : Fin 256) : (outsAt0 m c (n + 2) hn).1 (ix2 o r) = finQT m c (ix2 o (row n h r)) := by
  rw [qtAt m c n hn h]
  show qR (tok _ r) (gainQ m c) (row64 (iblk m c 6 ⟨n + 2, hn⟩) r) (row64 (iblk m c 7 ⟨n + 2, hn⟩) r) o = qR (projT _ _ _ _ (row n h r)) (headGains _) (rowT _ (row n h r)) (rowT _ (row n h r)) o
  rw [tok_eq m c n _ h, row6 m c n hn h, row7 m c n hn h]
  rfl

theorem kcTile (r : Fin 256) (o : Fin 256) : (outsAt0 m c (n + 2) hn).2.1 (ix2 r o) = finKC m c (ix2 (row n h r) o) := by
  rw [kcAt m c n hn h]
  show codes2 (kR (tok _ r) (gainK m c) (row64 (iblk m c 6 ⟨n + 2, hn⟩) r) (row64 (iblk m c 7 ⟨n + 2, hn⟩) r)) o = codes2 (kR (projT _ _ _ _ (row n h r)) (headGains _) (rowT _ (row n h r)) (rowT _ (row n h r))) o
  rw [tok_eq m c n _ h, row6 m c n hn h, row7 m c n hn h]
  rfl

theorem ksTile (r : Fin 256) (o : Fin 2) : (outsAt0 m c (n + 2) hn).2.2.1 (ix2 r o) = finKS m c (ix2 (row n h r) o) := by
  rw [ksAt m c n hn h]
  show scaleR (kR (tok _ r) (gainK m c) (row64 (iblk m c 6 ⟨n + 2, hn⟩) r) (row64 (iblk m c 7 ⟨n + 2, hn⟩) r) o) = scaleR (kR (projT _ _ _ _ (row n h r)) (headGains _) (rowT _ (row n h r)) (rowT _ (row n h r)) o)
  rw [tok_eq m c n _ h, row6 m c n hn h, row7 m c n hn h]
  rfl

theorem vcTile (r : Fin 256) (o : Fin 256) : (outsAt0 m c (n + 2) hn).2.2.2.1 (ix2 r o) = finVC m c (ix2 (row n h r) o) := by
  rw [vcAt m c n hn h]
  show codes2 (vR (tok _ r)) o = codes2 (vR (projT _ _ _ _ (row n h r))) o
  rw [tok_eq m c n _ h]

theorem vtTile (o : Fin 256) (r : Fin 256) : (outsAt0 m c (n + 2) hn).2.2.2.2.1 (ix2 o r) = finVT m c (ix2 o (row n h r)) := by
  rw [vtAt m c n hn h]
  show codes2 (vR (tok _ r)) o = codes2 (vR (projT _ _ _ _ (row n h r))) o
  rw [tok_eq m c n _ h]

theorem vsTile (r : Fin 256) (o : Fin 2) : (outsAt0 m c (n + 2) hn).2.2.2.2.2.1 (ix2 r o) = finVS m c (ix2 (row n h r) o) := by
  rw [vsAt m c n hn h]
  show scaleR (vR (tok _ r) o) = scaleR (vR (projT _ _ _ _ (row n h r)) o)
  rw [tok_eq m c n _ h]

end Cert.Proof.Project
end
-- ==== Proof.Arrays.lean ====
/- The six arrays the projection leaves, each of the arguments. -/
module
public import proofs.«01_k».proof.Proof.Tiles
@[expose] public section
set_option maxRecDepth 16384
noncomputable section
namespace Cert.Proof.Project
open Cert.ProjectIdeal Cert.ProjectIdeal.Gen Cert.ProjectIdeal.Value Idealize.ShloMosaic Idealize.ShloMosaic.TcCoe Idealize.SL.Sem

variable (m : (ℓ : Loc nD τ sig) → Buf (Elt Ideal) ℓ) (c : Dev nD)

/-- The points that write back the queries. -/
theorem idx10 : ∀ t : Fin cfg0.N, (cfg0.win 10).flush t = true → 2 ≤ t.val ∧ win0_10.index t = ![0, t.val - 2] :=
  (by decide +kernel : ∀ t : Fin grid0.N, (cfg0.win 10).flush t = true → 2 ≤ t.val ∧ win0_10.index t = ![0, t.val - 2])
theorem onto10 : ∀ n : Fin 54, ∃ t : Fin cfg0.N, (cfg0.win 10).flush t = true ∧ t.val = n.val + 2 :=
  (by decide +kernel : ∀ n : Fin 54, ∃ t : Fin grid0.N, (cfg0.win 10).flush t = true ∧ t.val = n.val + 2)

theorem flushed10_eq (t : Fin cfg0.N) (hf : (cfg0.win 10).flush t = true) : (dats m 0 c).flushed 10 t = ((cfg0.win 10).blk t).view.read (Elt Ideal) (finQT m c) := by
  obtain ⟨h2, hi⟩ := idx10 t hf
  rw [flushed10]
  obtain ⟨tv, ht⟩ := t
  obtain ⟨n, rfl⟩ : ∃ n, tv = n + 2 := ⟨tv - 2, (Nat.sub_add_cancel h2).symm⟩
  have h : n < 54 := by have := lt_of_lt_of_eq ht N_0; omega
  funext y
  have hb0 : (((cfg0.win 10).blk ⟨n + 2, ht⟩).view.emb y 0).val = win0_10.index ⟨n + 2, ht⟩ (0 : Fin 2) * 512 + 1 * (y 0).val := rfl
  have hb1 : (((cfg0.win 10).blk ⟨n + 2, ht⟩).view.emb y 1).val = win0_10.index ⟨n + 2, ht⟩ (1 : Fin 2) * 256 + 1 * (y 1).val := rfl
  have q0 : win0_10.index ⟨n + 2, ht⟩ (0 : Fin 2) = 0 := congrFun hi 0
  have q1 : win0_10.index ⟨n + 2, ht⟩ (1 : Fin 2) = n := congrFun hi 1
  show (outsAt0 m c (n + 2) ht).1 ((cfg0.win 10).xinj (grid0.coords ⟨n + 2, ht⟩) y) = finQT m c (((cfg0.win 10).blk ⟨n + 2, ht⟩).view.emb y)
  have e0 : ((cfg0.win 10).xinj (grid0.coords ⟨n + 2, ht⟩) y 0).val = (y 0).val := rfl
  have e1 : ((cfg0.win 10).xinj (grid0.coords ⟨n + 2, ht⟩) y 1).val = (y 1).val := rfl
  generalize (cfg0.win 10).xinj (grid0.coords ⟨n + 2, ht⟩) y = j at e0 e1 ⊢
  change S512x256.Idx at j
  obtain ⟨j0, j1, rfl⟩ : ∃ (j0 : Fin 512) (j1 : Fin 256), j = ix2 j0 j1 := ⟨j 0, j 1, by funext a; match a with | ⟨0, _⟩ => rfl | ⟨1, _⟩ => rfl⟩
  change j0.val = (y 0).val at e0
  change j1.val = (y 1).val at e1
  refine (qtTile m c n ht h j0 j1).trans (congrArg (finQT m c) ?_)
  funext a
  apply Fin.ext
  match a with
  | ⟨0, _⟩ => show (j0.val) = (((cfg0.win 10).blk ⟨n + 2, ht⟩).view.emb y 0).val; rw [hb0, q0]; omega
  | ⟨1, _⟩ => show (256 * n + j1.val) = (((cfg0.win 10).blk ⟨n + 2, ht⟩).view.emb y 1).val; rw [hb1, q1]; omega

theorem mem_blk10 (t : Fin cfg0.N) (i : S512x13824.Idx) :
    i ∈ ((cfg0.win 10).blk t).view.set ↔ ∀ a : Fin 2, win0_10.index t a * S512x256.size a ≤ (i a).val ∧ (i a).val < win0_10.index t a * S512x256.size a + S512x256.size a := by
  show i ∈ ((View.whole main_v6_2).slice (win0_10.rect t)).set ↔ _
  rw [View.set_slice_whole, Rect.mem_set_unit]
  exact Iff.rfl

theorem covered10 (i : S512x13824.Idx) : ∃ t : Fin cfg0.N, (cfg0.win 10).flush t = true ∧ i ∈ ((cfg0.win 10).blk t).view.set := by
  have b0 : (i 0).val < 512 := (i 0).isLt
  have b1 : (i 1).val < 13824 := (i 1).isLt
  obtain ⟨t, hf, ht⟩ := onto10 ⟨(i 1).val / 256, by omega⟩
  obtain ⟨-, hi⟩ := idx10 t hf
  have q0 : win0_10.index t (0 : Fin 2) = 0 := congrFun hi 0
  have q1 : win0_10.index t (1 : Fin 2) = t.val - 2 := congrFun hi 1
  change t.val = (i 1).val / 256 + 2 at ht
  refine ⟨t, hf, ?_⟩
  rw [mem_blk10]
  intro a
  match a with
  | ⟨0, _⟩ => show win0_10.index t (0 : Fin 2) * 512 ≤ (i 0).val ∧ (i 0).val < win0_10.index t (0 : Fin 2) * 512 + 512; rw [q0]; omega
  | ⟨1, _⟩ => show win0_10.index t (1 : Fin 2) * 256 ≤ (i 1).val ∧ (i 1).val < win0_10.index t (1 : Fin 2) * 256 + 256; rw [q1]; omega

theorem array10 : (dats m 0 c).arrAt 10 cfg0.N = finQT m c :=
  (dats m 0 c).arrAt_eq_of_cover 10 _ (fun t hf => flushed10_eq m c t hf) (fun i => covered10 i)

/-- The points that write back the codes of the keys. -/
theorem idx11 : ∀ t : Fin cfg0.N, (cfg0.win 11).flush t = true → 2 ≤ t.val ∧ win0_11.index t = ![t.val - 2, 0] :=
  (by decide +kernel : ∀ t : Fin grid0.N, (cfg0.win 11).flush t = true → 2 ≤ t.val ∧ win0_11.index t = ![t.val - 2, 0])
theorem onto11 : ∀ n : Fin 54, ∃ t : Fin cfg0.N, (cfg0.win 11).flush t = true ∧ t.val = n.val + 2 :=
  (by decide +kernel : ∀ n : Fin 54, ∃ t : Fin grid0.N, (cfg0.win 11).flush t = true ∧ t.val = n.val + 2)

theorem flushed11_eq (t : Fin cfg0.N) (hf : (cfg0.win 11).flush t = true) : (dats m 0 c).flushed 11 t = ((cfg0.win 11).blk t).view.read (Elt Ideal) (finKC m c) := by
  obtain ⟨h2, hi⟩ := idx11 t hf
  rw [flushed11]
  obtain ⟨tv, ht⟩ := t
  obtain ⟨n, rfl⟩ : ∃ n, tv = n + 2 := ⟨tv - 2, (Nat.sub_add_cancel h2).symm⟩
  have h : n < 54 := by have := lt_of_lt_of_eq ht N_0; omega
  funext y
  have hb0 : (((cfg0.win 11).blk ⟨n + 2, ht⟩).view.emb y 0).val = win0_11.index ⟨n + 2, ht⟩ (0 : Fin 2) * 256 + 1 * (y 0).val := rfl
  have hb1 : (((cfg0.win 11).blk ⟨n + 2, ht⟩).view.emb y 1).val = win0_11.index ⟨n + 2, ht⟩ (1 : Fin 2) * 256 + 1 * (y 1).val := rfl
  have q0 : win0_11.index ⟨n + 2, ht⟩ (0 : Fin 2) = n := congrFun hi 0
  have q1 : win0_11.index ⟨n + 2, ht⟩ (1 : Fin 2) = 0 := congrFun hi 1
  show (outsAt0 m c (n + 2) ht).2.1 ((cfg0.win 11).xinj (grid0.coords ⟨n + 2, ht⟩) y) = finKC m c (((cfg0.win 11).blk ⟨n + 2, ht⟩).view.emb y)
  have e0 : ((cfg0.win 11).xinj (grid0.coords ⟨n + 2, ht⟩) y 0).val = (y 0).val := rfl
  have e1 : ((cfg0.win 11).xinj (grid0.coords ⟨n + 2, ht⟩) y 1).val = (y 1).val := rfl
  generalize (cfg0.win 11).xinj (grid0.coords ⟨n + 2, ht⟩) y = j at e0 e1 ⊢
  change S256x256.Idx at j
  obtain ⟨j0, j1, rfl⟩ : ∃ (j0 : Fin 256) (j1 : Fin 256), j = ix2 j0 j1 := ⟨j 0, j 1, by funext a; match a with | ⟨0, _⟩ => rfl | ⟨1, _⟩ => rfl⟩
  change j0.val = (y 0).val at e0
  change j1.val = (y 1).val at e1
  refine (kcTile m c n ht h j0 j1).trans (congrArg (finKC m c) ?_)
  funext a
  apply Fin.ext
  match a with
  | ⟨0, _⟩ => show (256 * n + j0.val) = (((cfg0.win 11).blk ⟨n + 2, ht⟩).view.emb y 0).val; rw [hb0, q0]; omega
  | ⟨1, _⟩ => show (j1.val) = (((cfg0.win 11).blk ⟨n + 2, ht⟩).view.emb y 1).val; rw [hb1, q1]; omega

theorem mem_blk11 (t : Fin cfg0.N) (i : S13824x256.Idx) :
    i ∈ ((cfg0.win 11).blk t).view.set ↔ ∀ a : Fin 2, win0_11.index t a * S256x256.size a ≤ (i a).val ∧ (i a).val < win0_11.index t a * S256x256.size a + S256x256.size a := by
  show i ∈ ((View.whole main_v6_3).slice (win0_11.rect t)).set ↔ _
  rw [View.set_slice_whole, Rect.mem_set_unit]
  exact Iff.rfl

theorem covered11 (i : S13824x256.Idx) : ∃ t : Fin cfg0.N, (cfg0.win 11).flush t = true ∧ i ∈ ((cfg0.win 11).blk t).view.set := by
  have b0 : (i 0).val < 13824 := (i 0).isLt
  have b1 : (i 1).val < 256 := (i 1).isLt
  obtain ⟨t, hf, ht⟩ := onto11 ⟨(i 0).val / 256, by omega⟩
  obtain ⟨-, hi⟩ := idx11 t hf
  have q0 : win0_11.index t (0 : Fin 2) = t.val - 2 := congrFun hi 0
  have q1 : win0_11.index t (1 : Fin 2) = 0 := congrFun hi 1
  change t.val = (i 0).val / 256 + 2 at ht
  refine ⟨t, hf, ?_⟩
  rw [mem_blk11]
  intro a
  match a with
  | ⟨0, _⟩ => show win0_11.index t (0 : Fin 2) * 256 ≤ (i 0).val ∧ (i 0).val < win0_11.index t (0 : Fin 2) * 256 + 256; rw [q0]; omega
  | ⟨1, _⟩ => show win0_11.index t (1 : Fin 2) * 256 ≤ (i 1).val ∧ (i 1).val < win0_11.index t (1 : Fin 2) * 256 + 256; rw [q1]; omega

theorem array11 : (dats m 0 c).arrAt 11 cfg0.N = finKC m c :=
  (dats m 0 c).arrAt_eq_of_cover 11 _ (fun t hf => flushed11_eq m c t hf) (fun i => covered11 i)

/-- The points that write back the scales of the keys. -/
theorem idx12 : ∀ t : Fin cfg0.N, (cfg0.win 12).flush t = true → 2 ≤ t.val ∧ win0_12.index t = ![t.val - 2, 0] :=
  (by decide +kernel : ∀ t : Fin grid0.N, (cfg0.win 12).flush t = true → 2 ≤ t.val ∧ win0_12.index t = ![t.val - 2, 0])
theorem onto12 : ∀ n : Fin 54, ∃ t : Fin cfg0.N, (cfg0.win 12).flush t = true ∧ t.val = n.val + 2 :=
  (by decide +kernel : ∀ n : Fin 54, ∃ t : Fin grid0.N, (cfg0.win 12).flush t = true ∧ t.val = n.val + 2)

theorem flushed12_eq (t : Fin cfg0.N) (hf : (cfg0.win 12).flush t = true) : (dats m 0 c).flushed 12 t = ((cfg0.win 12).blk t).view.read (Elt Ideal) (finKS m c) := by
  obtain ⟨h2, hi⟩ := idx12 t hf
  rw [flushed12]
  obtain ⟨tv, ht⟩ := t
  obtain ⟨n, rfl⟩ : ∃ n, tv = n + 2 := ⟨tv - 2, (Nat.sub_add_cancel h2).symm⟩
  have h : n < 54 := by have := lt_of_lt_of_eq ht N_0; omega
  funext y
  have hb0 : (((cfg0.win 12).blk ⟨n + 2, ht⟩).view.emb y 0).val = win0_12.index ⟨n + 2, ht⟩ (0 : Fin 2) * 256 + 1 * (y 0).val := rfl
  have hb1 : (((cfg0.win 12).blk ⟨n + 2, ht⟩).view.emb y 1).val = win0_12.index ⟨n + 2, ht⟩ (1 : Fin 2) * 2 + 1 * (y 1).val := rfl
  have q0 : win0_12.index ⟨n + 2, ht⟩ (0 : Fin 2) = n := congrFun hi 0
  have q1 : win0_12.index ⟨n + 2, ht⟩ (1 : Fin 2) = 0 := congrFun hi 1
  show (outsAt0 m c (n + 2) ht).2.2.1 ((cfg0.win 12).xinj (grid0.coords ⟨n + 2, ht⟩) y) = finKS m c (((cfg0.win 12).blk ⟨n + 2, ht⟩).view.emb y)
  have e0 : ((cfg0.win 12).xinj (grid0.coords ⟨n + 2, ht⟩) y 0).val = (y 0).val := rfl
  have e1 : ((cfg0.win 12).xinj (grid0.coords ⟨n + 2, ht⟩) y 1).val = (y 1).val := rfl
  generalize (cfg0.win 12).xinj (grid0.coords ⟨n + 2, ht⟩) y = j at e0 e1 ⊢
  change S256x2.Idx at j
  obtain ⟨j0, j1, rfl⟩ : ∃ (j0 : Fin 256) (j1 : Fin 2), j = ix2 j0 j1 := ⟨j 0, j 1, by funext a; match a with | ⟨0, _⟩ => rfl | ⟨1, _⟩ => rfl⟩
  change j0.val = (y 0).val at e0
  change j1.val = (y 1).val at e1
  refine (ksTile m c n ht h j0 j1).trans (congrArg (finKS m c) ?_)
  funext a
  apply Fin.ext
  match a with
  | ⟨0, _⟩ => show (256 * n + j0.val) = (((cfg0.win 12).blk ⟨n + 2, ht⟩).view.emb y 0).val; rw [hb0, q0]; omega
  | ⟨1, _⟩ => show (j1.val) = (((cfg0.win 12).blk ⟨n + 2, ht⟩).view.emb y 1).val; rw [hb1, q1]; omega

theorem mem_blk12 (t : Fin cfg0.N) (i : S13824x2.Idx) :
    i ∈ ((cfg0.win 12).blk t).view.set ↔ ∀ a : Fin 2, win0_12.index t a * S256x2.size a ≤ (i a).val ∧ (i a).val < win0_12.index t a * S256x2.size a + S256x2.size a := by
  show i ∈ ((View.whole main_v6_4).slice (win0_12.rect t)).set ↔ _
  rw [View.set_slice_whole, Rect.mem_set_unit]
  exact Iff.rfl

theorem covered12 (i : S13824x2.Idx) : ∃ t : Fin cfg0.N, (cfg0.win 12).flush t = true ∧ i ∈ ((cfg0.win 12).blk t).view.set := by
  have b0 : (i 0).val < 13824 := (i 0).isLt
  have b1 : (i 1).val < 2 := (i 1).isLt
  obtain ⟨t, hf, ht⟩ := onto12 ⟨(i 0).val / 256, by omega⟩
  obtain ⟨-, hi⟩ := idx12 t hf
  have q0 : win0_12.index t (0 : Fin 2) = t.val - 2 := congrFun hi 0
  have q1 : win0_12.index t (1 : Fin 2) = 0 := congrFun hi 1
  change t.val = (i 0).val / 256 + 2 at ht
  refine ⟨t, hf, ?_⟩
  rw [mem_blk12]
  intro a
  match a with
  | ⟨0, _⟩ => show win0_12.index t (0 : Fin 2) * 256 ≤ (i 0).val ∧ (i 0).val < win0_12.index t (0 : Fin 2) * 256 + 256; rw [q0]; omega
  | ⟨1, _⟩ => show win0_12.index t (1 : Fin 2) * 2 ≤ (i 1).val ∧ (i 1).val < win0_12.index t (1 : Fin 2) * 2 + 2; rw [q1]; omega

theorem array12 : (dats m 0 c).arrAt 12 cfg0.N = finKS m c :=
  (dats m 0 c).arrAt_eq_of_cover 12 _ (fun t hf => flushed12_eq m c t hf) (fun i => covered12 i)

/-- The points that write back the codes of the values. -/
theorem idx13 : ∀ t : Fin cfg0.N, (cfg0.win 13).flush t = true → 2 ≤ t.val ∧ win0_13.index t = ![t.val - 2, 0] :=
  (by decide +kernel : ∀ t : Fin grid0.N, (cfg0.win 13).flush t = true → 2 ≤ t.val ∧ win0_13.index t = ![t.val - 2, 0])
theorem onto13 : ∀ n : Fin 54, ∃ t : Fin cfg0.N, (cfg0.win 13).flush t = true ∧ t.val = n.val + 2 :=
  (by decide +kernel : ∀ n : Fin 54, ∃ t : Fin grid0.N, (cfg0.win 13).flush t = true ∧ t.val = n.val + 2)

theorem flushed13_eq (t : Fin cfg0.N) (hf : (cfg0.win 13).flush t = true) : (dats m 0 c).flushed 13 t = ((cfg0.win 13).blk t).view.read (Elt Ideal) (finVC m c) := by
  obtain ⟨h2, hi⟩ := idx13 t hf
  rw [flushed13]
  obtain ⟨tv, ht⟩ := t
  obtain ⟨n, rfl⟩ : ∃ n, tv = n + 2 := ⟨tv - 2, (Nat.sub_add_cancel h2).symm⟩
  have h : n < 54 := by have := lt_of_lt_of_eq ht N_0; omega
  funext y
  have hb0 : (((cfg0.win 13).blk ⟨n + 2, ht⟩).view.emb y 0).val = win0_13.index ⟨n + 2, ht⟩ (0 : Fin 2) * 256 + 1 * (y 0).val := rfl
  have hb1 : (((cfg0.win 13).blk ⟨n + 2, ht⟩).view.emb y 1).val = win0_13.index ⟨n + 2, ht⟩ (1 : Fin 2) * 256 + 1 * (y 1).val := rfl
  have q0 : win0_13.index ⟨n + 2, ht⟩ (0 : Fin 2) = n := congrFun hi 0
  have q1 : win0_13.index ⟨n + 2, ht⟩ (1 : Fin 2) = 0 := congrFun hi 1
  show (outsAt0 m c (n + 2) ht).2.2.2.1 ((cfg0.win 13).xinj (grid0.coords ⟨n + 2, ht⟩) y) = finVC m c (((cfg0.win 13).blk ⟨n + 2, ht⟩).view.emb y)
  have e0 : ((cfg0.win 13).xinj (grid0.coords ⟨n + 2, ht⟩) y 0).val = (y 0).val := rfl
  have e1 : ((cfg0.win 13).xinj (grid0.coords ⟨n + 2, ht⟩) y 1).val = (y 1).val := rfl
  generalize (cfg0.win 13).xinj (grid0.coords ⟨n + 2, ht⟩) y = j at e0 e1 ⊢
  change S256x256.Idx at j
  obtain ⟨j0, j1, rfl⟩ : ∃ (j0 : Fin 256) (j1 : Fin 256), j = ix2 j0 j1 := ⟨j 0, j 1, by funext a; match a with | ⟨0, _⟩ => rfl | ⟨1, _⟩ => rfl⟩
  change j0.val = (y 0).val at e0
  change j1.val = (y 1).val at e1
  refine (vcTile m c n ht h j0 j1).trans (congrArg (finVC m c) ?_)
  funext a
  apply Fin.ext
  match a with
  | ⟨0, _⟩ => show (256 * n + j0.val) = (((cfg0.win 13).blk ⟨n + 2, ht⟩).view.emb y 0).val; rw [hb0, q0]; omega
  | ⟨1, _⟩ => show (j1.val) = (((cfg0.win 13).blk ⟨n + 2, ht⟩).view.emb y 1).val; rw [hb1, q1]; omega

theorem mem_blk13 (t : Fin cfg0.N) (i : S13824x256.Idx) :
    i ∈ ((cfg0.win 13).blk t).view.set ↔ ∀ a : Fin 2, win0_13.index t a * S256x256.size a ≤ (i a).val ∧ (i a).val < win0_13.index t a * S256x256.size a + S256x256.size a := by
  show i ∈ ((View.whole main_v6_5).slice (win0_13.rect t)).set ↔ _
  rw [View.set_slice_whole, Rect.mem_set_unit]
  exact Iff.rfl

theorem covered13 (i : S13824x256.Idx) : ∃ t : Fin cfg0.N, (cfg0.win 13).flush t = true ∧ i ∈ ((cfg0.win 13).blk t).view.set := by
  have b0 : (i 0).val < 13824 := (i 0).isLt
  have b1 : (i 1).val < 256 := (i 1).isLt
  obtain ⟨t, hf, ht⟩ := onto13 ⟨(i 0).val / 256, by omega⟩
  obtain ⟨-, hi⟩ := idx13 t hf
  have q0 : win0_13.index t (0 : Fin 2) = t.val - 2 := congrFun hi 0
  have q1 : win0_13.index t (1 : Fin 2) = 0 := congrFun hi 1
  change t.val = (i 0).val / 256 + 2 at ht
  refine ⟨t, hf, ?_⟩
  rw [mem_blk13]
  intro a
  match a with
  | ⟨0, _⟩ => show win0_13.index t (0 : Fin 2) * 256 ≤ (i 0).val ∧ (i 0).val < win0_13.index t (0 : Fin 2) * 256 + 256; rw [q0]; omega
  | ⟨1, _⟩ => show win0_13.index t (1 : Fin 2) * 256 ≤ (i 1).val ∧ (i 1).val < win0_13.index t (1 : Fin 2) * 256 + 256; rw [q1]; omega

theorem array13 : (dats m 0 c).arrAt 13 cfg0.N = finVC m c :=
  (dats m 0 c).arrAt_eq_of_cover 13 _ (fun t hf => flushed13_eq m c t hf) (fun i => covered13 i)

/-- The points that write back the codes of the values, turned. -/
theorem idx14 : ∀ t : Fin cfg0.N, (cfg0.win 14).flush t = true → 2 ≤ t.val ∧ win0_14.index t = ![0, t.val - 2] :=
  (by decide +kernel : ∀ t : Fin grid0.N, (cfg0.win 14).flush t = true → 2 ≤ t.val ∧ win0_14.index t = ![0, t.val - 2])
theorem onto14 : ∀ n : Fin 54, ∃ t : Fin cfg0.N, (cfg0.win 14).flush t = true ∧ t.val = n.val + 2 :=
  (by decide +kernel : ∀ n : Fin 54, ∃ t : Fin grid0.N, (cfg0.win 14).flush t = true ∧ t.val = n.val + 2)

theorem flushed14_eq (t : Fin cfg0.N) (hf : (cfg0.win 14).flush t = true) : (dats m 0 c).flushed 14 t = ((cfg0.win 14).blk t).view.read (Elt Ideal) (finVT m c) := by
  obtain ⟨h2, hi⟩ := idx14 t hf
  rw [flushed14]
  obtain ⟨tv, ht⟩ := t
  obtain ⟨n, rfl⟩ : ∃ n, tv = n + 2 := ⟨tv - 2, (Nat.sub_add_cancel h2).symm⟩
  have h : n < 54 := by have := lt_of_lt_of_eq ht N_0; omega
  funext y
  have hb0 : (((cfg0.win 14).blk ⟨n + 2, ht⟩).view.emb y 0).val = win0_14.index ⟨n + 2, ht⟩ (0 : Fin 2) * 256 + 1 * (y 0).val := rfl
  have hb1 : (((cfg0.win 14).blk ⟨n + 2, ht⟩).view.emb y 1).val = win0_14.index ⟨n + 2, ht⟩ (1 : Fin 2) * 256 + 1 * (y 1).val := rfl
  have q0 : win0_14.index ⟨n + 2, ht⟩ (0 : Fin 2) = 0 := congrFun hi 0
  have q1 : win0_14.index ⟨n + 2, ht⟩ (1 : Fin 2) = n := congrFun hi 1
  show (outsAt0 m c (n + 2) ht).2.2.2.2.1 ((cfg0.win 14).xinj (grid0.coords ⟨n + 2, ht⟩) y) = finVT m c (((cfg0.win 14).blk ⟨n + 2, ht⟩).view.emb y)
  have e0 : ((cfg0.win 14).xinj (grid0.coords ⟨n + 2, ht⟩) y 0).val = (y 0).val := rfl
  have e1 : ((cfg0.win 14).xinj (grid0.coords ⟨n + 2, ht⟩) y 1).val = (y 1).val := rfl
  generalize (cfg0.win 14).xinj (grid0.coords ⟨n + 2, ht⟩) y = j at e0 e1 ⊢
  change S256x256.Idx at j
  obtain ⟨j0, j1, rfl⟩ : ∃ (j0 : Fin 256) (j1 : Fin 256), j = ix2 j0 j1 := ⟨j 0, j 1, by funext a; match a with | ⟨0, _⟩ => rfl | ⟨1, _⟩ => rfl⟩
  change j0.val = (y 0).val at e0
  change j1.val = (y 1).val at e1
  refine (vtTile m c n ht h j0 j1).trans (congrArg (finVT m c) ?_)
  funext a
  apply Fin.ext
  match a with
  | ⟨0, _⟩ => show (j0.val) = (((cfg0.win 14).blk ⟨n + 2, ht⟩).view.emb y 0).val; rw [hb0, q0]; omega
  | ⟨1, _⟩ => show (256 * n + j1.val) = (((cfg0.win 14).blk ⟨n + 2, ht⟩).view.emb y 1).val; rw [hb1, q1]; omega

theorem mem_blk14 (t : Fin cfg0.N) (i : S256x13824.Idx) :
    i ∈ ((cfg0.win 14).blk t).view.set ↔ ∀ a : Fin 2, win0_14.index t a * S256x256.size a ≤ (i a).val ∧ (i a).val < win0_14.index t a * S256x256.size a + S256x256.size a := by
  show i ∈ ((View.whole main_v6_6).slice (win0_14.rect t)).set ↔ _
  rw [View.set_slice_whole, Rect.mem_set_unit]
  exact Iff.rfl

theorem covered14 (i : S256x13824.Idx) : ∃ t : Fin cfg0.N, (cfg0.win 14).flush t = true ∧ i ∈ ((cfg0.win 14).blk t).view.set := by
  have b0 : (i 0).val < 256 := (i 0).isLt
  have b1 : (i 1).val < 13824 := (i 1).isLt
  obtain ⟨t, hf, ht⟩ := onto14 ⟨(i 1).val / 256, by omega⟩
  obtain ⟨-, hi⟩ := idx14 t hf
  have q0 : win0_14.index t (0 : Fin 2) = 0 := congrFun hi 0
  have q1 : win0_14.index t (1 : Fin 2) = t.val - 2 := congrFun hi 1
  change t.val = (i 1).val / 256 + 2 at ht
  refine ⟨t, hf, ?_⟩
  rw [mem_blk14]
  intro a
  match a with
  | ⟨0, _⟩ => show win0_14.index t (0 : Fin 2) * 256 ≤ (i 0).val ∧ (i 0).val < win0_14.index t (0 : Fin 2) * 256 + 256; rw [q0]; omega
  | ⟨1, _⟩ => show win0_14.index t (1 : Fin 2) * 256 ≤ (i 1).val ∧ (i 1).val < win0_14.index t (1 : Fin 2) * 256 + 256; rw [q1]; omega

theorem array14 : (dats m 0 c).arrAt 14 cfg0.N = finVT m c :=
  (dats m 0 c).arrAt_eq_of_cover 14 _ (fun t hf => flushed14_eq m c t hf) (fun i => covered14 i)

/-- The points that write back the scales of the values. -/
theorem idx15 : ∀ t : Fin cfg0.N, (cfg0.win 15).flush t = true → 2 ≤ t.val ∧ win0_15.index t = ![t.val - 2, 0] :=
  (by decide +kernel : ∀ t : Fin grid0.N, (cfg0.win 15).flush t = true → 2 ≤ t.val ∧ win0_15.index t = ![t.val - 2, 0])
theorem onto15 : ∀ n : Fin 54, ∃ t : Fin cfg0.N, (cfg0.win 15).flush t = true ∧ t.val = n.val + 2 :=
  (by decide +kernel : ∀ n : Fin 54, ∃ t : Fin grid0.N, (cfg0.win 15).flush t = true ∧ t.val = n.val + 2)

theorem flushed15_eq (t : Fin cfg0.N) (hf : (cfg0.win 15).flush t = true) : (dats m 0 c).flushed 15 t = ((cfg0.win 15).blk t).view.read (Elt Ideal) (finVS m c) := by
  obtain ⟨h2, hi⟩ := idx15 t hf
  rw [flushed15]
  obtain ⟨tv, ht⟩ := t
  obtain ⟨n, rfl⟩ : ∃ n, tv = n + 2 := ⟨tv - 2, (Nat.sub_add_cancel h2).symm⟩
  have h : n < 54 := by have := lt_of_lt_of_eq ht N_0; omega
  funext y
  have hb0 : (((cfg0.win 15).blk ⟨n + 2, ht⟩).view.emb y 0).val = win0_15.index ⟨n + 2, ht⟩ (0 : Fin 2) * 256 + 1 * (y 0).val := rfl
  have hb1 : (((cfg0.win 15).blk ⟨n + 2, ht⟩).view.emb y 1).val = win0_15.index ⟨n + 2, ht⟩ (1 : Fin 2) * 2 + 1 * (y 1).val := rfl
  have q0 : win0_15.index ⟨n + 2, ht⟩ (0 : Fin 2) = n := congrFun hi 0
  have q1 : win0_15.index ⟨n + 2, ht⟩ (1 : Fin 2) = 0 := congrFun hi 1
  show (outsAt0 m c (n + 2) ht).2.2.2.2.2.1 ((cfg0.win 15).xinj (grid0.coords ⟨n + 2, ht⟩) y) = finVS m c (((cfg0.win 15).blk ⟨n + 2, ht⟩).view.emb y)
  have e0 : ((cfg0.win 15).xinj (grid0.coords ⟨n + 2, ht⟩) y 0).val = (y 0).val := rfl
  have e1 : ((cfg0.win 15).xinj (grid0.coords ⟨n + 2, ht⟩) y 1).val = (y 1).val := rfl
  generalize (cfg0.win 15).xinj (grid0.coords ⟨n + 2, ht⟩) y = j at e0 e1 ⊢
  change S256x2.Idx at j
  obtain ⟨j0, j1, rfl⟩ : ∃ (j0 : Fin 256) (j1 : Fin 2), j = ix2 j0 j1 := ⟨j 0, j 1, by funext a; match a with | ⟨0, _⟩ => rfl | ⟨1, _⟩ => rfl⟩
  change j0.val = (y 0).val at e0
  change j1.val = (y 1).val at e1
  refine (vsTile m c n ht h j0 j1).trans (congrArg (finVS m c) ?_)
  funext a
  apply Fin.ext
  match a with
  | ⟨0, _⟩ => show (256 * n + j0.val) = (((cfg0.win 15).blk ⟨n + 2, ht⟩).view.emb y 0).val; rw [hb0, q0]; omega
  | ⟨1, _⟩ => show (j1.val) = (((cfg0.win 15).blk ⟨n + 2, ht⟩).view.emb y 1).val; rw [hb1, q1]; omega

theorem mem_blk15 (t : Fin cfg0.N) (i : S13824x2.Idx) :
    i ∈ ((cfg0.win 15).blk t).view.set ↔ ∀ a : Fin 2, win0_15.index t a * S256x2.size a ≤ (i a).val ∧ (i a).val < win0_15.index t a * S256x2.size a + S256x2.size a := by
  show i ∈ ((View.whole main_v6_7).slice (win0_15.rect t)).set ↔ _
  rw [View.set_slice_whole, Rect.mem_set_unit]
  exact Iff.rfl

theorem covered15 (i : S13824x2.Idx) : ∃ t : Fin cfg0.N, (cfg0.win 15).flush t = true ∧ i ∈ ((cfg0.win 15).blk t).view.set := by
  have b0 : (i 0).val < 13824 := (i 0).isLt
  have b1 : (i 1).val < 2 := (i 1).isLt
  obtain ⟨t, hf, ht⟩ := onto15 ⟨(i 0).val / 256, by omega⟩
  obtain ⟨-, hi⟩ := idx15 t hf
  have q0 : win0_15.index t (0 : Fin 2) = t.val - 2 := congrFun hi 0
  have q1 : win0_15.index t (1 : Fin 2) = 0 := congrFun hi 1
  change t.val = (i 0).val / 256 + 2 at ht
  refine ⟨t, hf, ?_⟩
  rw [mem_blk15]
  intro a
  match a with
  | ⟨0, _⟩ => show win0_15.index t (0 : Fin 2) * 256 ≤ (i 0).val ∧ (i 0).val < win0_15.index t (0 : Fin 2) * 256 + 256; rw [q0]; omega
  | ⟨1, _⟩ => show win0_15.index t (1 : Fin 2) * 2 ≤ (i 1).val ∧ (i 1).val < win0_15.index t (1 : Fin 2) * 2 + 2; rw [q1]; omega

theorem array15 : (dats m 0 c).arrAt 15 cfg0.N = finVS m c :=
  (dats m 0 c).arrAt_eq_of_cover 15 _ (fun t hf => flushed15_eq m c t hf) (fun i => covered15 i)

end Cert.Proof.Project
end
-- ==== Proof.RefTok.lean ====
/- The reference's projections, of a token. -/
module
public import proofs.«01_k».proof.Proof.Spec
public import proofs.«01_k».proof.Proof.Gen.HeadsIdeal.Skeleton
@[expose] public section
set_option maxRecDepth 16384
noncomputable section
namespace Cert.Proof.Project
open Cert.HeadsIdeal Cert.HeadsIdeal.Gen Idealize.ShloMosaic Idealize.ShloMosaic.TcCoe Idealize.SL.Sem

variable (x : Vec Ideal S13824x5376 .bf16) (g : Vec Ideal S5376 .f32) (w : Vec Ideal S5376x1024 .fp8e4m3) (s : Vec Ideal S42x8 .f32)

/-- One group of a token's normalised row. -/
def grpT (T : Fin 13824) (b : Fin 42) (j : Fin 128) : EReal :=
  Ideal.div (x (ix2 T ⟨b.val * 128 + j.val, by omega⟩)) (rootR fun k => x (ix2 T k)) * g (ix1 ⟨b.val * 128 + j.val, by omega⟩)

theorem pay1_at (T : Fin 13824) (b : Fin 42) (j : Fin 128) : k0_pay1 x g (ix3 T b j) = grpT x g T b j := by
  unfold k0_pay1 grpT rootR
  pointwise

/-- The greatest of each group. -/
def lastTop (v : FVec Ideal S13824x42x128 .f32) : FVec Ideal S13824x42 .f32 := fun j => top fun k => v (ix3 (j 0) (j 1) k)

theorem lastTop_eq (v : FVec Ideal S13824x42x128 .f32) (h hφ) (hacc : 0xFF800000#32 = FKind.maximumf.neutral .f32 hφ) :
    multiReduction .maximumf [2] S13824x42 v 0xFF800000#32 h hφ hacc = lastTop v := by
  funext j
  rw [Ideal.multiReduction_maximumf_single]
  unfold lastTop top
  congr 1
  funext k
  show v _ = v _
  congr 1
  funext i
  apply Fin.ext
  fin_cases i <;> rfl

/-- The exponents of the groups, of their greatest magnitudes. -/
def expoV (a : FVec Ideal S13824x42 .f32) : FVec Ideal S13824x42 .f32 :=
  select (cmpf .oeq a (broadcast S13824x42 (Scalar.ofBits .f32 0x00000000#32))) (broadcast S13824x42 (Scalar.ofBits .f32 0x00000000#32))
    (addf (floor (divf (log (divf (maximumf a (broadcast S13824x42 (Scalar.ofBits .f32 0x05000000#32))) (broadcast S13824x42 (Scalar.ofBits .f32 0x43E00000#32)))) (log (broadcast S13824x42 (Scalar.ofBits .f32 0x40000000#32))))) (broadcast S13824x42 (Scalar.ofBits .f32 0x3F800000#32)))

theorem expoV_at (a : FVec Ideal S13824x42 .f32) (T : Fin 13824) (b : Fin 42) : expoV a (ix2 T b) = expo (a (ix2 T b)) := by
  unfold expoV expo
  pointwise

theorem pay2_at (T : Fin 13824) (b : Fin 42) : k0_pay2 x g (ix2 T b) = expo (mag (grpT x g T b)) := by
  have e : k0_pay2 x g = expoV (lastTop (absf (k0_pay1 x g))) := by
    unfold k0_pay2
    exact congrArg expoV (lastTop_eq (absf (k0_pay1 x g)) _ _ _)
  rw [e, expoV_at]
  congr 1
  unfold lastTop mag
  congr 1
  funext k
  rw [← pay1_at]
  rfl

/-- The codes of the groups, of the groups and their exponents. -/
def codesG (A : FVec Ideal S13824x42x128 .f32) (B : FVec Ideal S13824x42 .f32) : FVec Ideal S13824x42x128 .f32 :=
  minimumf (broadcast S13824x42x128 (Scalar.ofBits .f32 0x43E00000#32)) (maximumf (broadcast S13824x42x128 (Scalar.ofBits .f32 0xC3E00000#32))
    (mulf A (broadcastTo S13824x42x128 (shapeCast S13824x42x1 (exp2 (subf (broadcast S13824x42 (Scalar.ofBits .f32 0x00000000#32)) B)) shapeCasts_S13824x42_S13824x42x1) broadcasts_S13824x42x1_S13824x42x128)))

theorem codesG_at (A : FVec Ideal S13824x42x128 .f32) (B : FVec Ideal S13824x42 .f32) (T : Fin 13824) (b : Fin 42) (j : Fin 128) :
    codesG A B (ix3 T b j) = min (Ideal.ofBits .f32 1138753536#32) (max (Ideal.ofBits .f32 3286237184#32) (A (ix3 T b j) * Ideal.exp2 (0 - B (ix2 T b)))) := by
  unfold codesG
  pointwise
  rfl

theorem pay3_eq : k0_pay3 x g = codesG (k0_pay1 x g) (k0_pay2 x g) := by
  unfold k0_pay3 codesG
  rfl

theorem pay3_at (T : Fin 13824) (b : Fin 42) (j : Fin 128) : k0_pay3 x g (ix3 T b j) * Ideal.exp2 (k0_pay2 x g (ix2 T b)) = grp (grpT x g T b) j := by
  rw [pay3_eq, codesG_at, pay1_at, pay2_at]
  unfold grp mag
  exact rfl

/-- The product, one entry. -/
theorem pay4_at (B : FVec Ideal S13824x42 .f32) (A : FVec Ideal S13824x42x128 .f32) (T : Fin 13824) (o : Fin 1024) :
    k0_pay4 B A w s (ix2 T o) = ∑ k : Fin 5376, (A (ix3 T ⟨k.val / 128, by omega⟩ ⟨k.val % 128, by omega⟩) * Ideal.exp2 (B (ix2 T ⟨k.val / 128, by omega⟩))) * (w (ix2 k o) * s (ix2 ⟨k.val / 128, by omega⟩ ⟨o.val / 128, by omega⟩)) := by
  unfold k0_pay4
  pointwise
  rfl

theorem proj_at (T : Fin 13824) (o : Fin 1024) : k0_pay4 (k0_pay2 x g) (k0_pay3 x g) w s (ix2 T o) = projT x g w s T o := by
  rw [pay4_at]
  unfold projT projR wideR
  refine Finset.sum_congr rfl fun k _ => ?_
  rw [pay3_at, mul_comm]
  have e : grpT x g T ⟨k.val / 128, by omega⟩ = fun j : Fin 128 => Ideal.div (x (ix2 T ⟨128 * (k.val / 128) + j.val, by omega⟩)) (rootR fun k => x (ix2 T k)) * g (ix1 ⟨128 * (k.val / 128) + j.val, by omega⟩) := by
    funext j
    unfold grpT
    simp only [Nat.mul_comm 128]
  rw [e]

end Cert.Proof.Project
end
-- ==== Proof.RefHeads.lean ====
/- The reference's heads: normalised, turned, coded. -/
module
public import proofs.«01_k».proof.Proof.RefTok
@[expose] public section
set_option maxRecDepth 16384
noncomputable section
namespace Cert.Proof.Project
open Cert.HeadsIdeal Cert.HeadsIdeal.Gen Idealize.ShloMosaic Idealize.ShloMosaic.TcCoe Idealize.SL.Sem

/-- The greatest of each of two heads. -/
def lastTop2 (v : FVec Ideal S13824x2x128 .f32) : FVec Ideal S13824x2 .f32 := fun j => top fun k => v (ix3 (j 0) (j 1) k)

theorem lastTop2_eq (v : FVec Ideal S13824x2x128 .f32) (h hφ) (hacc : 0xFF800000#32 = FKind.maximumf.neutral .f32 hφ) :
    multiReduction .maximumf [2] S13824x2 v 0xFF800000#32 h hφ hacc = lastTop2 v := by
  funext j
  rw [Ideal.multiReduction_maximumf_single]
  unfold lastTop2 top
  congr 1
  funext k
  show v _ = v _
  congr 1
  funext i
  apply Fin.ext
  fin_cases i <;> rfl

/-- The scales of two heads, of their greatest magnitudes. -/
def scaleG (a : FVec Ideal S13824x2 .f32) : FVec Ideal S13824x2 .f32 :=
  select (cmpf .oeq a (broadcast S13824x2 (Scalar.ofBits .f32 0x00000000#32))) (broadcast S13824x2 (Scalar.ofBits .f32 0x3F800000#32)) (divf a (broadcast S13824x2 (Scalar.ofBits .f32 0x43E00000#32)))

theorem scaleG_at (a : FVec Ideal S13824x2 .f32) (T : Fin 13824) (h : Fin 2) :
    scaleG a (ix2 T h) = if a (ix2 T h) = 0 then 1 else Ideal.div (a (ix2 T h)) (Ideal.ofBits .f32 1138753536#32) := by
  unfold scaleG
  pointwise

theorem scaleTop_at (v : FVec Ideal S13824x2x128 .f32) (T : Fin 13824) (h : Fin 2) : scaleG (lastTop2 (absf v)) (ix2 T h) = scaleR fun k => v (ix3 T h k) := by
  rw [scaleG_at]
  rfl

/-- The codes of two heads, of their scales. -/
def codesS (v : FVec Ideal S13824x2x128 .f32) (a : FVec Ideal S13824x2 .f32) : FVec Ideal S13824x2x128 .f32 :=
  minimumf (broadcast S13824x2x128 (Scalar.ofBits .f32 0x43E00000#32)) (maximumf (broadcast S13824x2x128 (Scalar.ofBits .f32 0xC3E00000#32))
    (divf v (broadcastTo S13824x2x128 (shapeCast S13824x2x1 a shapeCasts_S13824x2_S13824x2x1) broadcasts_S13824x2x1_S13824x2x128)))

theorem codesS_at (v : FVec Ideal S13824x2x128 .f32) (a : FVec Ideal S13824x2 .f32) (T : Fin 13824) (h : Fin 2) (d : Fin 128) :
    codesS v a (ix3 T h d) = min (Ideal.ofBits .f32 1138753536#32) (max (Ideal.ofBits .f32 3286237184#32) (Ideal.div (v (ix3 T h d)) (a (ix2 T h)))) := by
  unfold codesS
  pointwise

theorem narrow_at (v : FVec Ideal S13824x2x128 .f32) (i : S13824x2x128.Idx) : truncf .fp8e4m3 v bitsLt_fp8e4m3_f32 i = v i := rfl

theorem pay19_at (v : FVec Ideal S13824x2x128 .f32) (T : Fin 13824) (h : Fin 2) : k0_pay19 v (ix2 T h) = scaleR fun k => v (ix3 T h k) := by
  have e : k0_pay19 v = scaleG (lastTop2 (absf v)) := by
    unfold k0_pay19
    exact congrArg scaleG (lastTop2_eq (absf v) _ _ _)
  rw [e, scaleTop_at]

theorem pay20_at (v : FVec Ideal S13824x2x128 .f32) (T : Fin 13824) (h : Fin 2) (d : Fin 128) : k0_pay20 v (ix3 T h d) = codeR (fun k => v (ix3 T h k)) d := by
  have e : k0_pay20 v = truncf .fp8e4m3 (codesS v (k0_pay19 v)) bitsLt_fp8e4m3_f32 := by
    unfold k0_pay20 codesS
    rfl
  rw [e, narrow_at, codesS_at, pay19_at]
  rfl

theorem pay23_at (v : FVec Ideal S13824x2x128 .f32) (T : Fin 13824) (o : Fin 256) : k0_pay23 v (ix2 T o) = codes2 (fun h k => v (ix3 T h k)) o := by
  unfold codes2
  rw [← pay20_at]
  unfold k0_pay23
  generalize k0_pay20 v = z
  pointwise

theorem pay24_at (v : FVec Ideal S13824x2x128 .f32) (T : Fin 13824) (o : Fin 256) : k0_pay24 v (ix2 o T) = codes2 (fun h k => v (ix3 T h k)) o := by
  unfold codes2
  rw [← pay20_at]
  unfold k0_pay24
  generalize k0_pay20 v = z
  pointwise

variable (z : FVec Ideal S13824x2x128 .f32) (gh : Vec Ideal S128 .f32) (p q : Vec Ideal S13824x64 .f32)

theorem pay15_eq : k0_pay15 z gh p q = lastTop2 (absf (k0_pay14 z gh p q)) := by
  unfold k0_pay15
  exact lastTop2_eq (absf (k0_pay14 z gh p q)) _ _ _

theorem pay18_eq : k0_pay18 (k0_pay16 z gh p q) (k0_pay17 z gh p q) (Scalar.ofBits .f32 0x3F800000#32) = scaleG (lastTop2 (absf (k0_pay14 z gh p q))) := by
  unfold k0_pay18 k0_pay16 k0_pay17
  rw [pay15_eq]
  rfl

theorem pay18_at (T : Fin 13824) (h : Fin 2) : k0_pay18 (k0_pay16 z gh p q) (k0_pay17 z gh p q) (Scalar.ofBits .f32 0x3F800000#32) (ix2 T h) = scaleR fun k => k0_pay14 z gh p q (ix3 T h k) := by
  rw [pay18_eq, scaleTop_at]

/-- The codes of two heads side by side, of the heads and their scales. -/
def sideBySide (v : FVec Ideal S13824x2x128 .f32) (a : FVec Ideal S13824x2 .f32) : FVec Ideal S13824x256 .fp8e4m3 :=
  shapeCast S13824x256 (truncf .fp8e4m3 (codesS v a) bitsLt_fp8e4m3_f32) shapeCasts_S13824x2x128_S13824x256

theorem sideBySide_at (v : FVec Ideal S13824x2x128 .f32) (a : FVec Ideal S13824x2 .f32) (T : Fin 13824) (o : Fin 256) :
    sideBySide v a (ix2 T o) = codesS v a (ix3 T ⟨o.val / 128, by omega⟩ ⟨o.val % 128, by omega⟩) := by
  unfold sideBySide
  generalize codesS v a = C
  pointwise

theorem pay22_eq (v : FVec Ideal S13824x2x128 .f32) (b : IVec S13824x2 1) (a : FVec Ideal S13824x2 .f32) (cst : Ideal .f32) : k0_pay22 v b a cst = sideBySide v (k0_pay18 b a cst) := by
  unfold k0_pay22 sideBySide codesS
  rfl

theorem pay22_at (T : Fin 13824) (o : Fin 256) : k0_pay22 (k0_pay14 z gh p q) (k0_pay16 z gh p q) (k0_pay17 z gh p q) (Scalar.ofBits .f32 0x3F800000#32) (ix2 T o) = codes2 (fun h k => k0_pay14 z gh p q (ix3 T h k)) o := by
  rw [pay22_eq, sideBySide_at, codesS_at, pay18_at]
  rfl

end Cert.Proof.Project
end
-- ==== Proof.RefTurn.lean ====
/- The reference's heads normalised and turned by their positions. -/
module
public import proofs.«01_k».proof.Proof.RefTok
@[expose] public section
set_option maxRecDepth 16384
noncomputable section
namespace Cert.Proof.Project
open Cert.HeadsIdeal Cert.HeadsIdeal.Gen Idealize.ShloMosaic Idealize.ShloMosaic.TcCoe Idealize.SL.Sem

/-- Two heads of each token, normalised. -/
def normK (z : FVec Ideal S13824x2x128 .f32) (g : Vec Ideal S128 .f32) : FVec Ideal S13824x2x128 .f32 :=
  mulf (divf z (broadcastTo S13824x2x128 (sqrt (addf (divf (shapeCast S13824x2x1 (multiReduction .add [2] S13824x2 (mulf z z) 0x00000000#32 reduces_S13824x2x128_S13824x2 (.inl rfl) rfl) shapeCasts_S13824x2_S13824x2x1) (broadcast S13824x2x1 (Scalar.ofBits .f32 0x43000000#32))) (broadcast S13824x2x1 (Scalar.ofBits .f32 0x358637BD#32)))) broadcasts_S13824x2x1_S13824x2x128))
    (broadcastTo S13824x2x128 (shapeCast S1x1x128 g shapeCasts_S128_S1x1x128) broadcasts_S1x1x128_S13824x2x128)

theorem normK_at (z : FVec Ideal S13824x2x128 .f32) (g : Vec Ideal S128 .f32) (T : Fin 13824) (h : Fin 2) (d : Fin 128) :
    normK z g (ix3 T h d) = headR (fun k => z (ix3 T h k)) (headGains g) d := by
  unfold normK headR headGains
  pointwise

/-- Two heads of each token, turned. -/
def ropeK (u : FVec Ideal S13824x2x128 .f32) (p q : Vec Ideal S13824x64 .f32) : FVec Ideal S13824x2x128 .f32 :=
  have a := extractStridedSlice S13824x2x64 ![0, 0, 0] u slices_S13824x2x128_o0_0_0_S13824x2x64
  have b := extractStridedSlice S13824x2x64 ![0, 0, 64] u slices_S13824x2x128_o0_0_64_S13824x2x64
  have cs := broadcastTo S13824x2x64 (shapeCast S13824x1x64 p shapeCasts_S13824x64_S13824x1x64) broadcasts_S13824x1x64_S13824x2x64
  have sn := broadcastTo S13824x2x64 (shapeCast S13824x1x64 q shapeCasts_S13824x64_S13824x1x64) broadcasts_S13824x1x64_S13824x2x64
  concatenate S13824x2x128 2 [⟨S13824x2x64, subf (mulf a cs) (mulf b sn)⟩, ⟨S13824x2x64, addf (mulf b cs) (mulf a sn)⟩] concatenates_S13824x2x64_S13824x2x64_S13824x2x128_d2

theorem ropeK_at (u : FVec Ideal S13824x2x128 .f32) (p q : Vec Ideal S13824x64 .f32) (T : Fin 13824) (h : Fin 2) (d : Fin 128) :
    ropeK u p q (ix3 T h d) = ropeR (fun k => u (ix3 T h k)) (rowT p T) (rowT q T) d := by
  unfold ropeK
  pointwise
  unfold ropeR rowT
  split
  · rfl
  · next hd =>
    have e : (⟨64 + (d.val - 64), by omega⟩ : Fin 128) = d := Fin.ext (by show 64 + (d.val - 64) = d.val; omega)
    rw [e]

theorem pay14_at (z : FVec Ideal S13824x2x128 .f32) (g : Vec Ideal S128 .f32) (p q : Vec Ideal S13824x64 .f32) (T : Fin 13824) (h : Fin 2) (d : Fin 128) :
    k0_pay14 z g p q (ix3 T h d) = ropeR (headR (fun k => z (ix3 T h k)) (headGains g)) (rowT p T) (rowT q T) d := by
  have e : k0_pay14 z g p q = ropeK (normK z g) p q := by
    unfold k0_pay14 ropeK normK
    rfl
  have e2 : headR (fun k => z (ix3 T h k)) (headGains g) = fun d => normK z g (ix3 T h d) := funext fun d => (normK_at z g T h d).symm
  rw [e, ropeK_at, e2]

variable (B : FVec Ideal S13824x42 .f32) (A : FVec Ideal S13824x42x128 .f32) (w : Vec Ideal S5376x1024 .fp8e4m3) (s : Vec Ideal S42x8 .f32)

theorem pay5_at (T : Fin 13824) (h : Fin 2) (d : Fin 128) : k0_pay5 B A w s (ix3 T h d) = head (fun o => k0_pay4 B A w s (ix2 T o)) ⟨4 + h.val, by omega⟩ d := by
  unfold k0_pay5 head
  generalize k0_pay4 B A w s = z
  pointwise
  exact congrArg z (congrArg (ix2 T) (Fin.ext (by simp; omega)))

theorem pay6_at (T : Fin 13824) (h : Fin 2) (d : Fin 128) : k0_pay6 B A w s (ix3 T h d) = head (fun o => k0_pay4 B A w s (ix2 T o)) ⟨6 + h.val, by omega⟩ d := by
  unfold k0_pay6 head
  generalize k0_pay4 B A w s = z
  pointwise
  exact congrArg z (congrArg (ix2 T) (Fin.ext (by simp; omega)))

/-- The four query heads of each token. -/
def queries (z : FVec Ideal S13824x1024 .f32) : FVec Ideal S13824x4x128 .f32 :=
  shapeCast S13824x4x128 (extractStridedSlice S13824x512 ![0, 0] z slices_S13824x1024_o0_0_S13824x512) shapeCasts_S13824x512_S13824x4x128

theorem queries_at (z : FVec Ideal S13824x1024 .f32) (T : Fin 13824) (h : Fin 4) (d : Fin 128) : queries z (ix3 T h d) = head (fun o => z (ix2 T o)) ⟨h.val, by omega⟩ d := by
  unfold queries head
  pointwise
  exact congrArg z (congrArg (ix2 T) (Fin.ext (by simp; omega)))

/-- Four heads of each token, normalised. -/
def normQ (z : FVec Ideal S13824x4x128 .f32) (g : Vec Ideal S128 .f32) : FVec Ideal S13824x4x128 .f32 :=
  mulf (divf z (broadcastTo S13824x4x128 (sqrt (addf (divf (shapeCast S13824x4x1 (multiReduction .add [2] S13824x4 (mulf z z) 0x00000000#32 reduces_S13824x4x128_S13824x4 (.inl rfl) rfl) shapeCasts_S13824x4_S13824x4x1) (broadcast S13824x4x1 (Scalar.ofBits .f32 0x43000000#32))) (broadcast S13824x4x1 (Scalar.ofBits .f32 0x358637BD#32)))) broadcasts_S13824x4x1_S13824x4x128))
    (broadcastTo S13824x4x128 (shapeCast S1x1x128 g shapeCasts_S128_S1x1x128) broadcasts_S1x1x128_S13824x4x128)

theorem normQ_at (z : FVec Ideal S13824x4x128 .f32) (g : Vec Ideal S128 .f32) (T : Fin 13824) (h : Fin 4) (d : Fin 128) :
    normQ z g (ix3 T h d) = headR (fun k => z (ix3 T h k)) (headGains g) d := by
  unfold normQ headR headGains
  pointwise

theorem pay7_eq (g : Vec Ideal S128 .f32) : k0_pay7 B A w s g = normQ (queries (k0_pay4 B A w s)) g := by
  unfold k0_pay7 normQ queries
  rfl

/-- Four heads of each token, turned and laid out a column to a token. -/
def ropeQ (u : FVec Ideal S13824x4x128 .f32) (p q : Vec Ideal S13824x64 .f32) : FVec Ideal S512x13824 .bf16 :=
  k0_pay21 (k0_pay13 (extractStridedSlice S13824x4x64 ![0, 0, 0] u slices_S13824x4x128_o0_0_0_S13824x4x64) (extractStridedSlice S13824x4x64 ![0, 0, 64] u slices_S13824x4x128_o0_0_64_S13824x4x64) (k0_pay10 p) (k0_pay11 q) (k0_pay12 p))

theorem ropeQ_at (u : FVec Ideal S13824x4x128 .f32) (p q : Vec Ideal S13824x64 .f32) (T : Fin 13824) (o : Fin 512) :
    ropeQ u p q (ix2 o T) = ropeR (fun k => u (ix3 T ⟨o.val / 128, by omega⟩ k)) (rowT p T) (rowT q T) ⟨o.val % 128, by omega⟩ := by
  unfold ropeQ k0_pay21 k0_pay13 k0_pay12 k0_pay11 k0_pay10
  pointwise
  unfold ropeR rowT
  split
  · rfl
  · next hd =>
    have e : (⟨64 + (o.val % 128 - 64), by omega⟩ : Fin 128) = ⟨o.val % 128, by omega⟩ := Fin.ext (by show 64 + (o.val % 128 - 64) = o.val % 128; omega)
    rw [e]

theorem query_at (g : Vec Ideal S128 .f32) (p q : Vec Ideal S13824x64 .f32) (T : Fin 13824) (o : Fin 512) :
    k0_pay21 (k0_pay13 (k0_pay8 B A w s g) (k0_pay9 B A w s g) (k0_pay10 p) (k0_pay11 q) (k0_pay12 p)) (ix2 o T) = qR (fun o => k0_pay4 B A w s (ix2 T o)) (headGains g) (rowT p T) (rowT q T) o := by
  have e : k0_pay21 (k0_pay13 (k0_pay8 B A w s g) (k0_pay9 B A w s g) (k0_pay10 p) (k0_pay11 q) (k0_pay12 p)) = ropeQ (k0_pay7 B A w s g) p q := rfl
  have e1 : (fun k => queries (k0_pay4 B A w s) (ix3 T ⟨o.val / 128, by omega⟩ k)) = head (fun o => k0_pay4 B A w s (ix2 T o)) ⟨o.val / 128, by omega⟩ := funext fun k => queries_at _ T _ k
  have e2 : (fun d => normQ (queries (k0_pay4 B A w s)) g (ix3 T ⟨o.val / 128, by omega⟩ d)) = headR (fun k => queries (k0_pay4 B A w s) (ix3 T ⟨o.val / 128, by omega⟩ k)) (headGains g) := funext fun d => normQ_at _ g T _ d
  rw [e, pay7_eq, ropeQ_at, e2, e1]
  rfl

end Cert.Proof.Project
end
-- ==== Proof.Ref.lean ====
/- The reference's six results, each of the arguments. -/
module
public import proofs.«01_k».proof.Proof.RefHeads
public import proofs.«01_k».proof.Proof.RefTurn
public import proofs.«01_k».proof.Proof.Gen.HeadsIdeal.Value
@[expose] public section
set_option maxRecDepth 16384
noncomputable section
namespace Cert.Proof.Project
open Cert.HeadsIdeal Cert.HeadsIdeal.Gen Idealize.ShloMosaic Idealize.ShloMosaic.TcCoe Idealize.SL.Sem

theorem whole0 (x : Vec Ideal S13824x5376 .bf16) : View.ld x r0_0 = x := by
  funext j; rw [View.ld_apply]; congr 1; funext a; apply Fin.ext; fin_cases a <;> simp
theorem whole1 (x : Vec Ideal S5376 .f32) : View.ld x r0_1 = x := by
  funext j; rw [View.ld_apply]; congr 1; funext a; apply Fin.ext; fin_cases a; simp
theorem whole2 (x : Vec Ideal S5376x1024 .fp8e4m3) : View.ld x r0_2 = x := by
  funext j; rw [View.ld_apply]; congr 1; funext a; apply Fin.ext; fin_cases a <;> simp
theorem whole3 (x : Vec Ideal S42x8 .f32) : View.ld x r0_3 = x := by
  funext j; rw [View.ld_apply]; congr 1; funext a; apply Fin.ext; fin_cases a <;> simp
theorem whole4 (x : Vec Ideal S128 .f32) : View.ld x r0_4 = x := by
  funext j; rw [View.ld_apply]; congr 1; funext a; apply Fin.ext; fin_cases a; simp
theorem whole5 (x : Vec Ideal S13824x64 .f32) : View.ld x r0_5 = x := by
  funext j; rw [View.ld_apply]; congr 1; funext a; apply Fin.ext; fin_cases a <;> simp

variable (x : Vec Ideal S13824x5376 .bf16) (g : Vec Ideal S5376 .f32) (w : Vec Ideal S5376x1024 .fp8e4m3) (s : Vec Ideal S42x8 .f32) (gq gk : Vec Ideal S128 .f32) (p q : Vec Ideal S13824x64 .f32)

theorem projs (T : Fin 13824) : (fun o => k0_pay4 (k0_pay2 x g) (k0_pay3 x g) w s (ix2 T o)) = projT x g w s T := funext fun o => proj_at x g w s T o

theorem keys (T : Fin 13824) : (fun h k => k0_pay14 (k0_pay5 (k0_pay2 x g) (k0_pay3 x g) w s) gk p q (ix3 T h k)) = keysT x g w s gk p q T := by
  funext h d
  rw [pay14_at]
  have e : (fun k => k0_pay5 (k0_pay2 x g) (k0_pay3 x g) w s (ix3 T h k)) = head (projT x g w s T) ⟨4 + h.val, by omega⟩ := by
    funext k
    rw [pay5_at, projs]
  rw [e]
  rfl

theorem values (T : Fin 13824) : (fun h k => k0_pay6 (k0_pay2 x g) (k0_pay3 x g) w s (ix3 T h k)) = valuesT x g w s T := by
  funext h d
  rw [pay6_at, projs]
  rfl

theorem refQT : Value.G8 x g w s gq gk p q = QT x g w s gq p q := by
  unfold Value.G8 k0_pay25 k0_pay26
  simp only [whole0, whole1, whole2, whole3, whole4, whole5]
  funext j
  idx_vars j
  rw [query_at, projs]
  rfl

theorem refKC : Value.G9 x g w s gq gk p q = KC x g w s gk p q := by
  unfold Value.G9 k0_pay29 k0_pay30 k0_pay27 k0_pay25 k0_pay26
  simp only [whole0, whole1, whole2, whole3, whole4, whole5]
  funext j
  idx_vars j
  rw [pay22_at, keys]
  rfl

theorem refKS : Value.G10 x g w s gq gk p q = KS x g w s gk p q := by
  unfold Value.G10 k0_pay29 k0_pay30 k0_pay27 k0_pay25 k0_pay26
  simp only [whole0, whole1, whole2, whole3, whole4, whole5]
  funext j
  idx_vars j
  rw [pay18_at]
  show _ = scaleR (keysT x g w s gk p q j0 j1)
  rw [← keys]

theorem refVC : Value.G11 x g w s gq gk p q = VC x g w s := by
  unfold Value.G11 k0_pay28 k0_pay25 k0_pay26
  simp only [whole0, whole1, whole2, whole3, whole4, whole5]
  funext j
  idx_vars j
  rw [pay23_at, values]
  rfl

theorem refVT : Value.G12 x g w s gq gk p q = VT x g w s := by
  unfold Value.G12 k0_pay28 k0_pay25 k0_pay26
  simp only [whole0, whole1, whole2, whole3, whole4, whole5]
  funext j
  idx_vars j
  rw [pay24_at, values]
  rfl

theorem refVS : Value.G13 x g w s gq gk p q = VS x g w s := by
  unfold Value.G13 k0_pay28 k0_pay25 k0_pay26
  simp only [whole0, whole1, whole2, whole3, whole4, whole5]
  funext j
  idx_vars j
  rw [pay19_at]
  show _ = scaleR (valuesT x g w s j0 j1)
  rw [← values]

end Cert.Proof.Project
end
-- ==== Proof.lean ====
module

public import proofs.«01_k».proof.Defs
public import proofs.«01_k».proof.Proof.Gen.Output.Frame
public import proofs.«01_k».proof.Proof.Gen.OutputIdeal.Value
public import proofs.«01_k».proof.Proof.Gen.FinishIdeal.Value
public import proofs.«01_k».proof.Proof.Finish
public import proofs.«01_k».proof.Proof.ProjectFrame
public import proofs.«01_k».proof.Proof.Gen.HeadsIdeal.Value
public import proofs.«01_k».proof.Proof.Arrays
public import proofs.«01_k».proof.Proof.Ref
public import Idealize.ShloMosaic.Adequacy
public import Idealize.ShloMosaic.Init

@[expose] public section

noncomputable section

namespace Cert.Proof

open Idealize.ShloMosaic Idealize.SL.Sem

/-- The named constant is the inverse of the width. -/
theorem preserves : Cert.preserves_Output_OutputIdeal :=
  IdealRules.named_const.statement Cert.OutputIdeal.κ "inv_width" .f32 0x39430C31#32 ((5376⁻¹ : ℝ) : EReal) rfl

/-- Kernel and reference end at the same result. -/
theorem algebraic : Cert.algebraic_OutputIdeal_FinishIdeal := by
  intro m g m' g' _ hargs
  refine ⟨fun c => Cert.OutputIdeal.Value.G6 m c, Cert.OutputIdeal.Value.run (F := Ideal) m g, ?_⟩
  refine (θ_run Cert.FinishIdeal.defs _ _).mono (fun r h c => ⟨(h c).1.trans ?_, (h c).2⟩) (Cert.FinishIdeal.Value.run (F := Ideal) m' g')
  obtain ⟨h0, h1, h2, h3, h4, h5⟩ := hargs c
  rw [h0, h1, h2, h3, h4, h5]
  exact (Output.reference_eq _ _ _ _ _ _).trans (Output.result_eq m c).symm

/-- The two named constants are the inverses of the width and of the largest code. -/
theorem preserves_project : Cert.preserves_Project_ProjectIdeal :=
  ⟨IdealRules.named_const.statement Cert.ProjectIdeal.κ "inv_width" .f32 0x39430C31#32 ((5376⁻¹ : ℝ) : EReal) rfl,
    IdealRules.named_const.statement Cert.ProjectIdeal.κ "inv_448" .f32 0x3B124925#32 ((448⁻¹ : ℝ) : EReal) rfl⟩

/-- The projection kernel and its reference end at the same six results. -/
theorem algebraic_project : Cert.algebraic_ProjectIdeal_HeadsIdeal := by
  intro m g m' g' _ hargs
  refine ⟨fun c => Project.finQT m c, fun c => Project.finKC m c, fun c => Project.finKS m c, fun c => Project.finVC m c,
    fun c => Project.finVT m c, fun c => Project.finVS m c, ?_, ?_⟩
  · refine (θ_run Cert.ProjectIdeal.defs _ _).mono (fun r h c => ?_) (Cert.ProjectIdeal.Value.run_blocks (F := Ideal) m g)
    obtain ⟨h0, h1, h2, h3, h4, h5, hk⟩ := h c
    exact ⟨h0.trans (Project.array10 m c), h1.trans (Project.array11 m c), h2.trans (Project.array12 m c),
      h3.trans (Project.array13 m c), h4.trans (Project.array14 m c), h5.trans (Project.array15 m c), hk⟩
  · refine (θ_run Cert.HeadsIdeal.defs _ _).mono (fun r h c => ?_) (Cert.HeadsIdeal.Value.run (F := Ideal) m' g')
    obtain ⟨h0, h1, h2, h3, h4, h5, hk⟩ := h c
    obtain ⟨a0, a1, a2, a3, a4, a5, a6, a7⟩ := hargs c
    refine ⟨h0.trans ?_, h1.trans ?_, h2.trans ?_, h3.trans ?_, h4.trans ?_, h5.trans ?_, hk⟩
    · rw [a0, a1, a2, a3, a4, a5, a6, a7]; exact Project.refQT _ _ _ _ _ _ _ _
    · rw [a0, a1, a2, a3, a4, a5, a6, a7]; exact Project.refKC _ _ _ _ _ _ _ _
    · rw [a0, a1, a2, a3, a4, a5, a6, a7]; exact Project.refKS _ _ _ _ _ _ _ _
    · rw [a0, a1, a2, a3, a4, a5, a6, a7]; exact Project.refVC _ _ _ _ _ _ _ _
    · rw [a0, a1, a2, a3, a4, a5, a6, a7]; exact Project.refVT _ _ _ _ _ _ _ _
    · rw [a0, a1, a2, a3, a4, a5, a6, a7]; exact Project.refVS _ _ _ _ _ _ _ _

theorem claim : Cert.Claim :=
  ⟨Cert.Output.Gen.facts, Cert.OutputIdeal.Gen.facts, Cert.FinishIdeal.Gen.facts,
    Cert.Project.Gen.facts, Cert.ProjectIdeal.Gen.facts, Cert.HeadsIdeal.Gen.facts,
    fun m g _ => Cert.Output.Gen.frame m g, fun m g _ => Cert.OutputIdeal.Gen.frame m g, fun m g _ => Cert.FinishIdeal.Gen.frame m g,
    fun m g _ => Cert.Project.Gen.frame m g, fun m g _ => Cert.ProjectIdeal.Gen.frame m g, fun m g _ => Cert.HeadsIdeal.Gen.frame m g,
    preserves, algebraic, preserves_project, algebraic_project⟩

end Cert.Proof

end
